-- ==== Defs.lean ====
def Pre_AttnS [hPre_pages_exist : Cert.Pre_pages_exist.Facts] (m : (ℓ : Loc Cert.AttnS.nD Cert.AttnS.τ Cert.AttnS.sig) → Buf (Elt Bits) ℓ) : Prop :=
  ∀ c : Dev Cert.AttnS.nD,
    (Cert.Pre_pages_exist.fn (F := Bits) (m ((c.tc : Thread Cert.AttnS.nD Cert.AttnS.τ).loc Cert.AttnS.main_arg0)) (m ((c.tc : Thread Cert.AttnS.nD Cert.AttnS.τ).loc Cert.AttnS.main_arg1)) (m ((c.tc : Thread Cert.AttnS.nD Cert.AttnS.τ).loc Cert.AttnS.main_arg2)) (m ((c.tc : Thread Cert.AttnS.nD Cert.AttnS.τ).loc Cert.AttnS.main_arg3)) (m ((c.tc : Thread Cert.AttnS.nD Cert.AttnS.τ).loc Cert.AttnS.main_arg4)) (m ((c.tc : Thread Cert.AttnS.nD Cert.AttnS.τ).loc Cert.AttnS.main_arg5)) (m ((c.tc : Thread Cert.AttnS.nD Cert.AttnS.τ).loc Cert.AttnS.main_arg6)) (m ((c.tc : Thread Cert.AttnS.nD Cert.AttnS.τ).loc Cert.AttnS.main_arg7)) (m ((c.tc : Thread Cert.AttnS.nD Cert.AttnS.τ).loc Cert.AttnS.main_arg8))) = (fun _ => 1#1)

def Pre_AttnSIdeal [hPre_pages_exist : Cert.Pre_pages_exist.Facts] (m : (ℓ : Loc Cert.AttnSIdeal.nD Cert.AttnSIdeal.τ Cert.AttnSIdeal.sig) → Buf (Elt Ideal) ℓ) : Prop :=
  ∀ c : Dev Cert.AttnSIdeal.nD,
    (Cert.Pre_pages_exist.fn (F := Ideal) (m ((c.tc : Thread Cert.AttnSIdeal.nD Cert.AttnSIdeal.τ).loc Cert.AttnSIdeal.main_arg0)) (m ((c.tc : Thread Cert.AttnSIdeal.nD Cert.AttnSIdeal.τ).loc Cert.AttnSIdeal.main_arg1)) (m ((c.tc : Thread Cert.AttnSIdeal.nD Cert.AttnSIdeal.τ).loc Cert.AttnSIdeal.main_arg2)) (m ((c.tc : Thread Cert.AttnSIdeal.nD Cert.AttnSIdeal.τ).loc Cert.AttnSIdeal.main_arg3)) (m ((c.tc : Thread Cert.AttnSIdeal.nD Cert.AttnSIdeal.τ).loc Cert.AttnSIdeal.main_arg4)) (m ((c.tc : Thread Cert.AttnSIdeal.nD Cert.AttnSIdeal.τ).loc Cert.AttnSIdeal.main_arg5)) (m ((c.tc : Thread Cert.AttnSIdeal.nD Cert.AttnSIdeal.τ).loc Cert.AttnSIdeal.main_arg6)) (m ((c.tc : Thread Cert.AttnSIdeal.nD Cert.AttnSIdeal.τ).loc Cert.AttnSIdeal.main_arg7)) (m ((c.tc : Thread Cert.AttnSIdeal.nD Cert.AttnSIdeal.τ).loc Cert.AttnSIdeal.main_arg8))) = (fun _ => 1#1)

def Pre_AttnSIdeal_attn_finite [hPre_attn_finite : Cert.Pre_attn_finite.Facts] (m : (ℓ : Loc Cert.AttnSIdeal.nD Cert.AttnSIdeal.τ Cert.AttnSIdeal.sig) → Buf (Elt Ideal) ℓ) : Prop :=
  ∀ c : Dev Cert.AttnSIdeal.nD,
    (Cert.Pre_attn_finite.fn (F := Ideal) (m ((c.tc : Thread Cert.AttnSIdeal.nD Cert.AttnSIdeal.τ).loc Cert.AttnSIdeal.main_arg0)) (m ((c.tc : Thread Cert.AttnSIdeal.nD Cert.AttnSIdeal.τ).loc Cert.AttnSIdeal.main_arg1)) (m ((c.tc : Thread Cert.AttnSIdeal.nD Cert.AttnSIdeal.τ).loc Cert.AttnSIdeal.main_arg2)) (m ((c.tc : Thread Cert.AttnSIdeal.nD Cert.AttnSIdeal.τ).loc Cert.AttnSIdeal.main_arg3)) (m ((c.tc : Thread Cert.AttnSIdeal.nD Cert.AttnSIdeal.τ).loc Cert.AttnSIdeal.main_arg4)) (m ((c.tc : Thread Cert.AttnSIdeal.nD Cert.AttnSIdeal.τ).loc Cert.AttnSIdeal.main_arg5)) (m ((c.tc : Thread Cert.AttnSIdeal.nD Cert.AttnSIdeal.τ).loc Cert.AttnSIdeal.main_arg6)) (m ((c.tc : Thread Cert.AttnSIdeal.nD Cert.AttnSIdeal.τ).loc Cert.AttnSIdeal.main_arg7)) (m ((c.tc : Thread Cert.AttnSIdeal.nD Cert.AttnSIdeal.τ).loc Cert.AttnSIdeal.main_arg8))).1 = (fun _ => 1#1)
    ∧ (Cert.Pre_attn_finite.fn (F := Ideal) (m ((c.tc : Thread Cert.AttnSIdeal.nD Cert.AttnSIdeal.τ).loc Cert.AttnSIdeal.main_arg0)) (m ((c.tc : Thread Cert.AttnSIdeal.nD Cert.AttnSIdeal.τ).loc Cert.AttnSIdeal.main_arg1)) (m ((c.tc : Thread Cert.AttnSIdeal.nD Cert.AttnSIdeal.τ).loc Cert.AttnSIdeal.main_arg2)) (m ((c.tc : Thread Cert.AttnSIdeal.nD Cert.AttnSIdeal.τ).loc Cert.AttnSIdeal.main_arg3)) (m ((c.tc : Thread Cert.AttnSIdeal.nD Cert.AttnSIdeal.τ).loc Cert.AttnSIdeal.main_arg4)) (m ((c.tc : Thread Cert.AttnSIdeal.nD Cert.AttnSIdeal.τ).loc Cert.AttnSIdeal.main_arg5)) (m ((c.tc : Thread Cert.AttnSIdeal.nD Cert.AttnSIdeal.τ).loc Cert.AttnSIdeal.main_arg6)) (m ((c.tc : Thread Cert.AttnSIdeal.nD Cert.AttnSIdeal.τ).loc Cert.AttnSIdeal.main_arg7)) (m ((c.tc : Thread Cert.AttnSIdeal.nD Cert.AttnSIdeal.τ).loc Cert.AttnSIdeal.main_arg8))).2.1 = (fun _ => 1#1)
    ∧ (Cert.Pre_attn_finite.fn (F := Ideal) (m ((c.tc : Thread Cert.AttnSIdeal.nD Cert.AttnSIdeal.τ).loc Cert.AttnSIdeal.main_arg0)) (m ((c.tc : Thread Cert.AttnSIdeal.nD Cert.AttnSIdeal.τ).loc Cert.AttnSIdeal.main_arg1)) (m ((c.tc : Thread Cert.AttnSIdeal.nD Cert.AttnSIdeal.τ).loc Cert.AttnSIdeal.main_arg2)) (m ((c.tc : Thread Cert.AttnSIdeal.nD Cert.AttnSIdeal.τ).loc Cert.AttnSIdeal.main_arg3)) (m ((c.tc : Thread Cert.AttnSIdeal.nD Cert.AttnSIdeal.τ).loc Cert.AttnSIdeal.main_arg4)) (m ((c.tc : Thread Cert.AttnSIdeal.nD Cert.AttnSIdeal.τ).loc Cert.AttnSIdeal.main_arg5)) (m ((c.tc : Thread Cert.AttnSIdeal.nD Cert.AttnSIdeal.τ).loc Cert.AttnSIdeal.main_arg6)) (m ((c.tc : Thread Cert.AttnSIdeal.nD Cert.AttnSIdeal.τ).loc Cert.AttnSIdeal.main_arg7)) (m ((c.tc : Thread Cert.AttnSIdeal.nD Cert.AttnSIdeal.τ).loc Cert.AttnSIdeal.main_arg8))).2.2.1 = (fun _ => 1#1)
    ∧ (Cert.Pre_attn_finite.fn (F := Ideal) (m ((c.tc : Thread Cert.AttnSIdeal.nD Cert.AttnSIdeal.τ).loc Cert.AttnSIdeal.main_arg0)) (m ((c.tc : Thread Cert.AttnSIdeal.nD Cert.AttnSIdeal.τ).loc Cert.AttnSIdeal.main_arg1)) (m ((c.tc : Thread Cert.AttnSIdeal.nD Cert.AttnSIdeal.τ).loc Cert.AttnSIdeal.main_arg2)) (m ((c.tc : Thread Cert.AttnSIdeal.nD Cert.AttnSIdeal.τ).loc Cert.AttnSIdeal.main_arg3)) (m ((c.tc : Thread Cert.AttnSIdeal.nD Cert.AttnSIdeal.τ).loc Cert.AttnSIdeal.main_arg4)) (m ((c.tc : Thread Cert.AttnSIdeal.nD Cert.AttnSIdeal.τ).loc Cert.AttnSIdeal.main_arg5)) (m ((c.tc : Thread Cert.AttnSIdeal.nD Cert.AttnSIdeal.τ).loc Cert.AttnSIdeal.main_arg6)) (m ((c.tc : Thread Cert.AttnSIdeal.nD Cert.AttnSIdeal.τ).loc Cert.AttnSIdeal.main_arg7)) (m ((c.tc : Thread Cert.AttnSIdeal.nD Cert.AttnSIdeal.τ).loc Cert.AttnSIdeal.main_arg8))).2.2.2.1 = (fun _ => 1#1)
    ∧ (Cert.Pre_attn_finite.fn (F := Ideal) (m ((c.tc : Thread Cert.AttnSIdeal.nD Cert.AttnSIdeal.τ).loc Cert.AttnSIdeal.main_arg0)) (m ((c.tc : Thread Cert.AttnSIdeal.nD Cert.AttnSIdeal.τ).loc Cert.AttnSIdeal.main_arg1)) (m ((c.tc : Thread Cert.AttnSIdeal.nD Cert.AttnSIdeal.τ).loc Cert.AttnSIdeal.main_arg2)) (m ((c.tc : Thread Cert.AttnSIdeal.nD Cert.AttnSIdeal.τ).loc Cert.AttnSIdeal.main_arg3)) (m ((c.tc : Thread Cert.AttnSIdeal.nD Cert.AttnSIdeal.τ).loc Cert.AttnSIdeal.main_arg4)) (m ((c.tc : Thread Cert.AttnSIdeal.nD Cert.AttnSIdeal.τ).loc Cert.AttnSIdeal.main_arg5)) (m ((c.tc : Thread Cert.AttnSIdeal.nD Cert.AttnSIdeal.τ).loc Cert.AttnSIdeal.main_arg6)) (m ((c.tc : Thread Cert.AttnSIdeal.nD Cert.AttnSIdeal.τ).loc Cert.AttnSIdeal.main_arg7)) (m ((c.tc : Thread Cert.AttnSIdeal.nD Cert.AttnSIdeal.τ).loc Cert.AttnSIdeal.main_arg8))).2.2.2.2.1 = (fun _ => 1#1)
    ∧ (Cert.Pre_attn_finite.fn (F := Ideal) (m ((c.tc : Thread Cert.AttnSIdeal.nD Cert.AttnSIdeal.τ).loc Cert.AttnSIdeal.main_arg0)) (m ((c.tc : Thread Cert.AttnSIdeal.nD Cert.AttnSIdeal.τ).loc Cert.AttnSIdeal.main_arg1)) (m ((c.tc : Thread Cert.AttnSIdeal.nD Cert.AttnSIdeal.τ).loc Cert.AttnSIdeal.main_arg2)) (m ((c.tc : Thread Cert.AttnSIdeal.nD Cert.AttnSIdeal.τ).loc Cert.AttnSIdeal.main_arg3)) (m ((c.tc : Thread Cert.AttnSIdeal.nD Cert.AttnSIdeal.τ).loc Cert.AttnSIdeal.main_arg4)) (m ((c.tc : Thread Cert.AttnSIdeal.nD Cert.AttnSIdeal.τ).loc Cert.AttnSIdeal.main_arg5)) (m ((c.tc : Thread Cert.AttnSIdeal.nD Cert.AttnSIdeal.τ).loc Cert.AttnSIdeal.main_arg6)) (m ((c.tc : Thread Cert.AttnSIdeal.nD Cert.AttnSIdeal.τ).loc Cert.AttnSIdeal.main_arg7)) (m ((c.tc : Thread Cert.AttnSIdeal.nD Cert.AttnSIdeal.τ).loc Cert.AttnSIdeal.main_arg8))).2.2.2.2.2.1 = (fun _ => 1#1)
    ∧ (Cert.Pre_attn_finite.fn (F := Ideal) (m ((c.tc : Thread Cert.AttnSIdeal.nD Cert.AttnSIdeal.τ).loc Cert.AttnSIdeal.main_arg0)) (m ((c.tc : Thread Cert.AttnSIdeal.nD Cert.AttnSIdeal.τ).loc Cert.AttnSIdeal.main_arg1)) (m ((c.tc : Thread Cert.AttnSIdeal.nD Cert.AttnSIdeal.τ).loc Cert.AttnSIdeal.main_arg2)) (m ((c.tc : Thread Cert.AttnSIdeal.nD Cert.AttnSIdeal.τ).loc Cert.AttnSIdeal.main_arg3)) (m ((c.tc : Thread Cert.AttnSIdeal.nD Cert.AttnSIdeal.τ).loc Cert.AttnSIdeal.main_arg4)) (m ((c.tc : Thread Cert.AttnSIdeal.nD Cert.AttnSIdeal.τ).loc Cert.AttnSIdeal.main_arg5)) (m ((c.tc : Thread Cert.AttnSIdeal.nD Cert.AttnSIdeal.τ).loc Cert.AttnSIdeal.main_arg6)) (m ((c.tc : Thread Cert.AttnSIdeal.nD Cert.AttnSIdeal.τ).loc Cert.AttnSIdeal.main_arg7)) (m ((c.tc : Thread Cert.AttnSIdeal.nD Cert.AttnSIdeal.τ).loc Cert.AttnSIdeal.main_arg8))).2.2.2.2.2.2.1 = (fun _ => 1#1)
    ∧ (Cert.Pre_attn_finite.fn (F := Ideal) (m ((c.tc : Thread Cert.AttnSIdeal.nD Cert.AttnSIdeal.τ).loc Cert.AttnSIdeal.main_arg0)) (m ((c.tc : Thread Cert.AttnSIdeal.nD Cert.AttnSIdeal.τ).loc Cert.AttnSIdeal.main_arg1)) (m ((c.tc : Thread Cert.AttnSIdeal.nD Cert.AttnSIdeal.τ).loc Cert.AttnSIdeal.main_arg2)) (m ((c.tc : Thread Cert.AttnSIdeal.nD Cert.AttnSIdeal.τ).loc Cert.AttnSIdeal.main_arg3)) (m ((c.tc : Thread Cert.AttnSIdeal.nD Cert.AttnSIdeal.τ).loc Cert.AttnSIdeal.main_arg4)) (m ((c.tc : Thread Cert.AttnSIdeal.nD Cert.AttnSIdeal.τ).loc Cert.AttnSIdeal.main_arg5)) (m ((c.tc : Thread Cert.AttnSIdeal.nD Cert.AttnSIdeal.τ).loc Cert.AttnSIdeal.main_arg6)) (m ((c.tc : Thread Cert.AttnSIdeal.nD Cert.AttnSIdeal.τ).loc Cert.AttnSIdeal.main_arg7)) (m ((c.tc : Thread Cert.AttnSIdeal.nD Cert.AttnSIdeal.τ).loc Cert.AttnSIdeal.main_arg8))).2.2.2.2.2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8))).1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8))).2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8))).2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8))).2.2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8))).2.2.2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8))).2.2.2.2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8))).2.2.2.2.2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8))).2.2.2.2.2.2.2 = (fun _ => 1#1)

def Pre_Ffn [hPre_tiles_exist : Cert.Pre_tiles_exist.Facts] (m : (ℓ : Loc Cert.Ffn.nD Cert.Ffn.τ Cert.Ffn.sig) → Buf (Elt Bits) ℓ) : Prop :=
  ∀ c : Dev Cert.Ffn.nD,
    (Cert.Pre_tiles_exist.fn (F := Bits) (m ((c.tc : Thread Cert.Ffn.nD Cert.Ffn.τ).loc Cert.Ffn.main_arg0)) (m ((c.tc : Thread Cert.Ffn.nD Cert.Ffn.τ).loc Cert.Ffn.main_arg1)) (m ((c.tc : Thread Cert.Ffn.nD Cert.Ffn.τ).loc Cert.Ffn.main_arg2)) (m ((c.tc : Thread Cert.Ffn.nD Cert.Ffn.τ).loc Cert.Ffn.main_arg3)) (m ((c.tc : Thread Cert.Ffn.nD Cert.Ffn.τ).loc Cert.Ffn.main_arg4)) (m ((c.tc : Thread Cert.Ffn.nD Cert.Ffn.τ).loc Cert.Ffn.main_arg5)) (m ((c.tc : Thread Cert.Ffn.nD Cert.Ffn.τ).loc Cert.Ffn.main_arg6))).1 = (fun _ => 1#1)
    ∧ (Cert.Pre_tiles_exist.fn (F := Bits) (m ((c.tc : Thread Cert.Ffn.nD Cert.Ffn.τ).loc Cert.Ffn.main_arg0)) (m ((c.tc : Thread Cert.Ffn.nD Cert.Ffn.τ).loc Cert.Ffn.main_arg1)) (m ((c.tc : Thread Cert.Ffn.nD Cert.Ffn.τ).loc Cert.Ffn.main_arg2)) (m ((c.tc : Thread Cert.Ffn.nD Cert.Ffn.τ).loc Cert.Ffn.main_arg3)) (m ((c.tc : Thread Cert.Ffn.nD Cert.Ffn.τ).loc Cert.Ffn.main_arg4)) (m ((c.tc : Thread Cert.Ffn.nD Cert.Ffn.τ).loc Cert.Ffn.main_arg5)) (m ((c.tc : Thread Cert.Ffn.nD Cert.Ffn.τ).loc Cert.Ffn.main_arg6))).2 = (fun _ => 1#1)

def Pre_FfnIdeal [hPre_tiles_exist : Cert.Pre_tiles_exist.Facts] (m : (ℓ : Loc Cert.FfnIdeal.nD Cert.FfnIdeal.τ Cert.FfnIdeal.sig) → Buf (Elt Ideal) ℓ) : Prop :=
  ∀ c : Dev Cert.FfnIdeal.nD,
    (Cert.Pre_tiles_exist.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).1 = (fun _ => 1#1)
    ∧ (Cert.Pre_tiles_exist.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_tiles_exist [hPre_tiles_exist : Cert.Pre_tiles_exist.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_tiles_exist.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).1 = (fun _ => 1#1)
    ∧ (Cert.Pre_tiles_exist.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2 = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Gm (m : (ℓ : Loc Cert.Gm.nD Cert.Gm.τ Cert.Gm.sig) → Buf (Elt Bits) ℓ) : Prop :=
  True

def Pre_GmIdeal (m : (ℓ : Loc Cert.GmIdeal.nD Cert.GmIdeal.τ Cert.GmIdeal.sig) → Buf (Elt Ideal) ℓ) : Prop :=
  True

def Pre_GmRefIdeal (m : (ℓ : Loc Cert.GmRefIdeal.nD Cert.GmRefIdeal.τ Cert.GmRefIdeal.sig) → Buf (Elt Ideal) ℓ) : Prop :=
  True

def quiescent_AttnS [hAttnS : Cert.AttnS.Facts] [hPre_pages_exist : Cert.Pre_pages_exist.Facts] : Prop :=
  ∀ (m : (ℓ : Loc Cert.AttnS.nD Cert.AttnS.τ Cert.AttnS.sig) → Buf (Elt Bits) ℓ) (g : Dev Cert.AttnS.nD → PrngReg), Pre_AttnS m →
    θ_run (Cert.AttnS.defs (F := Bits)) (onTc (τ := Cert.AttnS.τ) (Cert.AttnS.main (F := Bits))) ⟨m, fun _ => 0, g⟩ (fun r => (∀ c : Dev Cert.AttnS.nD,
      r.2.mem ((c.tc : Thread Cert.AttnS.nD Cert.AttnS.τ).loc Cert.AttnS.main_arg0) = m ((c.tc : Thread Cert.AttnS.nD Cert.AttnS.τ).loc Cert.AttnS.main_arg0)
      ∧ r.2.mem ((c.tc : Thread Cert.AttnS.nD Cert.AttnS.τ).loc Cert.AttnS.main_arg1) = m ((c.tc : Thread Cert.AttnS.nD Cert.AttnS.τ).loc Cert.AttnS.main_arg1)
      ∧ r.2.mem ((c.tc : Thread Cert.AttnS.nD Cert.AttnS.τ).loc Cert.AttnS.main_arg2) = m ((c.tc : Thread Cert.AttnS.nD Cert.AttnS.τ).loc Cert.AttnS.main_arg2)
      ∧ r.2.mem ((c.tc : Thread Cert.AttnS.nD Cert.AttnS.τ).loc Cert.AttnS.main_arg3) = m ((c.tc : Thread Cert.AttnS.nD Cert.AttnS.τ).loc Cert.AttnS.main_arg3)
      ∧ r.2.mem ((c.tc : Thread Cert.AttnS.nD Cert.AttnS.τ).loc Cert.AttnS.main_arg4) = m ((c.tc : Thread Cert.AttnS.nD Cert.AttnS.τ).loc Cert.AttnS.main_arg4)
      ∧ r.2.mem ((c.tc : Thread Cert.AttnS.nD Cert.AttnS.τ).loc Cert.AttnS.main_arg5) = m ((c.tc : Thread Cert.AttnS.nD Cert.AttnS.τ).loc Cert.AttnS.main_arg5)
      ∧ r.2.mem ((c.tc : Thread Cert.AttnS.nD Cert.AttnS.τ).loc Cert.AttnS.main_arg6) = m ((c.tc : Thread Cert.AttnS.nD Cert.AttnS.τ).loc Cert.AttnS.main_arg6)
      ∧ r.2.mem ((c.tc : Thread Cert.AttnS.nD Cert.AttnS.τ).loc Cert.AttnS.main_arg7) = m ((c.tc : Thread Cert.AttnS.nD Cert.AttnS.τ).loc Cert.AttnS.main_arg7)
      ∧ r.2.mem ((c.tc : Thread Cert.AttnS.nD Cert.AttnS.τ).loc Cert.AttnS.main_arg8) = m ((c.tc : Thread Cert.AttnS.nD Cert.AttnS.τ).loc Cert.AttnS.main_arg8))
      ∧ r.2.sem = fun _ => 0)

def quiescent_AttnSIdeal [hAttnSIdeal : Cert.AttnSIdeal.Facts] [hPre_pages_exist : Cert.Pre_pages_exist.Facts] : Prop :=
  ∀ (m : (ℓ : Loc Cert.AttnSIdeal.nD Cert.AttnSIdeal.τ Cert.AttnSIdeal.sig) → Buf (Elt Ideal) ℓ) (g : Dev Cert.AttnSIdeal.nD → PrngReg), Pre_AttnSIdeal m →
    θ_run (Cert.AttnSIdeal.defs (F := Ideal)) (onTc (τ := Cert.AttnSIdeal.τ) (Cert.AttnSIdeal.main (F := Ideal))) ⟨m, fun _ => 0, g⟩ (fun r => (∀ c : Dev Cert.AttnSIdeal.nD,
      r.2.mem ((c.tc : Thread Cert.AttnSIdeal.nD Cert.AttnSIdeal.τ).loc Cert.AttnSIdeal.main_arg0) = m ((c.tc : Thread Cert.AttnSIdeal.nD Cert.AttnSIdeal.τ).loc Cert.AttnSIdeal.main_arg0)
      ∧ r.2.mem ((c.tc : Thread Cert.AttnSIdeal.nD Cert.AttnSIdeal.τ).loc Cert.AttnSIdeal.main_arg1) = m ((c.tc : Thread Cert.AttnSIdeal.nD Cert.AttnSIdeal.τ).loc Cert.AttnSIdeal.main_arg1)
      ∧ r.2.mem ((c.tc : Thread Cert.AttnSIdeal.nD Cert.AttnSIdeal.τ).loc Cert.AttnSIdeal.main_arg2) = m ((c.tc : Thread Cert.AttnSIdeal.nD Cert.AttnSIdeal.τ).loc Cert.AttnSIdeal.main_arg2)
      ∧ r.2.mem ((c.tc : Thread Cert.AttnSIdeal.nD Cert.AttnSIdeal.τ).loc Cert.AttnSIdeal.main_arg3) = m ((c.tc : Thread Cert.AttnSIdeal.nD Cert.AttnSIdeal.τ).loc Cert.AttnSIdeal.main_arg3)
      ∧ r.2.mem ((c.tc : Thread Cert.AttnSIdeal.nD Cert.AttnSIdeal.τ).loc Cert.AttnSIdeal.main_arg4) = m ((c.tc : Thread Cert.AttnSIdeal.nD Cert.AttnSIdeal.τ).loc Cert.AttnSIdeal.main_arg4)
      ∧ r.2.mem ((c.tc : Thread Cert.AttnSIdeal.nD Cert.AttnSIdeal.τ).loc Cert.AttnSIdeal.main_arg5) = m ((c.tc : Thread Cert.AttnSIdeal.nD Cert.AttnSIdeal.τ).loc Cert.AttnSIdeal.main_arg5)
      ∧ r.2.mem ((c.tc : Thread Cert.AttnSIdeal.nD Cert.AttnSIdeal.τ).loc Cert.AttnSIdeal.main_arg6) = m ((c.tc : Thread Cert.AttnSIdeal.nD Cert.AttnSIdeal.τ).loc Cert.AttnSIdeal.main_arg6)
      ∧ r.2.mem ((c.tc : Thread Cert.AttnSIdeal.nD Cert.AttnSIdeal.τ).loc Cert.AttnSIdeal.main_arg7) = m ((c.tc : Thread Cert.AttnSIdeal.nD Cert.AttnSIdeal.τ).loc Cert.AttnSIdeal.main_arg7)
      ∧ r.2.mem ((c.tc : Thread Cert.AttnSIdeal.nD Cert.AttnSIdeal.τ).loc Cert.AttnSIdeal.main_arg8) = m ((c.tc : Thread Cert.AttnSIdeal.nD Cert.AttnSIdeal.τ).loc Cert.AttnSIdeal.main_arg8))
      ∧ r.2.sem = fun _ => 0)

def quiescent_AttnSIdeal_pre_attn_finite [hAttnSIdeal : Cert.AttnSIdeal.Facts] [hPre_attn_finite : Cert.Pre_attn_finite.Facts] : Prop :=
  ∀ (m : (ℓ : Loc Cert.AttnSIdeal.nD Cert.AttnSIdeal.τ Cert.AttnSIdeal.sig) → Buf (Elt Ideal) ℓ) (g : Dev Cert.AttnSIdeal.nD → PrngReg), Pre_AttnSIdeal_attn_finite m →
    θ_run (Cert.AttnSIdeal.defs (F := Ideal)) (onTc (τ := Cert.AttnSIdeal.τ) (Cert.AttnSIdeal.main (F := Ideal))) ⟨m, fun _ => 0, g⟩ (fun r => (∀ c : Dev Cert.AttnSIdeal.nD,
      r.2.mem ((c.tc : Thread Cert.AttnSIdeal.nD Cert.AttnSIdeal.τ).loc Cert.AttnSIdeal.main_arg0) = m ((c.tc : Thread Cert.AttnSIdeal.nD Cert.AttnSIdeal.τ).loc Cert.AttnSIdeal.main_arg0)
      ∧ r.2.mem ((c.tc : Thread Cert.AttnSIdeal.nD Cert.AttnSIdeal.τ).loc Cert.AttnSIdeal.main_arg1) = m ((c.tc : Thread Cert.AttnSIdeal.nD Cert.AttnSIdeal.τ).loc Cert.AttnSIdeal.main_arg1)
      ∧ r.2.mem ((c.tc : Thread Cert.AttnSIdeal.nD Cert.AttnSIdeal.τ).loc Cert.AttnSIdeal.main_arg2) = m ((c.tc : Thread Cert.AttnSIdeal.nD Cert.AttnSIdeal.τ).loc Cert.AttnSIdeal.main_arg2)
      ∧ r.2.mem ((c.tc : Thread Cert.AttnSIdeal.nD Cert.AttnSIdeal.τ).loc Cert.AttnSIdeal.main_arg3) = m ((c.tc : Thread Cert.AttnSIdeal.nD Cert.AttnSIdeal.τ).loc Cert.AttnSIdeal.main_arg3)
      ∧ r.2.mem ((c.tc : Thread Cert.AttnSIdeal.nD Cert.AttnSIdeal.τ).loc Cert.AttnSIdeal.main_arg4) = m ((c.tc : Thread Cert.AttnSIdeal.nD Cert.AttnSIdeal.τ).loc Cert.AttnSIdeal.main_arg4)
      ∧ r.2.mem ((c.tc : Thread Cert.AttnSIdeal.nD Cert.AttnSIdeal.τ).loc Cert.AttnSIdeal.main_arg5) = m ((c.tc : Thread Cert.AttnSIdeal.nD Cert.AttnSIdeal.τ).loc Cert.AttnSIdeal.main_arg5)
      ∧ r.2.mem ((c.tc : Thread Cert.AttnSIdeal.nD Cert.AttnSIdeal.τ).loc Cert.AttnSIdeal.main_arg6) = m ((c.tc : Thread Cert.AttnSIdeal.nD Cert.AttnSIdeal.τ).loc Cert.AttnSIdeal.main_arg6)
      ∧ r.2.mem ((c.tc : Thread Cert.AttnSIdeal.nD Cert.AttnSIdeal.τ).loc Cert.AttnSIdeal.main_arg7) = m ((c.tc : Thread Cert.AttnSIdeal.nD Cert.AttnSIdeal.τ).loc Cert.AttnSIdeal.main_arg7)
      ∧ r.2.mem ((c.tc : Thread Cert.AttnSIdeal.nD Cert.AttnSIdeal.τ).loc Cert.AttnSIdeal.main_arg8) = m ((c.tc : Thread Cert.AttnSIdeal.nD Cert.AttnSIdeal.τ).loc Cert.AttnSIdeal.main_arg8))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7)
      ∧ r.2.mem ((c.tc : Thread Cert.AttnRefIdeal.nD Cert.AttnRefIdeal.τ).loc Cert.AttnRefIdeal.main_arg8) = m ((c.tc : Thread Cert.AttnRefIdeal.nD Cert.AttnRefIdeal.τ).loc Cert.AttnRefIdeal.main_arg8))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7)
      ∧ r.2.mem ((c.tc : Thread Cert.AttnRefIdeal.nD Cert.AttnRefIdeal.τ).loc Cert.AttnRefIdeal.main_arg8) = m ((c.tc : Thread Cert.AttnRefIdeal.nD Cert.AttnRefIdeal.τ).loc Cert.AttnRefIdeal.main_arg8))
      ∧ r.2.sem = fun _ => 0)

def quiescent_Ffn [hFfn : Cert.Ffn.Facts] [hPre_tiles_exist : Cert.Pre_tiles_exist.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] [hPre_tiles_exist : Cert.Pre_tiles_exist.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_FfnRefIdeal_pre_tiles_exist [hFfnRefIdeal : Cert.FfnRefIdeal.Facts] [hPre_tiles_exist : Cert.Pre_tiles_exist.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_tiles_exist m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2))
      ∧ r.2.sem = fun _ => 0)

def quiescent_Gm [hGm : Cert.Gm.Facts] : Prop :=
  ∀ (m : (ℓ : Loc Cert.Gm.nD Cert.Gm.τ Cert.Gm.sig) → Buf (Elt Bits) ℓ) (g : Dev Cert.Gm.nD → PrngReg), Pre_Gm m →
    θ_run (Cert.Gm.defs (F := Bits)) (onTc (τ := Cert.Gm.τ) (Cert.Gm.main (F := Bits))) ⟨m, fun _ => 0, g⟩ (fun r => (∀ c : Dev Cert.Gm.nD,
      r.2.mem ((c.tc : Thread Cert.Gm.nD Cert.Gm.τ).loc Cert.Gm.main_arg0) = m ((c.tc : Thread Cert.Gm.nD Cert.Gm.τ).loc Cert.Gm.main_arg0)
      ∧ r.2.mem ((c.tc : Thread Cert.Gm.nD Cert.Gm.τ).loc Cert.Gm.main_arg1) = m ((c.tc : Thread Cert.Gm.nD Cert.Gm.τ).loc Cert.Gm.main_arg1)
      ∧ r.2.mem ((c.tc : Thread Cert.Gm.nD Cert.Gm.τ).loc Cert.Gm.main_arg2) = m ((c.tc : Thread Cert.Gm.nD Cert.Gm.τ).loc Cert.Gm.main_arg2)
      ∧ r.2.mem ((c.tc : Thread Cert.Gm.nD Cert.Gm.τ).loc Cert.Gm.main_arg3) = m ((c.tc : Thread Cert.Gm.nD Cert.Gm.τ).loc Cert.Gm.main_arg3)
      ∧ r.2.mem ((c.tc : Thread Cert.Gm.nD Cert.Gm.τ).loc Cert.Gm.main_arg4) = m ((c.tc : Thread Cert.Gm.nD Cert.Gm.τ).loc Cert.Gm.main_arg4)
      ∧ r.2.mem ((c.tc : Thread Cert.Gm.nD Cert.Gm.τ).loc Cert.Gm.main_arg5) = m ((c.tc : Thread Cert.Gm.nD Cert.Gm.τ).loc Cert.Gm.main_arg5))
      ∧ r.2.sem = fun _ => 0)

def quiescent_GmIdeal [hGmIdeal : Cert.GmIdeal.Facts] : Prop :=
  ∀ (m : (ℓ : Loc Cert.GmIdeal.nD Cert.GmIdeal.τ Cert.GmIdeal.sig) → Buf (Elt Ideal) ℓ) (g : Dev Cert.GmIdeal.nD → PrngReg), Pre_GmIdeal m →
    θ_run (Cert.GmIdeal.defs (F := Ideal)) (onTc (τ := Cert.GmIdeal.τ) (Cert.GmIdeal.main (F := Ideal))) ⟨m, fun _ => 0, g⟩ (fun r => (∀ c : Dev Cert.GmIdeal.nD,
      r.2.mem ((c.tc : Thread Cert.GmIdeal.nD Cert.GmIdeal.τ).loc Cert.GmIdeal.main_arg0) = m ((c.tc : Thread Cert.GmIdeal.nD Cert.GmIdeal.τ).loc Cert.GmIdeal.main_arg0)
      ∧ r.2.mem ((c.tc : Thread Cert.GmIdeal.nD Cert.GmIdeal.τ).loc Cert.GmIdeal.main_arg1) = m ((c.tc : Thread Cert.GmIdeal.nD Cert.GmIdeal.τ).loc Cert.GmIdeal.main_arg1)
      ∧ r.2.mem ((c.tc : Thread Cert.GmIdeal.nD Cert.GmIdeal.τ).loc Cert.GmIdeal.main_arg2) = m ((c.tc : Thread Cert.GmIdeal.nD Cert.GmIdeal.τ).loc Cert.GmIdeal.main_arg2)
      ∧ r.2.mem ((c.tc : Thread Cert.GmIdeal.nD Cert.GmIdeal.τ).loc Cert.GmIdeal.main_arg3) = m ((c.tc : Thread Cert.GmIdeal.nD Cert.GmIdeal.τ).loc Cert.GmIdeal.main_arg3)
      ∧ r.2.mem ((c.tc : Thread Cert.GmIdeal.nD Cert.GmIdeal.τ).loc Cert.GmIdeal.main_arg4) = m ((c.tc : Thread Cert.GmIdeal.nD Cert.GmIdeal.τ).loc Cert.GmIdeal.main_arg4)
      ∧ r.2.mem ((c.tc : Thread Cert.GmIdeal.nD Cert.GmIdeal.τ).loc Cert.GmIdeal.main_arg5) = m ((c.tc : Thread Cert.GmIdeal.nD Cert.GmIdeal.τ).loc Cert.GmIdeal.main_arg5))
      ∧ r.2.sem = fun _ => 0)

def quiescent_GmRefIdeal [hGmRefIdeal : Cert.GmRefIdeal.Facts] : Prop :=
  ∀ (m : (ℓ : Loc Cert.GmRefIdeal.nD Cert.GmRefIdeal.τ Cert.GmRefIdeal.sig) → Buf (Elt Ideal) ℓ) (g : Dev Cert.GmRefIdeal.nD → PrngReg), Pre_GmRefIdeal m →
    θ_run (Cert.GmRefIdeal.defs (F := Ideal)) (onTc (τ := Cert.GmRefIdeal.τ) (Cert.GmRefIdeal.main (F := Ideal))) ⟨m, fun _ => 0, g⟩ (fun r => (∀ c : Dev Cert.GmRefIdeal.nD,
      r.2.mem ((c.tc : Thread Cert.GmRefIdeal.nD Cert.GmRefIdeal.τ).loc Cert.GmRefIdeal.main_arg0) = m ((c.tc : Thread Cert.GmRefIdeal.nD Cert.GmRefIdeal.τ).loc Cert.GmRefIdeal.main_arg0)
      ∧ r.2.mem ((c.tc : Thread Cert.GmRefIdeal.nD Cert.GmRefIdeal.τ).loc Cert.GmRefIdeal.main_arg1) = m ((c.tc : Thread Cert.GmRefIdeal.nD Cert.GmRefIdeal.τ).loc Cert.GmRefIdeal.main_arg1)
      ∧ r.2.mem ((c.tc : Thread Cert.GmRefIdeal.nD Cert.GmRefIdeal.τ).loc Cert.GmRefIdeal.main_arg2) = m ((c.tc : Thread Cert.GmRefIdeal.nD Cert.GmRefIdeal.τ).loc Cert.GmRefIdeal.main_arg2)
      ∧ r.2.mem ((c.tc : Thread Cert.GmRefIdeal.nD Cert.GmRefIdeal.τ).loc Cert.GmRefIdeal.main_arg3) = m ((c.tc : Thread Cert.GmRefIdeal.nD Cert.GmRefIdeal.τ).loc Cert.GmRefIdeal.main_arg3)
      ∧ r.2.mem ((c.tc : Thread Cert.GmRefIdeal.nD Cert.GmRefIdeal.τ).loc Cert.GmRefIdeal.main_arg4) = m ((c.tc : Thread Cert.GmRefIdeal.nD Cert.GmRefIdeal.τ).loc Cert.GmRefIdeal.main_arg4)
      ∧ r.2.mem ((c.tc : Thread Cert.GmRefIdeal.nD Cert.GmRefIdeal.τ).loc Cert.GmRefIdeal.main_arg5) = m ((c.tc : Thread Cert.GmRefIdeal.nD Cert.GmRefIdeal.τ).loc Cert.GmRefIdeal.main_arg5))
      ∧ r.2.sem = fun _ => 0)

def preserves_AttnS_AttnSIdeal : Prop :=
  IdealRules.named_const.Statement Cert.AttnSIdeal.κ "mask" .f32 0xF149F2CA#32 ⊥

def algebraic_AttnSIdeal_AttnRefIdeal_pre_attn_finite [hAttnSIdeal : Cert.AttnSIdeal.Facts] [hAttnRefIdeal : Cert.AttnRefIdeal.Facts] [hPre_attn_finite : Cert.Pre_attn_finite.Facts] : Prop :=
  ∀ (m : (ℓ : Loc Cert.AttnSIdeal.nD Cert.AttnSIdeal.τ Cert.AttnSIdeal.sig) → Buf (Elt Ideal) ℓ) (g : Dev Cert.AttnSIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnSIdeal_attn_finite m →
    (∀ c : Dev Cert.AttnSIdeal.nD,
      m' ((c.tc : Thread Cert.AttnRefIdeal.nD Cert.AttnRefIdeal.τ).loc Cert.AttnRefIdeal.main_arg0) = m ((c.tc : Thread Cert.AttnSIdeal.nD Cert.AttnSIdeal.τ).loc Cert.AttnSIdeal.main_arg0)
      ∧ m' ((c.tc : Thread Cert.AttnRefIdeal.nD Cert.AttnRefIdeal.τ).loc Cert.AttnRefIdeal.main_arg1) = m ((c.tc : Thread Cert.AttnSIdeal.nD Cert.AttnSIdeal.τ).loc Cert.AttnSIdeal.main_arg1)
      ∧ m' ((c.tc : Thread Cert.AttnRefIdeal.nD Cert.AttnRefIdeal.τ).loc Cert.AttnRefIdeal.main_arg2) = m ((c.tc : Thread Cert.AttnSIdeal.nD Cert.AttnSIdeal.τ).loc Cert.AttnSIdeal.main_arg2)
      ∧ m' ((c.tc : Thread Cert.AttnRefIdeal.nD Cert.AttnRefIdeal.τ).loc Cert.AttnRefIdeal.main_arg3) = m ((c.tc : Thread Cert.AttnSIdeal.nD Cert.AttnSIdeal.τ).loc Cert.AttnSIdeal.main_arg3)
      ∧ m' ((c.tc : Thread Cert.AttnRefIdeal.nD Cert.AttnRefIdeal.τ).loc Cert.AttnRefIdeal.main_arg4) = m ((c.tc : Thread Cert.AttnSIdeal.nD Cert.AttnSIdeal.τ).loc Cert.AttnSIdeal.main_arg4)
      ∧ m' ((c.tc : Thread Cert.AttnRefIdeal.nD Cert.AttnRefIdeal.τ).loc Cert.AttnRefIdeal.main_arg5) = m ((c.tc : Thread Cert.AttnSIdeal.nD Cert.AttnSIdeal.τ).loc Cert.AttnSIdeal.main_arg5)
      ∧ m' ((c.tc : Thread Cert.AttnRefIdeal.nD Cert.AttnRefIdeal.τ).loc Cert.AttnRefIdeal.main_arg6) = m ((c.tc : Thread Cert.AttnSIdeal.nD Cert.AttnSIdeal.τ).loc Cert.AttnSIdeal.main_arg6)
      ∧ m' ((c.tc : Thread Cert.AttnRefIdeal.nD Cert.AttnRefIdeal.τ).loc Cert.AttnRefIdeal.main_arg7) = m ((c.tc : Thread Cert.AttnSIdeal.nD Cert.AttnSIdeal.τ).loc Cert.AttnSIdeal.main_arg7)
      ∧ m' ((c.tc : Thread Cert.AttnRefIdeal.nD Cert.AttnRefIdeal.τ).loc Cert.AttnRefIdeal.main_arg8) = m ((c.tc : Thread Cert.AttnSIdeal.nD Cert.AttnSIdeal.τ).loc Cert.AttnSIdeal.main_arg8)) →
    ∃ (v0 : (c : Dev Cert.AttnSIdeal.nD) → Buf (Elt Ideal) ((c.tc : Thread Cert.AttnSIdeal.nD Cert.AttnSIdeal.τ).loc Cert.AttnSIdeal.main_v9)),
      θ_run (Cert.AttnSIdeal.defs (F := Ideal)) (onTc (τ := Cert.AttnSIdeal.τ) (Cert.AttnSIdeal.main (F := Ideal))) ⟨m, fun _ => 0, g⟩ (fun r => ∀ c : Dev Cert.AttnSIdeal.nD,
          r.2.mem ((c.tc : Thread Cert.AttnSIdeal.nD Cert.AttnSIdeal.τ).loc Cert.AttnSIdeal.main_v9) = v0 c
          ∧ r.2.mem ((c.tc : Thread Cert.AttnSIdeal.nD Cert.AttnSIdeal.τ).loc Cert.AttnSIdeal.main_arg0) = m ((c.tc : Thread Cert.AttnSIdeal.nD Cert.AttnSIdeal.τ).loc Cert.AttnSIdeal.main_arg0)
          ∧ r.2.mem ((c.tc : Thread Cert.AttnSIdeal.nD Cert.AttnSIdeal.τ).loc Cert.AttnSIdeal.main_arg1) = m ((c.tc : Thread Cert.AttnSIdeal.nD Cert.AttnSIdeal.τ).loc Cert.AttnSIdeal.main_arg1)
          ∧ r.2.mem ((c.tc : Thread Cert.AttnSIdeal.nD Cert.AttnSIdeal.τ).loc Cert.AttnSIdeal.main_arg2) = m ((c.tc : Thread Cert.AttnSIdeal.nD Cert.AttnSIdeal.τ).loc Cert.AttnSIdeal.main_arg2)
          ∧ r.2.mem ((c.tc : Thread Cert.AttnSIdeal.nD Cert.AttnSIdeal.τ).loc Cert.AttnSIdeal.main_arg3) = m ((c.tc : Thread Cert.AttnSIdeal.nD Cert.AttnSIdeal.τ).loc Cert.AttnSIdeal.main_arg3)
          ∧ r.2.mem ((c.tc : Thread Cert.AttnSIdeal.nD Cert.AttnSIdeal.τ).loc Cert.AttnSIdeal.main_arg4) = m ((c.tc : Thread Cert.AttnSIdeal.nD Cert.AttnSIdeal.τ).loc Cert.AttnSIdeal.main_arg4)
          ∧ r.2.mem ((c.tc : Thread Cert.AttnSIdeal.nD Cert.AttnSIdeal.τ).loc Cert.AttnSIdeal.main_arg5) = m ((c.tc : Thread Cert.AttnSIdeal.nD Cert.AttnSIdeal.τ).loc Cert.AttnSIdeal.main_arg5)
          ∧ r.2.mem ((c.tc : Thread Cert.AttnSIdeal.nD Cert.AttnSIdeal.τ).loc Cert.AttnSIdeal.main_arg6) = m ((c.tc : Thread Cert.AttnSIdeal.nD Cert.AttnSIdeal.τ).loc Cert.AttnSIdeal.main_arg6)
          ∧ r.2.mem ((c.tc : Thread Cert.AttnSIdeal.nD Cert.AttnSIdeal.τ).loc Cert.AttnSIdeal.main_arg7) = m ((c.tc : Thread Cert.AttnSIdeal.nD Cert.AttnSIdeal.τ).loc Cert.AttnSIdeal.main_arg7)
          ∧ r.2.mem ((c.tc : Thread Cert.AttnSIdeal.nD Cert.AttnSIdeal.τ).loc Cert.AttnSIdeal.main_arg8) = m ((c.tc : Thread Cert.AttnSIdeal.nD Cert.AttnSIdeal.τ).loc Cert.AttnSIdeal.main_arg8))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v141) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6)
          ∧ r.2.mem ((c.tc : Thread Cert.AttnRefIdeal.nD Cert.AttnRefIdeal.τ).loc Cert.AttnRefIdeal.main_arg7) = m' ((c.tc : Thread Cert.AttnRefIdeal.nD Cert.AttnRefIdeal.τ).loc Cert.AttnRefIdeal.main_arg7)
          ∧ r.2.mem ((c.tc : Thread Cert.AttnRefIdeal.nD Cert.AttnRefIdeal.τ).loc Cert.AttnRefIdeal.main_arg8) = m' ((c.tc : Thread Cert.AttnRefIdeal.nD Cert.AttnRefIdeal.τ).loc Cert.AttnRefIdeal.main_arg8))

def preserves_Ffn_FfnIdeal : Prop :=
  True

def algebraic_FfnIdeal_FfnRefIdeal [hFfnIdeal : Cert.FfnIdeal.Facts] [hFfnRefIdeal : Cert.FfnRefIdeal.Facts] [hPre_tiles_exist : Cert.Pre_tiles_exist.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v42) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v20)) (v1 : (c : Dev Cert.ProjIdeal.nD) → Buf (Elt Ideal) ((c.tc : Thread Cert.ProjIdeal.nD Cert.ProjIdeal.τ).loc Cert.ProjIdeal.main_v23)) (v2 : (c : Dev Cert.ProjIdeal.nD) → Buf (Elt Ideal) ((c.tc : Thread Cert.ProjIdeal.nD Cert.ProjIdeal.τ).loc Cert.ProjIdeal.main_v26)) (v3 : (c : Dev Cert.ProjIdeal.nD) → Buf (Elt Ideal) ((c.tc : Thread Cert.ProjIdeal.nD Cert.ProjIdeal.τ).loc Cert.ProjIdeal.main_v29)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v20) = v0 c
          ∧ r.2.mem ((c.tc : Thread Cert.ProjIdeal.nD Cert.ProjIdeal.τ).loc Cert.ProjIdeal.main_v23) = v1 c
          ∧ r.2.mem ((c.tc : Thread Cert.ProjIdeal.nD Cert.ProjIdeal.τ).loc Cert.ProjIdeal.main_v26) = v2 c
          ∧ r.2.mem ((c.tc : Thread Cert.ProjIdeal.nD Cert.ProjIdeal.τ).loc Cert.ProjIdeal.main_v29) = v3 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v26) = v0 c
          ∧ r.2.mem ((c.tc : Thread Cert.ProjRefIdeal.nD Cert.ProjRefIdeal.τ).loc Cert.ProjRefIdeal.main_v29) = v1 c
          ∧ r.2.mem ((c.tc : Thread Cert.ProjRefIdeal.nD Cert.ProjRefIdeal.τ).loc Cert.ProjRefIdeal.main_v32) = v2 c
          ∧ r.2.mem ((c.tc : Thread Cert.ProjRefIdeal.nD Cert.ProjRefIdeal.τ).loc Cert.ProjRefIdeal.main_v35) = v3 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)) →
    ∃ (v0 : (c : Dev Cert.MixIdeal.nD) → Buf (Elt Ideal) ((c.tc : Thread Cert.MixIdeal.nD Cert.MixIdeal.τ).loc Cert.MixIdeal.main_v0)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v3) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2))

def preserves_Gm_GmIdeal : Prop :=
  True

def algebraic_GmIdeal_GmRefIdeal [hGmIdeal : Cert.GmIdeal.Facts] [hGmRefIdeal : Cert.GmRefIdeal.Facts] : Prop :=
  ∀ (m : (ℓ : Loc Cert.GmIdeal.nD Cert.GmIdeal.τ Cert.GmIdeal.sig) → Buf (Elt Ideal) ℓ) (g : Dev Cert.GmIdeal.nD → PrngReg)
    (m' : (ℓ : Loc Cert.GmRefIdeal.nD Cert.GmRefIdeal.τ Cert.GmRefIdeal.sig) → Buf (Elt Ideal) ℓ) (g' : Dev Cert.GmRefIdeal.nD → PrngReg), Pre_GmIdeal m →
    (∀ c : Dev Cert.GmIdeal.nD,
      m' ((c.tc : Thread Cert.GmRefIdeal.nD Cert.GmRefIdeal.τ).loc Cert.GmRefIdeal.main_arg0) = m ((c.tc : Thread Cert.GmIdeal.nD Cert.GmIdeal.τ).loc Cert.GmIdeal.main_arg0)
      ∧ m' ((c.tc : Thread Cert.GmRefIdeal.nD Cert.GmRefIdeal.τ).loc Cert.GmRefIdeal.main_arg1) = m ((c.tc : Thread Cert.GmIdeal.nD Cert.GmIdeal.τ).loc Cert.GmIdeal.main_arg1)
      ∧ m' ((c.tc : Thread Cert.GmRefIdeal.nD Cert.GmRefIdeal.τ).loc Cert.GmRefIdeal.main_arg2) = m ((c.tc : Thread Cert.GmIdeal.nD Cert.GmIdeal.τ).loc Cert.GmIdeal.main_arg2)
      ∧ m' ((c.tc : Thread Cert.GmRefIdeal.nD Cert.GmRefIdeal.τ).loc Cert.GmRefIdeal.main_arg3) = m ((c.tc : Thread Cert.GmIdeal.nD Cert.GmIdeal.τ).loc Cert.GmIdeal.main_arg3)
      ∧ m' ((c.tc : Thread Cert.GmRefIdeal.nD Cert.GmRefIdeal.τ).loc Cert.GmRefIdeal.main_arg4) = m ((c.tc : Thread Cert.GmIdeal.nD Cert.GmIdeal.τ).loc Cert.GmIdeal.main_arg4)
      ∧ m' ((c.tc : Thread Cert.GmRefIdeal.nD Cert.GmRefIdeal.τ).loc Cert.GmRefIdeal.main_arg5) = m ((c.tc : Thread Cert.GmIdeal.nD Cert.GmIdeal.τ).loc Cert.GmIdeal.main_arg5)) →
    ∃ (v0 : (c : Dev Cert.GmIdeal.nD) → Buf (Elt Ideal) ((c.tc : Thread Cert.GmIdeal.nD Cert.GmIdeal.τ).loc Cert.GmIdeal.main_v58)),
      θ_run (Cert.GmIdeal.defs (F := Ideal)) (onTc (τ := Cert.GmIdeal.τ) (Cert.GmIdeal.main (F := Ideal))) ⟨m, fun _ => 0, g⟩ (fun r => ∀ c : Dev Cert.GmIdeal.nD,
          r.2.mem ((c.tc : Thread Cert.GmIdeal.nD Cert.GmIdeal.τ).loc Cert.GmIdeal.main_v58) = v0 c
          ∧ r.2.mem ((c.tc : Thread Cert.GmIdeal.nD Cert.GmIdeal.τ).loc Cert.GmIdeal.main_arg0) = m ((c.tc : Thread Cert.GmIdeal.nD Cert.GmIdeal.τ).loc Cert.GmIdeal.main_arg0)
          ∧ r.2.mem ((c.tc : Thread Cert.GmIdeal.nD Cert.GmIdeal.τ).loc Cert.GmIdeal.main_arg1) = m ((c.tc : Thread Cert.GmIdeal.nD Cert.GmIdeal.τ).loc Cert.GmIdeal.main_arg1)
          ∧ r.2.mem ((c.tc : Thread Cert.GmIdeal.nD Cert.GmIdeal.τ).loc Cert.GmIdeal.main_arg2) = m ((c.tc : Thread Cert.GmIdeal.nD Cert.GmIdeal.τ).loc Cert.GmIdeal.main_arg2)
          ∧ r.2.mem ((c.tc : Thread Cert.GmIdeal.nD Cert.GmIdeal.τ).loc Cert.GmIdeal.main_arg3) = m ((c.tc : Thread Cert.GmIdeal.nD Cert.GmIdeal.τ).loc Cert.GmIdeal.main_arg3)
          ∧ r.2.mem ((c.tc : Thread Cert.GmIdeal.nD Cert.GmIdeal.τ).loc Cert.GmIdeal.main_arg4) = m ((c.tc : Thread Cert.GmIdeal.nD Cert.GmIdeal.τ).loc Cert.GmIdeal.main_arg4)
          ∧ r.2.mem ((c.tc : Thread Cert.GmIdeal.nD Cert.GmIdeal.τ).loc Cert.GmIdeal.main_arg5) = m ((c.tc : Thread Cert.GmIdeal.nD Cert.GmIdeal.τ).loc Cert.GmIdeal.main_arg5))
      ∧ θ_run (Cert.GmRefIdeal.defs (F := Ideal)) (onTc (τ := Cert.GmRefIdeal.τ) (Cert.GmRefIdeal.main (F := Ideal))) ⟨m', fun _ => 0, g'⟩ (fun r => ∀ c : Dev Cert.GmRefIdeal.nD,
          r.2.mem ((c.tc : Thread Cert.GmRefIdeal.nD Cert.GmRefIdeal.τ).loc Cert.GmRefIdeal.main_v92) = v0 c
          ∧ r.2.mem ((c.tc : Thread Cert.GmRefIdeal.nD Cert.GmRefIdeal.τ).loc Cert.GmRefIdeal.main_arg0) = m' ((c.tc : Thread Cert.GmRefIdeal.nD Cert.GmRefIdeal.τ).loc Cert.GmRefIdeal.main_arg0)
          ∧ r.2.mem ((c.tc : Thread Cert.GmRefIdeal.nD Cert.GmRefIdeal.τ).loc Cert.GmRefIdeal.main_arg1) = m' ((c.tc : Thread Cert.GmRefIdeal.nD Cert.GmRefIdeal.τ).loc Cert.GmRefIdeal.main_arg1)
          ∧ r.2.mem ((c.tc : Thread Cert.GmRefIdeal.nD Cert.GmRefIdeal.τ).loc Cert.GmRefIdeal.main_arg2) = m' ((c.tc : Thread Cert.GmRefIdeal.nD Cert.GmRefIdeal.τ).loc Cert.GmRefIdeal.main_arg2)
          ∧ r.2.mem ((c.tc : Thread Cert.GmRefIdeal.nD Cert.GmRefIdeal.τ).loc Cert.GmRefIdeal.main_arg3) = m' ((c.tc : Thread Cert.GmRefIdeal.nD Cert.GmRefIdeal.τ).loc Cert.GmRefIdeal.main_arg3)
          ∧ r.2.mem ((c.tc : Thread Cert.GmRefIdeal.nD Cert.GmRefIdeal.τ).loc Cert.GmRefIdeal.main_arg4) = m' ((c.tc : Thread Cert.GmRefIdeal.nD Cert.GmRefIdeal.τ).loc Cert.GmRefIdeal.main_arg4)
          ∧ r.2.mem ((c.tc : Thread Cert.GmRefIdeal.nD Cert.GmRefIdeal.τ).loc Cert.GmRefIdeal.main_arg5) = m' ((c.tc : Thread Cert.GmRefIdeal.nD Cert.GmRefIdeal.τ).loc Cert.GmRefIdeal.main_arg5))

def Claim : Prop :=
  ∃ (hAttnS : Cert.AttnS.Facts) (hAttnSIdeal : Cert.AttnSIdeal.Facts) (hAttnRefIdeal : Cert.AttnRefIdeal.Facts) (hFfn : Cert.Ffn.Facts) (hFfnIdeal : Cert.FfnIdeal.Facts) (hFfnRefIdeal : Cert.FfnRefIdeal.Facts) (hProj : Cert.Proj.Facts) (hProjIdeal : Cert.ProjIdeal.Facts) (hProjRefIdeal : Cert.ProjRefIdeal.Facts) (hMix : Cert.Mix.Facts) (hMixIdeal : Cert.MixIdeal.Facts) (hMixRefIdeal : Cert.MixRefIdeal.Facts) (hGm : Cert.Gm.Facts) (hGmIdeal : Cert.GmIdeal.Facts) (hGmRefIdeal : Cert.GmRefIdeal.Facts) (hPre_pages_exist : Cert.Pre_pages_exist.Facts) (hPre_attn_finite : Cert.Pre_attn_finite.Facts) (hPre_tiles_exist : Cert.Pre_tiles_exist.Facts),
    quiescent_AttnS (hAttnS := hAttnS) (hPre_pages_exist := hPre_pages_exist)
    ∧ quiescent_AttnSIdeal (hAttnSIdeal := hAttnSIdeal) (hPre_pages_exist := hPre_pages_exist)
    ∧ quiescent_AttnSIdeal_pre_attn_finite (hAttnSIdeal := hAttnSIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Ffn (hFfn := hFfn) (hPre_tiles_exist := hPre_tiles_exist)
    ∧ quiescent_FfnIdeal (hFfnIdeal := hFfnIdeal) (hPre_tiles_exist := hPre_tiles_exist)
    ∧ quiescent_FfnRefIdeal (hFfnRefIdeal := hFfnRefIdeal)
    ∧ quiescent_FfnRefIdeal_pre_tiles_exist (hFfnRefIdeal := hFfnRefIdeal) (hPre_tiles_exist := hPre_tiles_exist)
    ∧ quiescent_Proj (hProj := hProj)
    ∧ quiescent_ProjIdeal (hProjIdeal := hProjIdeal)
    ∧ quiescent_ProjRefIdeal (hProjRefIdeal := hProjRefIdeal)
    ∧ quiescent_Mix (hMix := hMix)
    ∧ quiescent_MixIdeal (hMixIdeal := hMixIdeal)
    ∧ quiescent_MixRefIdeal (hMixRefIdeal := hMixRefIdeal)
    ∧ quiescent_Gm (hGm := hGm)
    ∧ quiescent_GmIdeal (hGmIdeal := hGmIdeal)
    ∧ quiescent_GmRefIdeal (hGmRefIdeal := hGmRefIdeal)
    ∧ preserves_AttnS_AttnSIdeal
    ∧ algebraic_AttnSIdeal_AttnRefIdeal_pre_attn_finite (hAttnSIdeal := hAttnSIdeal) (hAttnRefIdeal := hAttnRefIdeal) (hPre_attn_finite := hPre_attn_finite)
    ∧ preserves_Ffn_FfnIdeal
    ∧ algebraic_FfnIdeal_FfnRefIdeal (hFfnIdeal := hFfnIdeal) (hFfnRefIdeal := hFfnRefIdeal) (hPre_tiles_exist := hPre_tiles_exist)
    ∧ preserves_Proj_ProjIdeal
    ∧ algebraic_ProjIdeal_ProjRefIdeal (hProjIdeal := hProjIdeal) (hProjRefIdeal := hProjRefIdeal)
    ∧ preserves_Mix_MixIdeal
    ∧ algebraic_MixIdeal_MixRefIdeal (hMixIdeal := hMixIdeal) (hMixRefIdeal := hMixRefIdeal)
    ∧ preserves_Gm_GmIdeal
    ∧ algebraic_GmIdeal_GmRefIdeal (hGmIdeal := hGmIdeal) (hGmRefIdeal := hGmRefIdeal)
-- ==== Pre_attn_finite.lean ====
abbrev S9216x5120 : Shape := ⟨2, ![9216, 5120]⟩
abbrev S2x2560x128x8x2x64 : Shape := ⟨6, ![2, 2560, 128, 8, 2, 64]⟩
abbrev S2x2560x128x8x128 : Shape := ⟨5, ![2, 2560, 128, 8, 128]⟩
abbrev S128x16 : Shape := ⟨2, ![128, 16]⟩
abbrev S2x64 : Shape := ⟨2, ![2, 64]⟩
abbrev S2x128 : Shape := ⟨2, ![2, 128]⟩
abbrev S_ : Shape := ⟨0, ![]⟩

class Facts : Prop where
  bcast_S_S128x16 : S_.BroadcastsInDim S128x16 (![] : Fin 0 → Fin S128x16.rank)
  bcast_S_S9216x5120 : S_.BroadcastsInDim S9216x5120 (![] : Fin 0 → Fin S9216x5120.rank)
  bcast_S_S2x2560x128x8x2x64 : S_.BroadcastsInDim S2x2560x128x8x2x64 (![] : Fin 0 → Fin S2x2560x128x8x2x64.rank)
  bcast_S_S2x2560x128x8x128 : S_.BroadcastsInDim S2x2560x128x8x128 (![] : Fin 0 → Fin S2x2560x128x8x128.rank)
  bcast_S_S2x64 : S_.BroadcastsInDim S2x64 (![] : Fin 0 → Fin S2x64.rank)

variable [Facts]

def fn_part1 {F : FTy → Type} [FloatOps F] (main_arg6 : FVec F S2x64 .f32) (main_arg7 : FVec F S2x64 .f32) (main_v4 : IVec S128x16 1) (main_v7 : IVec S9216x5120 1) (main_v10 : IVec S2x2560x128x8x2x64 1) (main_v13 : IVec S2x2560x128x8x128 1) (main_v16 : IVec S2x64 1) (main_v17 : FVec F S2x64 .f32) : IVec S128x16 1 × IVec S9216x5120 1 × IVec S2x2560x128x8x2x64 1 × IVec S2x2560x128x8x128 1 × IVec S2x64 1 × IVec S2x64 1 × IVec S2x64 1 × IVec S2x64 1 :=
  let main_cst_4 : FVec F S_ .f32 := constant S_ .f32 0x7F800000#32
  let main_v18 : FVec F S2x64 .f32 := broadcastInDim S2x64 ![] bcast_S_S2x64 main_cst_4
  let main_v19 : IVec S2x64 1 := cmpf .olt main_v17 main_v18
  let main_v20 : FVec F S2x64 .f32 := Host.absf main_arg6
  let main_cst_5 : FVec F S_ .f32 := constant S_ .f32 0x7F800000#32
  let main_v21 : FVec F S2x64 .f32 := broadcastInDim S2x64 ![] bcast_S_S2x64 main_cst_5
  let main_v22 : IVec S2x64 1 := cmpf .olt main_v20 main_v21
  let main_v23 : FVec F S2x64 .f32 := Host.absf main_arg7
  let main_cst_6 : FVec F S_ .f32 := constant S_ .f32 0x7F800000#32
  let main_v24 : FVec F S2x64 .f32 := broadcastInDim S2x64 ![] bcast_S_S2x64 main_cst_6
  let main_v25 : IVec S2x64 1 := cmpf .olt main_v23 main_v24
  (main_v4, main_v7, main_v10, main_v13, main_v16, main_v19, main_v22, main_v25)

def fn {F : FTy → Type} [FloatOps F] (main_arg0 : FVec F S9216x5120 .f32) (main_arg1 : FVec F S2x2560x128x8x2x64 .f32) (main_arg2 : FVec F S2x2560x128x8x128 .f32) (main_arg3 : IVec S128x16 32) (main_arg4 : FVec F S2x64 .f32) (main_arg5 : FVec F S2x64 .f32) (main_arg6 : FVec F S2x64 .f32) (main_arg7 : FVec F S2x64 .f32) (main_arg8 : FVec F S2x128 .f32) : IVec S128x16 1 × IVec S9216x5120 1 × IVec S2x2560x128x8x2x64 1 × IVec S2x2560x128x8x128 1 × IVec S2x64 1 × IVec S2x64 1 × IVec S2x64 1 × IVec S2x64 1 :=
  let main_c : IVec S_ 32 := constantI S_ 32 0#32
  let main_v0 : IVec S128x16 32 := broadcastInDim S128x16 ![] bcast_S_S128x16 main_c
  let main_v1 : IVec S128x16 1 := cmpi .sge main_arg3 main_v0
  let main_c_0 : IVec S_ 32 := constantI S_ 32 2560#32
  let main_v2 : IVec S128x16 32 := broadcastInDim S128x16 ![] bcast_S_S128x16 main_c_0
  let main_v3 : IVec S128x16 1 := cmpi .slt main_arg3 main_v2
  let main_v4 : IVec S128x16 1 := andi main_v1 main_v3
  let main_v5 : FVec F S9216x5120 .f32 := Host.absf main_arg0
  let main_cst : FVec F S_ .f32 := constant S_ .f32 0x7F800000#32
  let main_v6 : FVec F S9216x5120 .f32 := broadcastInDim S9216x5120 ![] bcast_S_S9216x5120 main_cst
  let main_v7 : IVec S9216x5120 1 := cmpf .olt main_v5 main_v6
  let main_v8 : FVec F S2x2560x128x8x2x64 .f32 := Host.absf main_arg1
  let main_cst_1 : FVec F S_ .f32 := constant S_ .f32 0x7F800000#32
  let main_v9 : FVec F S2x2560x128x8x2x64 .f32 := broadcastInDim S2x2560x128x8x2x64 ![] bcast_S_S2x2560x128x8x2x64 main_cst_1
  let main_v10 : IVec S2x2560x128x8x2x64 1 := cmpf .olt main_v8 main_v9
  let main_v11 : FVec F S2x2560x128x8x128 .f32 := Host.absf main_arg2
  let main_cst_2 : FVec F S_ .f32 := constant S_ .f32 0x7F800000#32
  let main_v12 : FVec F S2x2560x128x8x128 .f32 := broadcastInDim S2x2560x128x8x128 ![] bcast_S_S2x2560x128x8x128 main_cst_2
  let main_v13 : IVec S2x2560x128x8x128 1 := cmpf .olt main_v11 main_v12
  let main_v14 : FVec F S2x64 .f32 := Host.absf main_arg4
  let main_cst_3 : FVec F S_ .f32 := constant S_ .f32 0x7F800000#32
  let main_v15 : FVec F S2x64 .f32 := broadcastInDim S2x64 ![] bcast_S_S2x64 main_cst_3
  let main_v16 : IVec S2x64 1 := cmpf .olt main_v14 main_v15
  let main_v17 : FVec F S2x64 .f32 := Host.absf main_arg5
  fn_part1 (F := F) main_arg6 main_arg7 main_v4 main_v7 main_v10 main_v13 main_v16 main_v17
-- ==== Pre_pages_exist.lean ====
abbrev S9216x5120 : Shape := ⟨2, ![9216, 5120]⟩
abbrev S2x2560x128x8x2x64 : Shape := ⟨6, ![2, 2560, 128, 8, 2, 64]⟩
abbrev S2x2560x128x8x128 : Shape := ⟨5, ![2, 2560, 128, 8, 128]⟩
abbrev S128x16 : Shape := ⟨2, ![128, 16]⟩
abbrev S2x64 : Shape := ⟨2, ![2, 64]⟩
abbrev S2x128 : Shape := ⟨2, ![2, 128]⟩
abbrev S_ : Shape := ⟨0, ![]⟩

class Facts : Prop where
  bcast_S_S128x16 : S_.BroadcastsInDim S128x16 (![] : Fin 0 → Fin S128x16.rank)

variable [Facts]

def fn {F : FTy → Type} [FloatOps F] (main_arg0 : FVec F S9216x5120 .f32) (main_arg1 : FVec F S2x2560x128x8x2x64 .f32) (main_arg2 : FVec F S2x2560x128x8x128 .f32) (main_arg3 : IVec S128x16 32) (main_arg4 : FVec F S2x64 .f32) (main_arg5 : FVec F S2x64 .f32) (main_arg6 : FVec F S2x64 .f32) (main_arg7 : FVec F S2x64 .f32) (main_arg8 : FVec F S2x128 .f32) : IVec S128x16 1 :=
  let main_c : IVec S_ 32 := constantI S_ 32 0#32
  let main_v0 : IVec S128x16 32 := broadcastInDim S128x16 ![] bcast_S_S128x16 main_c
  let main_v1 : IVec S128x16 1 := cmpi .sge main_arg3 main_v0
  let main_c_0 : IVec S_ 32 := constantI S_ 32 2560#32
  let main_v2 : IVec S128x16 32 := broadcastInDim S128x16 ![] bcast_S_S128x16 main_c_0
  let main_v3 : IVec S128x16 1 := cmpi .slt main_arg3 main_v2
  let main_v4 : IVec S128x16 1 := andi main_v1 main_v3
  main_v4
-- ==== Pre_tiles_exist.lean ====
abbrev S25600x2048 : Shape := ⟨2, ![25600, 2048]⟩
abbrev S1x8x2048x7168 : Shape := ⟨4, ![1, 8, 2048, 7168]⟩
abbrev S1x8x7168x2048 : Shape := ⟨4, ![1, 8, 7168, 2048]⟩
abbrev S25 : Shape := ⟨1, ![25]⟩
abbrev S_ : Shape := ⟨0, ![]⟩

class Facts : Prop where
  bcast_S_S25 : S_.BroadcastsInDim S25 (![] : Fin 0 → Fin S25.rank)

variable [Facts]

def fn {F : FTy → Type} [FloatOps F] (main_arg0 : FVec F S25600x2048 .bf16) (main_arg1 : FVec F S1x8x2048x7168 .f32) (main_arg2 : FVec F S1x8x2048x7168 .f32) (main_arg3 : FVec F S1x8x7168x2048 .f32) (main_arg4 : IVec S25 32) (main_arg5 : IVec S25 32) (main_arg6 : IVec S25 32) : IVec S25 1 × IVec S25 1 :=
  let main_c : IVec S_ 32 := constantI S_ 32 0#32
  let main_v0 : IVec S25 32 := broadcastInDim S25 ![] bcast_S_S25 main_c
  let main_v1 : IVec S25 1 := cmpi .sge main_arg4 main_v0
  let main_c_0 : IVec S_ 32 := constantI S_ 32 8#32
  let main_v2 : IVec S25 32 := broadcastInDim S25 ![] bcast_S_S25 main_c_0
  let main_v3 : IVec S25 1 := cmpi .slt main_arg4 main_v2
  let main_v4 : IVec S25 1 := andi main_v1 main_v3
  let main_c_1 : IVec S_ 32 := constantI S_ 32 0#32
  let main_v5 : IVec S25 32 := broadcastInDim S25 ![] bcast_S_S25 main_c_1
  let main_v6 : IVec S25 1 := cmpi .sge main_arg5 main_v5
  let main_c_2 : IVec S_ 32 := constantI S_ 32 25#32
  let main_v7 : IVec S25 32 := broadcastInDim S25 ![] bcast_S_S25 main_c_2
  let main_v8 : IVec S25 1 := cmpi .slt main_arg5 main_v7
  let main_v9 : IVec S25 1 := andi main_v6 main_v8
  (main_v4, main_v9)
-- ==== AttnS.lean ====
abbrev S9216x5120 : Shape := ⟨2, ![9216, 5120]⟩
abbrev S2x2560x128x8x2x64 : Shape := ⟨6, ![2, 2560, 128, 8, 2, 64]⟩
abbrev S2x2560x128x8x128 : Shape := ⟨5, ![2, 2560, 128, 8, 128]⟩
abbrev S128x16 : Shape := ⟨2, ![128, 16]⟩
abbrev S2x64 : Shape := ⟨2, ![2, 64]⟩
abbrev S2x128 : Shape := ⟨2, ![2, 128]⟩
abbrev S2x1x128 : Shape := ⟨3, ![2, 1, 128]⟩
abbrev S2x1x64 : Shape := ⟨3, ![2, 1, 64]⟩
abbrev S2x4x64 : Shape := ⟨3, ![2, 4, 64]⟩
abbrev S2x2560x128x1024 : Shape := ⟨4, ![2, 2560, 128, 1024]⟩
abbrev S2048 : Shape := ⟨1, ![2048]⟩
abbrev S1024x1024 : Shape := ⟨2, ![1024, 1024]⟩
abbrev S1x4x64 : Shape := ⟨3, ![1, 4, 64]⟩
abbrev S8x1024 : Shape := ⟨2, ![8, 1024]⟩
abbrev S1x1x128x1024 : Shape := ⟨4, ![1, 1, 128, 1024]⟩
abbrev S1 : Shape := ⟨1, ![1]⟩
abbrev S1x1x128 : Shape := ⟨3, ![1, 1, 128]⟩
abbrev S128x1024 : Shape := ⟨2, ![128, 1024]⟩
abbrev S128x1 : Shape := ⟨2, ![128, 1]⟩
abbrev S1x8x1024 : Shape := ⟨3, ![1, 8, 1024]⟩
abbrev S16x8x1024 : Shape := ⟨3, ![16, 8, 1024]⟩
abbrev S128x128 : Shape := ⟨2, ![128, 128]⟩
abbrev S128 : Shape := ⟨1, ![128]⟩
abbrev S120x1024 : Shape := ⟨2, ![120, 1024]⟩
abbrev S4x64 : Shape := ⟨2, ![4, 64]⟩
abbrev S1x64 : Shape := ⟨2, ![1, 64]⟩
abbrev S1x1 : Shape := ⟨2, ![1, 1]⟩
abbrev S8x128 : Shape := ⟨2, ![8, 128]⟩
abbrev S1x128 : Shape := ⟨2, ![1, 128]⟩
abbrev S8 : Shape := ⟨1, ![8]⟩
abbrev S8x1 : Shape := ⟨2, ![8, 1]⟩

abbrev nBuf : Space → Nat
  | .hbm => 18
  | .vmem => 19
  | .smem => 1
  | _ => 0

abbrev bufTy : (tb : Table) → Fin (tcTables nBuf tb) → BufTy
  | .hbm, ⟨0, _⟩ => ⟨S9216x5120, .f32⟩
  | .hbm, ⟨1, _⟩ => ⟨S2x2560x128x8x2x64, .f32⟩
  | .hbm, ⟨2, _⟩ => ⟨S2x2560x128x8x128, .f32⟩
  | .hbm, ⟨3, _⟩ => ⟨S128x16, .i32⟩
  | .hbm, ⟨4, _⟩ => ⟨S2x64, .f32⟩
  | .hbm, ⟨5, _⟩ => ⟨S2x64, .f32⟩
  | .hbm, ⟨6, _⟩ => ⟨S2x64, .f32⟩
  | .hbm, ⟨7, _⟩ => ⟨S2x64, .f32⟩
  | .hbm, ⟨8, _⟩ => ⟨S2x128, .f32⟩
  | .hbm, ⟨9, _⟩ => ⟨S2x1x128, .f32⟩
  | .hbm, ⟨10, _⟩ => ⟨S2x1x64, .f32⟩
  | .hbm, ⟨11, _⟩ => ⟨S2x1x64, .f32⟩
  | .hbm, ⟨12, _⟩ => ⟨S2x1x64, .f32⟩
  | .hbm, ⟨13, _⟩ => ⟨S2x1x64, .f32⟩
  | .hbm, ⟨14, _⟩ => ⟨S2x4x64, .f32⟩
  | .hbm, ⟨15, _⟩ => ⟨S2x2560x128x1024, .f32⟩
  | .hbm, ⟨16, _⟩ => ⟨S2x2560x128x1024, .f32⟩
  | .hbm, ⟨17, _⟩ => ⟨S1024x1024, .f32⟩
  | .local _ .vmem, ⟨0, _⟩ => ⟨S1x4x64, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S1x1x128x1024, .f32⟩
  | .local _ .vmem, ⟨8, _⟩ => ⟨S1x1x128x1024, .f32⟩
  | .local _ .vmem, ⟨9, _⟩ => ⟨S1x1x128x1024, .f32⟩
  | .local _ .vmem, ⟨10, _⟩ => ⟨S1x1x128x1024, .f32⟩
  | .local _ .vmem, ⟨11, _⟩ => ⟨S1x1x128, .f32⟩
  | .local _ .vmem, ⟨12, _⟩ => ⟨S8x1024, .f32⟩
  | .local _ .vmem, ⟨13, _⟩ => ⟨S8x1024, .f32⟩
  | .local _ .vmem, ⟨14, _⟩ => ⟨S128x1024, .bf16⟩
  | .local _ .vmem, ⟨15, _⟩ => ⟨S128x1, .f32⟩
  | .local _ .vmem, ⟨16, _⟩ => ⟨S128x1, .f32⟩
  | .local _ .vmem, ⟨17, _⟩ => ⟨S128x1, .f32⟩
  | .local _ .vmem, ⟨18, _⟩ => ⟨S128x1024, .f32⟩
  | .local _ .smem, ⟨0, _⟩ => ⟨S2048, .i32⟩
  | _, _ => ⟨S9216x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v9 : Ref sig .tc := ⟨.hbm, 17, rfl⟩
abbrev main_v8 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![128, 16], ![false, false]⟩

abbrev pre0 : Pipeline.Prefetch sig := ⟨1, ![main_v8.idx], fun | 0 => main_v8.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v2 : Index := Scalar.indexCast v1
  ![v2.toNat]
def k0_cond2 (i : grid0.Coords) : BitVec 1 :=
  let arg1 : BitVec 32 := BitVec.ofNat 32 (i 1).val
  let c15_i32 : BitVec 32 := 15#32
  let v51 : BitVec 1 := Scalar.cmpi .eq arg1 c15_i32
  let v52 : BitVec 32 := Scalar.extui v51
  let c0_i32_27 : BitVec 32 := 0#32
  let v53 : BitVec 1 := Scalar.cmpi .ne v52 c0_i32_27
  v53

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.addi c1024_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.addi c1024_i32 arg0
  let c1_i32 : BitVec 32 := 1#32
  let c0_i32 : BitVec 32 := 0#32
  ![v0.toNat, c1_i32.toNat]

def cc0_transform_3 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.addi c1024_i32 arg0
  let c2_i32 : BitVec 32 := 2#32
  let c0_i32 : BitVec 32 := 0#32
  ![v0.toNat, c2_i32.toNat]

def cc0_transform_4 (k0_off1_inb : ∀ i : grid0.Coords, ∀ a, (k0_off1 i) a + S1.size a ≤ S2048.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let v2 : Index := Scalar.indexCast v1
  let v3 : BitVec 32 := pf.at 0 (Rect.unit (s := S2048) ![v2.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v3.toNat, c0_i32_0.toNat, c0_i32_1.toNat]

def cc0_transform_5 (k0_off1_inb : ∀ i : grid0.Coords, ∀ a, (k0_off1 i) a + S1.size a ≤ S2048.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let v2 : Index := Scalar.indexCast v1
  let v3 : BitVec 32 := pf.at 0 (Rect.unit (s := S2048) ![v2.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v3.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1x4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== AttnSIdeal.lean ====
variable {F : FTy → Type} [FloatOps F] [Named F]
def κ : String → Option EReal := fun
  | "mask" => some ⊥
  | _ => none
-- ==== AttnRefIdeal.lean ====
abbrev S9216x5120 : Shape := ⟨2, ![9216, 5120]⟩
abbrev S2x2560x128x8x2x64 : Shape := ⟨6, ![2, 2560, 128, 8, 2, 64]⟩
abbrev S2x2560x128x8x128 : Shape := ⟨5, ![2, 2560, 128, 8, 128]⟩
abbrev S128x16 : Shape := ⟨2, ![128, 16]⟩
abbrev S2x64 : Shape := ⟨2, ![2, 64]⟩
abbrev S2x128 : Shape := ⟨2, ![2, 128]⟩
abbrev S1x64 : Shape := ⟨2, ![1, 64]⟩
abbrev S64 : Shape := ⟨1, ![64]⟩
abbrev S_ : Shape := ⟨0, ![]⟩
abbrev S1024x5120 : Shape := ⟨2, ![1024, 5120]⟩
abbrev S128x8x5120 : Shape := ⟨3, ![128, 8, 5120]⟩
abbrev S128x8x1024 : Shape := ⟨3, ![128, 8, 1024]⟩
abbrev S128x8x8x2x64 : Shape := ⟨5, ![128, 8, 8, 2, 64]⟩
abbrev S128x8x8x128 : Shape := ⟨4, ![128, 8, 8, 128]⟩
abbrev S128x16x1 : Shape := ⟨3, ![128, 16, 1]⟩
abbrev S128x16x2 : Shape := ⟨3, ![128, 16, 2]⟩
abbrev S128x16x128x8x2x64 : Shape := ⟨6, ![128, 16, 128, 8, 2, 64]⟩
abbrev S128x2048x8x2x64 : Shape := ⟨5, ![128, 2048, 8, 2, 64]⟩
abbrev S128x16x128x8x128 : Shape := ⟨5, ![128, 16, 128, 8, 128]⟩
abbrev S128x2048x8x128 : Shape := ⟨4, ![128, 2048, 8, 128]⟩
abbrev S8 : Shape := ⟨1, ![8]⟩
abbrev S8x1x1x1 : Shape := ⟨4, ![8, 1, 1, 1]⟩
abbrev S8x1 : Shape := ⟨2, ![8, 1]⟩
abbrev S2048 : Shape := ⟨1, ![2048]⟩
abbrev S1x2048 : Shape := ⟨2, ![1, 2048]⟩
abbrev S8x2048 : Shape := ⟨2, ![8, 2048]⟩
abbrev S1x8 : Shape := ⟨2, ![1, 8]⟩
abbrev S8x8 : Shape := ⟨2, ![8, 8]⟩
abbrev S128x8x2x8x2048 : Shape := ⟨5, ![128, 8, 2, 8, 2048]⟩
abbrev S128x8x2x8x8 : Shape := ⟨5, ![128, 8, 2, 8, 8]⟩
abbrev S1x1x8x2048 : Shape := ⟨4, ![1, 1, 8, 2048]⟩
abbrev S8x1x8x2048 : Shape := ⟨4, ![8, 1, 8, 2048]⟩
abbrev S1x8x1x8x2048 : Shape := ⟨5, ![1, 8, 1, 8, 2048]⟩
abbrev S1x1x8x8 : Shape := ⟨4, ![1, 1, 8, 8]⟩
abbrev S8x1x8x8 : Shape := ⟨4, ![8, 1, 8, 8]⟩
abbrev S1x8x1x8x8 : Shape := ⟨5, ![1, 8, 1, 8, 8]⟩
abbrev S128x8x2x8x2056 : Shape := ⟨5, ![128, 8, 2, 8, 2056]⟩
abbrev S128x8x2x8 : Shape := ⟨4, ![128, 8, 2, 8]⟩
abbrev S128x8x2x8x1 : Shape := ⟨5, ![128, 8, 2, 8, 1]⟩
abbrev S128x8x1x8x2056 : Shape := ⟨5, ![128, 8, 1, 8, 2056]⟩
abbrev S128x8x8x2056 : Shape := ⟨4, ![128, 8, 8, 2056]⟩
abbrev S128x8x8x2048 : Shape := ⟨4, ![128, 8, 8, 2048]⟩
abbrev S128x8x128x8 : Shape := ⟨4, ![128, 8, 128, 8]⟩
abbrev S128x8x8x8 : Shape := ⟨4, ![128, 8, 8, 8]⟩
abbrev S1x128 : Shape := ⟨2, ![1, 128]⟩
abbrev S128 : Shape := ⟨1, ![128]⟩
abbrev S128x8x8 : Shape := ⟨3, ![128, 8, 8]⟩
abbrev S128x8x8x1 : Shape := ⟨4, ![128, 8, 8, 1]⟩
abbrev S1x1x1x128 : Shape := ⟨4, ![1, 1, 1, 128]⟩
abbrev S1024x1024 : Shape := ⟨2, ![1024, 1024]⟩

abbrev nBuf : Space → Nat
  | .hbm => 178
  | .vmem => 0
  | .smem => 0
  | _ => 0

abbrev hbmTy0_0 (i : Nat) : BufTy := match i % 128 with
  | 0 => ⟨S9216x5120, .f32⟩
  | 1 => ⟨S2x2560x128x8x2x64, .f32⟩
  | 2 => ⟨S2x2560x128x8x128, .f32⟩
  | 3 => ⟨S128x16, .i32⟩
  | 4 => ⟨S2x64, .f32⟩
  | 5 => ⟨S2x64, .f32⟩
  | 6 => ⟨S2x64, .f32⟩
  | 7 => ⟨S2x64, .f32⟩
  | 8 => ⟨S2x128, .f32⟩
  | 9 => ⟨S1x64, .f32⟩
  | 10 => ⟨S64, .f32⟩
  | 11 => ⟨S1x64, .f32⟩
  | 12 => ⟨S64, .f32⟩
  | 13 => ⟨S64, .f32⟩
  | 14 => ⟨S_, .f32⟩
  | 15 => ⟨S_, .f32⟩
  | 16 => ⟨S_, .f32⟩
  | 17 => ⟨S1x64, .f32⟩
  | 18 => ⟨S64, .f32⟩
  | 19 => ⟨S1x64, .f32⟩
  | 20 => ⟨S64, .f32⟩
  | 21 => ⟨S64, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S1024x5120, .f32⟩
  | 29 => ⟨S128x8x5120, .f32⟩
  | 30 => ⟨S128x8x1024, .f32⟩
  | 31 => ⟨S128x8x8x2x64, .f32⟩
  | 32 => ⟨S128x8x1024, .f32⟩
  | 33 => ⟨S128x8x8x2x64, .f32⟩
  | 34 => ⟨S128x8x1024, .f32⟩
  | 35 => ⟨S128x8x8x128, .f32⟩
  | 36 => ⟨S_, .i32⟩
  | 37 => ⟨S128x16, .i32⟩
  | 38 => ⟨S128x16, .i1⟩
  | 39 => ⟨S_, .i32⟩
  | 40 => ⟨S128x16, .i32⟩
  | 41 => ⟨S128x16, .i32⟩
  | 42 => ⟨S128x16, .i32⟩
  | 43 => ⟨S_, .i32⟩
  | 44 => ⟨S128x16, .i32⟩
  | 45 => ⟨S128x16, .i32⟩
  | 46 => ⟨S128x16x1, .i32⟩
  | 47 => ⟨S128x16x1, .i32⟩
  | 48 => ⟨S128x16x2, .i32⟩
  | 49 => ⟨S128x16x128x8x2x64, .f32⟩
  | 50 => ⟨S128x2048x8x2x64, .f32⟩
  | 51 => ⟨S_, .i32⟩
  | 52 => ⟨S128x16, .i32⟩
  | 53 => ⟨S128x16, .i1⟩
  | 54 => ⟨S_, .i32⟩
  | 55 => ⟨S128x16, .i32⟩
  | 56 => ⟨S128x16, .i32⟩
  | 57 => ⟨S128x16, .i32⟩
  | 58 => ⟨S_, .i32⟩
  | 59 => ⟨S128x16, .i32⟩
  | 60 => ⟨S128x16, .i32⟩
  | 61 => ⟨S128x16x1, .i32⟩
  | 62 => ⟨S128x16x1, .i32⟩
  | 63 => ⟨S128x16x2, .i32⟩
  | 64 => ⟨S128x16x128x8x128, .f32⟩
  | 65 => ⟨S128x2048x8x128, .f32⟩
  | 66 => ⟨S8, .i32⟩
  | 67 => ⟨S_, .i32⟩
  | 68 => ⟨S8, .i32⟩
  | 69 => ⟨S8, .i32⟩
  | 70 => ⟨S_, .i32⟩
  | 71 => ⟨S8, .i32⟩
  | 72 => ⟨S8, .i32⟩
  | 73 => ⟨S8, .f32⟩
  | 74 => ⟨S_, .f32⟩
  | 75 => ⟨S8, .f32⟩
  | 76 => ⟨S8, .f32⟩
  | 77 => ⟨S8x1x1x1, .f32⟩
  | 78 => ⟨S8, .i32⟩
  | 79 => ⟨S_, .i32⟩
  | 80 => ⟨S8, .i32⟩
  | 81 => ⟨S8, .i32⟩
  | 82 => ⟨S8x1, .i32⟩
  | 83 => ⟨S2048, .i32⟩
  | 84 => ⟨S1x2048, .i32⟩
  | 85 => ⟨S8x2048, .i32⟩
  | 86 => ⟨S8x2048, .i32⟩
  | 87 => ⟨S8x2048, .i32⟩
  | 88 => ⟨S8x2048, .f32⟩
  | 89 => ⟨S8, .i32⟩
  | 90 => ⟨S8x1, .i32⟩
  | 91 => ⟨S8, .i32⟩
  | 92 => ⟨S1x8, .i32⟩
  | 93 => ⟨S8x8, .i32⟩
  | 94 => ⟨S8x8, .i32⟩
  | 95 => ⟨S8x8, .i32⟩
  | 96 => ⟨S8x8, .f32⟩
  | 97 => ⟨S128x8x2x8x2048, .f32⟩
  | 98 => ⟨S_, .f32⟩
  | 99 => ⟨S128x8x2x8x2048, .f32⟩
  | 100 => ⟨S128x8x2x8x2048, .f32⟩
  | 101 => ⟨S128x8x2x8x8, .f32⟩
  | 102 => ⟨S_, .f32⟩
  | 103 => ⟨S128x8x2x8x8, .f32⟩
  | 104 => ⟨S128x8x2x8x8, .f32⟩
  | 105 => ⟨S1x1x8x2048, .f32⟩
  | 106 => ⟨S8x1x8x2048, .f32⟩
  | 107 => ⟨S8x1x8x2048, .f32⟩
  | 108 => ⟨S8x1x8x2048, .f32⟩
  | 109 => ⟨S1x8x1x8x2048, .f32⟩
  | 110 => ⟨S128x8x2x8x2048, .f32⟩
  | 111 => ⟨S128x8x2x8x2048, .f32⟩
  | 112 => ⟨S_, .f32⟩
  | 113 => ⟨S8x8, .f32⟩
  | 114 => ⟨S8x8, .i1⟩
  | 115 => ⟨S1x1x8x8, .f32⟩
  | 116 => ⟨S8x1x8x8, .f32⟩
  | 117 => ⟨S8x1x8x8, .f32⟩
  | 118 => ⟨S8x1x8x8, .f32⟩
  | 119 => ⟨S1x8x1x8x8, .f32⟩
  | 120 => ⟨S128x8x2x8x8, .f32⟩
  | 121 => ⟨S128x8x2x8x8, .f32⟩
  | 122 => ⟨S_, .f32⟩
  | 123 => ⟨S_, .f32⟩
  | 124 => ⟨S128x8x2x8x8, .i1⟩
  | 125 => ⟨S128x8x2x8x8, .f32⟩
  | 126 => ⟨S128x8x2x8x8, .f32⟩
  | 127 => ⟨S128x8x2x8x2056, .f32⟩
  | _ => ⟨S9216x5120, .f32⟩

abbrev hbmTy0_1 (i : Nat) : BufTy := match i % 128 with
  | 0 => ⟨S_, .f32⟩
  | 1 => ⟨S128x8x2x8, .f32⟩
  | 2 => ⟨S_, .f32⟩
  | 3 => ⟨S128x8x2x8, .f32⟩
  | 4 => ⟨S128x8x2x8, .f32⟩
  | 5 => ⟨S128x8x2x8x1, .f32⟩
  | 6 => ⟨S128x8x2x8x2056, .f32⟩
  | 7 => ⟨S128x8x2x8x2056, .f32⟩
  | 8 => ⟨S128x8x2x8x2056, .f32⟩
  | 9 => ⟨S_, .f32⟩
  | 10 => ⟨S128x8x2x8, .f32⟩
  | 11 => ⟨S128x8x2x8x1, .f32⟩
  | 12 => ⟨S128x8x2x8x2056, .f32⟩
  | 13 => ⟨S128x8x2x8x2056, .f32⟩
  | 14 => ⟨S128x8x1x8x2056, .f32⟩
  | 15 => ⟨S128x8x8x2056, .f32⟩
  | 16 => ⟨S128x8x1x8x2056, .f32⟩
  | 17 => ⟨S128x8x8x2056, .f32⟩
  | 18 => ⟨S128x8x8x2056, .f32⟩
  | 19 => ⟨S128x8x8x2056, .f32⟩
  | 20 => ⟨S128x8x8x2056, .f32⟩
  | 21 => ⟨S128x8x8x2048, .f32⟩
  | 22 => ⟨S128x8x128x8, .f32⟩
  | 23 => ⟨S128x8x8x128, .f32⟩
  | 24 => ⟨S128x8x8x8, .f32⟩
  | 25 => ⟨S128x8x128x8, .f32⟩
  | 26 => ⟨S128x8x8x128, .f32⟩
  | 27 => ⟨S128x8x8x128, .f32⟩
  | 28 => ⟨S1x128, .f32⟩
  | 29 => ⟨S128, .f32⟩
  | 30 => ⟨S128x8x8x128, .f32⟩
  | 31 => ⟨S_, .f32⟩
  | 32 => ⟨S128x8x8, .f32⟩
  | 33 => ⟨S128x8x8x1, .f32⟩
  | 34 => ⟨S_, .f32⟩
  | 35 => ⟨S128x8x8x1, .f32⟩
  | 36 => ⟨S128x8x8x1, .f32⟩
  | 37 => ⟨S_, .f32⟩
  | 38 => ⟨S128x8x8x1, .f32⟩
  | 39 => ⟨S128x8x8x1, .f32⟩
  | 40 => ⟨S128x8x8x1, .f32⟩
  | 41 => ⟨S128x8x8x128, .f32⟩
  | 42 => ⟨S128x8x8x128, .f32⟩
  | 43 => ⟨S1x1x1x128, .f32⟩
  | 44 => ⟨S128x8x8x128, .f32⟩
  | 45 => ⟨S128x8x8x128, .f32⟩
  | 46 => ⟨S_, .f32⟩
  | 47 => ⟨S128x8x8x128, .f32⟩
  | 48 => ⟨S128x8x8x128, .f32⟩
  | 49 => ⟨S1024x1024, .f32⟩
  | _ => ⟨S9216x5120, .f32⟩

abbrev hbmTy (i : Nat) : BufTy := match i / 128 with
  | 0 => hbmTy0_0 i
  | 1 => hbmTy0_1 i
  | _ => ⟨S9216x5120, .f32⟩

abbrev bufTy : (tb : Table) → Fin (tcTables nBuf tb) → BufTy
  | .hbm, ⟨i, _⟩ => hbmTy i
  | _, _ => ⟨S9216x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c : Ref sig .tc := ⟨.hbm, 36, rfl⟩
abbrev main_v24 : Ref sig .tc := ⟨.hbm, 37, rfl⟩
abbrev main_v25 : Ref sig .tc := ⟨.hbm, 38, rfl⟩
abbrev main_c_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_3 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_4 : Ref sig .tc := ⟨.hbm, 51, rfl⟩
abbrev main_v36 : Ref sig .tc := ⟨.hbm, 52, rfl⟩
abbrev main_v37 : Ref sig .tc := ⟨.hbm, 53, rfl⟩
abbrev main_c_5 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c_6 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_c_7 : Ref sig .tc := ⟨.hbm, 67, rfl⟩
abbrev main_v49 : Ref sig .tc := ⟨.hbm, 68, rfl⟩
abbrev main_v50 : Ref sig .tc := ⟨.hbm, 69, rfl⟩
abbrev main_c_8 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_9 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_10 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_11 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_cst_12 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_cst_13 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_cst_14 : Ref sig .tc := ⟨.hbm, 122, rfl⟩
abbrev main_call0_v0 : Ref sig .tc := ⟨.hbm, 123, rfl⟩
abbrev main_call0_v1 : Ref sig .tc := ⟨.hbm, 124, rfl⟩
abbrev main_call0_v2 : Ref sig .tc := ⟨.hbm, 125, rfl⟩
abbrev main_v97 : Ref sig .tc := ⟨.hbm, 126, rfl⟩
abbrev main_v98 : Ref sig .tc := ⟨.hbm, 127, rfl⟩
abbrev main_cst_15 : Ref sig .tc := ⟨.hbm, 128, rfl⟩
abbrev main_v99 : Ref sig .tc := ⟨.hbm, 129, rfl⟩
abbrev main_cst_16 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_cst_17 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_cst_18 : Ref sig .tc := ⟨.hbm, 159, rfl⟩
abbrev main_v127 : Ref sig .tc := ⟨.hbm, 160, rfl⟩
abbrev main_v128 : Ref sig .tc := ⟨.hbm, 161, rfl⟩
abbrev main_cst_19 : Ref sig .tc := ⟨.hbm, 162, rfl⟩
abbrev main_v129 : Ref sig .tc := ⟨.hbm, 163, rfl⟩
abbrev main_v130 : Ref sig .tc := ⟨.hbm, 164, rfl⟩
abbrev main_cst_20 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_cst_21 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩

abbrev nD : Nat := 1
abbrev τ : Topo := Topo.v7x

variable {F : FTy → Type} [FloatOps F]
-- ==== Ffn.lean ====
abbrev S25600x2048 : Shape := ⟨2, ![25600, 2048]⟩
abbrev S1x8x2048x7168 : Shape := ⟨4, ![1, 8, 2048, 7168]⟩
abbrev S1x8x7168x2048 : Shape := ⟨4, ![1, 8, 7168, 2048]⟩
abbrev S25 : Shape := ⟨1, ![25]⟩
abbrev S1024x2048 : Shape := ⟨2, ![1024, 2048]⟩
abbrev S1 : Shape := ⟨1, ![1]⟩
abbrev S1x1x2048x256 : Shape := ⟨4, ![1, 1, 2048, 256]⟩
abbrev S1x1x256x2048 : Shape := ⟨4, ![1, 1, 256, 2048]⟩
abbrev S2048x256 : Shape := ⟨2, ![2048, 256]⟩
abbrev S1024x256 : Shape := ⟨2, ![1024, 256]⟩
abbrev S256x2048 : Shape := ⟨2, ![256, 2048]⟩

abbrev nBuf : Space → Nat
  | .hbm => 5
  | .vmem => 10
  | .smem => 3
  | _ => 0

abbrev bufTy : (tb : Table) → Fin (tcTables nBuf tb) → BufTy
  | .hbm, ⟨0, _⟩ => ⟨S25600x2048, .bf16⟩
  | .hbm, ⟨1, _⟩ => ⟨S1x8x2048x7168, .f32⟩
  | .hbm, ⟨2, _⟩ => ⟨S1x8x2048x7168, .f32⟩
  | .hbm, ⟨3, _⟩ => ⟨S1x8x7168x2048, .f32⟩
  | .hbm, ⟨4, _⟩ => ⟨S25600x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1x2048x256, .f32⟩
  | .local _ .vmem, ⟨3, _⟩ => ⟨S1x1x2048x256, .f32⟩
  | .local _ .vmem, ⟨4, _⟩ => ⟨S1x1x2048x256, .f32⟩
  | .local _ .vmem, ⟨5, _⟩ => ⟨S1x1x2048x256, .f32⟩
  | .local _ .vmem, ⟨6, _⟩ => ⟨S1x1x256x2048, .f32⟩
  | .local _ .vmem, ⟨7, _⟩ => ⟨S1x1x256x2048, .f32⟩
  | .local _ .vmem, ⟨8, _⟩ => ⟨S1024x2048, .f32⟩
  | .local _ .vmem, ⟨9, _⟩ => ⟨S1024x2048, .f32⟩
  | .local _ .smem, ⟨0, _⟩ => ⟨S25, .i32⟩
  | .local _ .smem, ⟨1, _⟩ => ⟨S25, .i32⟩
  | .local _ .smem, ⟨2, _⟩ => ⟨S25, .i32⟩
  | _, _ => ⟨S25600x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_arg4 : Ref sig .tc := ⟨.smem, 0, rfl⟩
abbrev main_arg5 : Ref sig .tc := ⟨.smem, 1, rfl⟩
abbrev main_arg6 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![25, 28], ![false, false]⟩

abbrev pre0 : Pipeline.Prefetch sig := ⟨3, ![main_arg4.idx, main_arg5.idx, main_arg6.idx], fun | 0 => main_arg4.names | 1 => main_arg5.names | 2 => main_arg6.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (v4 : BitVec 32) : BitVec 1 :=
  let c0_i32_1 : BitVec 32 := 0#32
  let v5 : BitVec 1 := Scalar.cmpi .sgt v4 c0_i32_1
  let v6 : BitVec 32 := Scalar.extui v5
  let c0_i32_2 : BitVec 32 := 0#32
  let v7 : BitVec 1 := Scalar.cmpi .ne v6 c0_i32_2
  v7

def cc0_transform_0 (k0_off1_inb : ∀ i : grid0.Coords, ∀ a, (k0_off1 i) a + S1.size a ≤ S25.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S25) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S25.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S25) ![v0.toNat] S1.size (k0_off1_inb i)) numel1_S1
  let v2 : Index := Scalar.indexCast arg0
  let v3 : BitVec 32 := pf.at 2 (Rect.unit (s := S25) ![v2.toNat] S1.size (k0_off1_inb i)) numel1_S1
  let c0_i32 : BitVec 32 := 0#32
  let v4 : BitVec 1 := Scalar.cmpi .sgt v3 c0_i32
  let c27_i32 : BitVec 32 := 27#32
  let v5 : BitVec 32 := Scalar.select v4 arg1 c27_i32
  let c0_i32_0 : BitVec 32 := 0#32
  let c0_i32_1 : BitVec 32 := 0#32
  let c0_i32_2 : BitVec 32 := 0#32
  ![c0_i32_0.toNat, v1.toNat, c0_i32_1.toNat, v5.toNat]

def cc0_transform_2 (k0_off1_inb : ∀ i : grid0.Coords, ∀ a, (k0_off1 i) a + S1.size a ≤ S25.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S25) ![v0.toNat] S1.size (k0_off1_inb i)) numel1_S1
  let v2 : Index := Scalar.indexCast arg0
  let v3 : BitVec 32 := pf.at 2 (Rect.unit (s := S25) ![v2.toNat] S1.size (k0_off1_inb i)) numel1_S1
  let c0_i32 : BitVec 32 := 0#32
  let v4 : BitVec 1 := Scalar.cmpi .sgt v3 c0_i32
  let c27_i32 : BitVec 32 := 27#32
  let v5 : BitVec 32 := Scalar.select v4 arg1 c27_i32
  let c0_i32_0 : BitVec 32 := 0#32
  let c0_i32_1 : BitVec 32 := 0#32
  let c0_i32_2 : BitVec 32 := 0#32
  ![c0_i32_0.toNat, v1.toNat, c0_i32_1.toNat, v5.toNat]

def cc0_transform_3 (k0_off1_inb : ∀ i : grid0.Coords, ∀ a, (k0_off1 i) a + S1.size a ≤ S25.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S25) ![v0.toNat] S1.size (k0_off1_inb i)) numel1_S1
  let v2 : Index := Scalar.indexCast arg0
  let v3 : BitVec 32 := pf.at 2 (Rect.unit (s := S25) ![v2.toNat] S1.size (k0_off1_inb i)) numel1_S1
  let c0_i32 : BitVec 32 := 0#32
  let v4 : BitVec 1 := Scalar.cmpi .sgt v3 c0_i32
  let c27_i32 : BitVec 32 := 27#32
  let v5 : BitVec 32 := Scalar.select v4 arg1 c27_i32
  let c0_i32_0 : BitVec 32 := 0#32
  let c0_i32_1 : BitVec 32 := 0#32
  let c0_i32_2 : BitVec 32 := 0#32
  ![c0_i32_0.toNat, v1.toNat, v5.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== FfnRefIdeal.lean ====
abbrev S25600x2048 : Shape := ⟨2, ![25600, 2048]⟩
abbrev S1x8x2048x7168 : Shape := ⟨4, ![1, 8, 2048, 7168]⟩
abbrev S1x8x7168x2048 : Shape := ⟨4, ![1, 8, 7168, 2048]⟩
abbrev S25 : Shape := ⟨1, ![25]⟩
abbrev S25x1024x2048 : Shape := ⟨3, ![25, 1024, 2048]⟩
abbrev S_ : Shape := ⟨0, ![]⟩
abbrev S25x1 : Shape := ⟨2, ![25, 1]⟩
abbrev S8x2048x7168 : Shape := ⟨3, ![8, 2048, 7168]⟩
abbrev S25x2048x7168 : Shape := ⟨3, ![25, 2048, 7168]⟩
abbrev S25x1024x7168 : Shape := ⟨3, ![25, 1024, 7168]⟩
abbrev S8x7168x2048 : Shape := ⟨3, ![8, 7168, 2048]⟩
abbrev S25x7168x2048 : Shape := ⟨3, ![25, 7168, 2048]⟩
abbrev S25x1x1 : Shape := ⟨3, ![25, 1, 1]⟩

abbrev nBuf : Space → Nat
  | .hbm => 71
  | .vmem => 0
  | .smem => 0
  | _ => 0

abbrev bufTy : (tb : Table) → Fin (tcTables nBuf tb) → BufTy
  | .hbm, ⟨0, _⟩ => ⟨S25600x2048, .bf16⟩
  | .hbm, ⟨1, _⟩ => ⟨S1x8x2048x7168, .f32⟩
  | .hbm, ⟨2, _⟩ => ⟨S1x8x2048x7168, .f32⟩
  | .hbm, ⟨3, _⟩ => ⟨S1x8x7168x2048, .f32⟩
  | .hbm, ⟨4, _⟩ => ⟨S25, .i32⟩
  | .hbm, ⟨5, _⟩ => ⟨S25, .i32⟩
  | .hbm, ⟨6, _⟩ => ⟨S25, .i32⟩
  | .hbm, ⟨7, _⟩ => ⟨S25600x2048, .f32⟩
  | .hbm, ⟨8, _⟩ => ⟨S25x1024x2048, .f32⟩
  | .hbm, ⟨9, _⟩ => ⟨S_, .i32⟩
  | .hbm, ⟨10, _⟩ => ⟨S25, .i32⟩
  | .hbm, ⟨11, _⟩ => ⟨S25, .i1⟩
  | .hbm, ⟨12, _⟩ => ⟨S_, .i32⟩
  | .hbm, ⟨13, _⟩ => ⟨S25, .i32⟩
  | .hbm, ⟨14, _⟩ => ⟨S25, .i32⟩
  | .hbm, ⟨15, _⟩ => ⟨S25, .i32⟩
  | .hbm, ⟨16, _⟩ => ⟨S25x1, .i32⟩
  | .hbm, ⟨17, _⟩ => ⟨S25x1024x2048, .f32⟩
  | .hbm, ⟨18, _⟩ => ⟨S8x2048x7168, .f32⟩
  | .hbm, ⟨19, _⟩ => ⟨S_, .i32⟩
  | .hbm, ⟨20, _⟩ => ⟨S25, .i32⟩
  | .hbm, ⟨21, _⟩ => ⟨S25, .i1⟩
  | .hbm, ⟨22, _⟩ => ⟨S_, .i32⟩
  | .hbm, ⟨23, _⟩ => ⟨S25, .i32⟩
  | .hbm, ⟨24, _⟩ => ⟨S25, .i32⟩
  | .hbm, ⟨25, _⟩ => ⟨S25, .i32⟩
  | .hbm, ⟨26, _⟩ => ⟨S25x1, .i32⟩
  | .hbm, ⟨27, _⟩ => ⟨S25x2048x7168, .f32⟩
  | .hbm, ⟨28, _⟩ => ⟨S25x1024x7168, .f32⟩
  | .hbm, ⟨29, _⟩ => ⟨S8x2048x7168, .f32⟩
  | .hbm, ⟨30, _⟩ => ⟨S_, .i32⟩
  | .hbm, ⟨31, _⟩ => ⟨S25, .i32⟩
  | .hbm, ⟨32, _⟩ => ⟨S25, .i1⟩
  | .hbm, ⟨33, _⟩ => ⟨S_, .i32⟩
  | .hbm, ⟨34, _⟩ => ⟨S25, .i32⟩
  | .hbm, ⟨35, _⟩ => ⟨S25, .i32⟩
  | .hbm, ⟨36, _⟩ => ⟨S25, .i32⟩
  | .hbm, ⟨37, _⟩ => ⟨S25x1, .i32⟩
  | .hbm, ⟨38, _⟩ => ⟨S25x2048x7168, .f32⟩
  | .hbm, ⟨39, _⟩ => ⟨S25x1024x7168, .f32⟩
  | .hbm, ⟨40, _⟩ => ⟨S25x1024x7168, .f32⟩
  | .hbm, ⟨41, _⟩ => ⟨S25x1024x7168, .f32⟩
  | .hbm, ⟨42, _⟩ => ⟨S_, .f32⟩
  | .hbm, ⟨43, _⟩ => ⟨S25x1024x7168, .f32⟩
  | .hbm, ⟨44, _⟩ => ⟨S25x1024x7168, .f32⟩
  | .hbm, ⟨45, _⟩ => ⟨S_, .f32⟩
  | .hbm, ⟨46, _⟩ => ⟨S25x1024x7168, .f32⟩
  | .hbm, ⟨47, _⟩ => ⟨S25x1024x7168, .f32⟩
  | .hbm, ⟨48, _⟩ => ⟨S25x1024x7168, .f32⟩
  | .hbm, ⟨49, _⟩ => ⟨S25x1024x7168, .f32⟩
  | .hbm, ⟨50, _⟩ => ⟨S8x7168x2048, .f32⟩
  | .hbm, ⟨51, _⟩ => ⟨S_, .i32⟩
  | .hbm, ⟨52, _⟩ => ⟨S25, .i32⟩
  | .hbm, ⟨53, _⟩ => ⟨S25, .i1⟩
  | .hbm, ⟨54, _⟩ => ⟨S_, .i32⟩
  | .hbm, ⟨55, _⟩ => ⟨S25, .i32⟩
  | .hbm, ⟨56, _⟩ => ⟨S25, .i32⟩
  | .hbm, ⟨57, _⟩ => ⟨S25, .i32⟩
  | .hbm, ⟨58, _⟩ => ⟨S25x1, .i32⟩
  | .hbm, ⟨59, _⟩ => ⟨S25x7168x2048, .f32⟩
  | .hbm, ⟨60, _⟩ => ⟨S25x1024x2048, .f32⟩
  | .hbm, ⟨61, _⟩ => ⟨S_, .i32⟩
  | .hbm, ⟨62, _⟩ => ⟨S25, .i32⟩
  | .hbm, ⟨63, _⟩ => ⟨S25, .i1⟩
  | .hbm, ⟨64, _⟩ => ⟨S25x1x1, .i1⟩
  | .hbm, ⟨65, _⟩ => ⟨S_, .f32⟩
  | .hbm, ⟨66, _⟩ => ⟨S_, .f32⟩
  | .hbm, ⟨67, _⟩ => ⟨S25x1024x2048, .i1⟩
  | .hbm, ⟨68, _⟩ => ⟨S25x1024x2048, .f32⟩
  | .hbm, ⟨69, _⟩ => ⟨S25x1024x2048, .f32⟩
  | .hbm, ⟨70, _⟩ => ⟨S25600x2048, .f32⟩
  | _, _ => ⟨S25600x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_5 : Ref sig .tc := ⟨.hbm, 51, rfl⟩
abbrev main_v30 : Ref sig .tc := ⟨.hbm, 52, rfl⟩
abbrev main_v31 : Ref sig .tc := ⟨.hbm, 53, rfl⟩
abbrev main_c_6 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_7 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_v41 : Ref sig .tc := ⟨.hbm, 69, rfl⟩
abbrev main_v42 : Ref sig .tc := ⟨.hbm, 70, rfl⟩

abbrev nD : Nat := 1
abbrev τ : Topo := Topo.v7x

variable {F : FTy → Type} [FloatOps F]
-- ==== Proj.lean ====
abbrev S9216x2048 : Shape := ⟨2, ![9216, 2048]⟩
abbrev S2x2048x5120 : Shape := ⟨3, ![2, 2048, 5120]⟩
abbrev S9216x5120 : Shape := ⟨2, ![9216, 5120]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩
abbrev S8192x1024 : Shape := ⟨2, ![8192, 1024]⟩
abbrev S2x4096x8x2x64 : Shape := ⟨5, ![2, 4096, 8, 2, 64]⟩
abbrev S2x4096x8x128 : Shape := ⟨4, ![2, 4096, 8, 128]⟩
abbrev S1024x1024 : Shape := ⟨2, ![1024, 1024]⟩
abbrev S128x8x8x2x64 : Shape := ⟨5, ![128, 8, 8, 2, 64]⟩
abbrev S128x8x8x128 : Shape := ⟨4, ![128, 8, 8, 128]⟩
abbrev S1x2x4096x8x2x64 : Shape := ⟨6, ![1, 2, 4096, 8, 2, 64]⟩
abbrev S2x2x4096x8x2x64 : Shape := ⟨6, ![2, 2, 4096, 8, 2, 64]⟩
abbrev S1x2x4096x8x128 : Shape := ⟨5, ![1, 2, 4096, 8, 128]⟩
abbrev S2x2x4096x8x128 : Shape := ⟨5, ![2, 2, 4096, 8, 128]⟩
abbrev S1x128x8x8x2x64 : Shape := ⟨6, ![1, 128, 8, 8, 2, 64]⟩
abbrev S2x128x8x8x2x64 : Shape := ⟨6, ![2, 128, 8, 8, 2, 64]⟩
abbrev S1x128x8x8x128 : Shape := ⟨5, ![1, 128, 8, 8, 128]⟩
abbrev S2x128x8x8x128 : Shape := ⟨5, ![2, 128, 8, 8, 128]⟩

abbrev nBuf : Space → Nat
  | .hbm => 33
  | .vmem => 12
  | .smem => 0
  | _ => 0

abbrev bufTy : (tb : Table) → Fin (tcTables nBuf tb) → BufTy
  | .hbm, ⟨0, _⟩ => ⟨S9216x2048, .bf16⟩
  | .hbm, ⟨1, _⟩ => ⟨S9216x2048, .bf16⟩
  | .hbm, ⟨2, _⟩ => ⟨S2x2048x5120, .f32⟩
  | .hbm, ⟨3, _⟩ => ⟨S9216x5120, .f32⟩
  | .hbm, ⟨4, _⟩ => ⟨S8192x1024, .f32⟩
  | .hbm, ⟨5, _⟩ => ⟨S2x4096x8x2x64, .f32⟩
  | .hbm, ⟨6, _⟩ => ⟨S8192x1024, .f32⟩
  | .hbm, ⟨7, _⟩ => ⟨S2x4096x8x128, .f32⟩
  | .hbm, ⟨8, _⟩ => ⟨S1024x1024, .f32⟩
  | .hbm, ⟨9, _⟩ => ⟨S128x8x8x2x64, .f32⟩
  | .hbm, ⟨10, _⟩ => ⟨S1024x1024, .f32⟩
  | .hbm, ⟨11, _⟩ => ⟨S128x8x8x128, .f32⟩
  | .hbm, ⟨12, _⟩ => ⟨S9216x5120, .f32⟩
  | .hbm, ⟨13, _⟩ => ⟨S8192x1024, .f32⟩
  | .hbm, ⟨14, _⟩ => ⟨S2x4096x8x2x64, .f32⟩
  | .hbm, ⟨15, _⟩ => ⟨S8192x1024, .f32⟩
  | .hbm, ⟨16, _⟩ => ⟨S2x4096x8x128, .f32⟩
  | .hbm, ⟨17, _⟩ => ⟨S1024x1024, .f32⟩
  | .hbm, ⟨18, _⟩ => ⟨S128x8x8x2x64, .f32⟩
  | .hbm, ⟨19, _⟩ => ⟨S1024x1024, .f32⟩
  | .hbm, ⟨20, _⟩ => ⟨S128x8x8x128, .f32⟩
  | .hbm, ⟨21, _⟩ => ⟨S1x2x4096x8x2x64, .f32⟩
  | .hbm, ⟨22, _⟩ => ⟨S1x2x4096x8x2x64, .f32⟩
  | .hbm, ⟨23, _⟩ => ⟨S2x2x4096x8x2x64, .f32⟩
  | .hbm, ⟨24, _⟩ => ⟨S1x2x4096x8x128, .f32⟩
  | .hbm, ⟨25, _⟩ => ⟨S1x2x4096x8x128, .f32⟩
  | .hbm, ⟨26, _⟩ => ⟨S2x2x4096x8x128, .f32⟩
  | .hbm, ⟨27, _⟩ => ⟨S1x128x8x8x2x64, .f32⟩
  | .hbm, ⟨28, _⟩ => ⟨S1x128x8x8x2x64, .f32⟩
  | .hbm, ⟨29, _⟩ => ⟨S2x128x8x8x2x64, .f32⟩
  | .hbm, ⟨30, _⟩ => ⟨S1x128x8x8x128, .f32⟩
  | .hbm, ⟨31, _⟩ => ⟨S1x128x8x8x128, .f32⟩
  | .hbm, ⟨32, _⟩ => ⟨S2x128x8x8x128, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1024x512, .f32⟩
  | .local _ .vmem, ⟨5, _⟩ => ⟨S1024x512, .f32⟩
  | .local _ .vmem, ⟨6, _⟩ => ⟨S1024x2048, .bf16⟩
  | .local _ .vmem, ⟨7, _⟩ => ⟨S1024x2048, .bf16⟩
  | .local _ .vmem, ⟨8, _⟩ => ⟨S1x2048x512, .f32⟩
  | .local _ .vmem, ⟨9, _⟩ => ⟨S1x2048x512, .f32⟩
  | .local _ .vmem, ⟨10, _⟩ => ⟨S1024x512, .f32⟩
  | .local _ .vmem, ⟨11, _⟩ => ⟨S1024x512, .f32⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![9, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![9, 10], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x2048x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== ProjRefIdeal.lean ====
abbrev S9216x2048 : Shape := ⟨2, ![9216, 2048]⟩
abbrev S2x2048x5120 : Shape := ⟨3, ![2, 2048, 5120]⟩
abbrev S1x2048x5120 : Shape := ⟨3, ![1, 2048, 5120]⟩
abbrev S2048x5120 : Shape := ⟨2, ![2048, 5120]⟩
abbrev S9216x5120 : Shape := ⟨2, ![9216, 5120]⟩
abbrev S8192x1024 : Shape := ⟨2, ![8192, 1024]⟩
abbrev S2x4096x8x2x64 : Shape := ⟨5, ![2, 4096, 8, 2, 64]⟩
abbrev S2x4096x8x128 : Shape := ⟨4, ![2, 4096, 8, 128]⟩
abbrev S1024x1024 : Shape := ⟨2, ![1024, 1024]⟩
abbrev S128x8x8x2x64 : Shape := ⟨5, ![128, 8, 8, 2, 64]⟩
abbrev S128x8x8x128 : Shape := ⟨4, ![128, 8, 8, 128]⟩
abbrev S1x2x4096x8x2x64 : Shape := ⟨6, ![1, 2, 4096, 8, 2, 64]⟩
abbrev S2x2x4096x8x2x64 : Shape := ⟨6, ![2, 2, 4096, 8, 2, 64]⟩
abbrev S1x2x4096x8x128 : Shape := ⟨5, ![1, 2, 4096, 8, 128]⟩
abbrev S2x2x4096x8x128 : Shape := ⟨5, ![2, 2, 4096, 8, 128]⟩
abbrev S1x128x8x8x2x64 : Shape := ⟨6, ![1, 128, 8, 8, 2, 64]⟩
abbrev S2x128x8x8x2x64 : Shape := ⟨6, ![2, 128, 8, 8, 2, 64]⟩
abbrev S1x128x8x8x128 : Shape := ⟨5, ![1, 128, 8, 8, 128]⟩
abbrev S2x128x8x8x128 : Shape := ⟨5, ![2, 128, 8, 8, 128]⟩

abbrev nBuf : Space → Nat
  | .hbm => 39
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S9216x2048, .bf16⟩
  | .hbm, ⟨2, _⟩ => ⟨S2x2048x5120, .f32⟩
  | .hbm, ⟨3, _⟩ => ⟨S9216x2048, .f32⟩
  | .hbm, ⟨4, _⟩ => ⟨S1x2048x5120, .f32⟩
  | .hbm, ⟨5, _⟩ => ⟨S2048x5120, .f32⟩
  | .hbm, ⟨6, _⟩ => ⟨S9216x5120, .f32⟩
  | .hbm, ⟨7, _⟩ => ⟨S8192x1024, .f32⟩
  | .hbm, ⟨8, _⟩ => ⟨S2x4096x8x2x64, .f32⟩
  | .hbm, ⟨9, _⟩ => ⟨S8192x1024, .f32⟩
  | .hbm, ⟨10, _⟩ => ⟨S2x4096x8x128, .f32⟩
  | .hbm, ⟨11, _⟩ => ⟨S1024x1024, .f32⟩
  | .hbm, ⟨12, _⟩ => ⟨S128x8x8x2x64, .f32⟩
  | .hbm, ⟨13, _⟩ => ⟨S1024x1024, .f32⟩
  | .hbm, ⟨14, _⟩ => ⟨S128x8x8x128, .f32⟩
  | .hbm, ⟨15, _⟩ => ⟨S9216x2048, .f32⟩
  | .hbm, ⟨16, _⟩ => ⟨S1x2048x5120, .f32⟩
  | .hbm, ⟨17, _⟩ => ⟨S2048x5120, .f32⟩
  | .hbm, ⟨18, _⟩ => ⟨S9216x5120, .f32⟩
  | .hbm, ⟨19, _⟩ => ⟨S8192x1024, .f32⟩
  | .hbm, ⟨20, _⟩ => ⟨S2x4096x8x2x64, .f32⟩
  | .hbm, ⟨21, _⟩ => ⟨S8192x1024, .f32⟩
  | .hbm, ⟨22, _⟩ => ⟨S2x4096x8x128, .f32⟩
  | .hbm, ⟨23, _⟩ => ⟨S1024x1024, .f32⟩
  | .hbm, ⟨24, _⟩ => ⟨S128x8x8x2x64, .f32⟩
  | .hbm, ⟨25, _⟩ => ⟨S1024x1024, .f32⟩
  | .hbm, ⟨26, _⟩ => ⟨S128x8x8x128, .f32⟩
  | .hbm, ⟨27, _⟩ => ⟨S1x2x4096x8x2x64, .f32⟩
  | .hbm, ⟨28, _⟩ => ⟨S1x2x4096x8x2x64, .f32⟩
  | .hbm, ⟨29, _⟩ => ⟨S2x2x4096x8x2x64, .f32⟩
  | .hbm, ⟨30, _⟩ => ⟨S1x2x4096x8x128, .f32⟩
  | .hbm, ⟨31, _⟩ => ⟨S1x2x4096x8x128, .f32⟩
  | .hbm, ⟨32, _⟩ => ⟨S2x2x4096x8x128, .f32⟩
  | .hbm, ⟨33, _⟩ => ⟨S1x128x8x8x2x64, .f32⟩
  | .hbm, ⟨34, _⟩ => ⟨S1x128x8x8x2x64, .f32⟩
  | .hbm, ⟨35, _⟩ => ⟨S2x128x8x8x2x64, .f32⟩
  | .hbm, ⟨36, _⟩ => ⟨S1x128x8x8x128, .f32⟩
  | .hbm, ⟨37, _⟩ => ⟨S1x128x8x8x128, .f32⟩
  | .hbm, ⟨38, _⟩ => ⟨S2x128x8x8x128, .f32⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩

abbrev nD : Nat := 1
abbrev τ : Topo := Topo.v7x

variable {F : FTy → Type} [FloatOps F]
-- ==== Mix.lean ====
abbrev S9216x1024 : Shape := ⟨2, ![9216, 1024]⟩
abbrev S2x2048x2048 : Shape := ⟨3, ![2, 2048, 2048]⟩
abbrev S9216x2048 : Shape := ⟨2, ![9216, 2048]⟩
abbrev S1024x1024 : Shape := ⟨2, ![1024, 1024]⟩
abbrev S1x1024x512 : Shape := ⟨3, ![1, 1024, 512]⟩
abbrev S1024x512 : Shape := ⟨2, ![1024, 512]⟩

abbrev nBuf : Space → Nat
  | .hbm => 4
  | .vmem => 10
  | .smem => 0
  | _ => 0

abbrev bufTy : (tb : Table) → Fin (tcTables nBuf tb) → BufTy
  | .hbm, ⟨0, _⟩ => ⟨S9216x1024, .f32⟩
  | .hbm, ⟨1, _⟩ => ⟨S9216x1024, .f32⟩
  | .hbm, ⟨2, _⟩ => ⟨S2x2048x2048, .f32⟩
  | .hbm, ⟨3, _⟩ => ⟨S9216x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024x512, .f32⟩
  | .local _ .vmem, ⟨5, _⟩ => ⟨S1x1024x512, .f32⟩
  | .local _ .vmem, ⟨6, _⟩ => ⟨S1x1024x512, .f32⟩
  | .local _ .vmem, ⟨7, _⟩ => ⟨S1x1024x512, .f32⟩
  | .local _ .vmem, ⟨8, _⟩ => ⟨S1024x512, .f32⟩
  | .local _ .vmem, ⟨9, _⟩ => ⟨S1024x512, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![9, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MixRefIdeal.lean ====
abbrev S9216x1024 : Shape := ⟨2, ![9216, 1024]⟩
abbrev S2x2048x2048 : Shape := ⟨3, ![2, 2048, 2048]⟩
abbrev S9216x2048 : Shape := ⟨2, ![9216, 2048]⟩
abbrev S1x2048x2048 : Shape := ⟨3, ![1, 2048, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S9216x1024, .f32⟩
  | .hbm, ⟨2, _⟩ => ⟨S2x2048x2048, .f32⟩
  | .hbm, ⟨3, _⟩ => ⟨S9216x2048, .f32⟩
  | .hbm, ⟨4, _⟩ => ⟨S1x2048x2048, .f32⟩
  | .hbm, ⟨5, _⟩ => ⟨S2048x2048, .f32⟩
  | .hbm, ⟨6, _⟩ => ⟨S9216x2048, .f32⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Gm.lean ====
abbrev S9216x5120 : Shape := ⟨2, ![9216, 5120]⟩
abbrev S2x8x128x128 : Shape := ⟨4, ![2, 8, 128, 128]⟩
abbrev S2x8x128 : Shape := ⟨3, ![2, 8, 128]⟩
abbrev S2x1x1024 : Shape := ⟨3, ![2, 1, 1024]⟩
abbrev S1x8x128x128 : Shape := ⟨4, ![1, 8, 128, 128]⟩
abbrev S8x128x128 : Shape := ⟨3, ![8, 128, 128]⟩
abbrev S8x8x8 : Shape := ⟨3, ![8, 8, 8]⟩
abbrev S1x8x1x8x1x8 : Shape := ⟨6, ![1, 8, 1, 8, 1, 8]⟩
abbrev S1x8x16x8x16x8 : Shape := ⟨6, ![1, 8, 16, 8, 16, 8]⟩
abbrev S1x8x128 : Shape := ⟨3, ![1, 8, 128]⟩
abbrev S8x128 : Shape := ⟨2, ![8, 128]⟩
abbrev S128x8 : Shape := ⟨2, ![128, 8]⟩
abbrev S8x8 : Shape := ⟨2, ![8, 8]⟩
abbrev S1x8x1x8 : Shape := ⟨4, ![1, 8, 1, 8]⟩
abbrev S1x8x16x8 : Shape := ⟨4, ![1, 8, 16, 8]⟩
abbrev S1x128x8 : Shape := ⟨3, ![1, 128, 8]⟩
abbrev S2x128x8 : Shape := ⟨3, ![2, 128, 8]⟩
abbrev S9216x1024 : Shape := ⟨2, ![9216, 1024]⟩
abbrev S128x1024 : Shape := ⟨2, ![128, 1024]⟩
abbrev S1x1x1024 : Shape := ⟨3, ![1, 1, 1024]⟩
abbrev S128x128 : Shape := ⟨2, ![128, 128]⟩
abbrev S128 : Shape := ⟨1, ![128]⟩
abbrev S128x1 : Shape := ⟨2, ![128, 1]⟩
abbrev S1x1x128 : Shape := ⟨3, ![1, 1, 128]⟩
abbrev S1x128 : Shape := ⟨2, ![1, 128]⟩
abbrev S1x1x128x128 : Shape := ⟨4, ![1, 1, 128, 128]⟩
abbrev S1x128x1 : Shape := ⟨3, ![1, 128, 1]⟩
abbrev S1024x1024 : Shape := ⟨2, ![1024, 1024]⟩
abbrev S128x8x8x128 : Shape := ⟨4, ![128, 8, 8, 128]⟩
abbrev S1x128x8x8x128 : Shape := ⟨5, ![1, 128, 8, 8, 128]⟩
abbrev S2x128x8x8x128 : Shape := ⟨5, ![2, 128, 8, 8, 128]⟩

abbrev nBuf : Space → Nat
  | .hbm => 67
  | .vmem => 28
  | .smem => 0
  | _ => 0

abbrev bufTy : (tb : Table) → Fin (tcTables nBuf tb) → BufTy
  | .hbm, ⟨0, _⟩ => ⟨S9216x5120, .f32⟩
  | .hbm, ⟨1, _⟩ => ⟨S9216x5120, .f32⟩
  | .hbm, ⟨2, _⟩ => ⟨S2x8x128x128, .f32⟩
  | .hbm, ⟨3, _⟩ => ⟨S2x8x128, .f32⟩
  | .hbm, ⟨4, _⟩ => ⟨S2x8x128, .f32⟩
  | .hbm, ⟨5, _⟩ => ⟨S2x8x128, .f32⟩
  | .hbm, ⟨6, _⟩ => ⟨S2x1x1024, .f32⟩
  | .hbm, ⟨7, _⟩ => ⟨S2x1x1024, .f32⟩
  | .hbm, ⟨8, _⟩ => ⟨S1x8x128x128, .f32⟩
  | .hbm, ⟨9, _⟩ => ⟨S8x128x128, .f32⟩
  | .hbm, ⟨10, _⟩ => ⟨S1x8x128x128, .f32⟩
  | .hbm, ⟨11, _⟩ => ⟨S8x128x128, .f32⟩
  | .hbm, ⟨12, _⟩ => ⟨S8x8x8, .f32⟩
  | .hbm, ⟨13, _⟩ => ⟨S1x8x1x8x1x8, .f32⟩
  | .hbm, ⟨14, _⟩ => ⟨S1x8x16x8x16x8, .f32⟩
  | .hbm, ⟨15, _⟩ => ⟨S8x128x128, .f32⟩
  | .hbm, ⟨16, _⟩ => ⟨S1x8x128x128, .f32⟩
  | .hbm, ⟨17, _⟩ => ⟨S1x8x128x128, .f32⟩
  | .hbm, ⟨18, _⟩ => ⟨S2x8x128x128, .f32⟩
  | .hbm, ⟨19, _⟩ => ⟨S1x8x128, .f32⟩
  | .hbm, ⟨20, _⟩ => ⟨S8x128, .f32⟩
  | .hbm, ⟨21, _⟩ => ⟨S128x8, .f32⟩
  | .hbm, ⟨22, _⟩ => ⟨S1x8x128, .f32⟩
  | .hbm, ⟨23, _⟩ => ⟨S8x128, .f32⟩
  | .hbm, ⟨24, _⟩ => ⟨S8x8, .f32⟩
  | .hbm, ⟨25, _⟩ => ⟨S1x8x1x8, .f32⟩
  | .hbm, ⟨26, _⟩ => ⟨S1x8x16x8, .f32⟩
  | .hbm, ⟨27, _⟩ => ⟨S8x128, .f32⟩
  | .hbm, ⟨28, _⟩ => ⟨S128x8, .f32⟩
  | .hbm, ⟨29, _⟩ => ⟨S1x128x8, .f32⟩
  | .hbm, ⟨30, _⟩ => ⟨S1x128x8, .f32⟩
  | .hbm, ⟨31, _⟩ => ⟨S2x128x8, .f32⟩
  | .hbm, ⟨32, _⟩ => ⟨S9216x1024, .f32⟩
  | .hbm, ⟨33, _⟩ => ⟨S9216x1024, .f32⟩
  | .hbm, ⟨34, _⟩ => ⟨S1024x1024, .f32⟩
  | .hbm, ⟨35, _⟩ => ⟨S128x8x8x128, .f32⟩
  | .hbm, ⟨36, _⟩ => ⟨S1x8x128x128, .f32⟩
  | .hbm, ⟨37, _⟩ => ⟨S8x128x128, .f32⟩
  | .hbm, ⟨38, _⟩ => ⟨S1x8x128x128, .f32⟩
  | .hbm, ⟨39, _⟩ => ⟨S8x128x128, .f32⟩
  | .hbm, ⟨40, _⟩ => ⟨S8x8x8, .f32⟩
  | .hbm, ⟨41, _⟩ => ⟨S1x8x1x8x1x8, .f32⟩
  | .hbm, ⟨42, _⟩ => ⟨S1x8x16x8x16x8, .f32⟩
  | .hbm, ⟨43, _⟩ => ⟨S8x128x128, .f32⟩
  | .hbm, ⟨44, _⟩ => ⟨S1x8x128x128, .f32⟩
  | .hbm, ⟨45, _⟩ => ⟨S1x8x128x128, .f32⟩
  | .hbm, ⟨46, _⟩ => ⟨S2x8x128x128, .f32⟩
  | .hbm, ⟨47, _⟩ => ⟨S1x8x128, .f32⟩
  | .hbm, ⟨48, _⟩ => ⟨S8x128, .f32⟩
  | .hbm, ⟨49, _⟩ => ⟨S128x8, .f32⟩
  | .hbm, ⟨50, _⟩ => ⟨S1x8x128, .f32⟩
  | .hbm, ⟨51, _⟩ => ⟨S8x128, .f32⟩
  | .hbm, ⟨52, _⟩ => ⟨S8x8, .f32⟩
  | .hbm, ⟨53, _⟩ => ⟨S1x8x1x8, .f32⟩
  | .hbm, ⟨54, _⟩ => ⟨S1x8x16x8, .f32⟩
  | .hbm, ⟨55, _⟩ => ⟨S8x128, .f32⟩
  | .hbm, ⟨56, _⟩ => ⟨S128x8, .f32⟩
  | .hbm, ⟨57, _⟩ => ⟨S1x128x8, .f32⟩
  | .hbm, ⟨58, _⟩ => ⟨S1x128x8, .f32⟩
  | .hbm, ⟨59, _⟩ => ⟨S2x128x8, .f32⟩
  | .hbm, ⟨60, _⟩ => ⟨S9216x1024, .f32⟩
  | .hbm, ⟨61, _⟩ => ⟨S9216x1024, .f32⟩
  | .hbm, ⟨62, _⟩ => ⟨S1024x1024, .f32⟩
  | .hbm, ⟨63, _⟩ => ⟨S128x8x8x128, .f32⟩
  | .hbm, ⟨64, _⟩ => ⟨S1x128x8x8x128, .f32⟩
  | .hbm, ⟨65, _⟩ => ⟨S1x128x8x8x128, .f32⟩
  | .hbm, ⟨66, _⟩ => ⟨S2x128x8x8x128, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S1x8x128x128, .f32⟩
  | .local _ .vmem, ⟨5, _⟩ => ⟨S1x8x128x128, .f32⟩
  | .local _ .vmem, ⟨6, _⟩ => ⟨S1x128x8, .f32⟩
  | .local _ .vmem, ⟨7, _⟩ => ⟨S1x128x8, .f32⟩
  | .local _ .vmem, ⟨8, _⟩ => ⟨S1x1x1024, .f32⟩
  | .local _ .vmem, ⟨9, _⟩ => ⟨S1x1x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .vmem, ⟨18, _⟩ => ⟨S1x8x128x128, .f32⟩
  | .local _ .vmem, ⟨19, _⟩ => ⟨S1x8x128x128, .f32⟩
  | .local _ .vmem, ⟨20, _⟩ => ⟨S1x128x8, .f32⟩
  | .local _ .vmem, ⟨21, _⟩ => ⟨S1x128x8, .f32⟩
  | .local _ .vmem, ⟨22, _⟩ => ⟨S1x1x1024, .f32⟩
  | .local _ .vmem, ⟨23, _⟩ => ⟨S1x1x1024, .f32⟩
  | .local _ .vmem, ⟨24, _⟩ => ⟨S128x1024, .f32⟩
  | .local _ .vmem, ⟨25, _⟩ => ⟨S128x1024, .f32⟩
  | .local _ .vmem, ⟨26, _⟩ => ⟨S128x1024, .f32⟩
  | .local _ .vmem, ⟨27, _⟩ => ⟨S128x1024, .f32⟩
  | _, _ => ⟨S9216x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26_0 : Ref sig .tc := ⟨.hbm, 32, rfl⟩
abbrev main_v26_1 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53_0 : Ref sig .tc := ⟨.hbm, 60, rfl⟩
abbrev main_v53_1 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem5_0 : DmaSem sig := 23
abbrev cc1_sem6_0 : DmaSem sig := 24
abbrev cc1_sem6_1 : DmaSem sig := 25
abbrev cc1_sem7_0 : DmaSem sig := 26
abbrev cc1_sem7_1 : DmaSem sig := 27

abbrev nD : Nat := 1
abbrev τ : Topo := Topo.v7x

variable {F : FTy → Type} [FloatOps F]

abbrev grid0 : Pipeline.Grid := ⟨1, ![72], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 4 → Nat :=
  let arg0 : BitVec 32 := BitVec.ofNat 32 (i 0).val
  let c64_i32 : BitVec 32 := 64#32
  let v0 : BitVec 1 := Scalar.cmpi .slt arg0 c64_i32
  let c0_i32 : BitVec 32 := 0#32
  let c1_i32 : BitVec 32 := 1#32
  let v1 : BitVec 32 := Scalar.select v0 c0_i32 c1_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

def cc0_transform_3 (i : grid0.Coords) : Fin 3 → Nat :=
  let arg0 : BitVec 32 := BitVec.ofNat 32 (i 0).val
  let c64_i32 : BitVec 32 := 64#32
  let v0 : BitVec 1 := Scalar.cmpi .slt arg0 c64_i32
  let c0_i32 : BitVec 32 := 0#32
  let c1_i32 : BitVec 32 := 1#32
  let v1 : BitVec 32 := Scalar.select v0 c0_i32 c1_i32
  let c0_i32_0 : BitVec 32 := 0#32
  let c0_i32_1 : BitVec 32 := 0#32
  let c0_i32_2 : BitVec 32 := 0#32
  ![v1.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![72], ![false]⟩

def cc1_transform_0 (i : grid1.Coords) : Fin 2 → Nat :=
  let arg0 : BitVec 32 := BitVec.ofNat 32 (i 0).val
  let c3_i32 : BitVec 32 := 3#32
  let c0_i32 : BitVec 32 := 0#32
  ![arg0.toNat, c3_i32.toNat]

def cc1_transform_1 (i : grid1.Coords) : Fin 2 → Nat :=
  let arg0 : BitVec 32 := BitVec.ofNat 32 (i 0).val
  let c4_i32 : BitVec 32 := 4#32
  let c0_i32 : BitVec 32 := 0#32
  ![arg0.toNat, c4_i32.toNat]

def cc1_transform_2 (i : grid1.Coords) : Fin 4 → Nat :=
  let arg0 : BitVec 32 := BitVec.ofNat 32 (i 0).val
  let c64_i32 : BitVec 32 := 64#32
  let v0 : BitVec 1 := Scalar.cmpi .slt arg0 c64_i32
  let c0_i32 : BitVec 32 := 0#32
  let c1_i32 : BitVec 32 := 1#32
  let v1 : BitVec 32 := Scalar.select v0 c0_i32 c1_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

def cc1_transform_3 (i : grid1.Coords) : Fin 3 → Nat :=
  let arg0 : BitVec 32 := BitVec.ofNat 32 (i 0).val
  let c64_i32 : BitVec 32 := 64#32
  let v0 : BitVec 1 := Scalar.cmpi .slt arg0 c64_i32
  let c0_i32 : BitVec 32 := 0#32
  let c1_i32 : BitVec 32 := 1#32
  let v1 : BitVec 32 := Scalar.select v0 c0_i32 c1_i32
  let c0_i32_0 : BitVec 32 := 0#32
  let c0_i32_1 : BitVec 32 := 0#32
  let c0_i32_2 : BitVec 32 := 0#32
  ![v1.toNat, c0_i32_0.toNat, c0_i32_1.toNat]

def cc1_transform_4 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_5 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x8x128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x128x8 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S128x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S128x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== GmRefIdeal.lean ====
abbrev S9216x5120 : Shape := ⟨2, ![9216, 5120]⟩
abbrev S2x8x128x128 : Shape := ⟨4, ![2, 8, 128, 128]⟩
abbrev S2x8x128 : Shape := ⟨3, ![2, 8, 128]⟩
abbrev S1024x1024 : Shape := ⟨2, ![1024, 1024]⟩
abbrev S128x8x8x128 : Shape := ⟨4, ![128, 8, 8, 128]⟩
abbrev S_ : Shape := ⟨0, ![]⟩
abbrev S1x8x128 : Shape := ⟨3, ![1, 8, 128]⟩
abbrev S8x128 : Shape := ⟨2, ![8, 128]⟩
abbrev S128x8x8 : Shape := ⟨3, ![128, 8, 8]⟩
abbrev S128x8x8x1 : Shape := ⟨4, ![128, 8, 8, 1]⟩
abbrev S1x1x8x128 : Shape := ⟨4, ![1, 1, 8, 128]⟩
abbrev S1x128x8x8x128 : Shape := ⟨5, ![1, 128, 8, 8, 128]⟩
abbrev S2x128x8x8x128 : Shape := ⟨5, ![2, 128, 8, 8, 128]⟩

abbrev nBuf : Space → Nat
  | .hbm => 117
  | .vmem => 0
  | .smem => 0
  | _ => 0

abbrev bufTy : (tb : Table) → Fin (tcTables nBuf tb) → BufTy
  | .hbm, ⟨0, _⟩ => ⟨S9216x5120, .f32⟩
  | .hbm, ⟨1, _⟩ => ⟨S9216x5120, .f32⟩
  | .hbm, ⟨2, _⟩ => ⟨S2x8x128x128, .f32⟩
  | .hbm, ⟨3, _⟩ => ⟨S2x8x128, .f32⟩
  | .hbm, ⟨4, _⟩ => ⟨S2x8x128, .f32⟩
  | .hbm, ⟨5, _⟩ => ⟨S2x8x128, .f32⟩
  | .hbm, ⟨6, _⟩ => ⟨S1024x1024, .f32⟩
  | .hbm, ⟨7, _⟩ => ⟨S128x8x8x128, .f32⟩
  | .hbm, ⟨8, _⟩ => ⟨S128x8x8x128, .f32⟩
  | .hbm, ⟨9, _⟩ => ⟨S128x8x8x128, .f32⟩
  | .hbm, ⟨10, _⟩ => ⟨S_, .f32⟩
  | .hbm, ⟨11, _⟩ => ⟨S128x8x8x128, .f32⟩
  | .hbm, ⟨12, _⟩ => ⟨S128x8x8x128, .f32⟩
  | .hbm, ⟨13, _⟩ => ⟨S128x8x8x128, .f32⟩
  | .hbm, ⟨14, _⟩ => ⟨S_, .f32⟩
  | .hbm, ⟨15, _⟩ => ⟨S128x8x8x128, .f32⟩
  | .hbm, ⟨16, _⟩ => ⟨S128x8x8x128, .f32⟩
  | .hbm, ⟨17, _⟩ => ⟨S128x8x8x128, .f32⟩
  | .hbm, ⟨18, _⟩ => ⟨S_, .f32⟩
  | .hbm, ⟨19, _⟩ => ⟨S128x8x8x128, .f32⟩
  | .hbm, ⟨20, _⟩ => ⟨S128x8x8x128, .f32⟩
  | .hbm, ⟨21, _⟩ => ⟨S_, .f32⟩
  | .hbm, ⟨22, _⟩ => ⟨S128x8x8x128, .f32⟩
  | .hbm, ⟨23, _⟩ => ⟨S128x8x8x128, .f32⟩
  | .hbm, ⟨24, _⟩ => ⟨S128x8x8x128, .f32⟩
  | .hbm, ⟨25, _⟩ => ⟨S1x8x128, .f32⟩
  | .hbm, ⟨26, _⟩ => ⟨S8x128, .f32⟩
  | .hbm, ⟨27, _⟩ => ⟨S1x8x128, .f32⟩
  | .hbm, ⟨28, _⟩ => ⟨S8x128, .f32⟩
  | .hbm, ⟨29, _⟩ => ⟨S_, .f32⟩
  | .hbm, ⟨30, _⟩ => ⟨S128x8x8, .f32⟩
  | .hbm, ⟨31, _⟩ => ⟨S128x8x8x1, .f32⟩
  | .hbm, ⟨32, _⟩ => ⟨S_, .f32⟩
  | .hbm, ⟨33, _⟩ => ⟨S128x8x8x1, .f32⟩
  | .hbm, ⟨34, _⟩ => ⟨S128x8x8x1, .f32⟩
  | .hbm, ⟨35, _⟩ => ⟨S128x8x8x128, .f32⟩
  | .hbm, ⟨36, _⟩ => ⟨S128x8x8x128, .f32⟩
  | .hbm, ⟨37, _⟩ => ⟨S128x8x8x128, .f32⟩
  | .hbm, ⟨38, _⟩ => ⟨S128x8x8x128, .f32⟩
  | .hbm, ⟨39, _⟩ => ⟨S128x8x8x128, .f32⟩
  | .hbm, ⟨40, _⟩ => ⟨S_, .f32⟩
  | .hbm, ⟨41, _⟩ => ⟨S128x8x8, .f32⟩
  | .hbm, ⟨42, _⟩ => ⟨S128x8x8x1, .f32⟩
  | .hbm, ⟨43, _⟩ => ⟨S_, .f32⟩
  | .hbm, ⟨44, _⟩ => ⟨S128x8x8x1, .f32⟩
  | .hbm, ⟨45, _⟩ => ⟨S128x8x8x1, .f32⟩
  | .hbm, ⟨46, _⟩ => ⟨S128x8x8x128, .f32⟩
  | .hbm, ⟨47, _⟩ => ⟨S128x8x8x128, .f32⟩
  | .hbm, ⟨48, _⟩ => ⟨S_, .f32⟩
  | .hbm, ⟨49, _⟩ => ⟨S128x8x8x1, .f32⟩
  | .hbm, ⟨50, _⟩ => ⟨S128x8x8x1, .f32⟩
  | .hbm, ⟨51, _⟩ => ⟨S128x8x8x1, .f32⟩
  | .hbm, ⟨52, _⟩ => ⟨S128x8x8x128, .f32⟩
  | .hbm, ⟨53, _⟩ => ⟨S128x8x8x128, .f32⟩
  | .hbm, ⟨54, _⟩ => ⟨S1x1x8x128, .f32⟩
  | .hbm, ⟨55, _⟩ => ⟨S128x8x8x128, .f32⟩
  | .hbm, ⟨56, _⟩ => ⟨S128x8x8x128, .f32⟩
  | .hbm, ⟨57, _⟩ => ⟨S1x1x8x128, .f32⟩
  | .hbm, ⟨58, _⟩ => ⟨S128x8x8x128, .f32⟩
  | .hbm, ⟨59, _⟩ => ⟨S128x8x8x128, .f32⟩
  | .hbm, ⟨60, _⟩ => ⟨S1024x1024, .f32⟩
  | .hbm, ⟨61, _⟩ => ⟨S128x8x8x128, .f32⟩
  | .hbm, ⟨62, _⟩ => ⟨S128x8x8x128, .f32⟩
  | .hbm, ⟨63, _⟩ => ⟨S128x8x8x128, .f32⟩
  | .hbm, ⟨64, _⟩ => ⟨S_, .f32⟩
  | .hbm, ⟨65, _⟩ => ⟨S128x8x8x128, .f32⟩
  | .hbm, ⟨66, _⟩ => ⟨S128x8x8x128, .f32⟩
  | .hbm, ⟨67, _⟩ => ⟨S128x8x8x128, .f32⟩
  | .hbm, ⟨68, _⟩ => ⟨S_, .f32⟩
  | .hbm, ⟨69, _⟩ => ⟨S128x8x8x128, .f32⟩
  | .hbm, ⟨70, _⟩ => ⟨S128x8x8x128, .f32⟩
  | .hbm, ⟨71, _⟩ => ⟨S128x8x8x128, .f32⟩
  | .hbm, ⟨72, _⟩ => ⟨S_, .f32⟩
  | .hbm, ⟨73, _⟩ => ⟨S128x8x8x128, .f32⟩
  | .hbm, ⟨74, _⟩ => ⟨S128x8x8x128, .f32⟩
  | .hbm, ⟨75, _⟩ => ⟨S_, .f32⟩
  | .hbm, ⟨76, _⟩ => ⟨S128x8x8x128, .f32⟩
  | .hbm, ⟨77, _⟩ => ⟨S128x8x8x128, .f32⟩
  | .hbm, ⟨78, _⟩ => ⟨S128x8x8x128, .f32⟩
  | .hbm, ⟨79, _⟩ => ⟨S1x8x128, .f32⟩
  | .hbm, ⟨80, _⟩ => ⟨S8x128, .f32⟩
  | .hbm, ⟨81, _⟩ => ⟨S1x8x128, .f32⟩
  | .hbm, ⟨82, _⟩ => ⟨S8x128, .f32⟩
  | .hbm, ⟨83, _⟩ => ⟨S_, .f32⟩
  | .hbm, ⟨84, _⟩ => ⟨S128x8x8, .f32⟩
  | .hbm, ⟨85, _⟩ => ⟨S128x8x8x1, .f32⟩
  | .hbm, ⟨86, _⟩ => ⟨S_, .f32⟩
  | .hbm, ⟨87, _⟩ => ⟨S128x8x8x1, .f32⟩
  | .hbm, ⟨88, _⟩ => ⟨S128x8x8x1, .f32⟩
  | .hbm, ⟨89, _⟩ => ⟨S128x8x8x128, .f32⟩
  | .hbm, ⟨90, _⟩ => ⟨S128x8x8x128, .f32⟩
  | .hbm, ⟨91, _⟩ => ⟨S128x8x8x128, .f32⟩
  | .hbm, ⟨92, _⟩ => ⟨S128x8x8x128, .f32⟩
  | .hbm, ⟨93, _⟩ => ⟨S128x8x8x128, .f32⟩
  | .hbm, ⟨94, _⟩ => ⟨S_, .f32⟩
  | .hbm, ⟨95, _⟩ => ⟨S128x8x8, .f32⟩
  | .hbm, ⟨96, _⟩ => ⟨S128x8x8x1, .f32⟩
  | .hbm, ⟨97, _⟩ => ⟨S_, .f32⟩
  | .hbm, ⟨98, _⟩ => ⟨S128x8x8x1, .f32⟩
  | .hbm, ⟨99, _⟩ => ⟨S128x8x8x1, .f32⟩
  | .hbm, ⟨100, _⟩ => ⟨S128x8x8x128, .f32⟩
  | .hbm, ⟨101, _⟩ => ⟨S128x8x8x128, .f32⟩
  | .hbm, ⟨102, _⟩ => ⟨S_, .f32⟩
  | .hbm, ⟨103, _⟩ => ⟨S128x8x8x1, .f32⟩
  | .hbm, ⟨104, _⟩ => ⟨S128x8x8x1, .f32⟩
  | .hbm, ⟨105, _⟩ => ⟨S128x8x8x1, .f32⟩
  | .hbm, ⟨106, _⟩ => ⟨S128x8x8x128, .f32⟩
  | .hbm, ⟨107, _⟩ => ⟨S128x8x8x128, .f32⟩
  | .hbm, ⟨108, _⟩ => ⟨S1x1x8x128, .f32⟩
  | .hbm, ⟨109, _⟩ => ⟨S128x8x8x128, .f32⟩
  | .hbm, ⟨110, _⟩ => ⟨S128x8x8x128, .f32⟩
  | .hbm, ⟨111, _⟩ => ⟨S1x1x8x128, .f32⟩
  | .hbm, ⟨112, _⟩ => ⟨S128x8x8x128, .f32⟩
  | .hbm, ⟨113, _⟩ => ⟨S128x8x8x128, .f32⟩
  | .hbm, ⟨114, _⟩ => ⟨S1x128x8x8x128, .f32⟩
  | .hbm, ⟨115, _⟩ => ⟨S1x128x8x8x128, .f32⟩
  | .hbm, ⟨116, _⟩ => ⟨S2x128x8x8x128, .f32⟩
  | _, _ => ⟨S9216x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_8 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_9 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_10 : Ref sig .tc := ⟨.hbm, 72, rfl⟩
abbrev main_v55 : Ref sig .tc := ⟨.hbm, 73, rfl⟩
abbrev main_v56 : Ref sig .tc := ⟨.hbm, 74, rfl⟩
abbrev main_cst_11 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_12 : Ref sig .tc := ⟨.hbm, 83, rfl⟩
abbrev main_v64 : Ref sig .tc := ⟨.hbm, 84, rfl⟩
abbrev main_v65 : Ref sig .tc := ⟨.hbm, 85, rfl⟩
abbrev main_cst_13 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_14 : Ref sig .tc := ⟨.hbm, 94, rfl⟩
abbrev main_v73 : Ref sig .tc := ⟨.hbm, 95, rfl⟩
abbrev main_v74 : Ref sig .tc := ⟨.hbm, 96, rfl⟩
abbrev main_cst_15 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_cst_16 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩

abbrev nD : Nat := 1
abbrev τ : Topo := Topo.v7x

variable {F : FTy → Type} [FloatOps F]
-- ==== Proof.FrameI.lean ====
/- The frame of the idealized sample-attention program, taken from the generated frame module with a larger elaboration
   budget: what the output and the carried scratch hold at each grid point, the body obligation, and the run. -/
module

public import proofs.«01_k».proof.Proof.Gen.AttnSIdeal.Frame.RunC
public import Idealize.ShloMosaic.Lib.Claim

@[expose] public section

-- membership in a rectangle of production extents (`View.cover_of_tiled`): the elaborator's structural look
-- recurses once per coordinate of the long axes
set_option maxRecDepth 16384
set_option maxHeartbeats 4000000

noncomputable section

namespace Cert.AttnSIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
section Pieces
variable (c : Dev nD) (i : grid0.Coords)
  (arg3 : Memref sig .tc .vmem S1x4x64 .f32) (harg3 : arg3.IsWhole) (arg4 : Memref sig .tc .vmem S8x1024 .f32) (harg4 : arg4.IsWhole)
  (arg5 : Memref sig .tc .vmem S8x1024 .f32) (harg5 : arg5.IsWhole) (arg6 : Memref sig .tc .vmem S8x1024 .f32) (harg6 : arg6.IsWhole)
  (arg7 : Memref sig .tc .vmem S1x1x128x1024 .f32) (harg7 : arg7.IsWhole) (arg8 : Memref sig .tc .vmem S1x1x128x1024 .f32) (harg8 : arg8.IsWhole)
  (arg9 : Memref sig .tc .vmem S1x1x128 .f32) (harg9 : arg9.IsWhole) (arg10 : Memref sig .tc .vmem S8x1024 .f32) (harg10 : arg10.IsWhole)
  (arg11 : Memref sig .tc .vmem S128x1024 .bf16) (harg11 : arg11.IsWhole) (arg12 : Memref sig .tc .vmem S128x1 .f32) (harg12 : arg12.IsWhole)
  (arg13 : Memref sig .tc .vmem S128x1 .f32) (harg13 : arg13.IsWhole) (arg14 : Memref sig .tc .vmem S128x1 .f32) (harg14 : arg14.IsWhole)
  (arg15 : Memref sig .tc .vmem S128x1024 .f32) (harg15 : arg15.IsWhole)

/-- Case A stores nothing into output 7 (the window is idle at its points and not written back there):
    no pieces — a placeholder (junk read back) that nothing consults, since at these points the window is neither
    written back nor read at the next point (Lib/Pipeline.lean "Idle points"). -/
def out0_A_7 (hc0 : cond0_0 i) (hc1 : ¬cond0_1 i)
    (x0 : Vec F S1x4x64 .f32) (x1 : Vec F S8x1024 .f32) (x2 : Vec F S8x1024 .f32) (x3 : Vec F S8x1024 .f32) (x4 : Vec F S1x1x128x1024 .f32) (x5 : Vec F S1x1x128x1024 .f32) (x6 : Vec F S1x1x128 .f32) (xt0 : TbBuf0 (F := F) c tbM0_0) : Vec F S8x1024 .f32 :=
  VO0_7.read (Elt F) (VO0_7.writes (Elt F) VO0_7.junk (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xt0).1)

/-- Case A's pieces for scratch `arg11`, which the kernel carries between points, cover it: 1 piece of `S128x1024` tiling it (Lib/Ring.lean `Piece.tiledL`). -/
theorem scover0_A_0 (hc0 : cond0_0 i) (hc1 : ¬cond0_1 i)
    (x0 : Vec F S1x4x64 .f32) (x1 : Vec F S8x1024 .f32) (x2 : Vec F S8x1024 .f32) (x3 : Vec F S8x1024 .f32) (x4 : Vec F S1x1x128x1024 .f32) (x5 : Vec F S1x1x128x1024 .f32) (x6 : Vec F S1x1x128 .f32) (xt0 : TbBuf0 (F := F) c tbM0_0) (y : S128x1024.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xt0).2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xt0).2.1 S128x1024.size (by sl_kernel_rfl) y

/-- What case A leaves in scratch `arg11`: its pieces read back over junk. -/
def sout0_A_0 (hc0 : cond0_0 i) (hc1 : ¬cond0_1 i)
    (x0 : Vec F S1x4x64 .f32) (x1 : Vec F S8x1024 .f32) (x2 : Vec F S8x1024 .f32) (x3 : Vec F S8x1024 .f32) (x4 : Vec F S1x1x128x1024 .f32) (x5 : Vec F S1x1x128x1024 .f32) (x6 : Vec F S1x1x128 .f32) (xt0 : TbBuf0 (F := F) c tbM0_0) : Vec F S128x1024 .bf16 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xt0).2.1)

/-- Case A's pieces for scratch `arg12`, which the kernel carries between points, cover it: 1 piece of `S128x1` tiling it (Lib/Ring.lean `Piece.tiledL`). -/
theorem scover0_A_1 (hc0 : cond0_0 i) (hc1 : ¬cond0_1 i)
    (x0 : Vec F S1x4x64 .f32) (x1 : Vec F S8x1024 .f32) (x2 : Vec F S8x1024 .f32) (x3 : Vec F S8x1024 .f32) (x4 : Vec F S1x1x128x1024 .f32) (x5 : Vec F S1x1x128x1024 .f32) (x6 : Vec F S1x1x128 .f32) (xt0 : TbBuf0 (F := F) c tbM0_0) (y : S128x1.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xt0).2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xt0).2.2.1 S128x1.size (by sl_kernel_rfl) y

/-- What case A leaves in scratch `arg12`: its pieces read back over junk. -/
def sout0_A_1 (hc0 : cond0_0 i) (hc1 : ¬cond0_1 i)
    (x0 : Vec F S1x4x64 .f32) (x1 : Vec F S8x1024 .f32) (x2 : Vec F S8x1024 .f32) (x3 : Vec F S8x1024 .f32) (x4 : Vec F S1x1x128x1024 .f32) (x5 : Vec F S1x1x128x1024 .f32) (x6 : Vec F S1x1x128 .f32) (xt0 : TbBuf0 (F := F) c tbM0_0) : Vec F S128x1 .f32 :=
  VS0_1.read (Elt F) (VS0_1.writes (Elt F) VS0_1.junk (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xt0).2.2.1)

/-- Case A's pieces for scratch `arg13`, which the kernel carries between points, cover it: 2 pieces of `S128x1` tiling it (Lib/Ring.lean `Piece.tiledL`). -/
theorem scover0_A_2 (hc0 : cond0_0 i) (hc1 : ¬cond0_1 i)
    (x0 : Vec F S1x4x64 .f32) (x1 : Vec F S8x1024 .f32) (x2 : Vec F S8x1024 .f32) (x3 : Vec F S8x1024 .f32) (x4 : Vec F S1x1x128x1024 .f32) (x5 : Vec F S1x1x128x1024 .f32) (x6 : Vec F S1x1x128 .f32) (xt0 : TbBuf0 (F := F) c tbM0_0) (y : S128x1.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xt0).2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xt0).2.2.2.1 S128x1.size (by sl_kernel_rfl) y

/-- What case A leaves in scratch `arg13`: its pieces read back over junk. -/
def sout0_A_2 (hc0 : cond0_0 i) (hc1 : ¬cond0_1 i)
    (x0 : Vec F S1x4x64 .f32) (x1 : Vec F S8x1024 .f32) (x2 : Vec F S8x1024 .f32) (x3 : Vec F S8x1024 .f32) (x4 : Vec F S1x1x128x1024 .f32) (x5 : Vec F S1x1x128x1024 .f32) (x6 : Vec F S1x1x128 .f32) (xt0 : TbBuf0 (F := F) c tbM0_0) : Vec F S128x1 .f32 :=
  VS0_2.read (Elt F) (VS0_2.writes (Elt F) VS0_2.junk (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xt0).2.2.2.1)

/-- Case A's pieces for scratch `arg14`, which the kernel carries between points, cover it: 2 pieces of `S128x1` tiling it (Lib/Ring.lean `Piece.tiledL`). -/
theorem scover0_A_3 (hc0 : cond0_0 i) (hc1 : ¬cond0_1 i)
    (x0 : Vec F S1x4x64 .f32) (x1 : Vec F S8x1024 .f32) (x2 : Vec F S8x1024 .f32) (x3 : Vec F S8x1024 .f32) (x4 : Vec F S1x1x128x1024 .f32) (x5 : Vec F S1x1x128x1024 .f32) (x6 : Vec F S1x1x128 .f32) (xt0 : TbBuf0 (F := F) c tbM0_0) (y : S128x1.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xt0).2.2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xt0).2.2.2.2.1 S128x1.size (by sl_kernel_rfl) y

/-- What case A leaves in scratch `arg14`: its pieces read back over junk. -/
def sout0_A_3 (hc0 : cond0_0 i) (hc1 : ¬cond0_1 i)
    (x0 : Vec F S1x4x64 .f32) (x1 : Vec F S8x1024 .f32) (x2 : Vec F S8x1024 .f32) (x3 : Vec F S8x1024 .f32) (x4 : Vec F S1x1x128x1024 .f32) (x5 : Vec F S1x1x128x1024 .f32) (x6 : Vec F S1x1x128 .f32) (xt0 : TbBuf0 (F := F) c tbM0_0) : Vec F S128x1 .f32 :=
  VS0_3.read (Elt F) (VS0_3.writes (Elt F) VS0_3.junk (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xt0).2.2.2.2.1)

/-- Case A's pieces for scratch `arg15`, which the kernel carries between points, cover it: 2 pieces of `S128x1024` tiling it (Lib/Ring.lean `Piece.tiledL`). -/
theorem scover0_A_4 (hc0 : cond0_0 i) (hc1 : ¬cond0_1 i)
    (x0 : Vec F S1x4x64 .f32) (x1 : Vec F S8x1024 .f32) (x2 : Vec F S8x1024 .f32) (x3 : Vec F S8x1024 .f32) (x4 : Vec F S1x1x128x1024 .f32) (x5 : Vec F S1x1x128x1024 .f32) (x6 : Vec F S1x1x128 .f32) (xt0 : TbBuf0 (F := F) c tbM0_0) (y : S128x1024.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xt0).2.2.2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xt0).2.2.2.2.2.1 S128x1024.size (by sl_kernel_rfl) y

/-- What case A leaves in scratch `arg15`: its pieces read back over junk. -/
def sout0_A_4 (hc0 : cond0_0 i) (hc1 : ¬cond0_1 i)
    (x0 : Vec F S1x4x64 .f32) (x1 : Vec F S8x1024 .f32) (x2 : Vec F S8x1024 .f32) (x3 : Vec F S8x1024 .f32) (x4 : Vec F S1x1x128x1024 .f32) (x5 : Vec F S1x1x128x1024 .f32) (x6 : Vec F S1x1x128 .f32) (xt0 : TbBuf0 (F := F) c tbM0_0) : Vec F S128x1024 .f32 :=
  VS0_4.read (Elt F) (VS0_4.writes (Elt F) VS0_4.junk (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xt0).2.2.2.2.2.1)

/-- Case B stores nothing into output 7 (the window is idle at its points and not written back there):
    no pieces — a placeholder (junk read back) that nothing consults, since at these points the window is neither
    written back nor read at the next point (Lib/Pipeline.lean "Idle points"). -/
def out0_B_7 (hc0 : ¬cond0_0 i) (hc1 : ¬cond0_1 i)
    (x0 : Vec F S1x4x64 .f32) (x1 : Vec F S8x1024 .f32) (x2 : Vec F S8x1024 .f32) (x3 : Vec F S8x1024 .f32) (x4 : Vec F S1x1x128x1024 .f32) (x5 : Vec F S1x1x128x1024 .f32) (x6 : Vec F S1x1x128 .f32) (xt0 : TbBuf0 (F := F) c tbM0_0) (xs0 : Vec F S128x1024 .bf16) (xs1 : Vec F S128x1 .f32) (xs2 : Vec F S128x1 .f32) (xs3 : Vec F S128x1 .f32) (xs4 : Vec F S128x1024 .f32) : Vec F S8x1024 .f32 :=
  VO0_7.read (Elt F) (VO0_7.writes (Elt F) VO0_7.junk (kernelRun0_B c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xt0 xs0 xs1 xs2 xs3 xs4).1)

/-- Case B stores nothing into scratch `arg11`: it holds what the point before left. -/
def sout0_B_0 (c : Dev nD) (i : grid0.Coords) (arg3 : Memref sig .tc .vmem S1x4x64 .f32) (harg3 : arg3.IsWhole) (arg4 : Memref sig .tc .vmem S8x1024 .f32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1x128x1024 .f32) (harg7 : arg7.IsWhole) (arg8 : Memref sig .tc .vmem S1x1x128x1024 .f32) (harg8 : arg8.IsWhole) (arg9 : Memref sig .tc .vmem S1x1x128 .f32) (harg9 : arg9.IsWhole) (arg10 : Memref sig .tc .vmem S8x1024 .f32) (harg10 : arg10.IsWhole) (arg11 : Memref sig .tc .vmem S128x1024 .bf16) (harg11 : arg11.IsWhole) (arg12 : Memref sig .tc .vmem S128x1 .f32) (harg12 : arg12.IsWhole) (arg13 : Memref sig .tc .vmem S128x1 .f32) (harg13 : arg13.IsWhole) (arg14 : Memref sig .tc .vmem S128x1 .f32) (harg14 : arg14.IsWhole) (arg15 : Memref sig .tc .vmem S128x1024 .f32) (harg15 : arg15.IsWhole) (hc0 : ¬cond0_0 i) (hc1 : ¬cond0_1 i)
    (x0 : Vec F S1x4x64 .f32) (x1 : Vec F S8x1024 .f32) (x2 : Vec F S8x1024 .f32) (x3 : Vec F S8x1024 .f32) (x4 : Vec F S1x1x128x1024 .f32) (x5 : Vec F S1x1x128x1024 .f32) (x6 : Vec F S1x1x128 .f32) (xt0 : TbBuf0 (F := F) c tbM0_0) (xs0 : Vec F S128x1024 .bf16) (xs1 : Vec F S128x1 .f32) (xs2 : Vec F S128x1 .f32) (xs3 : Vec F S128x1 .f32) (xs4 : Vec F S128x1024 .f32) : Vec F S128x1024 .bf16 := xs0

/-- Case B stores nothing into scratch `arg12`: it holds what the point before left. -/
def sout0_B_1 (c : Dev nD) (i : grid0.Coords) (arg3 : Memref sig .tc .vmem S1x4x64 .f32) (harg3 : arg3.IsWhole) (arg4 : Memref sig .tc .vmem S8x1024 .f32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1x128x1024 .f32) (harg7 : arg7.IsWhole) (arg8 : Memref sig .tc .vmem S1x1x128x1024 .f32) (harg8 : arg8.IsWhole) (arg9 : Memref sig .tc .vmem S1x1x128 .f32) (harg9 : arg9.IsWhole) (arg10 : Memref sig .tc .vmem S8x1024 .f32) (harg10 : arg10.IsWhole) (arg11 : Memref sig .tc .vmem S128x1024 .bf16) (harg11 : arg11.IsWhole) (arg12 : Memref sig .tc .vmem S128x1 .f32) (harg12 : arg12.IsWhole) (arg13 : Memref sig .tc .vmem S128x1 .f32) (harg13 : arg13.IsWhole) (arg14 : Memref sig .tc .vmem S128x1 .f32) (harg14 : arg14.IsWhole) (arg15 : Memref sig .tc .vmem S128x1024 .f32) (harg15 : arg15.IsWhole) (hc0 : ¬cond0_0 i) (hc1 : ¬cond0_1 i)
    (x0 : Vec F S1x4x64 .f32) (x1 : Vec F S8x1024 .f32) (x2 : Vec F S8x1024 .f32) (x3 : Vec F S8x1024 .f32) (x4 : Vec F S1x1x128x1024 .f32) (x5 : Vec F S1x1x128x1024 .f32) (x6 : Vec F S1x1x128 .f32) (xt0 : TbBuf0 (F := F) c tbM0_0) (xs0 : Vec F S128x1024 .bf16) (xs1 : Vec F S128x1 .f32) (xs2 : Vec F S128x1 .f32) (xs3 : Vec F S128x1 .f32) (xs4 : Vec F S128x1024 .f32) : Vec F S128x1 .f32 := xs1

/-- Case B's pieces for scratch `arg13`, which the kernel carries between points, cover it: 1 piece of `S128x1` tiling it (Lib/Ring.lean `Piece.tiledL`). -/
theorem scover0_B_2 (hc0 : ¬cond0_0 i) (hc1 : ¬cond0_1 i)
    (x0 : Vec F S1x4x64 .f32) (x1 : Vec F S8x1024 .f32) (x2 : Vec F S8x1024 .f32) (x3 : Vec F S8x1024 .f32) (x4 : Vec F S1x1x128x1024 .f32) (x5 : Vec F S1x1x128x1024 .f32) (x6 : Vec F S1x1x128 .f32) (xt0 : TbBuf0 (F := F) c tbM0_0) (xs0 : Vec F S128x1024 .bf16) (xs1 : Vec F S128x1 .f32) (xs2 : Vec F S128x1 .f32) (xs3 : Vec F S128x1 .f32) (xs4 : Vec F S128x1024 .f32) (y : S128x1.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xt0 xs0 xs1 xs2 xs3 xs4).2.2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xt0 xs0 xs1 xs2 xs3 xs4).2.2.2.1 S128x1.size (by sl_kernel_rfl) y

/-- What case B leaves in scratch `arg13`: its pieces read back over junk. -/
def sout0_B_2 (hc0 : ¬cond0_0 i) (hc1 : ¬cond0_1 i)
    (x0 : Vec F S1x4x64 .f32) (x1 : Vec F S8x1024 .f32) (x2 : Vec F S8x1024 .f32) (x3 : Vec F S8x1024 .f32) (x4 : Vec F S1x1x128x1024 .f32) (x5 : Vec F S1x1x128x1024 .f32) (x6 : Vec F S1x1x128 .f32) (xt0 : TbBuf0 (F := F) c tbM0_0) (xs0 : Vec F S128x1024 .bf16) (xs1 : Vec F S128x1 .f32) (xs2 : Vec F S128x1 .f32) (xs3 : Vec F S128x1 .f32) (xs4 : Vec F S128x1024 .f32) : Vec F S128x1 .f32 :=
  VS0_2.read (Elt F) (VS0_2.writes (Elt F) VS0_2.junk (kernelRun0_B c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xt0 xs0 xs1 xs2 xs3 xs4).2.2.2.1)

/-- Case B's pieces for scratch `arg14`, which the kernel carries between points, cover it: 1 piece of `S128x1` tiling it (Lib/Ring.lean `Piece.tiledL`). -/
theorem scover0_B_3 (hc0 : ¬cond0_0 i) (hc1 : ¬cond0_1 i)
    (x0 : Vec F S1x4x64 .f32) (x1 : Vec F S8x1024 .f32) (x2 : Vec F S8x1024 .f32) (x3 : Vec F S8x1024 .f32) (x4 : Vec F S1x1x128x1024 .f32) (x5 : Vec F S1x1x128x1024 .f32) (x6 : Vec F S1x1x128 .f32) (xt0 : TbBuf0 (F := F) c tbM0_0) (xs0 : Vec F S128x1024 .bf16) (xs1 : Vec F S128x1 .f32) (xs2 : Vec F S128x1 .f32) (xs3 : Vec F S128x1 .f32) (xs4 : Vec F S128x1024 .f32) (y : S128x1.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xt0 xs0 xs1 xs2 xs3 xs4).2.2.2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xt0 xs0 xs1 xs2 xs3 xs4).2.2.2.2.1 S128x1.size (by sl_kernel_rfl) y

/-- What case B leaves in scratch `arg14`: its pieces read back over junk. -/
def sout0_B_3 (hc0 : ¬cond0_0 i) (hc1 : ¬cond0_1 i)
    (x0 : Vec F S1x4x64 .f32) (x1 : Vec F S8x1024 .f32) (x2 : Vec F S8x1024 .f32) (x3 : Vec F S8x1024 .f32) (x4 : Vec F S1x1x128x1024 .f32) (x5 : Vec F S1x1x128x1024 .f32) (x6 : Vec F S1x1x128 .f32) (xt0 : TbBuf0 (F := F) c tbM0_0) (xs0 : Vec F S128x1024 .bf16) (xs1 : Vec F S128x1 .f32) (xs2 : Vec F S128x1 .f32) (xs3 : Vec F S128x1 .f32) (xs4 : Vec F S128x1024 .f32) : Vec F S128x1 .f32 :=
  VS0_3.read (Elt F) (VS0_3.writes (Elt F) VS0_3.junk (kernelRun0_B c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xt0 xs0 xs1 xs2 xs3 xs4).2.2.2.2.1)

/-- Case B's pieces for scratch `arg15`, which the kernel carries between points, cover it: 1 piece of `S128x1024` tiling it (Lib/Ring.lean `Piece.tiledL`). -/
theorem scover0_B_4 (hc0 : ¬cond0_0 i) (hc1 : ¬cond0_1 i)
    (x0 : Vec F S1x4x64 .f32) (x1 : Vec F S8x1024 .f32) (x2 : Vec F S8x1024 .f32) (x3 : Vec F S8x1024 .f32) (x4 : Vec F S1x1x128x1024 .f32) (x5 : Vec F S1x1x128x1024 .f32) (x6 : Vec F S1x1x128 .f32) (xt0 : TbBuf0 (F := F) c tbM0_0) (xs0 : Vec F S128x1024 .bf16) (xs1 : Vec F S128x1 .f32) (xs2 : Vec F S128x1 .f32) (xs3 : Vec F S128x1 .f32) (xs4 : Vec F S128x1024 .f32) (y : S128x1024.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xt0 xs0 xs1 xs2 xs3 xs4).2.2.2.2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xt0 xs0 xs1 xs2 xs3 xs4).2.2.2.2.2.1 S128x1024.size (by sl_kernel_rfl) y

/-- What case B leaves in scratch `arg15`: its pieces read back over junk. -/
def sout0_B_4 (hc0 : ¬cond0_0 i) (hc1 : ¬cond0_1 i)
    (x0 : Vec F S1x4x64 .f32) (x1 : Vec F S8x1024 .f32) (x2 : Vec F S8x1024 .f32) (x3 : Vec F S8x1024 .f32) (x4 : Vec F S1x1x128x1024 .f32) (x5 : Vec F S1x1x128x1024 .f32) (x6 : Vec F S1x1x128 .f32) (xt0 : TbBuf0 (F := F) c tbM0_0) (xs0 : Vec F S128x1024 .bf16) (xs1 : Vec F S128x1 .f32) (xs2 : Vec F S128x1 .f32) (xs3 : Vec F S128x1 .f32) (xs4 : Vec F S128x1024 .f32) : Vec F S128x1024 .f32 :=
  VS0_4.read (Elt F) (VS0_4.writes (Elt F) VS0_4.junk (kernelRun0_B c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xt0 xs0 xs1 xs2 xs3 xs4).2.2.2.2.2.1)

/-- Case C's pieces for output 7 tile its block (8 stores of `S8x128`, checked by the kernel's evaluation: Lib/Ring.lean `Piece.tiledL`, linear in the pieces, through a loop's `@[irreducible]` trip theorem too), so they cover it. -/
theorem cover0_C_7 (hc0 : ¬cond0_0 i) (hc1 : cond0_1 i)
    (x0 : Vec F S1x4x64 .f32) (x1 : Vec F S8x1024 .f32) (x2 : Vec F S8x1024 .f32) (x3 : Vec F S8x1024 .f32) (x4 : Vec F S1x1x128x1024 .f32) (x5 : Vec F S1x1x128x1024 .f32) (x6 : Vec F S1x1x128 .f32) (xt0 : TbBuf0 (F := F) c tbM0_0) (xs0 : Vec F S128x1024 .bf16) (xs1 : Vec F S128x1 .f32) (xs2 : Vec F S128x1 .f32) (xs3 : Vec F S128x1 .f32) (xs4 : Vec F S128x1024 .f32) (y : S8x1024.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xt0 xs0 xs1 xs2 xs3 xs4).1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xt0 xs0 xs1 xs2 xs3 xs4).1 S8x128.size (by sl_kernel_rfl) y

/-- What case C leaves in output 7's staging buffer: its pieces read back over junk. -/
def out0_C_7 (hc0 : ¬cond0_0 i) (hc1 : cond0_1 i)
    (x0 : Vec F S1x4x64 .f32) (x1 : Vec F S8x1024 .f32) (x2 : Vec F S8x1024 .f32) (x3 : Vec F S8x1024 .f32) (x4 : Vec F S1x1x128x1024 .f32) (x5 : Vec F S1x1x128x1024 .f32) (x6 : Vec F S1x1x128 .f32) (xt0 : TbBuf0 (F := F) c tbM0_0) (xs0 : Vec F S128x1024 .bf16) (xs1 : Vec F S128x1 .f32) (xs2 : Vec F S128x1 .f32) (xs3 : Vec F S128x1 .f32) (xs4 : Vec F S128x1024 .f32) : Vec F S8x1024 .f32 :=
  VO0_7.read (Elt F) (VO0_7.writes (Elt F) VO0_7.junk (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xt0 xs0 xs1 xs2 xs3 xs4).1)

/-- Case C stores nothing into scratch `arg11`: it holds what the point before left. -/
def sout0_C_0 (c : Dev nD) (i : grid0.Coords) (arg3 : Memref sig .tc .vmem S1x4x64 .f32) (harg3 : arg3.IsWhole) (arg4 : Memref sig .tc .vmem S8x1024 .f32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1x128x1024 .f32) (harg7 : arg7.IsWhole) (arg8 : Memref sig .tc .vmem S1x1x128x1024 .f32) (harg8 : arg8.IsWhole) (arg9 : Memref sig .tc .vmem S1x1x128 .f32) (harg9 : arg9.IsWhole) (arg10 : Memref sig .tc .vmem S8x1024 .f32) (harg10 : arg10.IsWhole) (arg11 : Memref sig .tc .vmem S128x1024 .bf16) (harg11 : arg11.IsWhole) (arg12 : Memref sig .tc .vmem S128x1 .f32) (harg12 : arg12.IsWhole) (arg13 : Memref sig .tc .vmem S128x1 .f32) (harg13 : arg13.IsWhole) (arg14 : Memref sig .tc .vmem S128x1 .f32) (harg14 : arg14.IsWhole) (arg15 : Memref sig .tc .vmem S128x1024 .f32) (harg15 : arg15.IsWhole) (hc0 : ¬cond0_0 i) (hc1 : cond0_1 i)
    (x0 : Vec F S1x4x64 .f32) (x1 : Vec F S8x1024 .f32) (x2 : Vec F S8x1024 .f32) (x3 : Vec F S8x1024 .f32) (x4 : Vec F S1x1x128x1024 .f32) (x5 : Vec F S1x1x128x1024 .f32) (x6 : Vec F S1x1x128 .f32) (xt0 : TbBuf0 (F := F) c tbM0_0) (xs0 : Vec F S128x1024 .bf16) (xs1 : Vec F S128x1 .f32) (xs2 : Vec F S128x1 .f32) (xs3 : Vec F S128x1 .f32) (xs4 : Vec F S128x1024 .f32) : Vec F S128x1024 .bf16 := xs0

/-- Case C stores nothing into scratch `arg12`: it holds what the point before left. -/
def sout0_C_1 (c : Dev nD) (i : grid0.Coords) (arg3 : Memref sig .tc .vmem S1x4x64 .f32) (harg3 : arg3.IsWhole) (arg4 : Memref sig .tc .vmem S8x1024 .f32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1x128x1024 .f32) (harg7 : arg7.IsWhole) (arg8 : Memref sig .tc .vmem S1x1x128x1024 .f32) (harg8 : arg8.IsWhole) (arg9 : Memref sig .tc .vmem S1x1x128 .f32) (harg9 : arg9.IsWhole) (arg10 : Memref sig .tc .vmem S8x1024 .f32) (harg10 : arg10.IsWhole) (arg11 : Memref sig .tc .vmem S128x1024 .bf16) (harg11 : arg11.IsWhole) (arg12 : Memref sig .tc .vmem S128x1 .f32) (harg12 : arg12.IsWhole) (arg13 : Memref sig .tc .vmem S128x1 .f32) (harg13 : arg13.IsWhole) (arg14 : Memref sig .tc .vmem S128x1 .f32) (harg14 : arg14.IsWhole) (arg15 : Memref sig .tc .vmem S128x1024 .f32) (harg15 : arg15.IsWhole) (hc0 : ¬cond0_0 i) (hc1 : cond0_1 i)
    (x0 : Vec F S1x4x64 .f32) (x1 : Vec F S8x1024 .f32) (x2 : Vec F S8x1024 .f32) (x3 : Vec F S8x1024 .f32) (x4 : Vec F S1x1x128x1024 .f32) (x5 : Vec F S1x1x128x1024 .f32) (x6 : Vec F S1x1x128 .f32) (xt0 : TbBuf0 (F := F) c tbM0_0) (xs0 : Vec F S128x1024 .bf16) (xs1 : Vec F S128x1 .f32) (xs2 : Vec F S128x1 .f32) (xs3 : Vec F S128x1 .f32) (xs4 : Vec F S128x1024 .f32) : Vec F S128x1 .f32 := xs1

/-- Case C's pieces for scratch `arg13`, which the kernel carries between points, cover it: 2 pieces of `S128x1` tiling it (Lib/Ring.lean `Piece.tiledL`). -/
theorem scover0_C_2 (hc0 : ¬cond0_0 i) (hc1 : cond0_1 i)
    (x0 : Vec F S1x4x64 .f32) (x1 : Vec F S8x1024 .f32) (x2 : Vec F S8x1024 .f32) (x3 : Vec F S8x1024 .f32) (x4 : Vec F S1x1x128x1024 .f32) (x5 : Vec F S1x1x128x1024 .f32) (x6 : Vec F S1x1x128 .f32) (xt0 : TbBuf0 (F := F) c tbM0_0) (xs0 : Vec F S128x1024 .bf16) (xs1 : Vec F S128x1 .f32) (xs2 : Vec F S128x1 .f32) (xs3 : Vec F S128x1 .f32) (xs4 : Vec F S128x1024 .f32) (y : S128x1.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xt0 xs0 xs1 xs2 xs3 xs4).2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xt0 xs0 xs1 xs2 xs3 xs4).2.2.2.1 S128x1.size (by sl_kernel_rfl) y

/-- What case C leaves in scratch `arg13`: its pieces read back over junk. -/
def sout0_C_2 (hc0 : ¬cond0_0 i) (hc1 : cond0_1 i)
    (x0 : Vec F S1x4x64 .f32) (x1 : Vec F S8x1024 .f32) (x2 : Vec F S8x1024 .f32) (x3 : Vec F S8x1024 .f32) (x4 : Vec F S1x1x128x1024 .f32) (x5 : Vec F S1x1x128x1024 .f32) (x6 : Vec F S1x1x128 .f32) (xt0 : TbBuf0 (F := F) c tbM0_0) (xs0 : Vec F S128x1024 .bf16) (xs1 : Vec F S128x1 .f32) (xs2 : Vec F S128x1 .f32) (xs3 : Vec F S128x1 .f32) (xs4 : Vec F S128x1024 .f32) : Vec F S128x1 .f32 :=
  VS0_2.read (Elt F) (VS0_2.writes (Elt F) VS0_2.junk (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xt0 xs0 xs1 xs2 xs3 xs4).2.2.2.1)

/-- Case C's pieces for scratch `arg14`, which the kernel carries between points, cover it: 2 pieces of `S128x1` tiling it (Lib/Ring.lean `Piece.tiledL`). -/
theorem scover0_C_3 (hc0 : ¬cond0_0 i) (hc1 : cond0_1 i)
    (x0 : Vec F S1x4x64 .f32) (x1 : Vec F S8x1024 .f32) (x2 : Vec F S8x1024 .f32) (x3 : Vec F S8x1024 .f32) (x4 : Vec F S1x1x128x1024 .f32) (x5 : Vec F S1x1x128x1024 .f32) (x6 : Vec F S1x1x128 .f32) (xt0 : TbBuf0 (F := F) c tbM0_0) (xs0 : Vec F S128x1024 .bf16) (xs1 : Vec F S128x1 .f32) (xs2 : Vec F S128x1 .f32) (xs3 : Vec F S128x1 .f32) (xs4 : Vec F S128x1024 .f32) (y : S128x1.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xt0 xs0 xs1 xs2 xs3 xs4).2.2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xt0 xs0 xs1 xs2 xs3 xs4).2.2.2.2.1 S128x1.size (by sl_kernel_rfl) y

/-- What case C leaves in scratch `arg14`: its pieces read back over junk. -/
def sout0_C_3 (hc0 : ¬cond0_0 i) (hc1 : cond0_1 i)
    (x0 : Vec F S1x4x64 .f32) (x1 : Vec F S8x1024 .f32) (x2 : Vec F S8x1024 .f32) (x3 : Vec F S8x1024 .f32) (x4 : Vec F S1x1x128x1024 .f32) (x5 : Vec F S1x1x128x1024 .f32) (x6 : Vec F S1x1x128 .f32) (xt0 : TbBuf0 (F := F) c tbM0_0) (xs0 : Vec F S128x1024 .bf16) (xs1 : Vec F S128x1 .f32) (xs2 : Vec F S128x1 .f32) (xs3 : Vec F S128x1 .f32) (xs4 : Vec F S128x1024 .f32) : Vec F S128x1 .f32 :=
  VS0_3.read (Elt F) (VS0_3.writes (Elt F) VS0_3.junk (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xt0 xs0 xs1 xs2 xs3 xs4).2.2.2.2.1)

/-- Case C's pieces for scratch `arg15`, which the kernel carries between points, cover it: 2 pieces of `S128x1024` tiling it (Lib/Ring.lean `Piece.tiledL`). -/
theorem scover0_C_4 (hc0 : ¬cond0_0 i) (hc1 : cond0_1 i)
    (x0 : Vec F S1x4x64 .f32) (x1 : Vec F S8x1024 .f32) (x2 : Vec F S8x1024 .f32) (x3 : Vec F S8x1024 .f32) (x4 : Vec F S1x1x128x1024 .f32) (x5 : Vec F S1x1x128x1024 .f32) (x6 : Vec F S1x1x128 .f32) (xt0 : TbBuf0 (F := F) c tbM0_0) (xs0 : Vec F S128x1024 .bf16) (xs1 : Vec F S128x1 .f32) (xs2 : Vec F S128x1 .f32) (xs3 : Vec F S128x1 .f32) (xs4 : Vec F S128x1024 .f32) (y : S128x1024.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xt0 xs0 xs1 xs2 xs3 xs4).2.2.2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xt0 xs0 xs1 xs2 xs3 xs4).2.2.2.2.2.1 S128x1024.size (by sl_kernel_rfl) y

/-- What case C leaves in scratch `arg15`: its pieces read back over junk. -/
def sout0_C_4 (hc0 : ¬cond0_0 i) (hc1 : cond0_1 i)
    (x0 : Vec F S1x4x64 .f32) (x1 : Vec F S8x1024 .f32) (x2 : Vec F S8x1024 .f32) (x3 : Vec F S8x1024 .f32) (x4 : Vec F S1x1x128x1024 .f32) (x5 : Vec F S1x1x128x1024 .f32) (x6 : Vec F S1x1x128 .f32) (xt0 : TbBuf0 (F := F) c tbM0_0) (xs0 : Vec F S128x1024 .bf16) (xs1 : Vec F S128x1 .f32) (xs2 : Vec F S128x1 .f32) (xs3 : Vec F S128x1 .f32) (xs4 : Vec F S128x1024 .f32) : Vec F S128x1024 .f32 :=
  VS0_4.read (Elt F) (VS0_4.writes (Elt F) VS0_4.junk (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xt0 xs0 xs1 xs2 xs3 xs4).2.2.2.2.2.1)

end Pieces

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (hO : Ok m) (c : Dev nD) : (n : ℕ) → n < (cfgM m hO).N → Vec F S8x1024 .f32 × Vec F S128x1024 .bf16 × Vec F S128x1 .f32 × Vec F S128x1 .f32 × Vec F S128x1 .f32 × Vec F S128x1024 .f32
  | 0, hn => (out0_A_7 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (tbl m 0), sout0_A_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (tbl m 0), sout0_A_1 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (tbl m 0), sout0_A_2 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (tbl m 0), sout0_A_3 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (tbl m 0), sout0_A_4 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (tbl m 0))
  | n + 1, hn =>
    if h0 : (n + 1) % 16 = 0 then
      if h1 : (n + 1) % 16 = 15 then
        False.elim (by have hN : n + 1 < 2048 := lt_of_lt_of_eq hn (show (cfgM m hO).N = 2048 from N_0); omega)
      else
        (out0_A_7 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (tbl m 0), sout0_A_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (tbl m 0), sout0_A_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (tbl m 0), sout0_A_2 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (tbl m 0), sout0_A_3 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (tbl m 0), sout0_A_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (tbl m 0))
    else
      if h1 : (n + 1) % 16 = 15 then
        (out0_C_7 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (tbl m 0) (outsAt0 hO c n (Nat.lt_of_succ_lt hn)).2.1 (outsAt0 hO c n (Nat.lt_of_succ_lt hn)).2.2.1 (outsAt0 hO c n (Nat.lt_of_succ_lt hn)).2.2.2.1 (outsAt0 hO c n (Nat.lt_of_succ_lt hn)).2.2.2.2.1 (outsAt0 hO c n (Nat.lt_of_succ_lt hn)).2.2.2.2.2, sout0_C_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (tbl m 0) (outsAt0 hO c n (Nat.lt_of_succ_lt hn)).2.1 (outsAt0 hO c n (Nat.lt_of_succ_lt hn)).2.2.1 (outsAt0 hO c n (Nat.lt_of_succ_lt hn)).2.2.2.1 (outsAt0 hO c n (Nat.lt_of_succ_lt hn)).2.2.2.2.1 (outsAt0 hO c n (Nat.lt_of_succ_lt hn)).2.2.2.2.2, sout0_C_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (tbl m 0) (outsAt0 hO c n (Nat.lt_of_succ_lt hn)).2.1 (outsAt0 hO c n (Nat.lt_of_succ_lt hn)).2.2.1 (outsAt0 hO c n (Nat.lt_of_succ_lt hn)).2.2.2.1 (outsAt0 hO c n (Nat.lt_of_succ_lt hn)).2.2.2.2.1 (outsAt0 hO c n (Nat.lt_of_succ_lt hn)).2.2.2.2.2, sout0_C_2 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (tbl m 0) (outsAt0 hO c n (Nat.lt_of_succ_lt hn)).2.1 (outsAt0 hO c n (Nat.lt_of_succ_lt hn)).2.2.1 (outsAt0 hO c n (Nat.lt_of_succ_lt hn)).2.2.2.1 (outsAt0 hO c n (Nat.lt_of_succ_lt hn)).2.2.2.2.1 (outsAt0 hO c n (Nat.lt_of_succ_lt hn)).2.2.2.2.2, sout0_C_3 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (tbl m 0) (outsAt0 hO c n (Nat.lt_of_succ_lt hn)).2.1 (outsAt0 hO c n (Nat.lt_of_succ_lt hn)).2.2.1 (outsAt0 hO c n (Nat.lt_of_succ_lt hn)).2.2.2.1 (outsAt0 hO c n (Nat.lt_of_succ_lt hn)).2.2.2.2.1 (outsAt0 hO c n (Nat.lt_of_succ_lt hn)).2.2.2.2.2, sout0_C_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (tbl m 0) (outsAt0 hO c n (Nat.lt_of_succ_lt hn)).2.1 (outsAt0 hO c n (Nat.lt_of_succ_lt hn)).2.2.1 (outsAt0 hO c n (Nat.lt_of_succ_lt hn)).2.2.2.1 (outsAt0 hO c n (Nat.lt_of_succ_lt hn)).2.2.2.2.1 (outsAt0 hO c n (Nat.lt_of_succ_lt hn)).2.2.2.2.2)
      else
        (out0_B_7 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (tbl m 0) (outsAt0 hO c n (Nat.lt_of_succ_lt hn)).2.1 (outsAt0 hO c n (Nat.lt_of_succ_lt hn)).2.2.1 (outsAt0 hO c n (Nat.lt_of_succ_lt hn)).2.2.2.1 (outsAt0 hO c n (Nat.lt_of_succ_lt hn)).2.2.2.2.1 (outsAt0 hO c n (Nat.lt_of_succ_lt hn)).2.2.2.2.2, sout0_B_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (tbl m 0) (outsAt0 hO c n (Nat.lt_of_succ_lt hn)).2.1 (outsAt0 hO c n (Nat.lt_of_succ_lt hn)).2.2.1 (outsAt0 hO c n (Nat.lt_of_succ_lt hn)).2.2.2.1 (outsAt0 hO c n (Nat.lt_of_succ_lt hn)).2.2.2.2.1 (outsAt0 hO c n (Nat.lt_of_succ_lt hn)).2.2.2.2.2, sout0_B_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (tbl m 0) (outsAt0 hO c n (Nat.lt_of_succ_lt hn)).2.1 (outsAt0 hO c n (Nat.lt_of_succ_lt hn)).2.2.1 (outsAt0 hO c n (Nat.lt_of_succ_lt hn)).2.2.2.1 (outsAt0 hO c n (Nat.lt_of_succ_lt hn)).2.2.2.2.1 (outsAt0 hO c n (Nat.lt_of_succ_lt hn)).2.2.2.2.2, sout0_B_2 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (tbl m 0) (outsAt0 hO c n (Nat.lt_of_succ_lt hn)).2.1 (outsAt0 hO c n (Nat.lt_of_succ_lt hn)).2.2.1 (outsAt0 hO c n (Nat.lt_of_succ_lt hn)).2.2.2.1 (outsAt0 hO c n (Nat.lt_of_succ_lt hn)).2.2.2.2.1 (outsAt0 hO c n (Nat.lt_of_succ_lt hn)).2.2.2.2.2, sout0_B_3 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (tbl m 0) (outsAt0 hO c n (Nat.lt_of_succ_lt hn)).2.1 (outsAt0 hO c n (Nat.lt_of_succ_lt hn)).2.2.1 (outsAt0 hO c n (Nat.lt_of_succ_lt hn)).2.2.2.1 (outsAt0 hO c n (Nat.lt_of_succ_lt hn)).2.2.2.2.1 (outsAt0 hO c n (Nat.lt_of_succ_lt hn)).2.2.2.2.2, sout0_B_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (tbl m 0) (outsAt0 hO c n (Nat.lt_of_succ_lt hn)).2.1 (outsAt0 hO c n (Nat.lt_of_succ_lt hn)).2.2.1 (outsAt0 hO c n (Nat.lt_of_succ_lt hn)).2.2.2.1 (outsAt0 hO c n (Nat.lt_of_succ_lt hn)).2.2.2.2.1 (outsAt0 hO c n (Nat.lt_of_succ_lt hn)).2.2.2.2.2)

/-- `outsAt0` at a point of case A: that case's contents. -/
theorem outsAt0_A (hO : Ok m) (c : Dev nD) (t : Fin (cfgM m hO).N) (h0 : t.val % 16 = 0) (h1 : ¬t.val % 16 = 15) :
    outsAt0 m hO c t.val t.isLt = (out0_A_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (tbl m 0), sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (tbl m 0), sout0_A_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (tbl m 0), sout0_A_2 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (tbl m 0), sout0_A_3 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (tbl m 0), sout0_A_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (tbl m 0)) := by
  obtain ⟨n, hn⟩ := t
  cases n with
  | zero => exact rfl
  | succ n => exact (dif_pos h0).trans ((dif_neg h1).trans rfl)

/-- `outsAt0` at a point of case B: that case's contents, over what the point before left. -/
theorem outsAt0_B (hO : Ok m) (c : Dev nD) (t : Fin (cfgM m hO).N) (h0 : ¬t.val % 16 = 0) (h1 : ¬t.val % 16 = 15) :
    outsAt0 m hO c t.val t.isLt = (out0_B_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2.1 (outsAt0 m hO c (t.val - 1) (Nat.lt_of_le_of_lt (Nat.sub_le _ _) t.isLt)).2.2.2.2.1 (outsAt0 m hO c (t.val - 1) (Nat.lt_of_le_of_lt (Nat.sub_le _ _) t.isLt)).2.2.2.2.2, sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2.1 (outsAt0 m hO c (t.val - 1) (Nat.lt_of_le_of_lt (Nat.sub_le _ _) t.isLt)).2.2.2.2.1 (outsAt0 m hO c (t.val - 1) (Nat.lt_of_le_of_lt (Nat.sub_le _ _) t.isLt)).2.2.2.2.2, sout0_B_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2.1 (outsAt0 m hO c (t.val - 1) (Nat.lt_of_le_of_lt (Nat.sub_le _ _) t.isLt)).2.2.2.2.1 (outsAt0 m hO c (t.val - 1) (Nat.lt_of_le_of_lt (Nat.sub_le _ _) t.isLt)).2.2.2.2.2, sout0_B_2 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2.1 (outsAt0 m hO c (t.val - 1) (Nat.lt_of_le_of_lt (Nat.sub_le _ _) t.isLt)).2.2.2.2.1 (outsAt0 m hO c (t.val - 1) (Nat.lt_of_le_of_lt (Nat.sub_le _ _) t.isLt)).2.2.2.2.2, sout0_B_3 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2.1 (outsAt0 m hO c (t.val - 1) (Nat.lt_of_le_of_lt (Nat.sub_le _ _) t.isLt)).2.2.2.2.1 (outsAt0 m hO c (t.val - 1) (Nat.lt_of_le_of_lt (Nat.sub_le _ _) t.isLt)).2.2.2.2.2, sout0_B_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2.1 (outsAt0 m hO c (t.val - 1) (Nat.lt_of_le_of_lt (Nat.sub_le _ _) t.isLt)).2.2.2.2.1 (outsAt0 m hO c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (hO : Ok m) (c : Dev nD) (t : Fin (cfgM m hO).N) (h0 : ¬t.val % 16 = 0) (h1 : t.val % 16 = 15) :
    outsAt0 m hO c t.val t.isLt = (out0_C_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2.1 (outsAt0 m hO c (t.val - 1) (Nat.lt_of_le_of_lt (Nat.sub_le _ _) t.isLt)).2.2.2.2.1 (outsAt0 m hO c (t.val - 1) (Nat.lt_of_le_of_lt (Nat.sub_le _ _) t.isLt)).2.2.2.2.2, sout0_C_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2.1 (outsAt0 m hO c (t.val - 1) (Nat.lt_of_le_of_lt (Nat.sub_le _ _) t.isLt)).2.2.2.2.1 (outsAt0 m hO c (t.val - 1) (Nat.lt_of_le_of_lt (Nat.sub_le _ _) t.isLt)).2.2.2.2.2, sout0_C_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2.1 (outsAt0 m hO c (t.val - 1) (Nat.lt_of_le_of_lt (Nat.sub_le _ _) t.isLt)).2.2.2.2.1 (outsAt0 m hO c (t.val - 1) (Nat.lt_of_le_of_lt (Nat.sub_le _ _) t.isLt)).2.2.2.2.2, sout0_C_2 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2.1 (outsAt0 m hO c (t.val - 1) (Nat.lt_of_le_of_lt (Nat.sub_le _ _) t.isLt)).2.2.2.2.1 (outsAt0 m hO c (t.val - 1) (Nat.lt_of_le_of_lt (Nat.sub_le _ _) t.isLt)).2.2.2.2.2, sout0_C_3 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2.1 (outsAt0 m hO c (t.val - 1) (Nat.lt_of_le_of_lt (Nat.sub_le _ _) t.isLt)).2.2.2.2.1 (outsAt0 m hO c (t.val - 1) (Nat.lt_of_le_of_lt (Nat.sub_le _ _) t.isLt)).2.2.2.2.2, sout0_C_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2.1 (outsAt0 m hO c (t.val - 1) (Nat.lt_of_le_of_lt (Nat.sub_le _ _) t.isLt)).2.2.2.2.1 (outsAt0 m hO c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO c n hn).2.1) ∗ owns (c : Thread nD τ) scM0_1 fullShare ((outsAt0 m hO c n hn).2.2.1) ∗ owns (c : Thread nD τ) scM0_2 fullShare ((outsAt0 m hO c n hn).2.2.2.1) ∗ owns (c : Thread nD τ) scM0_3 fullShare ((outsAt0 m hO c n hn).2.2.2.2.1) ∗ owns (c : Thread nD τ) scM0_4 fullShare ((outsAt0 m hO c n hn).2.2.2.2.2)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare ((outsAt0 m hO c n hn).2.1) ∗ owns (c : Thread nD τ) scM0_1 fullShare ((outsAt0 m hO c n hn).2.2.1) ∗ owns (c : Thread nD τ) scM0_2 fullShare ((outsAt0 m hO c n hn).2.2.2.1) ∗ owns (c : Thread nD τ) scM0_3 fullShare ((outsAt0 m hO c n hn).2.2.2.2.1) ∗ owns (c : Thread nD τ) scM0_4 fullShare ((outsAt0 m hO c n hn).2.2.2.2.2)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).2.1) ∗ owns (c : Thread nD τ) scM0_1 fullShare ((outsAt0 m hO c (n - 1) (by omega)).2.2.1) ∗ owns (c : Thread nD τ) scM0_2 fullShare ((outsAt0 m hO c (n - 1) (by omega)).2.2.2.1) ∗ owns (c : Thread nD τ) scM0_3 fullShare ((outsAt0 m hO c (n - 1) (by omega)).2.2.2.2.1) ∗ owns (c : Thread nD τ) scM0_4 fullShare ((outsAt0 m hO c (n - 1) (by omega)).2.2.2.2.2)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    each input's share of its array
    (`Pipeline.shareOf`: the full share of an array several windows stage, dealt among them). -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => (outsAt0 m hO c t.val t.isLt).1
  Φ t := PhiS m hO c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = (outsAt0 m hO c t.val t.isLt).1 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t)

set_option maxHeartbeats 14400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  have hN : t.val < 2048 := lt_of_lt_of_eq t.isLt (show (cfgM m hO).N = 2048 from N_0)
  by_cases h0 : t.val % 16 = 0
  · by_cases h1 : t.val % 16 = 15
    · exfalso; omega
    · rw [show (dats m hO 0 c).leavesExact 0 t = owns (c : Thread nD τ) (ms0_0 m hO t) fullShare ((dats m hO 0 c).after 0 t) from by
      unfold Dat.leavesExact; rw [liveAt0_0 m hO t]; try rfl, after0_0]
      rw [show (dats m hO 0 c).leavesExact 1 t = owns (c : Thread nD τ) (ms0_1 m hO t) fullShare ((dats m hO 0 c).after 1 t) from by
      unfold Dat.leavesExact; rw [liveAt0_1 m hO t]; try rfl, after0_1]
      rw [show (dats m hO 0 c).leavesExact 2 t = owns (c : Thread nD τ) (ms0_2 m hO t) fullShare ((dats m hO 0 c).after 2 t) from by
      unfold Dat.leavesExact; rw [liveAt0_2 m hO t]; try rfl, after0_2]
      rw [show (dats m hO 0 c).leavesExact 3 t = owns (c : Thread nD τ) (ms0_3 m hO t) fullShare ((dats m hO 0 c).after 3 t) from by
      unfold Dat.leavesExact; rw [liveAt0_3 m hO t]; try rfl, after0_3]
      rw [show (dats m hO 0 c).leavesExact 4 t = owns (c : Thread nD τ) (ms0_4 m hO t) fullShare ((dats m hO 0 c).after 4 t) from by
      unfold Dat.leavesExact; rw [liveAt0_4 m hO t]; try rfl, after0_4]
      rw [show (dats m hO 0 c).leavesExact 5 t = owns (c : Thread nD τ) (ms0_5 m hO t) fullShare ((dats m hO 0 c).after 5 t) from by
      unfold Dat.leavesExact; rw [liveAt0_5 m hO t]; try rfl, after0_5]
      rw [show (dats m hO 0 c).leavesExact 6 t = owns (c : Thread nD τ) (ms0_6 m hO t) fullShare ((dats m hO 0 c).after 6 t) from by
      unfold Dat.leavesExact; rw [liveAt0_6 m hO t]; try rfl, after0_6]
      rw [Dat.leavesExact_idle (dats m hO 0 c) 7 t (idleAt0_7_A m hO t ((hcond0_0 t).mpr h0) (fun h => h1 ((hcond0_1 t).mp h))) (noFlush0_7_A m hO t ((hcond0_0 t).mpr h0) (fun h => h1 ((hcond0_1 t).mp h)))]
      by_cases hz : t.val = 0
      · rw [PhiS_castSucc m hO c t, PhiS_zero m hO c _ _ hz, PhiT0_eq, PhiA0_eq]
        rw [outsAt0_A m hO c t h0 h1]
        unfold sout0_A_0 sout0_A_1 sout0_A_2 sout0_A_3 sout0_A_4; (try dsimp only)
        iintro ⟨⟨⟨⟨HS0, HS1, HS2, HS3, HS4⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ _ _ _ _ _ _ _ _ ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (tbl m 0)).2.2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        isplitl [HS2]; · iexact HS2
        isplitl [HS3]; · iexact HS3
        isplitl [HS4]; · iexact HS4
        isplitl [HT0]; · iexact HT0
        iintro ⟨H0, H1, H2, H3, H4, H5, H6, H7, ⟨%es0, HS0⟩, ⟨%es1, HS1⟩, ⟨%es2, HS2⟩, ⟨%es3, HS3⟩, ⟨%es4, HS4⟩, HT0⟩
        isplitl [HS0 HS1 HS2 HS3 HS4 Hg HT0]
        · isplitl [HS0 HS1 HS2 HS3 HS4 Hg]
          · isplitl [HS0 HS1 HS2 HS3 HS4]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _ _ _ _ _ _ _ _ _ _ _ _ _ _ _)
              isplitl [HS2]
              · unfold owns; iexists _; isplitr
                swap; · iexact HS2
                ipureintro; exact View.read_writes_of_cover _ _ _ _ _ (scover0_A_2 c _ _ _ _ _ _ _ _ _ _ _ _ _ _ _ _ _ _ _ _ _ _ _ _ _ _ _ _ _ _ _ _ _ _ _ _ _)
              isplitl [HS3]
              · unfold owns; iexists _; isplitr
                swap; · iexact HS3
                ipureintro; exact View.read_writes_of_cover _ _ _ _ _ (scover0_A_3 c _ _ _ _ _ _ _ _ _ _ _ _ _ _ _ _ _ _ _ _ _ _ _ _ _ _ _ _ _ _ _ _ _ _ _ _ _)
              unfold owns; iexists _; isplitr
              swap; · iexact HS4
              ipureintro; exact View.read_writes_of_cover _ _ _ _ _ (scover0_A_4 c _ _ _ _ _ _ _ _ _ _ _ _ _ _ _ _ _ _ _ _ _ _ _ _ _ _ _ _ _ _ _ _ _ _ _ _ _)
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
      · rw [PhiS_castSucc m hO c t, PhiS_pos m hO c _ _ hz, PhiT0_eq]
        rw [outsAt0_A m hO c t h0 h1]
        unfold sout0_A_0 sout0_A_1 sout0_A_2 sout0_A_3 sout0_A_4; (try dsimp only)
        iintro ⟨⟨⟨⟨HS0, HS1, HS2, HS3, HS4⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ _ _ _ _ _ _ _ _ ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (tbl m 0)).2.2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexists _; iexact HS0
        isplitl [HS1]; · iexists _; iexact HS1
        isplitl [HS2]; · iexists _; iexact HS2
        isplitl [HS3]; · iexists _; iexact HS3
        isplitl [HS4]; · iexists _; iexact HS4
        isplitl [HT0]; · iexact HT0
        iintro ⟨H0, H1, H2, H3, H4, H5, H6, H7, ⟨%es0, HS0⟩, ⟨%es1, HS1⟩, ⟨%es2, HS2⟩, ⟨%es3, HS3⟩, ⟨%es4, HS4⟩, HT0⟩
        isplitl [HS0 HS1 HS2 HS3 HS4 Hg HT0]
        · isplitl [HS0 HS1 HS2 HS3 HS4 Hg]
          · isplitl [HS0 HS1 HS2 HS3 HS4]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _ _ _ _ _ _ _ _ _ _ _ _ _ _ _)
              isplitl [HS2]
              · unfold owns; iexists _; isplitr
                swap; · iexact HS2
                ipureintro; exact View.read_writes_of_cover _ _ _ _ _ (scover0_A_2 c _ _ _ _ _ _ _ _ _ _ _ _ _ _ _ _ _ _ _ _ _ _ _ _ _ _ _ _ _ _ _ _ _ _ _ _ _)
              isplitl [HS3]
              · unfold owns; iexists _; isplitr
                swap; · iexact HS3
                ipureintro; exact View.read_writes_of_cover _ _ _ _ _ (scover0_A_3 c _ _ _ _ _ _ _ _ _ _ _ _ _ _ _ _ _ _ _ _ _ _ _ _ _ _ _ _ _ _ _ _ _ _ _ _ _)
              unfold owns; iexists _; isplitr
              swap; · iexact HS4
              ipureintro; exact View.read_writes_of_cover _ _ _ _ _ (scover0_A_4 c _ _ _ _ _ _ _ _ _ _ _ _ _ _ _ _ _ _ _ _ _ _ _ _ _ _ _ _ _ _ _ _ _ _ _ _ _)
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
  · by_cases h1 : t.val % 16 = 15
    · rw [show (dats m hO 0 c).leavesExact 0 t = owns (c : Thread nD τ) (ms0_0 m hO t) fullShare ((dats m hO 0 c).after 0 t) from by
      unfold Dat.leavesExact; rw [liveAt0_0 m hO t]; try rfl, after0_0]
      rw [show (dats m hO 0 c).leavesExact 1 t = owns (c : Thread nD τ) (ms0_1 m hO t) fullShare ((dats m hO 0 c).after 1 t) from by
      unfold Dat.leavesExact; rw [liveAt0_1 m hO t]; try rfl, after0_1]
      rw [show (dats m hO 0 c).leavesExact 2 t = owns (c : Thread nD τ) (ms0_2 m hO t) fullShare ((dats m hO 0 c).after 2 t) from by
      unfold Dat.leavesExact; rw [liveAt0_2 m hO t]; try rfl, after0_2]
      rw [show (dats m hO 0 c).leavesExact 3 t = owns (c : Thread nD τ) (ms0_3 m hO t) fullShare ((dats m hO 0 c).after 3 t) from by
      unfold Dat.leavesExact; rw [liveAt0_3 m hO t]; try rfl, after0_3]
      rw [show (dats m hO 0 c).leavesExact 4 t = owns (c : Thread nD τ) (ms0_4 m hO t) fullShare ((dats m hO 0 c).after 4 t) from by
      unfold Dat.leavesExact; rw [liveAt0_4 m hO t]; try rfl, after0_4]
      rw [show (dats m hO 0 c).leavesExact 5 t = owns (c : Thread nD τ) (ms0_5 m hO t) fullShare ((dats m hO 0 c).after 5 t) from by
      unfold Dat.leavesExact; rw [liveAt0_5 m hO t]; try rfl, after0_5]
      rw [show (dats m hO 0 c).leavesExact 6 t = owns (c : Thread nD τ) (ms0_6 m hO t) fullShare ((dats m hO 0 c).after 6 t) from by
      unfold Dat.leavesExact; rw [liveAt0_6 m hO t]; try rfl, after0_6]
      rw [show (dats m hO 0 c).leavesExact 7 t = owns (c : Thread nD τ) (ms0_7 m hO t) fullShare ((dats m hO 0 c).after 7 t) from by
      unfold Dat.leavesExact; rw [liveAt0_7_C m hO t (fun h => h0 ((hcond0_0 t).mp h)) ((hcond0_1 t).mpr h1)]; try rfl, after0_7]
      by_cases hz : t.val = 0
      · exfalso; have hN : t.val < 2048 := lt_of_lt_of_eq t.isLt (show (cfgM m hO).N = 2048 from N_0); omega
      · rw [PhiS_castSucc m hO c t, PhiS_pos m hO c _ _ hz, PhiT0_eq]
        rw [outsAt0_C m hO c t h0 h1]
        unfold out0_C_7 sout0_C_0 sout0_C_1 sout0_C_2 sout0_C_3 sout0_C_4; (try dsimp only)
        iintro ⟨⟨⟨⟨HS0, HS1, HS2, HS3, HS4⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) _ _ _ _ _ _ _ _ _ _ _ _ _ _ _ _ _ _ _ _ _ _ _ _ _ _ (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (tbl m 0) _ _ _ _ _).2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HS0]; · iexact HS0
        isplitl [HS1]; · iexact HS1
        isplitl [HS2]; · iexact HS2
        isplitl [HS3]; · iexact HS3
        isplitl [HS4]; · iexact HS4
        isplitl [HT0]; · iexact HT0
        iintro ⟨H0, H1, H2, H3, H4, H5, H6, ⟨%e7, H7⟩, HS0, HS1, ⟨%es2, HS2⟩, ⟨%es3, HS3⟩, ⟨%es4, HS4⟩, HT0⟩
        isplitl [HS0 HS1 HS2 HS3 HS4 Hg HT0]
        · isplitl [HS0 HS1 HS2 HS3 HS4 Hg]
          · isplitl [HS0 HS1 HS2 HS3 HS4]
            · isplitl [HS0]
              · iexact HS0
              isplitl [HS1]
              · iexact HS1
              isplitl [HS2]
              · unfold owns; iexists _; isplitr
                swap; · iexact HS2
                ipureintro; exact View.read_writes_of_cover _ _ _ _ _ (scover0_C_2 c _ _ _ _ _ _ _ _ _ _ _ _ _ _ _ _ _ _ _ _ _ _ _ _ _ _ _ _ _ _ _ _ _ _ _ _ _ _ _ _ _ _)
              isplitl [HS3]
              · unfold owns; iexists _; isplitr
                swap; · iexact HS3
                ipureintro; exact View.read_writes_of_cover _ _ _ _ _ (scover0_C_3 c _ _ _ _ _ _ _ _ _ _ _ _ _ _ _ _ _ _ _ _ _ _ _ _ _ _ _ _ _ _ _ _ _ _ _ _ _ _ _ _ _ _)
              unfold owns; iexists _; isplitr
              swap; · iexact HS4
              ipureintro; exact View.read_writes_of_cover _ _ _ _ _ (scover0_C_4 c _ _ _ _ _ _ _ _ _ _ _ _ _ _ _ _ _ _ _ _ _ _ _ _ _ _ _ _ _ _ _ _ _ _ _ _ _ _ _ _ _ _)
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        unfold owns; iexists _; isplitr
        swap; · iexact H7
        ipureintro; exact View.read_writes_of_cover _ _ _ _ _ (cover0_C_7 c _ _ _ _ _ _ _ _ _ _ _ _ _ _ _ _ _ _ _ _ _ _ _ _ _ _ _ _ _ _ _ _ _ _ _ _ _ _ _ _ _ _)
    · rw [show (dats m hO 0 c).leavesExact 0 t = owns (c : Thread nD τ) (ms0_0 m hO t) fullShare ((dats m hO 0 c).after 0 t) from by
      unfold Dat.leavesExact; rw [liveAt0_0 m hO t]; try rfl, after0_0]
      rw [show (dats m hO 0 c).leavesExact 1 t = owns (c : Thread nD τ) (ms0_1 m hO t) fullShare ((dats m hO 0 c).after 1 t) from by
      unfold Dat.leavesExact; rw [liveAt0_1 m hO t]; try rfl, after0_1]
      rw [show (dats m hO 0 c).leavesExact 2 t = owns (c : Thread nD τ) (ms0_2 m hO t) fullShare ((dats m hO 0 c).after 2 t) from by
      unfold Dat.leavesExact; rw [liveAt0_2 m hO t]; try rfl, after0_2]
      rw [show (dats m hO 0 c).leavesExact 3 t = owns (c : Thread nD τ) (ms0_3 m hO t) fullShare ((dats m hO 0 c).after 3 t) from by
      unfold Dat.leavesExact; rw [liveAt0_3 m hO t]; try rfl, after0_3]
      rw [show (dats m hO 0 c).leavesExact 4 t = owns (c : Thread nD τ) (ms0_4 m hO t) fullShare ((dats m hO 0 c).after 4 t) from by
      unfold Dat.leavesExact; rw [liveAt0_4 m hO t]; try rfl, after0_4]
      rw [show (dats m hO 0 c).leavesExact 5 t = owns (c : Thread nD τ) (ms0_5 m hO t) fullShare ((dats m hO 0 c).after 5 t) from by
      unfold Dat.leavesExact; rw [liveAt0_5 m hO t]; try rfl, after0_5]
      rw [show (dats m hO 0 c).leavesExact 6 t = owns (c : Thread nD τ) (ms0_6 m hO t) fullShare ((dats m hO 0 c).after 6 t) from by
      unfold Dat.leavesExact; rw [liveAt0_6 m hO t]; try rfl, after0_6]
      rw [Dat.leavesExact_idle (dats m hO 0 c) 7 t (idleAt0_7_B m hO t (fun h => h0 ((hcond0_0 t).mp h)) (fun h => h1 ((hcond0_1 t).mp h))) (noFlush0_7_B m hO t (fun h => h0 ((hcond0_0 t).mp h)) (fun h => h1 ((hcond0_1 t).mp h)))]
      by_cases hz : t.val = 0
      · exfalso; have hN : t.val < 2048 := lt_of_lt_of_eq t.isLt (show (cfgM m hO).N = 2048 from N_0); omega
      · rw [PhiS_castSucc m hO c t, PhiS_pos m hO c _ _ hz, PhiT0_eq]
        rw [outsAt0_B m hO c t h0 h1]
        unfold sout0_B_0 sout0_B_1 sout0_B_2 sout0_B_3 sout0_B_4; (try dsimp only)
        iintro ⟨⟨⟨⟨HS0, HS1, HS2, HS3, HS4⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ _ _ _ _ _ _ _ _ (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (tbl m 0) _ _ _ _ _).2.2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        isplitl [HS2]; · iexact HS2
        isplitl [HS3]; · iexact HS3
        isplitl [HS4]; · iexact HS4
        isplitl [HT0]; · iexact HT0
        iintro ⟨H0, H1, H2, H3, H4, H5, H6, H7, HS0, HS1, ⟨%es2, HS2⟩, ⟨%es3, HS3⟩, ⟨%es4, HS4⟩, HT0⟩
        isplitl [HS0 HS1 HS2 HS3 HS4 Hg HT0]
        · isplitl [HS0 HS1 HS2 HS3 HS4 Hg]
          · isplitl [HS0 HS1 HS2 HS3 HS4]
            · isplitl [HS0]
              · iexact HS0
              isplitl [HS1]
              · iexact HS1
              isplitl [HS2]
              · unfold owns; iexists _; isplitr
                swap; · iexact HS2
                ipureintro; exact View.read_writes_of_cover _ _ _ _ _ (scover0_B_2 c _ _ _ _ _ _ _ _ _ _ _ _ _ _ _ _ _ _ _ _ _ _ _ _ _ _ _ _ _ _ _ _ _ _ _ _ _ _ _ _ _ _)
              isplitl [HS3]
              · unfold owns; iexists _; isplitr
                swap; · iexact HS3
                ipureintro; exact View.read_writes_of_cover _ _ _ _ _ (scover0_B_3 c _ _ _ _ _ _ _ _ _ _ _ _ _ _ _ _ _ _ _ _ _ _ _ _ _ _ _ _ _ _ _ _ _ _ _ _ _ _ _ _ _ _)
              unfold owns; iexists _; isplitr
              swap; · iexact HS4
              ipureintro; exact View.read_writes_of_cover _ _ _ _ _ (scover0_B_4 c _ _ _ _ _ _ _ _ _ _ _ _ _ _ _ _ _ _ _ _ _ _ _ _ _ _ _ _ _ _ _ _ _ _ _ _ _ _ _ _ _ _)
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨HS0, HS1, HS2, HS3, HS4⟩, Hg⟩, -⟩
  isplitl [HS0 HS1 HS2 HS3 HS4]
  · isplitl [HS0]
    · iexists _; iexact HS0
    isplitl [HS1]
    · iexists _; iexact HS1
    isplitl [HS2]
    · iexists _; iexact HS2
    isplitl [HS3]
    · iexists _; iexact HS3
    iexists _; iexact HS4
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 2048 := N_0; omega)

/-! ## The run and the frame -/

-- `θ_run_frameP_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ hO (dats m hO) (A_eq m hO) (run_main m ρ hO)

/-- THE FRAME: `Cert.quiescent_AttnSIdeal`'s statement (Defs.lean) at any `F` — Proof.lean cites it at `Bits`:
    `theorem Cert.Proof.claim : Cert.Claim := ⟨Cert.AttnSIdeal.Gen.facts, fun m ρ _ => Cert.AttnSIdeal.Gen.frame m ρ⟩`; here for every contents of the PREFETCHED TABLES, UNDER `Gen.Ok m` (the pipeline's side condition of
    them), which Proof.lean proves from the precondition: `⟨…, fun m ρ h => Cert.AttnSIdeal.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ hO) ((θ_run defs _ _).mono (fun _ h => h.2) (run_main_quiescent m ρ hO))

end Cert.AttnSIdeal.Gen

end
-- ==== Proof.OkB.lean ====
/- The page table's words are pages of the cache: the side condition the frames take, from the preconditions. -/
module

public import proofs.«01_k».proof.Defs
public import proofs.«01_k».proof.Proof.Gen.AttnS.Frame.Runs
public import proofs.«01_k».proof.Proof.Gen.Pre_pages_exist
public import Idealize.ShloMosaic.Lib.Pipeline.ValueKit
public import Idealize.ShloMosaic.Lib.Pointwise

@[expose] public section

set_option maxRecDepth 16384

noncomputable section

namespace Cert.AttnB

open Idealize.ShloMosaic Idealize.ShloMosaic.TcCoe Idealize.ShloMosaic.Tactic
open Idealize.SL Idealize.SL.Sem
open Cert.AttnS Cert.AttnS.Gen

variable {F : FTy → Type} [FloatOps F]
variable (m : (ℓ : Loc nD τ sig) → Buf (Elt F) ℓ)

/-- The flat page table the kernel prefetches is the page table's words, row after row. -/
theorem V_v8 (c : Dev nD) : V m c main_v8 = shapeCast S2048 (m ((c : Thread nD τ).loc main_arg3)) shapeCasts_S128x16_S2048 := by
  unfold V hostOps0; after_results; try rfl

/-- A word that the printed range check accepts is a natural number below 2560. -/
theorem word_range (v : BitVec 32) (e : IntOp.andi (IntOp.cmpi .sge v 0#32) (IntOp.cmpi .slt v 2560#32) = 1#1) : v.toNat < 2560 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- If every word of the page table is below 2560, every page block lies in its cache. -/
theorem ok_of_range (h : ∀ j, ((m (((0 : Dev nD) : Thread nD τ).loc main_arg3) : IVec S128x16 32) j).toNat < 2560) : Ok m := by
  have key : ∀ (i : grid0.Coords), ((tbl m).at 0 (Rect.unit (s := S2048) (k0_off1 i) S1.size (k0_off1_inb i)) numel1_S1 : BitVec 32).toNat < 2560 := by
    intro i
    show ((V m 0 main_v8 : IVec S2048 32) _).toNat < 2560
    rw [V_v8]
    exact h _
  refine ⟨fun i => ⟨fun a => ?_, .inl rfl⟩, fun i => ⟨fun a => ?_, .inl rfl⟩⟩
  · have := key i
    fin_cases a <;> simp [cc0_transform_4, S1x1x128x1024, S2x2560x128x1024]
    exact this
  · have := key i
    fin_cases a <;> simp [cc0_transform_5, S1x1x128x1024, S2x2560x128x1024]
    exact this

/-- The range precondition gives the side condition. -/
theorem ok_of_pages (m : (ℓ : Loc nD τ sig) → Buf (Elt Bits) ℓ) (h : Cert.Pre_AttnS m) : Ok m := by
  refine ok_of_range m fun j => word_range _ ?_
  have e := congrFun (h 0) j
  simpa only [Pre_pages_exist.fn, andi, cmpi, broadcastInDim, constantI] using e

end Cert.AttnB

end
-- ==== Proof.OkI.lean ====
/- The page table's words are pages of the cache: the side condition the frames take, from the preconditions. -/
module

public import proofs.«01_k».proof.Defs
public import proofs.«01_k».proof.Proof.Gen.AttnSIdeal.Frame.Runs
public import proofs.«01_k».proof.Proof.Gen.Pre_pages_exist
public import proofs.«01_k».proof.Proof.Gen.Pre_attn_finite
public import Idealize.ShloMosaic.Lib.Pipeline.ValueKit
public import Idealize.ShloMosaic.Lib.Pointwise

@[expose] public section

set_option maxRecDepth 16384

noncomputable section

namespace Cert.AttnI

open Idealize.ShloMosaic Idealize.ShloMosaic.TcCoe Idealize.ShloMosaic.Tactic
open Idealize.SL Idealize.SL.Sem
open Cert.AttnSIdeal Cert.AttnSIdeal.Gen

variable {F : FTy → Type} [FloatOps F] [Named F]
variable (m : (ℓ : Loc nD τ sig) → Buf (Elt F) ℓ)

/-- The flat page table the kernel prefetches is the page table's words, row after row. -/
theorem V_v8 (c : Dev nD) : V m c main_v8 = shapeCast S2048 (m ((c : Thread nD τ).loc main_arg3)) shapeCasts_S128x16_S2048 := by
  unfold V hostOps0; after_results; try rfl

/-- A word that the printed range check accepts is a natural number below 2560. -/
theorem word_range (v : BitVec 32) (e : IntOp.andi (IntOp.cmpi .sge v 0#32) (IntOp.cmpi .slt v 2560#32) = 1#1) : v.toNat < 2560 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- If every word of the page table is below 2560, every page block lies in its cache. -/
theorem ok_of_range (h : ∀ j, ((m (((0 : Dev nD) : Thread nD τ).loc main_arg3) : IVec S128x16 32) j).toNat < 2560) : Ok m := by
  have key : ∀ (i : grid0.Coords), ((tbl m).at 0 (Rect.unit (s := S2048) (k0_off1 i) S1.size (k0_off1_inb i)) numel1_S1 : BitVec 32).toNat < 2560 := by
    intro i
    show ((V m 0 main_v8 : IVec S2048 32) _).toNat < 2560
    rw [V_v8]
    exact h _
  refine ⟨fun i => ⟨fun a => ?_, .inl rfl⟩, fun i => ⟨fun a => ?_, .inl rfl⟩⟩
  · have := key i
    fin_cases a <;> simp [cc0_transform_4, S1x1x128x1024, S2x2560x128x1024]
    exact this
  · have := key i
    fin_cases a <;> simp [cc0_transform_5, S1x1x128x1024, S2x2560x128x1024]
    exact this

/-- The range precondition gives the side condition. -/
theorem ok_of_pages (m : (ℓ : Loc nD τ sig) → Buf (Elt Ideal) ℓ) (h : Cert.Pre_AttnSIdeal m) : Ok m := by
  refine ok_of_range m fun j => word_range _ ?_
  have e := congrFun (h 0) j
  simpa only [Pre_pages_exist.fn, andi, cmpi, broadcastInDim, constantI] using e

/-- The finiteness precondition gives the side condition too. -/
theorem ok_of_finite (m : (ℓ : Loc nD τ sig) → Buf (Elt Ideal) ℓ) (h : Cert.Pre_AttnSIdeal_attn_finite m) : Ok m := by
  refine ok_of_range m fun j => word_range _ ?_
  have e := congrFun (h 0).1 j
  simpa only [Pre_attn_finite.fn, Pre_attn_finite.fn_part1, andi, cmpi, broadcastInDim, constantI] using e

end Cert.AttnI

end
-- ==== Proof.Online.lean ====
module

public import Idealize.ShloMosaic.Lib.Pipeline.ValueKit
public import Idealize.ShloMosaic.Lib.Pointwise

@[expose] public section

noncomputable section

namespace Cert.Attn

open Idealize.ShloMosaic

/-- A score: the real `s` where the mask `P` admits it, the least element elsewhere. -/
def score (P : Prop) [Decidable P] (s : ℝ) : EReal := if P then (s : EReal) else ⊥

/-- A score's weight: its exponential where the mask admits it, zero elsewhere. -/
def wt (P : Prop) [Decidable P] (s : ℝ) : ℝ := if P then Real.exp s else 0

/-- The greater of two reals, cast, is the greater of the casts. -/
theorem coe_max (x y : ℝ) : ((max x y : ℝ) : EReal) = max (x : EReal) (y : EReal) := EReal.coe_strictMono.monotone.map_max

/-- A finite sum of reals, cast, is the sum of the casts. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The exponential of a score less a real is the weight scaled by the real's. -/
theorem exp_score (P : Prop) [Decidable P] (s M : ℝ) : Ideal.exp (score P s - (M : EReal)) = ((wt P s * Real.exp (-M) : ℝ) : EReal) := by
  unfold score wt
  split
  · rw [← EReal.coe_sub, Ideal.exp_coe, sub_eq_add_neg, Real.exp_add]
  · rw [EReal.bot_sub, Ideal.exp_bot]; simp

/-- The maximum of masked scores, over a start that is real or least, is least or real. -/
theorem fold_max_score {n : Nat} (P : Fin n → Prop) [DecidablePred P] (s : Fin n → ℝ) (S : Finset (Fin n)) :
    (S.fold max ⊥ (fun c => score (P c) (s c)) = ⊥ ∧ ∀ c ∈ S, ¬P c) ∨ ∃ M : ℝ, S.fold max ⊥ (fun c => score (P c) (s c)) = (M : EReal) := by
  classical
  induction S using Finset.induction_on with
  | empty => left; simp
  | insert a S ha ih =>
    rw [Finset.fold_insert ha]
    by_cases hP : P a
    · right
      rcases ih with ⟨h, -⟩ | ⟨M, h⟩
      · exact ⟨s a, by rw [h]; simp [score, hP]⟩
      · exact ⟨max (s a) M, by rw [h]; simp [score, hP, coe_max]⟩
    · have e : score (P a) (s a) = ⊥ := by simp [score, hP]
      rw [e, max_eq_right bot_le]
      rcases ih with ⟨h, h'⟩ | h
      · left; refine ⟨h, fun c hc => ?_⟩
        rcases Finset.mem_insert.mp hc with rfl | hc
        · exact hP
        · exact h' c hc
      · exact .inr h

/-- What the running maximum, denominator and numerators are to the plain sums `D` and `N`: all at the
    start, or the sums scaled by the exponential of the maximum's negation. -/
def Inv {p : Nat} (m l : EReal) (a : Fin p → EReal) (D : ℝ) (N : Fin p → ℝ) : Prop :=
  (m = ⊥ ∧ D = 0 ∧ (∀ w, N w = 0) ∧ l = 0 ∧ ∀ w, a w = 0) ∨
    ∃ M : ℝ, m = (M : EReal) ∧ l = ((Real.exp (-M) * D : ℝ) : EReal) ∧ ∀ w, a w = ((Real.exp (-M) * N w : ℝ) : EReal)

/-- The start satisfies the invariant at zero sums. -/
theorem inv_start {p : Nat} : Inv (p := p) ⊥ 0 (fun _ => 0) 0 (fun _ => 0) :=
  .inl ⟨rfl, rfl, fun _ => rfl, rfl, fun _ => rfl⟩

/-- One step over a tile of scores, one at least admitted: the running maximum, denominator and numerators
    stay scaled sums, of the tile's weights added. -/
theorem inv_step {n p : Nat} {m l : EReal} {a : Fin p → EReal} {D : ℝ} {N : Fin p → ℝ} (h : Inv m l a D N)
    (P : Fin n → Prop) [DecidablePred P] (s : Fin n → ℝ) (hP : ∃ c, P c) (v : Fin n → Fin p → ℝ) (m' : EReal)
    (hm' : m' = max m (Finset.univ.fold max ⊥ (fun c => score (P c) (s c)))) :
    Inv m' (Ideal.exp (m - m') * l + ∑ c, Ideal.exp (score (P c) (s c) - m'))
      (fun w => Ideal.exp (m - m') * a w + ∑ c, Ideal.exp (score (P c) (s c) - m') * (v c w : EReal))
      (D + ∑ c, wt (P c) (s c)) (fun w => N w + ∑ c, wt (P c) (s c) * v c w) := by
  have hM : ∃ M' : ℝ, m' = (M' : EReal) := by
    rcases fold_max_score P s Finset.univ with ⟨-, h'⟩ | ⟨M₂, h₂⟩
    · obtain ⟨c, hc⟩ := hP; exact absurd hc (h' c (Finset.mem_univ c))
    · rcases h with ⟨h, -⟩ | ⟨M, h, -⟩
      · exact ⟨M₂, by rw [hm', h₂, h, max_eq_right bot_le]⟩
      · exact ⟨max M M₂, by rw [hm', h₂, h, coe_max]⟩
  obtain ⟨M', hM'⟩ := hM
  right
  refine ⟨M', hM', ?_, fun w => ?_⟩
  · rw [hM']
    simp only [exp_score]
    rw [← coe_sum]
    rcases h with ⟨h, hD, -, hl, -⟩ | ⟨M, h, hl, -⟩
    · rw [hl, hD, mul_zero, zero_add, zero_add, Finset.mul_sum]
      exact congrArg _ (Finset.sum_congr rfl fun c _ => mul_comm _ _)
    · rw [hl, h, ← EReal.coe_sub, Ideal.exp_coe, ← EReal.coe_mul, ← EReal.coe_add, mul_add, Finset.mul_sum]
      refine congrArg _ (congrArg₂ _ ?_ (Finset.sum_congr rfl fun c _ => mul_comm _ _))
      rw [← mul_assoc, ← Real.exp_add]; congr 2; ring
  · dsimp only
    rw [hM']
    simp only [exp_score, ← EReal.coe_mul]
    rw [← coe_sum]
    rcases h with ⟨h, -, hN, -, ha⟩ | ⟨M, h, -, ha⟩
    · rw [ha, hN, mul_zero, zero_add, zero_add, Finset.mul_sum]
      exact congrArg _ (Finset.sum_congr rfl fun c _ => by ring)
    · rw [ha, h, ← EReal.coe_sub, Ideal.exp_coe, ← EReal.coe_mul, ← EReal.coe_add, mul_add, Finset.mul_sum]
      refine congrArg _ (congrArg₂ _ ?_ (Finset.sum_congr rfl fun c _ => by ring))
      rw [← mul_assoc, ← Real.exp_add]; congr 2; ring

/-- The quotient at the end is the plain sums' quotient. -/
theorem inv_div {p : Nat} {m l : EReal} {a : Fin p → EReal} {D : ℝ} {N : Fin p → ℝ} (h : Inv m l a D N) (hD : 0 < D) (w : Fin p) :
    Ideal.div (a w) l = ((N w / D : ℝ) : EReal) := by
  rcases h with ⟨-, h, -⟩ | ⟨M, -, hl, ha⟩
  · exact absurd h hD.ne'
  · have e : Real.exp (-M) * D ≠ 0 := (mul_pos (Real.exp_pos _) hD).ne'
    rw [hl, ha, Ideal.div_coe e, ← EReal.coe_mul]
    congr 1
    have := (Real.exp_pos (-M)).ne'
    field_simp

/-- The softmax-weighted sum over masked scores is the quotient of the plain weighted sums, whatever real
    the scores are shifted by. -/
theorem softmax_shift {n : Nat} (P : Fin n → Prop) [DecidablePred P] (s : Fin n → ℝ) (M : ℝ) (d : ℝ) (hD : 0 < ∑ c, wt (P c) (s c + d)) (k : Fin n) :
    Ideal.div (Ideal.exp (score (P k) (s k) - (M : EReal))) (∑ c, Ideal.exp (score (P c) (s c) - (M : EReal))) = ((wt (P k) (s k + d) / ∑ c, wt (P c) (s c + d) : ℝ) : EReal) := by
  have e : ∀ c, wt (P c) (s c) = Real.exp (-d) * wt (P c) (s c + d) := fun c => by
    unfold wt; split
    · rw [← Real.exp_add]; congr 1; ring
    · simp
  have hd := (Real.exp_pos (-d)).ne'
  have hM := (Real.exp_pos (-M)).ne'
  simp only [exp_score]
  rw [← coe_sum]
  have e2 : ∑ c, wt (P c) (s c) * Real.exp (-M) = Real.exp (-d) * Real.exp (-M) * ∑ c, wt (P c) (s c + d) := by
    rw [Finset.mul_sum]; exact Finset.sum_congr rfl fun c _ => by rw [e]; ring
  rw [e2, Ideal.div_coe (mul_ne_zero (mul_ne_zero hd hM) hD.ne'), ← EReal.coe_mul]
  congr 1
  rw [e]
  have := hD.ne'
  field_simp

end Cert.Attn

end
-- ==== Proof.PayI.lean ====
module

public import proofs.«01_k».proof.Proof.Gen.AttnSIdeal.Skeleton
public import proofs.«01_k».proof.Proof.Online
public import Idealize.ShloMosaic.Lib.Pipeline.ValueKit
public import Idealize.ShloMosaic.Lib.Pointwise

@[expose] public section

set_option maxRecDepth 16384

noncomputable section

namespace Cert.AttnI

open Idealize.ShloMosaic Idealize.ShloMosaic.TcCoe Idealize.ShloMosaic.Tactic
open Idealize.SL.Sem
open Cert.AttnSIdeal Cert.AttnSIdeal.Gen

/-- The mask's value is the least element. -/
theorem mask_val : (Named.named (F := Ideal) κ "mask" 0xF149F2CA#32 : Ideal .f32) = ⊥ :=
  IdealRules.named_const.ideal_named_scalar _ _ _ _ rfl

/-- The start of a running maximum, minus infinity's word, is the least element. -/
theorem neg_inf : Ideal.ofBits .f32 0xFF800000#32 = ⊥ := by
  simp [Ideal.ofBits, Ideal.ieee, -EReal.coe_mul]

/-- The scale of the queries is one eighth. -/
theorem eighth : Ideal.ofBits .f32 0x3E000000#32 = ((0.125 : ℝ) : EReal) := by
  simp [Ideal.ofBits, Ideal.ieee, -EReal.coe_mul]; norm_num

/-- A page step's new denominator. -/
theorem pay2_at (v23 : FVec Ideal S128x1 .f32) (v29 : FVec Ideal S128x1 .f32) (v32 : FVec Ideal S128x128 .f32) (r : Fin 128) :
    k0_pay2 (F := Ideal) v23 v29 v32 (ix2 r 0) = v29 (ix2 r 0) * v23 (ix2 r 0) + ∑ k : Fin 128, v32 (ix2 r k) := by
  pointwise [k0_pay2]

/-- A page step's new numerators. -/
theorem pay3_at (v21 : FVec Ideal S128x1024 .bf16) (v24 : FVec Ideal S128x1024 .f32) (v29 : FVec Ideal S128x1 .f32) (v32 : FVec Ideal S128x128 .f32) (r : Fin 128) (w : Fin 1024) :
    k0_pay3 (F := Ideal) v21 v24 v29 v32 (ix2 r w) = v29 (ix2 r 0) * v24 (ix2 r w) + ∑ k : Fin 128, v32 (ix2 r k) * v21 (ix2 k w) := by
  pointwise [k0_pay3]

/-- The queries, scaled, one copy for each of the sixteen head halves. -/
theorem pay5_at (v54 : FVec Ideal S8x1024 .f32) (r : Fin 128) (w : Fin 1024) :
    k0_pay5 (F := Ideal) v54 (ix2 r w) = v54 (ix2 ⟨r.val % 8, by omega⟩ w) * ((0.125 : ℝ) : EReal) := by
  rw [← eighth]
  pointwise [k0_pay5]

/-- The position of a cached key, less the number of cached keys, as a real. -/
theorem pos_int : ∀ (j : Fin 16) (k : Fin 128), (IntOp.subi (IntOp.addi (Scalar.muli (BitVec.ofNat 32 j.val) 128#32) (BitVec.ofNat 32 k.val)) 2048#32).toInt = 128 * (j.val : Int) + k.val - 2048 := by
  decide +kernel

/-- A cached key's score. -/
theorem pay54_at (i : grid0.Coords) (v4 : FVec Ideal S1x1x128x1024 .f32) (v8 : FVec Ideal S128x1 .f32) (v17 : FVec Ideal S128x1024 .bf16) (r k : Fin 128) :
    k0_pay54 (F := Ideal) i v4 v8 v17 (ix2 r k) = (∑ x : Fin 1024, v17 (ix2 r x) * v4 (ix4 0 0 k x)) + v8 (ix2 r 0) * ((128 * ((i 1).val : ℝ) + k.val - 2048 : ℝ) : EReal) := by
  have e := pos_int (i 1) k
  pointwise [k0_pay54]
  exact congrArg _ (congrArg _ ((congrArg (fun z : Int => (((z : ℝ)) : EReal)) e).trans (by push_cast; rfl)))

theorem pay55_at (v6 : FVec Ideal S1x1x128x1024 .f32) (k : Fin 128) (w : Fin 1024) :
    k0_pay55 (F := Ideal) v6 (ix2 k w) = v6 (ix4 0 0 k w) := by
  pointwise [k0_pay55]

theorem pay1_at (v : FVec Ideal S128x1 .f32) : k0_pay1 (F := Ideal) v = v := by
  funext x
  idx_vars x
  pointwise [k0_pay1]

/-- A page step's new maximum. -/
theorem pay56_at (i : grid0.Coords) (v4 : FVec Ideal S1x1x128x1024 .f32) (v8 : FVec Ideal S128x1 .f32) (v17 : FVec Ideal S128x1024 .bf16) (v22 : FVec Ideal S128x1 .f32) (r : Fin 128) :
    k0_pay56 (F := Ideal) i v4 v8 v17 v22 (ix2 r 0) = max (v22 (ix2 r 0)) (Finset.univ.fold max ⊥ fun k : Fin 128 => k0_pay54 (F := Ideal) i v4 v8 v17 (ix2 r k)) := by
  rw [← neg_inf]
  pointwise [k0_pay56]
theorem pay57_at (i : grid0.Coords) (v4 : FVec Ideal S1x1x128x1024 .f32) (v8 : FVec Ideal S128x1 .f32) (v17 : FVec Ideal S128x1024 .bf16) (v22 : FVec Ideal S128x1 .f32) (r : Fin 128) :
    k0_pay57 (F := Ideal) i v4 v8 v17 v22 (ix2 r 0) = Ideal.exp (v22 (ix2 r 0) - k0_pay56 (F := Ideal) i v4 v8 v17 v22 (ix2 r 0)) := by
  pointwise [k0_pay57]
theorem pay58_at (i : grid0.Coords) (v4 : FVec Ideal S1x1x128x1024 .f32) (v8 : FVec Ideal S128x1 .f32) (v17 : FVec Ideal S128x1024 .bf16) (v22 : FVec Ideal S128x1 .f32) (r k : Fin 128) :
    k0_pay58 (F := Ideal) i v4 v8 v17 v22 (ix2 r k) = Ideal.exp (k0_pay54 (F := Ideal) i v4 v8 v17 (ix2 r k) - k0_pay56 (F := Ideal) i v4 v8 v17 v22 (ix2 r 0)) := by
  pointwise [k0_pay58]

/-- The query's place in its block, of the row. -/
theorem row_mod : ∀ r : Fin 128, Scalar.select
          (IntOp.andi
            (IntOp.xori
              (IntOp.cmpi CmpIPredicate.slt (IntOp.remsi ArithUnit.vector (BitVec.ofNat 32 r.val) (Scalar.select (Scalar.cmpi CmpIPredicate.eq 8#32 0#32) 1#32 8#32)) 0#32)
              (Scalar.cmpi CmpIPredicate.slt (Scalar.select (Scalar.cmpi CmpIPredicate.eq 8#32 0#32) 1#32 8#32) 0#32))
            (IntOp.cmpi CmpIPredicate.ne (IntOp.remsi ArithUnit.vector (BitVec.ofNat 32 r.val) (Scalar.select (Scalar.cmpi CmpIPredicate.eq 8#32 0#32) 1#32 8#32)) 0#32))
          (IntOp.addi (IntOp.remsi ArithUnit.vector (BitVec.ofNat 32 r.val) (Scalar.select (Scalar.cmpi CmpIPredicate.eq 8#32 0#32) 1#32 8#32)) (Scalar.select (Scalar.cmpi CmpIPredicate.eq 8#32 0#32) 1#32 8#32))
          (IntOp.remsi ArithUnit.vector (BitVec.ofNat 32 r.val) (Scalar.select (Scalar.cmpi CmpIPredicate.eq 8#32 0#32) 1#32 8#32)) = BitVec.ofNat 32 (r.val % 8) := by
  decide +kernel

/-- The causal comparison. -/
theorem causal_word : ∀ (i : Fin 8) (k : Fin 128), IntOp.cmpi CmpIPredicate.sle (BitVec.ofNat 32 k.val) (BitVec.ofNat 32 i.val) = if k.val ≤ i.val then 1#1 else 0#1 := by
  decide +kernel

/-- A small number's word, read signed, is the number. -/
theorem small_int : ∀ k : Fin 128, (BitVec.ofNat 32 k.val).toInt = (k.val : Int) := by
  decide +kernel

/-- A new key's score, where the key comes no later than the query. -/
theorem pay20_at (v55 : FVec Ideal S8x1024 .f32) (v76 : FVec Ideal S128x1 .f32) (v81 : FVec Ideal S128x1024 .bf16) (r k : Fin 128) :
    k0_pay20 (F := Ideal) (iota .tc S128x128 32 [1] iota_S128x128_d1_w32) v55 v76 v81 (ix2 r k) = if k.val ≤ r.val % 8 then (∑ x : Fin 1024, v81 (ix2 r x) * (if h : k.val < 8 then v55 (ix2 ⟨k.val, h⟩ x) else 0)) + v76 (ix2 r 0) * ((k.val : ℝ) : EReal) else ⊥ := by
  rw [← mask_val]
  pointwise [k0_pay20, k0_pay19]
  rw [row_mod r, causal_word ⟨r.val % 8, Nat.mod_lt _ (by norm_num)⟩ k]
  have e : (FloatOps.sitofp .f32 (BitVec.ofNat 32 k.val) : Ideal .f32) = ((k.val : ℝ) : EReal) :=
    (congrArg (fun z : Int => (((z : ℝ)) : EReal)) (small_int k)).trans (by push_cast; rfl)
  rw [e]
  dsimp only
  by_cases hk : k.val ≤ r.val % 8
  · rw [if_pos hk, if_pos hk]; rfl
  · rw [if_neg hk, if_neg hk]; rfl
theorem pay21_at (v57 : FVec Ideal S8x1024 .f32) (k : Fin 128) (w : Fin 1024) :
    k0_pay21 (F := Ideal) v57 (ix2 k w) = if h : k.val < 8 then v57 (ix2 ⟨k.val, h⟩ w) else 0 := by
  pointwise [k0_pay21]
  split
  · rfl
  · exact Ideal.ofBits_zero_f32
theorem pay22_at (v86 : FVec Ideal S128x128 .f32) (v88 : FVec Ideal S128x1 .f32) (r : Fin 128) :
    k0_pay22 (F := Ideal) v86 v88 (ix2 r 0) = max (v88 (ix2 r 0)) (Finset.univ.fold max ⊥ fun k : Fin 128 => v86 (ix2 r k)) := by
  rw [← neg_inf]
  pointwise [k0_pay22]
theorem pay25_at (v86 : FVec Ideal S128x128 .f32) (v88 : FVec Ideal S128x1 .f32) : k0_pay25 (F := Ideal) v86 v88 = k0_pay22 (F := Ideal) v86 v88 := by
  funext x
  idx_vars x
  pointwise [k0_pay25]
theorem pay26_at (v86 : FVec Ideal S128x128 .f32) (v88 v89 : FVec Ideal S128x1 .f32) (r : Fin 128) :
    k0_pay26 (F := Ideal) v86 v88 v89 (ix2 r 0) = Ideal.exp (v88 (ix2 r 0) - k0_pay22 (F := Ideal) v86 v88 (ix2 r 0)) * v89 (ix2 r 0) + ∑ k : Fin 128, Ideal.exp (v86 (ix2 r k) - k0_pay22 (F := Ideal) v86 v88 (ix2 r 0)) := by
  pointwise [k0_pay26, k0_pay23, k0_pay24]
theorem pay27_at (v86 : FVec Ideal S128x128 .f32) (v87 : FVec Ideal S128x1024 .bf16) (v88 : FVec Ideal S128x1 .f32) (v90 : FVec Ideal S128x1024 .f32) (r : Fin 128) (w : Fin 1024) :
    k0_pay27 (F := Ideal) v86 v87 v88 v90 (ix2 r w) = Ideal.exp (v88 (ix2 r 0) - k0_pay22 (F := Ideal) v86 v88 (ix2 r 0)) * v90 (ix2 r w) + ∑ k : Fin 128, Ideal.exp (v86 (ix2 r k) - k0_pay22 (F := Ideal) v86 v88 (ix2 r 0)) * v87 (ix2 k w) := by
  pointwise [k0_pay27, k0_pay23, k0_pay24]

end Cert.AttnI
end
-- ==== Proof.PayA.lean ====
module

public import proofs.«01_k».proof.Proof.Gen.AttnSIdeal.Skeleton
public import proofs.«01_k».proof.Proof.PayI
public import Idealize.ShloMosaic.Lib.Pipeline.ValueKit
public import Idealize.ShloMosaic.Lib.Pointwise

@[expose] public section

set_option maxRecDepth 16384

noncomputable section

namespace Cert.AttnI

open Idealize.ShloMosaic Idealize.ShloMosaic.TcCoe Idealize.ShloMosaic.Tactic
open Idealize.SL.Sem
open Cert.AttnSIdeal Cert.AttnSIdeal.Gen

/-- The half a row of the expanded queries stands for. -/
theorem pay6_at (r : Fin 128) (w : Fin 1024) : k0_pay6 (ix2 r w) = BitVec.ofNat 32 (r.val / 64) := by
  pointwise [k0_pay6]
  revert r; decide +kernel

/-- The head a row of the expanded queries stands for. -/
theorem pay9_at (r : Fin 128) (w : Fin 1024) : k0_pay9 (iota .tc S128x1024 32 [0] iota_S128x1024_d0_w32) 8#32 k0_pay7 k0_pay8 (Scalar.extui (Scalar.cmpi .sgt 8#32 0#32)) (Scalar.cmpi .slt 8#32 0#32) (ix2 r w) = BitVec.ofNat 32 (r.val / 8 % 8) := by
  pointwise [k0_pay9, k0_pay7, k0_pay8]
  revert r; decide +kernel

/-- The head a lane belongs to. -/
theorem pay13_at (r : Fin 128) (w : Fin 1024) : k0_pay13 (k0_pay10 (iota .tc S128x1024 32 [1] iota_S128x1024_d1_w32)) (k0_pay11 (iota .tc S128x1024 32 [1] iota_S128x1024_d1_w32)) (k0_pay12 (iota .tc S128x1024 32 [1] iota_S128x1024_d1_w32)) 0#32 (ix2 r w) = BitVec.ofNat 32 (w.val / 128) := by
  pointwise [k0_pay13, k0_pay10, k0_pay11, k0_pay12]
  revert w; decide +kernel

/-- The half a lane belongs to. -/
theorem pay14_at (r : Fin 128) (w : Fin 1024) : k0_pay14 (iota .tc S128x1024 32 [1] iota_S128x1024_d1_w32) (ix2 r w) = BitVec.ofNat 32 (w.val / 64 % 2) := by
  pointwise [k0_pay14]
  revert w; decide +kernel

/-- Equality of two small numbers' words. -/
theorem eq_word : ∀ a b : Fin 8, IntOp.cmpi CmpIPredicate.eq (BitVec.ofNat 32 a.val) (BitVec.ofNat 32 b.val) = if a = b then 1#1 else 0#1 := by
  decide +kernel

/-- The expanded queries: the scaled queries where the lane's head and half are the row's, zero elsewhere. -/
theorem qx_at (v54 : FVec Ideal S8x1024 .f32) (r : Fin 128) (w : Fin 1024) :
    k0_pay15 (F := Ideal) (k0_pay5 (F := Ideal) v54) k0_pay6 (k0_pay9 (iota .tc S128x1024 32 [0] iota_S128x1024_d0_w32) 8#32 k0_pay7 k0_pay8 (Scalar.extui (Scalar.cmpi .sgt 8#32 0#32)) (Scalar.cmpi .slt 8#32 0#32)) (k0_pay13 (k0_pay10 (iota .tc S128x1024 32 [1] iota_S128x1024_d1_w32)) (k0_pay11 (iota .tc S128x1024 32 [1] iota_S128x1024_d1_w32)) (k0_pay12 (iota .tc S128x1024 32 [1] iota_S128x1024_d1_w32)) 0#32) (k0_pay14 (iota .tc S128x1024 32 [1] iota_S128x1024_d1_w32)) (ix2 r w) =
      if r.val / 64 = w.val / 64 % 2 ∧ r.val / 8 % 8 = w.val / 128 then v54 (ix2 ⟨r.val % 8, by omega⟩ w) * ((0.125 : ℝ) : EReal) else 0 := by
  rw [← pay5_at]
  have e6 := pay6_at r w
  have e9 := pay9_at r w
  have e13 := pay13_at r w
  have e14 := pay14_at r w
  generalize k0_pay6 = p6 at *
  generalize k0_pay9 (iota .tc S128x1024 32 [0] iota_S128x1024_d0_w32) 8#32 k0_pay7 k0_pay8 (Scalar.extui (Scalar.cmpi .sgt 8#32 0#32)) (Scalar.cmpi .slt 8#32 0#32) = p9 at *
  generalize k0_pay13 (k0_pay10 (iota .tc S128x1024 32 [1] iota_S128x1024_d1_w32)) (k0_pay11 (iota .tc S128x1024 32 [1] iota_S128x1024_d1_w32)) (k0_pay12 (iota .tc S128x1024 32 [1] iota_S128x1024_d1_w32)) 0#32 = p13 at *
  generalize k0_pay14 (iota .tc S128x1024 32 [1] iota_S128x1024_d1_w32) = p14 at *
  generalize k0_pay5 (F := Ideal) v54 = p5 at *
  pointwise [k0_pay15]
  rw [e6, e9, e13, e14]
  have h1 := eq_word ⟨r.val / 64, by omega⟩ ⟨w.val / 64 % 2, by omega⟩
  have h2 := eq_word ⟨r.val / 8 % 8, by omega⟩ ⟨w.val / 128, by omega⟩
  dsimp only at h1 h2
  rw [h1, h2]
  simp only [Fin.mk.injEq]
  by_cases ha : r.val / 64 = w.val / 64 % 2 <;> by_cases hb : r.val / 8 % 8 = w.val / 128
  · rw [if_pos ha, if_pos hb, if_pos ⟨ha, hb⟩]; rfl
  · rw [if_pos ha, if_neg hb, if_neg (fun h => hb h.2)]; rfl
  · rw [if_neg ha, if_pos hb, if_neg (fun h => ha h.1)]; rfl
  · rw [if_neg ha, if_neg hb, if_neg (fun h => ha h.1)]; rfl

/-- A head's slope, from its word. -/
theorem slope_word (h : Fin 8) : Ideal.ofBits .f32 (BitVec.ofNat 32 ((126 - h.val) * 2 ^ 23)) = (((1 / 2 : ℝ) ^ (h.val + 1) : ℝ) : EReal) := by
  fin_cases h <;> · simp [Ideal.ofBits, Ideal.ieee, -EReal.coe_mul]; try norm_num

/-- The slope's word, of the row. -/
theorem slope_at (r : Fin 128) :
    k0_pay50 (F := Ideal) (Scalar.select (Scalar.cmpi .eq 8#32 0#32) 1#32 8#32) k0_pay16 k0_pay17 k0_pay18 (Scalar.cmpi .slt (Scalar.select (Scalar.cmpi .eq 8#32 0#32) 1#32 8#32) 0#32) (ix2 r 0) = (((1 / 2 : ℝ) ^ (r.val / 8 % 8 + 1) : ℝ) : EReal) := by
  rw [← slope_word ⟨r.val / 8 % 8, by omega⟩]
  pointwise [k0_pay50, k0_pay16, k0_pay17, k0_pay18]
  refine congrArg (Ideal.ofBits .f32) ?_
  revert r; decide +kernel

theorem pay51_at (r : Fin 128) : k0_pay51 (F := Ideal) (ix2 r 0) = ⊥ := by
  rw [← mask_val]
  pointwise [k0_pay51]
theorem pay52_at (r : Fin 128) : k0_pay52 (F := Ideal) (ix2 r 0) = 0 := by
  rw [← Ideal.ofBits_zero_f32]
  pointwise [k0_pay52]
theorem pay53_at (r : Fin 128) (w : Fin 1024) : k0_pay53 (F := Ideal) (ix2 r w) = 0 := by
  rw [← Ideal.ofBits_zero_f32]
  pointwise [k0_pay53]

end Cert.AttnI
end
-- ==== Proof.PayF.lean ====
module

public import proofs.«01_k».proof.Proof.Gen.AttnSIdeal.Skeleton
public import proofs.«01_k».proof.Proof.Online
public import Idealize.ShloMosaic.Lib.Pipeline.ValueKit
public import Idealize.ShloMosaic.Lib.Pointwise

@[expose] public section

set_option maxRecDepth 16384

noncomputable section

namespace Cert.AttnI

open Idealize.ShloMosaic Idealize.ShloMosaic.TcCoe Idealize.ShloMosaic.Tactic
open Idealize.SL.Sem
open Cert.AttnSIdeal Cert.AttnSIdeal.Gen

/-- A row normalised by its root mean square, scaled. -/
def rms (x g : Fin 128 → EReal) (e : Fin 128) : EReal :=
  x e * Ideal.rsqrt (Ideal.div (∑ e', x e' * x e') (Ideal.ofBits .f32 0x43000000#32) + Ideal.ofBits .f32 0x358637BD#32) * g e * Ideal.ofBits .f32 0x3F4CCCCD#32

/-- The weight of the second map, from the lambda vectors. -/
def lamOf (q1 k1 q2 k2 : Fin 64 → EReal) : EReal :=
  Ideal.exp (∑ x, q1 x * k1 x) - Ideal.exp (∑ x, q2 x * k2 x) + Ideal.ofBits .f32 0x3E4CCCCD#32

theorem lam_at (v : FVec Ideal S1x4x64 .f32) : k0_pay30 (F := Ideal) (k0_pay28 (F := Ideal) v) (k0_pay29 (F := Ideal)) (ix2 0 0) =
    lamOf (fun x => v (ix3 0 0 x)) (fun x => v (ix3 0 1 x)) (fun x => v (ix3 0 2 x)) (fun x => v (ix3 0 3 x)) := by
  unfold lamOf
  pointwise [k0_pay30, k0_pay28, k0_pay29]

theorem pay31_at (v134 : FVec Ideal S128x1024 .f32) (v135 : FVec Ideal S128x1 .f32) (r : Fin 128) (w : Fin 1024) :
    k0_pay31 (F := Ideal) v134 v135 (ix2 r w) = Ideal.div (v134 (ix2 r w)) (v135 (ix2 r 0)) := by
  pointwise [k0_pay31]

/-- A head's first map's result less the weighted second's. -/
def diff (lam : EReal) (o : FVec Ideal S128x1024 .f32) (h : Fin 8) (i : Fin 8) (e : Fin 128) : EReal :=
  o (ix2 ⟨8 * h.val + i.val, by omega⟩ ⟨128 * h.val + e.val, by omega⟩) - lam * o (ix2 ⟨64 + 8 * h.val + i.val, by omega⟩ ⟨128 * h.val + e.val, by omega⟩)

/-- Head 0's normalised difference. -/
theorem head0_at (v131 v132 : FVec Ideal S1x1 .f32) (v134 : FVec Ideal S128x1024 .f32) (v135 : FVec Ideal S128x1 .f32) (g : FVec Ideal S1x1x128 .f32) (i : Fin 8) (e : Fin 128) :
    k0_pay32 (F := Ideal) v131 v132 v134 v135 g (ix2 i e) = rms (diff (k0_pay30 (F := Ideal) v131 v132 (ix2 0 0)) (k0_pay31 (F := Ideal) v134 v135) 0 i) (fun e => g (ix3 0 0 e)) e := by
  unfold rms diff
  pointwise [k0_pay32]
/-- Head 1's normalised difference. -/
theorem head1_at (v131 v132 : FVec Ideal S1x1 .f32) (v134 : FVec Ideal S128x1024 .f32) (v135 : FVec Ideal S128x1 .f32) (g : FVec Ideal S1x1x128 .f32) (i : Fin 8) (e : Fin 128) :
    k0_pay37 (F := Ideal) (k0_pay33 (F := Ideal) v131 v132 v134 v135) (k0_pay34 (F := Ideal) g) (k0_pay35 (F := Ideal) v131 v132 v134 v135) (k0_pay36 (F := Ideal)) (ix2 i e) = rms (diff (k0_pay30 (F := Ideal) v131 v132 (ix2 0 0)) (k0_pay31 (F := Ideal) v134 v135) 1 i) (fun e => g (ix3 0 0 e)) e := by
  unfold rms diff
  pointwise [k0_pay37, k0_pay33, k0_pay34, k0_pay35, k0_pay36]
/-- Head 2's normalised difference. -/
theorem head2_at (v133 : FVec Ideal S1x1 .f32) (v137 : FVec Ideal S128x1024 .f32) (g : FVec Ideal S1x1x128 .f32) (i : Fin 8) (e : Fin 128) :
    k0_pay38 (F := Ideal) v133 v137 g (ix2 i e) = rms (diff (v133 (ix2 0 0)) v137 2 i) (fun e => g (ix3 0 0 e)) e := by
  unfold rms diff
  pointwise [k0_pay38]
/-- Head 3's normalised difference. -/
theorem head3_at (v133 : FVec Ideal S1x1 .f32) (v137 : FVec Ideal S128x1024 .f32) (g : FVec Ideal S1x1x128 .f32) (i : Fin 8) (e : Fin 128) :
    k0_pay42 (F := Ideal) (k0_pay39 (F := Ideal) v133 v137) (k0_pay40 (F := Ideal) g) (k0_pay41 (F := Ideal) v133 v137) (Scalar.ofBits (F := Ideal) .f32 0x43000000#32) (ix2 i e) = rms (diff (v133 (ix2 0 0)) v137 3 i) (fun e => g (ix3 0 0 e)) e := by
  unfold rms diff
  pointwise [k0_pay42, k0_pay39, k0_pay40, k0_pay41]
/-- Head 4's normalised difference. -/
theorem head4_at (v133 : FVec Ideal S1x1 .f32) (v137 : FVec Ideal S128x1024 .f32) (g : FVec Ideal S1x1x128 .f32) (i : Fin 8) (e : Fin 128) :
    k0_pay43 (F := Ideal) v133 v137 g (ix2 i e) = rms (diff (v133 (ix2 0 0)) v137 4 i) (fun e => g (ix3 0 0 e)) e := by
  unfold rms diff
  pointwise [k0_pay43]
/-- Head 5's normalised difference. -/
theorem head5_at (v133 : FVec Ideal S1x1 .f32) (v137 : FVec Ideal S128x1024 .f32) (g : FVec Ideal S1x1x128 .f32) (i : Fin 8) (e : Fin 128) :
    k0_pay47 (F := Ideal) (k0_pay44 (F := Ideal) v133 v137) (k0_pay45 (F := Ideal) g) (k0_pay46 (F := Ideal) v133 v137) (ix2 i e) = rms (diff (v133 (ix2 0 0)) v137 5 i) (fun e => g (ix3 0 0 e)) e := by
  unfold rms diff
  pointwise [k0_pay47, k0_pay44, k0_pay45, k0_pay46]
/-- Head 6's normalised difference. -/
theorem head6_at (v133 : FVec Ideal S1x1 .f32) (v137 : FVec Ideal S128x1024 .f32) (g : FVec Ideal S1x1x128 .f32) (i : Fin 8) (e : Fin 128) :
    k0_pay48 (F := Ideal) v133 v137 g (ix2 i e) = rms (diff (v133 (ix2 0 0)) v137 6 i) (fun e => g (ix3 0 0 e)) e := by
  unfold rms diff
  pointwise [k0_pay48]
/-- Head 7's normalised difference. -/
theorem head7_at (v133 : FVec Ideal S1x1 .f32) (v137 : FVec Ideal S128x1024 .f32) (g : FVec Ideal S1x1x128 .f32) (i : Fin 8) (e : Fin 128) :
    k0_pay4 (F := Ideal) (k0_pay49 (F := Ideal) v133 v137) g (ix2 i e) = rms (diff (v133 (ix2 0 0)) v137 7 i) (fun e => g (ix3 0 0 e)) e := by
  unfold rms diff
  pointwise [k0_pay4, k0_pay49]

end Cert.AttnI
end
-- ==== Proof.CasesI.lean ====
module

public import proofs.«01_k».proof.Proof.FrameI
public import proofs.«01_k».proof.Proof.PayA
public import proofs.«01_k».proof.Proof.PayF
public import Idealize.ShloMosaic.Lib.Pipeline.ValueKit
public import Idealize.ShloMosaic.Lib.Pointwise

@[expose] public section

set_option maxRecDepth 16384

noncomputable section

namespace Cert.AttnI

open Idealize.ShloMosaic Idealize.ShloMosaic.TcCoe Idealize.ShloMosaic.Tactic
open Idealize.SL.Sem
open Cert.AttnSIdeal Cert.AttnSIdeal.Gen

/-- The expanded queries a block starts with. -/
def qx0 (x1 : FVec Ideal S8x1024 .f32) : FVec Ideal S128x1024 .bf16 := k0_pay15 (F := Ideal) (k0_pay5 (F := Ideal) x1) k0_pay6 (k0_pay9 (iota .tc S128x1024 32 [0] iota_S128x1024_d0_w32) 8#32 k0_pay7 k0_pay8 (Scalar.extui (Scalar.cmpi .sgt 8#32 0#32)) (Scalar.cmpi .slt 8#32 0#32)) (k0_pay13 (k0_pay10 (iota .tc S128x1024 32 [1] iota_S128x1024_d1_w32)) (k0_pay11 (iota .tc S128x1024 32 [1] iota_S128x1024_d1_w32)) (k0_pay12 (iota .tc S128x1024 32 [1] iota_S128x1024_d1_w32)) 0#32) (k0_pay14 (iota .tc S128x1024 32 [1] iota_S128x1024_d1_w32))
/-- The slopes a block starts with. -/
def slope0 : FVec Ideal S128x1 .f32 := k0_pay50 (F := Ideal) (Scalar.select (Scalar.cmpi .eq 8#32 0#32) 1#32 8#32) k0_pay16 k0_pay17 k0_pay18 (Scalar.cmpi .slt (Scalar.select (Scalar.cmpi .eq 8#32 0#32) 1#32 8#32) 0#32)
/-- A page step's maximum. -/
def pgM (i : grid0.Coords) (x4 : FVec Ideal S1x1x128x1024 .f32) (q : FVec Ideal S128x1024 .bf16) (s m : FVec Ideal S128x1 .f32) : FVec Ideal S128x1 .f32 := k0_pay1 (F := Ideal) (k0_pay56 (F := Ideal) i x4 s q m)
/-- A page step's denominator. -/
def pgL (i : grid0.Coords) (x4 : FVec Ideal S1x1x128x1024 .f32) (q : FVec Ideal S128x1024 .bf16) (s m l : FVec Ideal S128x1 .f32) : FVec Ideal S128x1 .f32 := k0_pay2 (F := Ideal) l (k0_pay57 (F := Ideal) i x4 s q m) (k0_pay58 (F := Ideal) i x4 s q m)
/-- A page step's numerators. -/
def pgA (i : grid0.Coords) (x4 x5 : FVec Ideal S1x1x128x1024 .f32) (q : FVec Ideal S128x1024 .bf16) (s m : FVec Ideal S128x1 .f32) (a : FVec Ideal S128x1024 .f32) : FVec Ideal S128x1024 .f32 := k0_pay3 (F := Ideal) (k0_pay55 (F := Ideal) x5) a (k0_pay57 (F := Ideal) i x4 s q m) (k0_pay58 (F := Ideal) i x4 s q m)
/-- The new keys' scores. -/
def nwX (x2 : FVec Ideal S8x1024 .f32) (q : FVec Ideal S128x1024 .bf16) (s : FVec Ideal S128x1 .f32) : FVec Ideal S128x128 .f32 := k0_pay20 (F := Ideal) (iota .tc S128x128 32 [1] iota_S128x128_d1_w32) x2 s q
/-- The maximum after the new keys. -/
def nwM (x2 : FVec Ideal S8x1024 .f32) (q : FVec Ideal S128x1024 .bf16) (s m : FVec Ideal S128x1 .f32) : FVec Ideal S128x1 .f32 := k0_pay25 (F := Ideal) (nwX x2 q s) m
/-- The denominator after the new keys. -/
def nwL (x2 : FVec Ideal S8x1024 .f32) (q : FVec Ideal S128x1024 .bf16) (s m l : FVec Ideal S128x1 .f32) : FVec Ideal S128x1 .f32 := k0_pay26 (F := Ideal) (nwX x2 q s) m l
/-- The numerators after the new keys. -/
def nwA (x2 x3 : FVec Ideal S8x1024 .f32) (q : FVec Ideal S128x1024 .bf16) (s m : FVec Ideal S128x1 .f32) (a : FVec Ideal S128x1024 .f32) : FVec Ideal S128x1024 .f32 := k0_pay27 (F := Ideal) (nwX x2 q s) (k0_pay21 (F := Ideal) x3) m a

/-- What case A leaves in the expanded queries. -/
theorem sA_0 (c : Dev nD) (i : grid0.Coords) (arg3 : Memref sig .tc .vmem S1x4x64 .f32) (harg3 : arg3.IsWhole) (arg4 : Memref sig .tc .vmem S8x1024 .f32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1x128x1024 .f32) (harg7 : arg7.IsWhole) (arg8 : Memref sig .tc .vmem S1x1x128x1024 .f32) (harg8 : arg8.IsWhole) (arg9 : Memref sig .tc .vmem S1x1x128 .f32) (harg9 : arg9.IsWhole) (arg10 : Memref sig .tc .vmem S8x1024 .f32) (harg10 : arg10.IsWhole) (arg11 : Memref sig .tc .vmem S128x1024 .bf16) (harg11 : arg11.IsWhole) (arg12 : Memref sig .tc .vmem S128x1 .f32) (harg12 : arg12.IsWhole) (arg13 : Memref sig .tc .vmem S128x1 .f32) (harg13 : arg13.IsWhole) (arg14 : Memref sig .tc .vmem S128x1 .f32) (harg14 : arg14.IsWhole) (arg15 : Memref sig .tc .vmem S128x1024 .f32) (harg15 : arg15.IsWhole) (hc0 : cond0_0 i) (hc1 : ¬cond0_1 i)
    (x0 : Vec Ideal S1x4x64 .f32) (x1 : Vec Ideal S8x1024 .f32) (x2 : Vec Ideal S8x1024 .f32) (x3 : Vec Ideal S8x1024 .f32) (x4 : Vec Ideal S1x1x128x1024 .f32) (x5 : Vec Ideal S1x1x128x1024 .f32) (x6 : Vec Ideal S1x1x128 .f32) (xt0 : TbBuf0 (F := Ideal) c tbM0_0) : sout0_A_0 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xt0 = qx0 x1 := by
  frame_out
  try simp only [Memref.IsWhole.read_unread]
  rfl

/-- What case A leaves in the slopes. -/
theorem sA_1 (c : Dev nD) (i : grid0.Coords) (arg3 : Memref sig .tc .vmem S1x4x64 .f32) (harg3 : arg3.IsWhole) (arg4 : Memref sig .tc .vmem S8x1024 .f32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1x128x1024 .f32) (harg7 : arg7.IsWhole) (arg8 : Memref sig .tc .vmem S1x1x128x1024 .f32) (harg8 : arg8.IsWhole) (arg9 : Memref sig .tc .vmem S1x1x128 .f32) (harg9 : arg9.IsWhole) (arg10 : Memref sig .tc .vmem S8x1024 .f32) (harg10 : arg10.IsWhole) (arg11 : Memref sig .tc .vmem S128x1024 .bf16) (harg11 : arg11.IsWhole) (arg12 : Memref sig .tc .vmem S128x1 .f32) (harg12 : arg12.IsWhole) (arg13 : Memref sig .tc .vmem S128x1 .f32) (harg13 : arg13.IsWhole) (arg14 : Memref sig .tc .vmem S128x1 .f32) (harg14 : arg14.IsWhole) (arg15 : Memref sig .tc .vmem S128x1024 .f32) (harg15 : arg15.IsWhole) (hc0 : cond0_0 i) (hc1 : ¬cond0_1 i)
    (x0 : Vec Ideal S1x4x64 .f32) (x1 : Vec Ideal S8x1024 .f32) (x2 : Vec Ideal S8x1024 .f32) (x3 : Vec Ideal S8x1024 .f32) (x4 : Vec Ideal S1x1x128x1024 .f32) (x5 : Vec Ideal S1x1x128x1024 .f32) (x6 : Vec Ideal S1x1x128 .f32) (xt0 : TbBuf0 (F := Ideal) c tbM0_0) : sout0_A_1 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xt0 = slope0 := by
  frame_out
  try simp only [Memref.IsWhole.read_unread]
  rfl

/-- What case A leaves in the running maximum. -/
theorem sA_2 (c : Dev nD) (i : grid0.Coords) (arg3 : Memref sig .tc .vmem S1x4x64 .f32) (harg3 : arg3.IsWhole) (arg4 : Memref sig .tc .vmem S8x1024 .f32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1x128x1024 .f32) (harg7 : arg7.IsWhole) (arg8 : Memref sig .tc .vmem S1x1x128x1024 .f32) (harg8 : arg8.IsWhole) (arg9 : Memref sig .tc .vmem S1x1x128 .f32) (harg9 : arg9.IsWhole) (arg10 : Memref sig .tc .vmem S8x1024 .f32) (harg10 : arg10.IsWhole) (arg11 : Memref sig .tc .vmem S128x1024 .bf16) (harg11 : arg11.IsWhole) (arg12 : Memref sig .tc .vmem S128x1 .f32) (harg12 : arg12.IsWhole) (arg13 : Memref sig .tc .vmem S128x1 .f32) (harg13 : arg13.IsWhole) (arg14 : Memref sig .tc .vmem S128x1 .f32) (harg14 : arg14.IsWhole) (arg15 : Memref sig .tc .vmem S128x1024 .f32) (harg15 : arg15.IsWhole) (hc0 : cond0_0 i) (hc1 : ¬cond0_1 i)
    (x0 : Vec Ideal S1x4x64 .f32) (x1 : Vec Ideal S8x1024 .f32) (x2 : Vec Ideal S8x1024 .f32) (x3 : Vec Ideal S8x1024 .f32) (x4 : Vec Ideal S1x1x128x1024 .f32) (x5 : Vec Ideal S1x1x128x1024 .f32) (x6 : Vec Ideal S1x1x128 .f32) (xt0 : TbBuf0 (F := Ideal) c tbM0_0) : sout0_A_2 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xt0 = pgM i x4 (qx0 x1) slope0 (k0_pay51 (F := Ideal)) := by
  frame_out
  try simp only [Memref.IsWhole.read_unread]
  rfl

/-- What case A leaves in the denominators. -/
theorem sA_3 (c : Dev nD) (i : grid0.Coords) (arg3 : Memref sig .tc .vmem S1x4x64 .f32) (harg3 : arg3.IsWhole) (arg4 : Memref sig .tc .vmem S8x1024 .f32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1x128x1024 .f32) (harg7 : arg7.IsWhole) (arg8 : Memref sig .tc .vmem S1x1x128x1024 .f32) (harg8 : arg8.IsWhole) (arg9 : Memref sig .tc .vmem S1x1x128 .f32) (harg9 : arg9.IsWhole) (arg10 : Memref sig .tc .vmem S8x1024 .f32) (harg10 : arg10.IsWhole) (arg11 : Memref sig .tc .vmem S128x1024 .bf16) (harg11 : arg11.IsWhole) (arg12 : Memref sig .tc .vmem S128x1 .f32) (harg12 : arg12.IsWhole) (arg13 : Memref sig .tc .vmem S128x1 .f32) (harg13 : arg13.IsWhole) (arg14 : Memref sig .tc .vmem S128x1 .f32) (harg14 : arg14.IsWhole) (arg15 : Memref sig .tc .vmem S128x1024 .f32) (harg15 : arg15.IsWhole) (hc0 : cond0_0 i) (hc1 : ¬cond0_1 i)
    (x0 : Vec Ideal S1x4x64 .f32) (x1 : Vec Ideal S8x1024 .f32) (x2 : Vec Ideal S8x1024 .f32) (x3 : Vec Ideal S8x1024 .f32) (x4 : Vec Ideal S1x1x128x1024 .f32) (x5 : Vec Ideal S1x1x128x1024 .f32) (x6 : Vec Ideal S1x1x128 .f32) (xt0 : TbBuf0 (F := Ideal) c tbM0_0) : sout0_A_3 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xt0 = pgL i x4 (qx0 x1) slope0 (k0_pay51 (F := Ideal)) (k0_pay52 (F := Ideal)) := by
  frame_out
  try simp only [Memref.IsWhole.read_unread]
  rfl

/-- What case A leaves in the numerators. -/
theorem sA_4 (c : Dev nD) (i : grid0.Coords) (arg3 : Memref sig .tc .vmem S1x4x64 .f32) (harg3 : arg3.IsWhole) (arg4 : Memref sig .tc .vmem S8x1024 .f32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1x128x1024 .f32) (harg7 : arg7.IsWhole) (arg8 : Memref sig .tc .vmem S1x1x128x1024 .f32) (harg8 : arg8.IsWhole) (arg9 : Memref sig .tc .vmem S1x1x128 .f32) (harg9 : arg9.IsWhole) (arg10 : Memref sig .tc .vmem S8x1024 .f32) (harg10 : arg10.IsWhole) (arg11 : Memref sig .tc .vmem S128x1024 .bf16) (harg11 : arg11.IsWhole) (arg12 : Memref sig .tc .vmem S128x1 .f32) (harg12 : arg12.IsWhole) (arg13 : Memref sig .tc .vmem S128x1 .f32) (harg13 : arg13.IsWhole) (arg14 : Memref sig .tc .vmem S128x1 .f32) (harg14 : arg14.IsWhole) (arg15 : Memref sig .tc .vmem S128x1024 .f32) (harg15 : arg15.IsWhole) (hc0 : cond0_0 i) (hc1 : ¬cond0_1 i)
    (x0 : Vec Ideal S1x4x64 .f32) (x1 : Vec Ideal S8x1024 .f32) (x2 : Vec Ideal S8x1024 .f32) (x3 : Vec Ideal S8x1024 .f32) (x4 : Vec Ideal S1x1x128x1024 .f32) (x5 : Vec Ideal S1x1x128x1024 .f32) (x6 : Vec Ideal S1x1x128 .f32) (xt0 : TbBuf0 (F := Ideal) c tbM0_0) : sout0_A_4 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xt0 = pgA i x4 x5 (qx0 x1) slope0 (k0_pay51 (F := Ideal)) (k0_pay53 (F := Ideal)) := by
  frame_out
  try simp only [Memref.IsWhole.read_unread]
  rfl

/-- What case B leaves in the expanded queries. -/
theorem sB_0 (c : Dev nD) (i : grid0.Coords) (arg3 : Memref sig .tc .vmem S1x4x64 .f32) (harg3 : arg3.IsWhole) (arg4 : Memref sig .tc .vmem S8x1024 .f32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1x128x1024 .f32) (harg7 : arg7.IsWhole) (arg8 : Memref sig .tc .vmem S1x1x128x1024 .f32) (harg8 : arg8.IsWhole) (arg9 : Memref sig .tc .vmem S1x1x128 .f32) (harg9 : arg9.IsWhole) (arg10 : Memref sig .tc .vmem S8x1024 .f32) (harg10 : arg10.IsWhole) (arg11 : Memref sig .tc .vmem S128x1024 .bf16) (harg11 : arg11.IsWhole) (arg12 : Memref sig .tc .vmem S128x1 .f32) (harg12 : arg12.IsWhole) (arg13 : Memref sig .tc .vmem S128x1 .f32) (harg13 : arg13.IsWhole) (arg14 : Memref sig .tc .vmem S128x1 .f32) (harg14 : arg14.IsWhole) (arg15 : Memref sig .tc .vmem S128x1024 .f32) (harg15 : arg15.IsWhole) (hc0 : ¬cond0_0 i) (hc1 : ¬cond0_1 i)
    (x0 : Vec Ideal S1x4x64 .f32) (x1 : Vec Ideal S8x1024 .f32) (x2 : Vec Ideal S8x1024 .f32) (x3 : Vec Ideal S8x1024 .f32) (x4 : Vec Ideal S1x1x128x1024 .f32) (x5 : Vec Ideal S1x1x128x1024 .f32) (x6 : Vec Ideal S1x1x128 .f32) (xt0 : TbBuf0 (F := Ideal) c tbM0_0) (xs0 : Vec Ideal S128x1024 .bf16) (xs1 : Vec Ideal S128x1 .f32) (xs2 : Vec Ideal S128x1 .f32) (xs3 : Vec Ideal S128x1 .f32) (xs4 : Vec Ideal S128x1024 .f32) : sout0_B_0 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xt0 xs0 xs1 xs2 xs3 xs4 = xs0 := rfl

/-- What case B leaves in the slopes. -/
theorem sB_1 (c : Dev nD) (i : grid0.Coords) (arg3 : Memref sig .tc .vmem S1x4x64 .f32) (harg3 : arg3.IsWhole) (arg4 : Memref sig .tc .vmem S8x1024 .f32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1x128x1024 .f32) (harg7 : arg7.IsWhole) (arg8 : Memref sig .tc .vmem S1x1x128x1024 .f32) (harg8 : arg8.IsWhole) (arg9 : Memref sig .tc .vmem S1x1x128 .f32) (harg9 : arg9.IsWhole) (arg10 : Memref sig .tc .vmem S8x1024 .f32) (harg10 : arg10.IsWhole) (arg11 : Memref sig .tc .vmem S128x1024 .bf16) (harg11 : arg11.IsWhole) (arg12 : Memref sig .tc .vmem S128x1 .f32) (harg12 : arg12.IsWhole) (arg13 : Memref sig .tc .vmem S128x1 .f32) (harg13 : arg13.IsWhole) (arg14 : Memref sig .tc .vmem S128x1 .f32) (harg14 : arg14.IsWhole) (arg15 : Memref sig .tc .vmem S128x1024 .f32) (harg15 : arg15.IsWhole) (hc0 : ¬cond0_0 i) (hc1 : ¬cond0_1 i)
    (x0 : Vec Ideal S1x4x64 .f32) (x1 : Vec Ideal S8x1024 .f32) (x2 : Vec Ideal S8x1024 .f32) (x3 : Vec Ideal S8x1024 .f32) (x4 : Vec Ideal S1x1x128x1024 .f32) (x5 : Vec Ideal S1x1x128x1024 .f32) (x6 : Vec Ideal S1x1x128 .f32) (xt0 : TbBuf0 (F := Ideal) c tbM0_0) (xs0 : Vec Ideal S128x1024 .bf16) (xs1 : Vec Ideal S128x1 .f32) (xs2 : Vec Ideal S128x1 .f32) (xs3 : Vec Ideal S128x1 .f32) (xs4 : Vec Ideal S128x1024 .f32) : sout0_B_1 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xt0 xs0 xs1 xs2 xs3 xs4 = xs1 := rfl

/-- What case B leaves in the running maximum. -/
theorem sB_2 (c : Dev nD) (i : grid0.Coords) (arg3 : Memref sig .tc .vmem S1x4x64 .f32) (harg3 : arg3.IsWhole) (arg4 : Memref sig .tc .vmem S8x1024 .f32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1x128x1024 .f32) (harg7 : arg7.IsWhole) (arg8 : Memref sig .tc .vmem S1x1x128x1024 .f32) (harg8 : arg8.IsWhole) (arg9 : Memref sig .tc .vmem S1x1x128 .f32) (harg9 : arg9.IsWhole) (arg10 : Memref sig .tc .vmem S8x1024 .f32) (harg10 : arg10.IsWhole) (arg11 : Memref sig .tc .vmem S128x1024 .bf16) (harg11 : arg11.IsWhole) (arg12 : Memref sig .tc .vmem S128x1 .f32) (harg12 : arg12.IsWhole) (arg13 : Memref sig .tc .vmem S128x1 .f32) (harg13 : arg13.IsWhole) (arg14 : Memref sig .tc .vmem S128x1 .f32) (harg14 : arg14.IsWhole) (arg15 : Memref sig .tc .vmem S128x1024 .f32) (harg15 : arg15.IsWhole) (hc0 : ¬cond0_0 i) (hc1 : ¬cond0_1 i)
    (x0 : Vec Ideal S1x4x64 .f32) (x1 : Vec Ideal S8x1024 .f32) (x2 : Vec Ideal S8x1024 .f32) (x3 : Vec Ideal S8x1024 .f32) (x4 : Vec Ideal S1x1x128x1024 .f32) (x5 : Vec Ideal S1x1x128x1024 .f32) (x6 : Vec Ideal S1x1x128 .f32) (xt0 : TbBuf0 (F := Ideal) c tbM0_0) (xs0 : Vec Ideal S128x1024 .bf16) (xs1 : Vec Ideal S128x1 .f32) (xs2 : Vec Ideal S128x1 .f32) (xs3 : Vec Ideal S128x1 .f32) (xs4 : Vec Ideal S128x1024 .f32) : sout0_B_2 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xt0 xs0 xs1 xs2 xs3 xs4 = pgM i x4 xs0 xs1 xs2 := by
  frame_out
  try simp only [Memref.IsWhole.read_unread]
  rfl

/-- What case B leaves in the denominators. -/
theorem sB_3 (c : Dev nD) (i : grid0.Coords) (arg3 : Memref sig .tc .vmem S1x4x64 .f32) (harg3 : arg3.IsWhole) (arg4 : Memref sig .tc .vmem S8x1024 .f32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1x128x1024 .f32) (harg7 : arg7.IsWhole) (arg8 : Memref sig .tc .vmem S1x1x128x1024 .f32) (harg8 : arg8.IsWhole) (arg9 : Memref sig .tc .vmem S1x1x128 .f32) (harg9 : arg9.IsWhole) (arg10 : Memref sig .tc .vmem S8x1024 .f32) (harg10 : arg10.IsWhole) (arg11 : Memref sig .tc .vmem S128x1024 .bf16) (harg11 : arg11.IsWhole) (arg12 : Memref sig .tc .vmem S128x1 .f32) (harg12 : arg12.IsWhole) (arg13 : Memref sig .tc .vmem S128x1 .f32) (harg13 : arg13.IsWhole) (arg14 : Memref sig .tc .vmem S128x1 .f32) (harg14 : arg14.IsWhole) (arg15 : Memref sig .tc .vmem S128x1024 .f32) (harg15 : arg15.IsWhole) (hc0 : ¬cond0_0 i) (hc1 : ¬cond0_1 i)
    (x0 : Vec Ideal S1x4x64 .f32) (x1 : Vec Ideal S8x1024 .f32) (x2 : Vec Ideal S8x1024 .f32) (x3 : Vec Ideal S8x1024 .f32) (x4 : Vec Ideal S1x1x128x1024 .f32) (x5 : Vec Ideal S1x1x128x1024 .f32) (x6 : Vec Ideal S1x1x128 .f32) (xt0 : TbBuf0 (F := Ideal) c tbM0_0) (xs0 : Vec Ideal S128x1024 .bf16) (xs1 : Vec Ideal S128x1 .f32) (xs2 : Vec Ideal S128x1 .f32) (xs3 : Vec Ideal S128x1 .f32) (xs4 : Vec Ideal S128x1024 .f32) : sout0_B_3 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xt0 xs0 xs1 xs2 xs3 xs4 = pgL i x4 xs0 xs1 xs2 xs3 := by
  frame_out
  try simp only [Memref.IsWhole.read_unread]
  rfl

/-- What case B leaves in the numerators. -/
theorem sB_4 (c : Dev nD) (i : grid0.Coords) (arg3 : Memref sig .tc .vmem S1x4x64 .f32) (harg3 : arg3.IsWhole) (arg4 : Memref sig .tc .vmem S8x1024 .f32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1x128x1024 .f32) (harg7 : arg7.IsWhole) (arg8 : Memref sig .tc .vmem S1x1x128x1024 .f32) (harg8 : arg8.IsWhole) (arg9 : Memref sig .tc .vmem S1x1x128 .f32) (harg9 : arg9.IsWhole) (arg10 : Memref sig .tc .vmem S8x1024 .f32) (harg10 : arg10.IsWhole) (arg11 : Memref sig .tc .vmem S128x1024 .bf16) (harg11 : arg11.IsWhole) (arg12 : Memref sig .tc .vmem S128x1 .f32) (harg12 : arg12.IsWhole) (arg13 : Memref sig .tc .vmem S128x1 .f32) (harg13 : arg13.IsWhole) (arg14 : Memref sig .tc .vmem S128x1 .f32) (harg14 : arg14.IsWhole) (arg15 : Memref sig .tc .vmem S128x1024 .f32) (harg15 : arg15.IsWhole) (hc0 : ¬cond0_0 i) (hc1 : ¬cond0_1 i)
    (x0 : Vec Ideal S1x4x64 .f32) (x1 : Vec Ideal S8x1024 .f32) (x2 : Vec Ideal S8x1024 .f32) (x3 : Vec Ideal S8x1024 .f32) (x4 : Vec Ideal S1x1x128x1024 .f32) (x5 : Vec Ideal S1x1x128x1024 .f32) (x6 : Vec Ideal S1x1x128 .f32) (xt0 : TbBuf0 (F := Ideal) c tbM0_0) (xs0 : Vec Ideal S128x1024 .bf16) (xs1 : Vec Ideal S128x1 .f32) (xs2 : Vec Ideal S128x1 .f32) (xs3 : Vec Ideal S128x1 .f32) (xs4 : Vec Ideal S128x1024 .f32) : sout0_B_4 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xt0 xs0 xs1 xs2 xs3 xs4 = pgA i x4 x5 xs0 xs1 xs2 xs4 := by
  frame_out
  try simp only [Memref.IsWhole.read_unread]
  rfl

variable (m : (ℓ : Loc nD τ sig) → Buf (Elt Ideal) ℓ) (hO : Ok m) (c : Dev nD)

theorem atA_0 (t : Fin (cfgM m hO).N) (h0 : t.val % 16 = 0) (h1 : ¬t.val % 16 = 15) : (outsAt0 m hO c t.val t.isLt).2.1 = qx0 (iblk m hO c 1 t) := by
  rw [outsAt0_A m hO c t h0 h1]
  dsimp only
  exact sA_0 ..

theorem atA_1 (t : Fin (cfgM m hO).N) (h0 : t.val % 16 = 0) (h1 : ¬t.val % 16 = 15) : (outsAt0 m hO c t.val t.isLt).2.2.1 = slope0 := by
  rw [outsAt0_A m hO c t h0 h1]
  dsimp only
  exact sA_1 ..

theorem atA_2 (t : Fin (cfgM m hO).N) (h0 : t.val % 16 = 0) (h1 : ¬t.val % 16 = 15) : (outsAt0 m hO c t.val t.isLt).2.2.2.1 = pgM (grid0.coords t) (iblk m hO c 4 t) (qx0 (iblk m hO c 1 t)) slope0 (k0_pay51 (F := Ideal)) := by
  rw [outsAt0_A m hO c t h0 h1]
  dsimp only
  exact sA_2 ..

theorem atA_3 (t : Fin (cfgM m hO).N) (h0 : t.val % 16 = 0) (h1 : ¬t.val % 16 = 15) : (outsAt0 m hO c t.val t.isLt).2.2.2.2.1 = pgL (grid0.coords t) (iblk m hO c 4 t) (qx0 (iblk m hO c 1 t)) slope0 (k0_pay51 (F := Ideal)) (k0_pay52 (F := Ideal)) := by
  rw [outsAt0_A m hO c t h0 h1]
  dsimp only
  exact sA_3 ..

theorem atA_4 (t : Fin (cfgM m hO).N) (h0 : t.val % 16 = 0) (h1 : ¬t.val % 16 = 15) : (outsAt0 m hO c t.val t.isLt).2.2.2.2.2 = pgA (grid0.coords t) (iblk m hO c 4 t) (iblk m hO c 5 t) (qx0 (iblk m hO c 1 t)) slope0 (k0_pay51 (F := Ideal)) (k0_pay53 (F := Ideal)) := by
  rw [outsAt0_A m hO c t h0 h1]
  dsimp only
  exact sA_4 ..

theorem atB_0 (t : Fin (cfgM m hO).N) (h0 : ¬t.val % 16 = 0) (h1 : ¬t.val % 16 = 15) : (outsAt0 m hO c t.val t.isLt).2.1 = (outsAt0 m hO c (t.val - 1) (by omega)).2.1 := by
  rw [outsAt0_B m hO c t h0 h1]
  dsimp only
  exact sB_0 ..

theorem atB_1 (t : Fin (cfgM m hO).N) (h0 : ¬t.val % 16 = 0) (h1 : ¬t.val % 16 = 15) : (outsAt0 m hO c t.val t.isLt).2.2.1 = (outsAt0 m hO c (t.val - 1) (by omega)).2.2.1 := by
  rw [outsAt0_B m hO c t h0 h1]
  dsimp only
  exact sB_1 ..

theorem atB_2 (t : Fin (cfgM m hO).N) (h0 : ¬t.val % 16 = 0) (h1 : ¬t.val % 16 = 15) : (outsAt0 m hO c t.val t.isLt).2.2.2.1 = pgM (grid0.coords t) (iblk m hO c 4 t) (outsAt0 m hO c (t.val - 1) (by omega)).2.1 (outsAt0 m hO c (t.val - 1) (by omega)).2.2.1 (outsAt0 m hO c (t.val - 1) (by omega)).2.2.2.1 := by
  rw [outsAt0_B m hO c t h0 h1]
  dsimp only
  exact sB_2 ..

theorem atB_3 (t : Fin (cfgM m hO).N) (h0 : ¬t.val % 16 = 0) (h1 : ¬t.val % 16 = 15) : (outsAt0 m hO c t.val t.isLt).2.2.2.2.1 = pgL (grid0.coords t) (iblk m hO c 4 t) (outsAt0 m hO c (t.val - 1) (by omega)).2.1 (outsAt0 m hO c (t.val - 1) (by omega)).2.2.1 (outsAt0 m hO c (t.val - 1) (by omega)).2.2.2.1 (outsAt0 m hO c (t.val - 1) (by omega)).2.2.2.2.1 := by
  rw [outsAt0_B m hO c t h0 h1]
  dsimp only
  exact sB_3 ..

theorem atB_4 (t : Fin (cfgM m hO).N) (h0 : ¬t.val % 16 = 0) (h1 : ¬t.val % 16 = 15) : (outsAt0 m hO c t.val t.isLt).2.2.2.2.2 = pgA (grid0.coords t) (iblk m hO c 4 t) (iblk m hO c 5 t) (outsAt0 m hO c (t.val - 1) (by omega)).2.1 (outsAt0 m hO c (t.val - 1) (by omega)).2.2.1 (outsAt0 m hO c (t.val - 1) (by omega)).2.2.2.1 (outsAt0 m hO c (t.val - 1) (by omega)).2.2.2.2.2 := by
  rw [outsAt0_B m hO c t h0 h1]
  dsimp only
  exact sB_4 ..

end Cert.AttnI
end
-- ==== Proof.Spec.lean ====
module

public import proofs.«01_k».proof.Proof.Online

@[expose] public section

noncomputable section

namespace Cert.Attn

open Idealize.ShloMosaic

/-- What the attention reads, as reals: the projected rows, the cached keys and values of a page (each position's
    lanes side by side), and the page each sample's place names. -/
structure Data where
  Z : Fin 9216 → Fin 5120 → ℝ
  CK : Fin 2560 → Fin 128 → Fin 1024 → ℝ
  CV : Fin 2560 → Fin 128 → Fin 1024 → ℝ
  pg : Fin 128 → Fin 16 → Fin 2560

variable (d : Data)

/-- The lane of a head, a half and a place within the half. -/
def lane (h : Fin 8) (a : Fin 2) (e : Fin 64) : Fin 1024 := ⟨128 * h.val + 64 * a.val + e.val, by omega⟩

/-- A head's slope. -/
def slope (h : Fin 8) : ℝ := (1 / 2 : ℝ) ^ (h.val + 1)

/-- A sample's query lane. -/
def Data.q (b : Fin 128) (i : Fin 8) (w : Fin 1024) : ℝ := d.Z ⟨8192 + 8 * b.val + i.val, by omega⟩ ⟨w.val, by omega⟩
/-- A sample's new key lane. -/
def Data.kn (b : Fin 128) (i : Fin 8) (w : Fin 1024) : ℝ := d.Z ⟨8192 + 8 * b.val + i.val, by omega⟩ ⟨1024 + w.val, by omega⟩
/-- A sample's new value lane. -/
def Data.vn (b : Fin 128) (i : Fin 8) (w : Fin 1024) : ℝ := d.Z ⟨8192 + 8 * b.val + i.val, by omega⟩ ⟨2048 + w.val, by omega⟩

/-- A cached key's score, less a term the same for every key of the query. -/
def Data.sC (b : Fin 128) (i h : Fin 8) (a : Fin 2) (j : Fin 16) (k : Fin 128) : ℝ :=
  (∑ e, d.q b i (lane h a e) * 0.125 * d.CK (d.pg b j) k (lane h a e)) + slope h * (128 * (j.val : ℝ) + k.val - 2048)
/-- A new key's score, less the same term. -/
def Data.sN (b : Fin 128) (i h : Fin 8) (a : Fin 2) (k : Fin 8) : ℝ :=
  (∑ e, d.q b i (lane h a e) * 0.125 * d.kn b k (lane h a e)) + slope h * (k.val : ℝ)

/-- The softmax's denominator. -/
def Data.den (b : Fin 128) (i h : Fin 8) (a : Fin 2) : ℝ :=
  (∑ j, ∑ k, Real.exp (d.sC b i h a j k)) + ∑ k : Fin 8, wt (k.val ≤ i.val) (d.sN b i h a k)
/-- The weighted values. -/
def Data.num (b : Fin 128) (i h : Fin 8) (a : Fin 2) (w : Fin 1024) : ℝ :=
  (∑ j, ∑ k, Real.exp (d.sC b i h a j k) * d.CV (d.pg b j) k w) + ∑ k : Fin 8, wt (k.val ≤ i.val) (d.sN b i h a k) * d.vn b k w

theorem wt_nonneg (P : Prop) [Decidable P] (s : ℝ) : 0 ≤ wt P s := by
  unfold wt; split
  · exact (Real.exp_pos _).le
  · exact le_rfl

theorem Data.den_pos (b : Fin 128) (i h : Fin 8) (a : Fin 2) : 0 < d.den b i h a := by
  unfold Data.den
  have : 0 < ∑ j : Fin 16, ∑ k : Fin 128, Real.exp (d.sC b i h a j k) :=
    Finset.sum_pos (fun j _ => Finset.sum_pos (fun k _ => Real.exp_pos _) ⟨0, Finset.mem_univ _⟩) ⟨0, Finset.mem_univ _⟩
  have h2 : 0 ≤ ∑ k : Fin 8, wt (k.val ≤ i.val) (d.sN b i h a k) := Finset.sum_nonneg fun k _ => wt_nonneg _ _
  linarith

/-- A head's output column before its normalisation: the first half's attention less the weighted second half's. -/
def Data.o (lam : ℝ) (b : Fin 128) (i h : Fin 8) (e : Fin 128) : ℝ :=
  d.num b i h 0 ⟨128 * h.val + e.val, by omega⟩ / d.den b i h 0 - lam * (d.num b i h 1 ⟨128 * h.val + e.val, by omega⟩ / d.den b i h 1)

/-- A sum over all lanes of what vanishes outside one head's half is the sum over the half. -/
theorem sum_lane (r : Fin 128) (f : Fin 1024 → ℝ) :
    (∑ x : Fin 1024, if r.val / 64 = x.val / 64 % 2 ∧ r.val / 8 % 8 = x.val / 128 then f x else 0) = ∑ e, f (lane ⟨r.val / 8 % 8, by omega⟩ ⟨r.val / 64, by omega⟩ e) := by
  rw [Fin.sum_univ_tiles 16 64 rfl]
  have hr := r.isLt
  rw [Finset.sum_eq_single_of_mem (⟨2 * (r.val / 8 % 8) + r.val / 64, by omega⟩ : Fin 16) (Finset.mem_univ _)]
  · refine Finset.sum_congr rfl fun e _ => ?_
    have he := e.isLt
    rw [if_pos ⟨by dsimp only; omega, by dsimp only; omega⟩]
    exact congrArg f (Fin.ext (by dsimp only [lane]; omega))
  · intro g _ hg
    refine Finset.sum_eq_zero fun e _ => ?_
    have he := e.isLt
    have hgl := g.isLt
    rw [if_neg]
    rintro ⟨h1, h2⟩
    refine hg (Fin.ext ?_)
    dsimp only at h1 h2 ⊢
    omega

end Cert.Attn

end
-- ==== Proof.InvI.lean ====
module

public import proofs.«01_k».proof.Proof.CasesI
public import proofs.«01_k».proof.Proof.Spec
public import Idealize.ShloMosaic.Lib.Pipeline.ValueKit
public import Idealize.ShloMosaic.Lib.Pointwise

@[expose] public section

set_option maxRecDepth 16384

noncomputable section

namespace Cert.AttnI

open Idealize.ShloMosaic Idealize.ShloMosaic.TcCoe Idealize.ShloMosaic.Tactic
open Idealize.SL.Sem
open Cert.AttnSIdeal Cert.AttnSIdeal.Gen

open Cert.Attn

variable (d : Data) (b : Fin 128)

/-- A row's place in the block, head, and half. -/
def ri (r : Fin 128) : Fin 8 := ⟨r.val % 8, by omega⟩
def rh (r : Fin 128) : Fin 8 := ⟨r.val / 8 % 8, by omega⟩
def ra (r : Fin 128) : Fin 2 := ⟨r.val / 64, by omega⟩

/-- The expanded queries hold a block's scaled queries, each in its head's and half's row. -/
def IsQx (q : FVec Ideal S128x1024 .bf16) : Prop := ∀ (r : Fin 128) (w : Fin 1024), q (ix2 r w) = ((if r.val / 64 = w.val / 64 % 2 ∧ r.val / 8 % 8 = w.val / 128 then d.q b (ri r) w * 0.125 else 0 : ℝ) : EReal)
/-- The slopes' column holds each row's head's slope. -/
def IsSlope (s : FVec Ideal S128x1 .f32) : Prop := ∀ r : Fin 128, s (ix2 r 0) = (slope (rh r) : EReal)

theorem isQx0 (x1 : FVec Ideal S8x1024 .f32) (h : ∀ i w, x1 (ix2 i w) = (d.q b i w : EReal)) : IsQx d b (qx0 x1) := by
  intro r w
  unfold qx0
  rw [qx_at]
  split
  · rw [h, ← EReal.coe_mul]; rfl
  · simp

theorem isSlope0 : IsSlope slope0 := by
  intro r
  unfold slope0
  rw [slope_at]; rfl

variable {d b}

/-- A row of the expanded queries against a vector of lanes is the query's half against the half's lanes. -/
theorem dot_qx {q : FVec Ideal S128x1024 .bf16} (hq : IsQx d b q) (r : Fin 128) (f : Fin 1024 → ℝ) :
    ∑ x : Fin 1024, q (ix2 r x) * (f x : EReal) = ((∑ e, d.q b (ri r) (lane (rh r) (ra r) e) * 0.125 * f (lane (rh r) (ra r) e) : ℝ) : EReal) := by
  simp only [hq r, ← EReal.coe_mul]
  rw [← coe_sum]
  congr 1
  refine Eq.trans ?_ (sum_lane r (fun x => d.q b (ri r) x * 0.125 * f x))
  refine Finset.sum_congr rfl fun x _ => ?_
  split <;> simp

/-- A page's scores are the cached keys'. -/
theorem score_page {q : FVec Ideal S128x1024 .bf16} (hq : IsQx d b q) {s : FVec Ideal S128x1 .f32} (hs : IsSlope s) (i : grid0.Coords) (x4 : FVec Ideal S1x1x128x1024 .f32) (j : Fin 16)
    (hi : (i 1).val = j.val) (hx : ∀ k w, x4 (ix4 0 0 k w) = (d.CK (d.pg b j) k w : EReal)) (r k : Fin 128) :
    k0_pay54 (F := Ideal) i x4 s q (ix2 r k) = (d.sC b (ri r) (rh r) (ra r) j k : EReal) := by
  rw [pay54_at, hs r, hi]
  simp only [hx]
  rw [dot_qx hq r (fun x => d.CK (d.pg b j) k x), ← EReal.coe_mul, ← EReal.coe_add]
  rfl

/-- The part of a denominator a page adds; none past the sixteenth. -/
def dC (d : Data) (b : Fin 128) (r : Fin 128) (j : ℕ) : ℝ := if hj : j < 16 then ∑ k, Real.exp (d.sC b (ri r) (rh r) (ra r) ⟨j, hj⟩ k) else 0
/-- The part of the numerators a page adds. -/
def nC (d : Data) (b : Fin 128) (r : Fin 128) (j : ℕ) (w : Fin 1024) : ℝ := if hj : j < 16 then ∑ k, Real.exp (d.sC b (ri r) (rh r) (ra r) ⟨j, hj⟩ k) * d.CV (d.pg b ⟨j, hj⟩) k w else 0

/-- The state before page `j`: the running maximum, denominators and numerators are the pages' sums so far. -/
def St (d : Data) (b : Fin 128) (n : ℕ) (m l : FVec Ideal S128x1 .f32) (a : FVec Ideal S128x1024 .f32) : Prop :=
  ∀ r : Fin 128, Inv (m (ix2 r 0)) (l (ix2 r 0)) (fun w : Fin 1024 => a (ix2 r w)) (∑ j ∈ Finset.range n, dC d b r j) (fun w => ∑ j ∈ Finset.range n, nC d b r j w)

theorem st_start : St d b 0 (k0_pay51 (F := Ideal)) (k0_pay52 (F := Ideal)) (k0_pay53 (F := Ideal)) := by
  intro r
  simp only [pay51_at, pay52_at, pay53_at, Finset.range_zero, Finset.sum_empty]
  exact inv_start

/-- A page step adds the page's part. -/
theorem st_page {q : FVec Ideal S128x1024 .bf16} (hq : IsQx d b q) {s : FVec Ideal S128x1 .f32} (hs : IsSlope s) (i : grid0.Coords) (x4 x5 : FVec Ideal S1x1x128x1024 .f32) (j : Fin 16)
    (hi : (i 1).val = j.val) (hx : ∀ k w, x4 (ix4 0 0 k w) = (d.CK (d.pg b j) k w : EReal)) (hv : ∀ k w, x5 (ix4 0 0 k w) = (d.CV (d.pg b j) k w : EReal))
    {m l : FVec Ideal S128x1 .f32} {a : FVec Ideal S128x1024 .f32} (h : St d b j.val m l a) : St d b (j.val + 1) (pgM i x4 q s m) (pgL i x4 q s m l) (pgA i x4 x5 q s m a) := by
  intro r
  have e := inv_step (h r) (fun _ : Fin 128 => True) (fun k => d.sC b (ri r) (rh r) (ra r) j k) ⟨0, trivial⟩ (fun k w => d.CV (d.pg b j) k w)
    (pgM i x4 q s m (ix2 r 0)) (by
      unfold pgM
      rw [pay1_at, pay56_at]
      simp only [score_page hq hs i x4 j hi hx, score, if_true])
  unfold pgL pgA
  simp only [pay2_at, pay3_at, pay55_at, pay57_at, pay58_at, score_page hq hs i x4 j hi hx, hv, Finset.sum_range_succ]
  have hd : dC d b r j.val = ∑ k, Real.exp (d.sC b (ri r) (rh r) (ra r) j k) := dif_pos j.isLt
  have hn : ∀ w, nC d b r j.val w = ∑ k, Real.exp (d.sC b (ri r) (rh r) (ra r) j k) * d.CV (d.pg b j) k w := fun w => dif_pos j.isLt
  simp only [hd, hn]
  unfold pgM at e ⊢
  simp only [pay1_at, score, wt, if_true] at e ⊢
  exact e

/-- A sum over 128 lanes of what vanishes past the eighth is the sum over the eight. -/
theorem sum_eight (f : Fin 128 → ℝ) (g : Fin 8 → ℝ) (h : ∀ k : Fin 8, f ⟨k.val, by omega⟩ = g k) (h0 : ∀ k : Fin 128, 8 ≤ k.val → f k = 0) : ∑ k, f k = ∑ k, g k := by
  have e := Fin.sum_univ_add (a := 8) (b := 120) f
  refine e.trans ?_
  rw [Finset.sum_eq_zero (s := Finset.univ) (f := fun k : Fin 120 => f (Fin.natAdd 8 k)) (fun k _ => h0 _ (by simp)), add_zero]
  exact Finset.sum_congr rfl fun k _ => h k

/-- The new keys' step finishes the sums. -/
theorem st_new {q : FVec Ideal S128x1024 .bf16} (hq : IsQx d b q) {s : FVec Ideal S128x1 .f32} (hs : IsSlope s) (x2 x3 : FVec Ideal S8x1024 .f32)
    (hx : ∀ k w, x2 (ix2 k w) = (d.kn b k w : EReal)) (hv : ∀ k w, x3 (ix2 k w) = (d.vn b k w : EReal))
    {m l : FVec Ideal S128x1 .f32} {a : FVec Ideal S128x1024 .f32} (h : St d b 16 m l a) (r : Fin 128) :
    Inv (nwM x2 q s m (ix2 r 0)) (nwL x2 q s m l (ix2 r 0)) (fun w : Fin 1024 => nwA x2 x3 q s m a (ix2 r w)) (d.den b (ri r) (rh r) (ra r)) (fun w => d.num b (ri r) (rh r) (ra r) w) := by
  have hX : ∀ k : Fin 128, nwX x2 q s (ix2 r k) = score (k.val ≤ r.val % 8) (if hk : k.val < 8 then d.sN b (ri r) (rh r) (ra r) ⟨k.val, hk⟩ else 0) := by
    intro k
    unfold nwX score
    rw [pay20_at]
    by_cases hk : k.val ≤ r.val % 8
    · have hk8 : k.val < 8 := by omega
      rw [if_pos hk, if_pos hk, hs r, dif_pos hk8]
      simp only [dif_pos hk8, hx]
      rw [dot_qx hq r (fun x => d.kn b ⟨k.val, hk8⟩ x), ← EReal.coe_mul, ← EReal.coe_add]
      rfl
    · rw [if_neg hk, if_neg hk]
  have hV : ∀ (k : Fin 128) (w : Fin 1024), k0_pay21 (F := Ideal) x3 (ix2 k w) = ((if hk : k.val < 8 then d.vn b ⟨k.val, hk⟩ w else 0 : ℝ) : EReal) := by
    intro k w
    rw [pay21_at]
    split
    · rw [hv]
    · simp
  have e := inv_step (h r) (fun k : Fin 128 => k.val ≤ r.val % 8) (fun k => if hk : k.val < 8 then d.sN b (ri r) (rh r) (ra r) ⟨k.val, hk⟩ else 0) ⟨⟨0, by omega⟩, Nat.zero_le _⟩
    (fun k w => if hk : k.val < 8 then d.vn b ⟨k.val, hk⟩ w else 0)
    (nwM x2 q s m (ix2 r 0)) (by
      unfold nwM
      rw [pay25_at, pay22_at]
      simp only [hX])
  unfold nwL nwA
  simp only [pay26_at, pay27_at, hX, hV]
  have hd : d.den b (ri r) (rh r) (ra r) = (∑ j ∈ Finset.range 16, dC d b r j) + ∑ k : Fin 128, wt (k.val ≤ r.val % 8) (if hk : k.val < 8 then d.sN b (ri r) (rh r) (ra r) ⟨k.val, hk⟩ else 0) := by
    unfold Data.den
    rw [Finset.sum_range]
    refine congrArg₂ _ (Finset.sum_congr rfl fun j _ => ?_) ?_
    · unfold dC; rw [dif_pos j.isLt]
    refine (sum_eight _ _ (fun k => ?_) (fun k hk => ?_)).symm
    · dsimp only; rw [dif_pos k.isLt]; rfl
    · unfold wt; rw [if_neg (by omega)]
  have hn : ∀ w, d.num b (ri r) (rh r) (ra r) w = (∑ j ∈ Finset.range 16, nC d b r j w) + ∑ k : Fin 128, wt (k.val ≤ r.val % 8) (if hk : k.val < 8 then d.sN b (ri r) (rh r) (ra r) ⟨k.val, hk⟩ else 0) * (if hk : k.val < 8 then d.vn b ⟨k.val, hk⟩ w else 0) := by
    intro w
    unfold Data.num
    rw [Finset.sum_range]
    refine congrArg₂ _ (Finset.sum_congr rfl fun j _ => ?_) ?_
    · unfold nC; rw [dif_pos j.isLt]
    refine (sum_eight _ _ (fun k => ?_) (fun k hk => ?_)).symm
    · dsimp only; rw [dif_pos k.isLt, dif_pos k.isLt]; rfl
    · rw [dif_neg (not_lt.mpr hk), dif_neg (not_lt.mpr hk), mul_zero]
  simp only [hd, hn]
  unfold nwM at e ⊢
  simp only [pay25_at] at e ⊢
  exact e

/-- The output's head difference, from the finished sums. -/
theorem diff_eq {M l : FVec Ideal S128x1 .f32} {a : FVec Ideal S128x1024 .f32} (h : ∀ r : Fin 128, Inv (M (ix2 r 0)) (l (ix2 r 0)) (fun w : Fin 1024 => a (ix2 r w)) (d.den b (ri r) (rh r) (ra r)) (fun w => d.num b (ri r) (rh r) (ra r) w))
    (lam : ℝ) (hh i : Fin 8) : diff (lam : EReal) (k0_pay31 (F := Ideal) a l) hh i = fun e => (d.o lam b i hh e : EReal) := by
  funext e
  unfold diff Data.o
  rw [pay31_at, pay31_at]
  have h1 := inv_div (h ⟨8 * hh.val + i.val, by omega⟩) (d.den_pos ..) ⟨128 * hh.val + e.val, by omega⟩
  have h2 := inv_div (h ⟨64 + 8 * hh.val + i.val, by omega⟩) (d.den_pos ..) ⟨128 * hh.val + e.val, by omega⟩
  have i1 : ri ⟨8 * hh.val + i.val, by omega⟩ = i := Fin.ext (by dsimp only [ri]; omega)
  have i2 : ri ⟨64 + 8 * hh.val + i.val, by omega⟩ = i := Fin.ext (by dsimp only [ri]; omega)
  have j1 : rh ⟨8 * hh.val + i.val, by omega⟩ = hh := Fin.ext (by dsimp only [rh]; omega)
  have j2 : rh ⟨64 + 8 * hh.val + i.val, by omega⟩ = hh := Fin.ext (by dsimp only [rh]; omega)
  have k1 : ra ⟨8 * hh.val + i.val, by omega⟩ = 0 := Fin.ext (by dsimp only [ra]; show _ = 0; omega)
  have k2 : ra ⟨64 + 8 * hh.val + i.val, by omega⟩ = 1 := Fin.ext (by dsimp only [ra]; show _ = 1; omega)
  rw [i1, j1, k1] at h1
  rw [i2, j2, k2] at h2
  refine (congrArg₂ (fun x y : EReal => x - (lam : EReal) * y) h1 h2).trans ?_
  rw [← EReal.coe_mul, ← EReal.coe_sub]

end Cert.AttnI
end
-- ==== Proof.OutI.lean ====
module

public import proofs.«01_k».proof.Proof.CasesI
public import Idealize.ShloMosaic.Lib.Pipeline.ValueKit
public import Idealize.ShloMosaic.Lib.Pointwise

@[expose] public section

set_option maxRecDepth 16384

noncomputable section

namespace Cert.AttnI

open Idealize.ShloMosaic Idealize.ShloMosaic.TcCoe Idealize.ShloMosaic.Tactic
open Idealize.SL.Sem
open Cert.AttnSIdeal Cert.AttnSIdeal.Gen

/-- What case C leaves in the output block: a head's normalised difference in the head's columns. -/
theorem sC_7 (c : Dev nD) (i : grid0.Coords) (arg3 : Memref sig .tc .vmem S1x4x64 .f32) (harg3 : arg3.IsWhole) (arg4 : Memref sig .tc .vmem S8x1024 .f32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1x128x1024 .f32) (harg7 : arg7.IsWhole) (arg8 : Memref sig .tc .vmem S1x1x128x1024 .f32) (harg8 : arg8.IsWhole) (arg9 : Memref sig .tc .vmem S1x1x128 .f32) (harg9 : arg9.IsWhole) (arg10 : Memref sig .tc .vmem S8x1024 .f32) (harg10 : arg10.IsWhole) (arg11 : Memref sig .tc .vmem S128x1024 .bf16) (harg11 : arg11.IsWhole) (arg12 : Memref sig .tc .vmem S128x1 .f32) (harg12 : arg12.IsWhole) (arg13 : Memref sig .tc .vmem S128x1 .f32) (harg13 : arg13.IsWhole) (arg14 : Memref sig .tc .vmem S128x1 .f32) (harg14 : arg14.IsWhole) (arg15 : Memref sig .tc .vmem S128x1024 .f32) (harg15 : arg15.IsWhole) (hc0 : ¬cond0_0 i) (hc1 : cond0_1 i)
    (x0 : Vec Ideal S1x4x64 .f32) (x1 : Vec Ideal S8x1024 .f32) (x2 : Vec Ideal S8x1024 .f32) (x3 : Vec Ideal S8x1024 .f32) (x4 : Vec Ideal S1x1x128x1024 .f32) (x5 : Vec Ideal S1x1x128x1024 .f32) (x6 : Vec Ideal S1x1x128 .f32) (xt0 : TbBuf0 (F := Ideal) c tbM0_0) (xs0 : Vec Ideal S128x1024 .bf16) (xs1 : Vec Ideal S128x1 .f32) (xs2 : Vec Ideal S128x1 .f32) (xs3 : Vec Ideal S128x1 .f32) (xs4 : Vec Ideal S128x1024 .f32) (a : Fin 8) (h : Fin 8) (e : Fin 128) : out0_C_7 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xt0 xs0 xs1 xs2 xs3 xs4 (ix2 a ⟨128 * h.val + e.val, by omega⟩) =
    rms (diff (k0_pay30 (F := Ideal) (k0_pay28 (F := Ideal) x0) (k0_pay29 (F := Ideal)) (ix2 0 0)) (k0_pay31 (F := Ideal) (nwA x2 x3 xs0 xs1 (pgM i x4 xs0 xs1 xs2) (pgA i x4 x5 xs0 xs1 xs2 xs4)) (nwL x2 xs0 xs1 (pgM i x4 xs0 xs1 xs2) (pgL i x4 xs0 xs1 xs2 xs3))) h a) (fun e => x6 (ix3 0 0 e)) e := by
  frame_out
  canon_tiles x hx
  · replace hx0 : a.val = (x 0).val := hx0
    replace hx1 : 128 * h.val + e.val = 896 + (x 1).val := by simpa using hx1
    have hh : h = 7 := Fin.ext (by show h.val = 7; omega)
    have hx : x = ix2 a e := by
      funext q
      fin_cases q
      · exact Fin.ext hx0.symm
      · exact Fin.ext (show (x 1).val = e.val by omega)
    rw [hh, hx]
    exact head7_at ..
  · replace hx0 : a.val = (x 0).val := hx0
    replace hx1 : 128 * h.val + e.val = 768 + (x 1).val := by simpa using hx1
    have hh : h = 6 := Fin.ext (by show h.val = 6; omega)
    have hx : x = ix2 a e := by
      funext q
      fin_cases q
      · exact Fin.ext hx0.symm
      · exact Fin.ext (show (x 1).val = e.val by omega)
    rw [hh, hx]
    exact head6_at ..
  · replace hx0 : a.val = (x 0).val := hx0
    replace hx1 : 128 * h.val + e.val = 640 + (x 1).val := by simpa using hx1
    have hh : h = 5 := Fin.ext (by show h.val = 5; omega)
    have hx : x = ix2 a e := by
      funext q
      fin_cases q
      · exact Fin.ext hx0.symm
      · exact Fin.ext (show (x 1).val = e.val by omega)
    rw [hh, hx]
    exact head5_at ..
  · replace hx0 : a.val = (x 0).val := hx0
    replace hx1 : 128 * h.val + e.val = 512 + (x 1).val := by simpa using hx1
    have hh : h = 4 := Fin.ext (by show h.val = 4; omega)
    have hx : x = ix2 a e := by
      funext q
      fin_cases q
      · exact Fin.ext hx0.symm
      · exact Fin.ext (show (x 1).val = e.val by omega)
    rw [hh, hx]
    exact head4_at ..
  · replace hx0 : a.val = (x 0).val := hx0
    replace hx1 : 128 * h.val + e.val = 384 + (x 1).val := by simpa using hx1
    have hh : h = 3 := Fin.ext (by show h.val = 3; omega)
    have hx : x = ix2 a e := by
      funext q
      fin_cases q
      · exact Fin.ext hx0.symm
      · exact Fin.ext (show (x 1).val = e.val by omega)
    rw [hh, hx]
    exact head3_at ..
  · replace hx0 : a.val = (x 0).val := hx0
    replace hx1 : 128 * h.val + e.val = 256 + (x 1).val := by simpa using hx1
    have hh : h = 2 := Fin.ext (by show h.val = 2; omega)
    have hx : x = ix2 a e := by
      funext q
      fin_cases q
      · exact Fin.ext hx0.symm
      · exact Fin.ext (show (x 1).val = e.val by omega)
    rw [hh, hx]
    exact head2_at ..
  · replace hx0 : a.val = (x 0).val := hx0
    replace hx1 : 128 * h.val + e.val = 128 + (x 1).val := by simpa using hx1
    have hh : h = 1 := Fin.ext (by show h.val = 1; omega)
    have hx : x = ix2 a e := by
      funext q
      fin_cases q
      · exact Fin.ext hx0.symm
      · exact Fin.ext (show (x 1).val = e.val by omega)
    rw [hh, hx]
    exact head1_at ..
  · replace hx0 : a.val = (x 0).val := hx0
    replace hx1 : 128 * h.val + e.val = 0 + (x 1).val := by simpa using hx1
    have hh : h = 0 := Fin.ext (by show h.val = 0; omega)
    have hx : x = ix2 a e := by
      funext q
      fin_cases q
      · exact Fin.ext hx0.symm
      · exact Fin.ext (show (x 1).val = e.val by omega)
    rw [hh, hx]
    exact head0_at ..
end Cert.AttnI
end
-- ==== Proof.BlocksI.lean ====
module

public import proofs.«01_k».proof.Proof.FrameI
public import proofs.«01_k».proof.Proof.OkI
public import Idealize.ShloMosaic.Lib.Pipeline.ValueKit
public import Idealize.ShloMosaic.Lib.Pointwise

@[expose] public section

set_option maxRecDepth 16384

noncomputable section

namespace Cert.AttnI

open Idealize.ShloMosaic Idealize.ShloMosaic.TcCoe Idealize.ShloMosaic.Tactic
open Idealize.SL.Sem
open Cert.AttnSIdeal Cert.AttnSIdeal.Gen

variable (m : (ℓ : Loc nD τ sig) → Buf (Elt Ideal) ℓ) (hO : Ok m) (c : Dev nD)

/-- The launch has 2048 points. -/
theorem lt_N (t : Fin (cfgM m hO).N) : t.val < 2048 := t.isLt.trans_eq (by decide +kernel : grid0.N = 2048)

/-- The index maps that read no table, at every point. -/
theorem idx : ∀ t : Fin grid0.N, cc0_transform_0 (grid0.coords t) = ![0, 0, 0] ∧ cc0_transform_1 (grid0.coords t) = ![1024 + t.val / 16, 0] ∧ cc0_transform_2 (grid0.coords t) = ![1024 + t.val / 16, 1] ∧ cc0_transform_3 (grid0.coords t) = ![1024 + t.val / 16, 2] ∧ cc0_transform_6 (grid0.coords t) = ![0, 0, 0] ∧ cc0_transform_7 (grid0.coords t) = ![t.val / 16, 0] ∧ (grid0.coords t 0).val = t.val / 16 ∧ (grid0.coords t 1).val = t.val % 16 := by
  decide +kernel

/-- The word a page window's index map reads is the page table's at the point. -/
theorem off_at : ∀ t : Fin grid0.N, k0_off1 (grid0.coords t) = ![t.val] := by
  decide +kernel

theorem blk1 (t : Fin (cfgM m hO).N) (i : Fin 8) (w : Fin 1024) (h : t.val < 2048) :
    iblk m hO c 1 t (ix2 i w) = m ((c : Thread nD τ).loc main_arg0) (ix2 ⟨8192 + 8 * (t.val / 16) + i.val, by omega⟩ ⟨0 + w.val, by omega⟩) := by
  have e : (pcfg0.win (adm m hO) 1).index t = ![1024 + t.val / 16, 0] := (idx t).2.1
  have e0 : (pcfg0.win (adm m hO) 1).index t 0 = 1024 + t.val / 16 := congrFun e 0
  have e1 : (pcfg0.win (adm m hO) 1).index t 1 = 0 := congrFun e 1
  blk_ext [iblk, V]
  · exact (congrArg (fun z => z * 8 + i.val) e0).trans (by first | omega | (dsimp only; omega) | dsimp only)
  · exact (congrArg (fun z => z * 1024 + w.val) e1).trans (by first | omega | (dsimp only; omega) | dsimp only)

theorem blk2 (t : Fin (cfgM m hO).N) (i : Fin 8) (w : Fin 1024) (h : t.val < 2048) :
    iblk m hO c 2 t (ix2 i w) = m ((c : Thread nD τ).loc main_arg0) (ix2 ⟨8192 + 8 * (t.val / 16) + i.val, by omega⟩ ⟨1024 + w.val, by omega⟩) := by
  have e : (pcfg0.win (adm m hO) 2).index t = ![1024 + t.val / 16, 1] := (idx t).2.2.1
  have e0 : (pcfg0.win (adm m hO) 2).index t 0 = 1024 + t.val / 16 := congrFun e 0
  have e1 : (pcfg0.win (adm m hO) 2).index t 1 = 1 := congrFun e 1
  blk_ext [iblk, V]
  · exact (congrArg (fun z => z * 8 + i.val) e0).trans (by first | omega | (dsimp only; omega) | dsimp only)
  · exact (congrArg (fun z => z * 1024 + w.val) e1).trans (by first | omega | (dsimp only; omega) | dsimp only)

theorem blk3 (t : Fin (cfgM m hO).N) (i : Fin 8) (w : Fin 1024) (h : t.val < 2048) :
    iblk m hO c 3 t (ix2 i w) = m ((c : Thread nD τ).loc main_arg0) (ix2 ⟨8192 + 8 * (t.val / 16) + i.val, by omega⟩ ⟨2048 + w.val, by omega⟩) := by
  have e : (pcfg0.win (adm m hO) 3).index t = ![1024 + t.val / 16, 2] := (idx t).2.2.2.1
  have e0 : (pcfg0.win (adm m hO) 3).index t 0 = 1024 + t.val / 16 := congrFun e 0
  have e1 : (pcfg0.win (adm m hO) 3).index t 1 = 2 := congrFun e 1
  blk_ext [iblk, V]
  · exact (congrArg (fun z => z * 8 + i.val) e0).trans (by first | omega | (dsimp only; omega) | dsimp only)
  · exact (congrArg (fun z => z * 1024 + w.val) e1).trans (by first | omega | (dsimp only; omega) | dsimp only)

theorem V_v6 (c : Dev nD) : V m c main_v6 = shapeCast S2x2560x128x1024 (m ((c : Thread nD τ).loc main_arg1)) shapeCasts_S2x2560x128x8x2x64_S2x2560x128x1024 := by
  unfold V hostOps0; after_results; try rfl
theorem V_v7 (c : Dev nD) : V m c main_v7 = shapeCast S2x2560x128x1024 (m ((c : Thread nD τ).loc main_arg2)) shapeCasts_S2x2560x128x8x128_S2x2560x128x1024 := by
  unfold V hostOps0; after_results; try rfl
theorem V_v0 (c : Dev nD) : V m c main_v0 = shapeCast S2x1x128 (m ((c : Thread nD τ).loc main_arg8)) shapeCasts_S2x128_S2x1x128 := by
  unfold V hostOps0; after_results; try rfl

/-- The page table's word at a point, as a number. -/
def pgN (m : (ℓ : Loc nD τ sig) → Buf (Elt Ideal) ℓ) (b : Fin 128) (j : Fin 16) : Nat := ((m (((0 : Dev nD) : Thread nD τ).loc main_arg3) : IVec S128x16 32) (ix2 b j)).toNat

theorem page (t : Fin (cfgM m hO).N) (h : t.val < 2048) : (tbl m).at 0 (Rect.unit (s := S2048) (k0_off1 (grid0.coords t)) S1.size (k0_off1_inb (grid0.coords t))) numel1_S1 = (m (((0 : Dev nD) : Thread nD τ).loc main_arg3) : IVec S128x16 32) (ix2 ⟨t.val / 16, by omega⟩ ⟨t.val % 16, by omega⟩) := by
  have e := off_at t
  show (V m 0 main_v8 : IVec S2048 32) _ = _
  rw [V_v8]
  pointwise
  have e2 : ∀ hp, ((Rect.unit (s := S2048) (k0_off1 (grid0.coords t)) S1.size (k0_off1_inb (grid0.coords t))).emb (Shape.Idx.first hp) 0).val = t.val := by
    intro hp
    show k0_off1 (grid0.coords t) 0 + 1 * 0 = t.val
    rw [e]; rfl
  refine congrArg _ ?_
  funext q
  fin_cases q
  · exact Fin.ext (congrArg (fun z => z / 16) (e2 _))
  · exact Fin.ext (congrArg (fun z => z % 16) (e2 _))

theorem blk4 (t : Fin (cfgM m hO).N) (k : Fin 128) (w : Fin 1024) (h : t.val < 2048) (n : Fin 2560) (hn : n.val = pgN m ⟨t.val / 16, by omega⟩ ⟨t.val % 16, by omega⟩) :
    iblk m hO c 4 t (ix4 0 0 k w) = m ((c : Thread nD τ).loc main_arg1) (ix6 0 n k ⟨w.val / 128, by omega⟩ ⟨w.val / 64 % 2, by omega⟩ ⟨w.val % 64, by omega⟩) := by
  have e : (pcfg0.win (adm m hO) 4).index t = ![0, ((tbl m).at 0 (Rect.unit (s := S2048) (k0_off1 (grid0.coords t)) S1.size (k0_off1_inb (grid0.coords t))) numel1_S1 : BitVec 32).toNat, 0, 0] := rfl
  rw [page m hO t h] at e
  have e0 : (pcfg0.win (adm m hO) 4).index t 0 = 0 := congrFun e 0
  have e1 : (pcfg0.win (adm m hO) 4).index t 1 = n.val := (congrFun e 1).trans hn.symm
  have e2 : (pcfg0.win (adm m hO) 4).index t 2 = 0 := congrFun e 2
  have e3 : (pcfg0.win (adm m hO) 4).index t 3 = 0 := congrFun e 3
  show (V m c main_v6 : FVec Ideal S2x2560x128x1024 .f32) _ = _
  rw [V_v6]
  pointwise
  blk_ext
  · exact (congrArg (fun z => z + 0) e0).trans (by omega)
  · exact (congrArg (fun z => z + 0) e1).trans (by omega)
  · exact (congrArg (fun z => z * 128 + k.val) e2).trans (by omega)
  · exact (congrArg (fun z => (z * 1024 + w.val) / 128) e3).trans (by omega)

theorem blk5 (t : Fin (cfgM m hO).N) (k : Fin 128) (w : Fin 1024) (h : t.val < 2048) (n : Fin 2560) (hn : n.val = pgN m ⟨t.val / 16, by omega⟩ ⟨t.val % 16, by omega⟩) :
    iblk m hO c 5 t (ix4 0 0 k w) = m ((c : Thread nD τ).loc main_arg2) (ix5 0 n k ⟨w.val / 128, by omega⟩ ⟨w.val % 128, by omega⟩) := by
  have e : (pcfg0.win (adm m hO) 5).index t = ![0, ((tbl m).at 0 (Rect.unit (s := S2048) (k0_off1 (grid0.coords t)) S1.size (k0_off1_inb (grid0.coords t))) numel1_S1 : BitVec 32).toNat, 0, 0] := rfl
  rw [page m hO t h] at e
  have e0 : (pcfg0.win (adm m hO) 5).index t 0 = 0 := congrFun e 0
  have e1 : (pcfg0.win (adm m hO) 5).index t 1 = n.val := (congrFun e 1).trans hn.symm
  have e2 : (pcfg0.win (adm m hO) 5).index t 2 = 0 := congrFun e 2
  have e3 : (pcfg0.win (adm m hO) 5).index t 3 = 0 := congrFun e 3
  show (V m c main_v7 : FVec Ideal S2x2560x128x1024 .f32) _ = _
  rw [V_v7]
  pointwise
  blk_ext
  · exact (congrArg (fun z => z + 0) e0).trans (by omega)
  · exact (congrArg (fun z => z + 0) e1).trans (by omega)
  · exact (congrArg (fun z => z * 128 + k.val) e2).trans (by omega)
  · exact (congrArg (fun z => (z * 1024 + w.val) / 128) e3).trans (by omega)

theorem blk6 (t : Fin (cfgM m hO).N) (e : Fin 128) : iblk m hO c 6 t (ix3 0 0 e) = m ((c : Thread nD τ).loc main_arg8) (ix2 0 e) := by
  have h : (pcfg0.win (adm m hO) 6).index t = ![0, 0, 0] := (idx t).2.2.2.2.1
  have e0 : (pcfg0.win (adm m hO) 6).index t 0 = 0 := congrFun h 0
  have e1 : (pcfg0.win (adm m hO) 6).index t 1 = 0 := congrFun h 1
  have e2 : (pcfg0.win (adm m hO) 6).index t 2 = 0 := congrFun h 2
  show (V m c main_v0 : FVec Ideal S2x1x128 .f32) _ = _
  rw [V_v0]
  pointwise
  blk_ext
  · exact (congrArg (fun z => z + 0) e0).trans (by omega)
  · exact (congrArg (fun z => z * 128 + e.val) e2).trans (by omega)

theorem V_v5 (c : Dev nD) (q : Fin 4) (x : Fin 64) : (V m c main_v5 : FVec Ideal S2x4x64 .f32) (ix3 0 q x) = match q with
    | 0 => m ((c : Thread nD τ).loc main_arg4) (ix2 0 x)
    | 1 => m ((c : Thread nD τ).loc main_arg5) (ix2 0 x)
    | 2 => m ((c : Thread nD τ).loc main_arg6) (ix2 0 x)
    | 3 => m ((c : Thread nD τ).loc main_arg7) (ix2 0 x) := by
  have h : V m c main_v5 = concatenate S2x4x64 1 [⟨S2x1x64, (broadcastInDim S2x1x64 ![0, 2] bcast_S2x64_S2x1x64_0_2 (m ((c : Thread nD τ).loc main_arg4)) : FVec Ideal S2x1x64 .f32)⟩, ⟨S2x1x64, (broadcastInDim S2x1x64 ![0, 2] bcast_S2x64_S2x1x64_0_2 (m ((c : Thread nD τ).loc main_arg5)) : FVec Ideal S2x1x64 .f32)⟩, ⟨S2x1x64, (broadcastInDim S2x1x64 ![0, 2] bcast_S2x64_S2x1x64_0_2 (m ((c : Thread nD τ).loc main_arg6)) : FVec Ideal S2x1x64 .f32)⟩, ⟨S2x1x64, (broadcastInDim S2x1x64 ![0, 2] bcast_S2x64_S2x1x64_0_2 (m ((c : Thread nD τ).loc main_arg7)) : FVec Ideal S2x1x64 .f32)⟩] concatenates_S2x1x64_S2x1x64_S2x1x64_S2x1x64_S2x4x64_d1 := by
    unfold V hostOps0; after_results; rfl
  rw [h]
  fin_cases q <;> pointwise

theorem blk0 (t : Fin (cfgM m hO).N) (q : Fin 4) (x : Fin 64) : iblk m hO c 0 t (ix3 0 q x) = (V m c main_v5 : FVec Ideal S2x4x64 .f32) (ix3 0 q x) := by
  have h : (pcfg0.win (adm m hO) 0).index t = ![0, 0, 0] := (idx t).1
  have e0 : (pcfg0.win (adm m hO) 0).index t 0 = 0 := congrFun h 0
  have e1 : (pcfg0.win (adm m hO) 0).index t 1 = 0 := congrFun h 1
  have e2 : (pcfg0.win (adm m hO) 0).index t 2 = 0 := congrFun h 2
  show (V m c main_v5 : FVec Ideal S2x4x64 .f32) _ = _
  blk_ext
  · exact (congrArg (fun z => z + 0) e0).trans (by omega)
  · exact (congrArg (fun z => z * 4 + q.val) e1).trans (by omega)
  · exact (congrArg (fun z => z * 64 + x.val) e2).trans (by omega)

end Cert.AttnI
end
-- ==== Proof.FinI.lean ====
module

public import proofs.«01_k».proof.Proof.InvI
public import proofs.«01_k».proof.Proof.OutI
public import proofs.«01_k».proof.Proof.BlocksI
public import Idealize.ShloMosaic.Lib.Pipeline.ValueKit
public import Idealize.ShloMosaic.Lib.Pointwise

@[expose] public section

set_option maxRecDepth 16384

noncomputable section

namespace Cert.AttnI

open Idealize.ShloMosaic Idealize.ShloMosaic.TcCoe Idealize.ShloMosaic.Tactic
open Idealize.SL.Sem
open Cert.AttnSIdeal Cert.AttnSIdeal.Gen

open Cert.Attn

/-- The kernel's arguments hold the data, as reals. -/
structure Reads (m : (ℓ : Loc nD τ sig) → Buf (Elt Ideal) ℓ) (c : Dev nD) (d : Data) : Prop where
  z : ∀ r w, (m ((c : Thread nD τ).loc main_arg0) : FVec Ideal S9216x5120 .f32) (ix2 r w) = (d.Z r w : EReal)
  ck : ∀ n k (w : Fin 1024), (m ((c : Thread nD τ).loc main_arg1) : FVec Ideal S2x2560x128x8x2x64 .f32) (ix6 0 n k ⟨w.val / 128, by omega⟩ ⟨w.val / 64 % 2, by omega⟩ ⟨w.val % 64, by omega⟩) = (d.CK n k w : EReal)
  cv : ∀ n k (w : Fin 1024), (m ((c : Thread nD τ).loc main_arg2) : FVec Ideal S2x2560x128x8x128 .f32) (ix5 0 n k ⟨w.val / 128, by omega⟩ ⟨w.val % 128, by omega⟩) = (d.CV n k w : EReal)
  pg : ∀ b j, (d.pg b j).val = pgN m b j

variable {m : (ℓ : Loc nD τ sig) → Buf (Elt Ideal) ℓ} (hO : Ok m) {c : Dev nD} {d : Data} (R : Reads m c d)
include R

theorem in1 (t : Fin (cfgM m hO).N) (b : Fin 128) (hb : t.val / 16 = b.val) (i : Fin 8) (w : Fin 1024) : iblk m hO c 1 t (ix2 i w) = (d.q b i w : EReal) := by
  rw [blk1 m hO c t i w (lt_N m hO t)]
  refine (R.z _ _).trans (congrArg _ ?_)
  unfold Data.q
  congr 1
  · exact Fin.ext (by dsimp only; omega)
  · exact Fin.ext (by dsimp only; omega)

theorem in2 (t : Fin (cfgM m hO).N) (b : Fin 128) (hb : t.val / 16 = b.val) (i : Fin 8) (w : Fin 1024) : iblk m hO c 2 t (ix2 i w) = (d.kn b i w : EReal) := by
  rw [blk2 m hO c t i w (lt_N m hO t)]
  refine (R.z _ _).trans (congrArg _ ?_)
  unfold Data.kn
  congr 1
  exact Fin.ext (by dsimp only; omega)

theorem in3 (t : Fin (cfgM m hO).N) (b : Fin 128) (hb : t.val / 16 = b.val) (i : Fin 8) (w : Fin 1024) : iblk m hO c 3 t (ix2 i w) = (d.vn b i w : EReal) := by
  rw [blk3 m hO c t i w (lt_N m hO t)]
  refine (R.z _ _).trans (congrArg _ ?_)
  unfold Data.vn
  congr 1
  exact Fin.ext (by dsimp only; omega)

theorem in4 (t : Fin (cfgM m hO).N) (b : Fin 128) (hb : t.val / 16 = b.val) (j : Fin 16) (hj : t.val % 16 = j.val) (k : Fin 128) (w : Fin 1024) : iblk m hO c 4 t (ix4 0 0 k w) = (d.CK (d.pg b j) k w : EReal) := by
  have eb : (⟨t.val / 16, by have := lt_N m hO t; omega⟩ : Fin 128) = b := Fin.ext hb
  have ej : (⟨t.val % 16, by omega⟩ : Fin 16) = j := Fin.ext hj
  rw [blk4 m hO c t k w (lt_N m hO t) (d.pg b j) (by rw [R.pg, eb, ej])]
  exact R.ck _ _ _

theorem in5 (t : Fin (cfgM m hO).N) (b : Fin 128) (hb : t.val / 16 = b.val) (j : Fin 16) (hj : t.val % 16 = j.val) (k : Fin 128) (w : Fin 1024) : iblk m hO c 5 t (ix4 0 0 k w) = (d.CV (d.pg b j) k w : EReal) := by
  have eb : (⟨t.val / 16, by have := lt_N m hO t; omega⟩ : Fin 128) = b := Fin.ext hb
  have ej : (⟨t.val % 16, by omega⟩ : Fin 16) = j := Fin.ext hj
  rw [blk5 m hO c t k w (lt_N m hO t) (d.pg b j) (by rw [R.pg, eb, ej])]
  exact R.cv _ _ _

/-- The state after each point of a block but the last. -/
theorem state (b : Fin 128) : ∀ (n : ℕ) (hn : n < 15) (t : Fin (cfgM m hO).N) (ht : t.val = 16 * b.val + n),
    IsQx d b (outsAt0 m hO c t.val t.isLt).2.1 ∧ IsSlope (outsAt0 m hO c t.val t.isLt).2.2.1 ∧ St d b (n + 1) (outsAt0 m hO c t.val t.isLt).2.2.2.1 (outsAt0 m hO c t.val t.isLt).2.2.2.2.1 (outsAt0 m hO c t.val t.isLt).2.2.2.2.2 := by
  intro n
  induction n with
  | zero =>
    intro hn t ht
    have h0 : t.val % 16 = 0 := by omega
    have h1 : ¬t.val % 16 = 15 := by omega
    have hb : t.val / 16 = b.val := by omega
    have hc : (grid0.coords t 1).val = (0 : Fin 16).val := (idx t).2.2.2.2.2.2.2.trans h0
    rw [atA_0 m hO c t h0 h1, atA_1 m hO c t h0 h1, atA_2 m hO c t h0 h1, atA_3 m hO c t h0 h1, atA_4 m hO c t h0 h1]
    have q0 := isQx0 d b (iblk m hO c 1 t) (in1 hO R t b hb)
    exact ⟨q0, isSlope0, st_page q0 isSlope0 _ _ _ 0 hc (in4 hO R t b hb 0 h0) (in5 hO R t b hb 0 h0) st_start⟩
  | succ n ih =>
    intro hn t ht
    have h0 : ¬t.val % 16 = 0 := by omega
    have h1 : ¬t.val % 16 = 15 := by omega
    have hb : t.val / 16 = b.val := by omega
    have hj : t.val % 16 = (⟨n + 1, by omega⟩ : Fin 16).val := by dsimp only; omega
    have hc : (grid0.coords t 1).val = (⟨n + 1, by omega⟩ : Fin 16).val := (idx t).2.2.2.2.2.2.2.trans hj
    have hp := ih (by omega) ⟨t.val - 1, by have := t.isLt; omega⟩ (by dsimp only; omega)
    rw [atB_0 m hO c t h0 h1, atB_1 m hO c t h0 h1, atB_2 m hO c t h0 h1, atB_3 m hO c t h0 h1, atB_4 m hO c t h0 h1]
    exact ⟨hp.1, hp.2.1, st_page hp.1 hp.2.1 _ _ _ ⟨n + 1, by omega⟩ hc (in4 hO R t b hb _ hj) (in5 hO R t b hb _ hj) hp.2.2⟩

/-- The output block at a block's last point. -/
theorem out_last (b : Fin 128) (t : Fin (cfgM m hO).N) (ht : t.val = 16 * b.val + 15) (lam : ℝ)
    (hlam : lamOf (fun x => iblk m hO c 0 t (ix3 0 0 x)) (fun x => iblk m hO c 0 t (ix3 0 1 x)) (fun x => iblk m hO c 0 t (ix3 0 2 x)) (fun x => iblk m hO c 0 t (ix3 0 3 x)) = (lam : EReal)) (a h : Fin 8) (e : Fin 128) :
    (outsAt0 m hO c t.val t.isLt).1 (ix2 a ⟨128 * h.val + e.val, by omega⟩) = rms (fun e => (d.o lam b a h e : EReal)) (fun e => m ((c : Thread nD τ).loc main_arg8) (ix2 0 e)) e := by
  have h0 : ¬t.val % 16 = 0 := by omega
  have h1 : t.val % 16 = 15 := by omega
  have hb : t.val / 16 = b.val := by omega
  have hj : t.val % 16 = (15 : Fin 16).val := h1
  have hc : (grid0.coords t 1).val = (15 : Fin 16).val := (idx t).2.2.2.2.2.2.2.trans hj
  have hp := state hO R b 14 (by omega) ⟨t.val - 1, by have := t.isLt; omega⟩ (by dsimp only; omega)
  rw [outsAt0_C m hO c t h0 h1]
  dsimp only
  refine (sC_7 (a := a) (h := h) (e := e) ..).trans ?_
  have h16 := st_page hp.1 hp.2.1 (grid0.coords t) (iblk m hO c 4 t) (iblk m hO c 5 t) 15 hc (in4 hO R t b hb _ hj) (in5 hO R t b hb _ hj) hp.2.2
  have hfin := st_new hp.1 hp.2.1 (iblk m hO c 2 t) (iblk m hO c 3 t) (in2 hO R t b hb) (in3 hO R t b hb) h16
  have hd := diff_eq hfin lam h a
  have hg : (fun e : Fin 128 => iblk m hO c 6 t (ix3 0 0 e)) = fun e => m ((c : Thread nD τ).loc main_arg8) (ix2 0 e) := funext fun e => blk6 m hO c t e
  exact (congrArg₂ (fun x g => rms x g e) ((congrArg (fun z => diff z _ h a) ((lam_at _).trans hlam)).trans hd) hg)

end Cert.AttnI
end
-- ==== Proof.ArrI.lean ====
module

public import proofs.«01_k».proof.Proof.FinI
public import Idealize.ShloMosaic.Lib.Pipeline.ValueKit
public import Idealize.ShloMosaic.Lib.Pointwise

@[expose] public section

set_option maxRecDepth 16384

noncomputable section

namespace Cert.AttnI

open Idealize.ShloMosaic Idealize.ShloMosaic.TcCoe Idealize.ShloMosaic.Tactic
open Idealize.SL.Sem
open Cert.AttnSIdeal Cert.AttnSIdeal.Gen

open Cert.Attn

/-- The attention's output array. -/
def outArr (m : (ℓ : Loc nD τ sig) → Buf (Elt Ideal) ℓ) (c : Dev nD) (d : Data) (lam : ℝ) : FVec Ideal S1024x1024 .f32 := fun y =>
  rms (fun e => (d.o lam ⟨(y 0).val / 8, by have := (y 0).isLt; change _ < 1024 at this; omega⟩ ⟨(y 0).val % 8, by omega⟩ ⟨(y 1).val / 128, by have := (y 1).isLt; change _ < 1024 at this; omega⟩ e : EReal)) (fun e => m ((c : Thread nD τ).loc main_arg8) (ix2 0 e)) ⟨(y 1).val % 128, by omega⟩

theorem outArr_at (m : (ℓ : Loc nD τ sig) → Buf (Elt Ideal) ℓ) (c : Dev nD) (d : Data) (lam : ℝ) (y : S1024x1024.Idx) (b : Fin 128) (a h : Fin 8) (e : Fin 128)
    (h0 : (y 0).val = 8 * b.val + a.val) (h1 : (y 1).val = 128 * h.val + e.val) :
    outArr m c d lam y = rms (fun e => (d.o lam b a h e : EReal)) (fun e => m ((c : Thread nD τ).loc main_arg8) (ix2 0 e)) e := by
  unfold outArr
  have eb : (⟨(y 0).val / 8, by omega⟩ : Fin 128) = b := Fin.ext (by dsimp only; omega)
  have ea : (⟨(y 0).val % 8, by omega⟩ : Fin 8) = a := Fin.ext (by dsimp only; omega)
  have eh : (⟨(y 1).val / 128, by omega⟩ : Fin 8) = h := Fin.ext (by dsimp only; omega)
  have ee : (⟨(y 1).val % 128, by omega⟩ : Fin 128) = e := Fin.ext (by dsimp only; omega)
  rw [eb, ea, eh, ee]

variable {m : (ℓ : Loc nD τ sig) → Buf (Elt Ideal) ℓ} (hO : Ok m) {c : Dev nD} {d : Data}

theorem covers : ((cfgM m hO).win 7).Covers := by
  refine ⟨fun a => by fin_cases a; exact (by decide : 0 < 8); exact (by decide : 0 < 1024), fun β => ?_⟩
  have e0 : ((cfgM m hO).win 7).nblk (0 : Fin 2) = (1024 + 8 - 1) / 8 := rfl
  have e1 : ((cfgM m hO).win 7).nblk (1 : Fin 2) = (1024 + 1024 - 1) / 1024 := rfl
  have hβ : (β (0 : Fin 2)).val < 128 := lt_of_lt_of_eq (β (0 : Fin 2)).isLt e0
  have hN : (cfgM m hO).grid.N = 2048 := N_0
  refine ⟨⟨16 * (β (0 : Fin 2)).val + 15, lt_of_lt_of_eq (by omega : _ < 2048) hN.symm⟩, (flush0_7 (adm m hO) _).mpr (by dsimp only; omega), fun a => ?_⟩
  have e := (idx (⟨16 * (β (0 : Fin 2)).val + 15, by rw [show grid0.N = 2048 from by decide +kernel]; omega⟩ : Fin grid0.N)).2.2.2.2.2.1
  fin_cases a
  · refine ⟨(congrFun e (0 : Fin 2)).trans ?_, Or.inl ?_⟩
    · show (16 * (β (0 : Fin 2)).val + 15) / 16 = (β (0 : Fin 2)).val
      omega
    · rfl
  · refine ⟨(congrFun e (1 : Fin 2)).trans ?_, Or.inl ?_⟩
    · have h1 : (β (1 : Fin 2)).val < 1 := lt_of_lt_of_eq (β (1 : Fin 2)).isLt e1
      show 0 = (β (1 : Fin 2)).val
      omega
    · rfl

theorem arr_out (R : Reads m c d) (lam : ℝ)
    (hlam : ∀ t, lamOf (fun x => iblk m hO c 0 t (ix3 0 0 x)) (fun x => iblk m hO c 0 t (ix3 0 1 x)) (fun x => iblk m hO c 0 t (ix3 0 2 x)) (fun x => iblk m hO c 0 t (ix3 0 3 x)) = (lam : EReal)) :
    (dats m hO 0 c).arrAt 7 (cfgM m hO).N = outArr m c d lam := by
  refine (dats m hO 0 c).arrAt_eq_of_covers 7 _ (covers hO) fun t hf yy => ?_
  obtain ⟨y, hyy⟩ : ∃ y : S8x1024.Idx, y = yy := ⟨yy, rfl⟩
  have h15 : t.val % 16 = 15 := (flush0_7 (adm m hO) t).mp hf
  have ht : t.val < 2048 := lt_N m hO t
  have e := (idx t).2.2.2.2.2.1
  have y0 : (y 0).val < 8 := (y 0).isLt
  have y1 : (y 1).val < 1024 := (y 1).isLt
  have hy : y = (ix2 ⟨(y 0).val, y0⟩ ⟨128 * ((y 1).val / 128) + (y 1).val % 128, by omega⟩ : S8x1024.Idx) := by
    funext q
    fin_cases q
    · rfl
    · exact Fin.ext (by show (y 1).val = 128 * ((y 1).val / 128) + (y 1).val % 128; omega)
  have hout := out_last hO R ⟨t.val / 16, by omega⟩ t (by dsimp only; omega) lam (hlam t) ⟨(y 0).val, y0⟩ ⟨(y 1).val / 128, by omega⟩ ⟨(y 1).val % 128, by omega⟩
  have hA := outArr_at m c d lam ((((cfgM m hO).win 7).blk t).view.emb yy) ⟨t.val / 16, by omega⟩ ⟨(y 0).val, y0⟩ ⟨(y 1).val / 128, by omega⟩ ⟨(y 1).val % 128, by omega⟩
    (by
      have e0 : (pcfg0.win (adm m hO) 7).index t 0 = t.val / 16 := congrFun e 0
      rw [← hyy]
      blk_simp
      exact (congrArg (fun z => z * 8 + (y 0).val) e0).trans (by dsimp only; omega))
    (by
      have e1 : (pcfg0.win (adm m hO) 7).index t 1 = 0 := congrFun e 1
      rw [← hyy]
      blk_simp
      exact (congrArg (fun z => z * 1024 + (y 1).val) e1).trans (by dsimp only; omega))
  refine Eq.trans ?_ (hout.trans hA.symm)
  refine (congrFun (after0_7 m hO c t) _).trans ?_
  exact congrArg (outsAt0 m hO c t.val t.isLt).1 (hyy.symm.trans hy)

end Cert.AttnI
end
-- ==== Proof.RefA.lean ====
module

public import proofs.«01_k».proof.Proof.Gen.AttnRefIdeal.Read
public import proofs.«01_k».proof.Proof.Spec
public import Idealize.ShloMosaic.Lib.Pipeline.ValueKit
public import Idealize.ShloMosaic.Lib.Pointwise
public import Idealize.ShloMosaic.Lib.ValueIdxRank6

@[expose] public section

set_option maxRecDepth 16384

noncomputable section

namespace Cert.AttnR

open Idealize.ShloMosaic Idealize.ShloMosaic.TcCoe Idealize.ShloMosaic.Tactic
open Idealize.SL.Sem
open Cert.AttnRefIdeal Cert.AttnRefIdeal.Gen Cert.AttnRefIdeal.Read

open Cert.Attn

/-- The reference's arguments hold the data, as reals. -/
structure Reads (x0 : FVec Ideal S9216x5120 .f32) (x1 : FVec Ideal S2x2560x128x8x2x64 .f32) (x2 : FVec Ideal S2x2560x128x8x128 .f32) (x3 : IVec S128x16 32) (d : Data) : Prop where
  z : ∀ r w, x0 (ix2 r w) = (d.Z r w : EReal)
  ck : ∀ n k h a e, x1 (ix6 0 n k h a e) = (d.CK n k (lane h a e) : EReal)
  cv : ∀ n k (h : Fin 8) (e : Fin 128), x2 (ix5 0 n k h e) = (d.CV n k ⟨128 * h.val + e.val, by omega⟩ : EReal)
  pg : ∀ b j, (d.pg b j).val = (x3 (ix2 b j)).toNat

section
variable (x1 : FVec Ideal S2x2560x128x8x2x64 .f32) (x2 : FVec Ideal S2x2560x128x8x128 .f32) (x3 : IVec S128x16 32)

theorem siIdx34 (b : Fin 128) (j : Fin 16) (k : Fin 128) (h : Fin 8) (a : Fin 2) (e : Fin 64) (idx : IVec S128x16x2 32) :
    Host.gather gather_S2x2560x128x8x2x64_S128x16x2_S128x16x128x8x2x64_2345_01_n_n_01_2_111288264 x1 idx (ix6 b j k h a e)
      = x1 (ix6 ⟨min (idx (ix3 b j 0)).toInt.toNat (2 - 1), by omega⟩ ⟨min (idx (ix3 b j 1)).toInt.toNat (2560 - 1), by omega⟩ k h a e) := by
  unfold Host.gather
  refine congrArg x1 (funext fun q => ?_)
  fin_cases q
  · refine Fin.ext (congrArg (fun p => min (idx p).toInt.toNat (2 - 1)) (funext fun q => ?_))
    fin_cases q <;> rfl
  · refine Fin.ext (congrArg (fun p => min (idx p).toInt.toNat (2560 - 1)) (funext fun q => ?_))
    fin_cases q <;> rfl
  · exact Fin.ext (Nat.zero_add k.val)
  · exact Fin.ext (Nat.zero_add h.val)
  · exact Fin.ext (Nat.zero_add a.val)
  · exact Fin.ext (Nat.zero_add e.val)

theorem siIdx46 (b : Fin 128) (j : Fin 16) (k : Fin 128) (h : Fin 8) (e : Fin 128) (idx : IVec S128x16x2 32) :
    Host.gather gather_S2x2560x128x8x128_S128x16x2_S128x16x128x8x128_234_01_n_n_01_2_111288128 x2 idx (ix5 b j k h e)
      = x2 (ix5 ⟨min (idx (ix3 b j 0)).toInt.toNat (2 - 1), by omega⟩ ⟨min (idx (ix3 b j 1)).toInt.toNat (2560 - 1), by omega⟩ k h e) := by
  unfold Host.gather
  refine congrArg x2 (funext fun q => ?_)
  fin_cases q
  · refine Fin.ext (congrArg (fun p => min (idx p).toInt.toNat (2 - 1)) (funext fun q => ?_))
    fin_cases q <;> rfl
  · refine Fin.ext (congrArg (fun p => min (idx p).toInt.toNat (2560 - 1)) (funext fun q => ?_))
    fin_cases q <;> rfl
  · exact Fin.ext (Nat.zero_add k.val)
  · exact Fin.ext (Nat.zero_add h.val)
  · exact Fin.ext (Nat.zero_add e.val)

/-- A page number below the bound is not negative. -/
theorem word_pos (w : BitVec 32) (h : w.toNat < 2560) : Scalar.select (IntOp.cmpi .slt w 0#32) (IntOp.addi w 2560#32) w = w ∧ w.toInt.toNat = w.toNat := by
  have e : w.toInt = w.toNat := BitVec.toInt_eq_toNat_of_lt (by omega)
  have e2 : IntOp.cmpi .slt w 0#32 = 0#1 := by
    have : ¬ w.toInt < 0 := by omega
    simp [IntOp.cmpi, BitVec.slt, this]
  exact ⟨by rw [e2]; rfl, by omega⟩

theorem v33_0 (b : Fin 128) (j : Fin 16) : val_main_v33 (F := Ideal) x3 (ix3 b j 0) = 0#32 := by
  pointwise [val_main_v33, val_main_v31, val_main_v30, val_main_v29, val_main_c_3]
  rfl
theorem v33_1 (b : Fin 128) (j : Fin 16) (h : (x3 (ix2 b j)).toNat < 2560) : val_main_v33 (F := Ideal) x3 (ix3 b j 1) = x3 (ix2 b j) := by
  refine Eq.trans ?_ (word_pos _ h).1
  pointwise [val_main_v33, val_main_v32, val_main_v28, val_main_v25, val_main_v24, val_main_c, val_main_v27, val_main_v26, val_main_c_2]
theorem v45_0 (b : Fin 128) (j : Fin 16) : val_main_v45 (F := Ideal) x3 (ix3 b j 0) = 0#32 := by
  pointwise [val_main_v45, val_main_v43, val_main_v42, val_main_v41, val_main_c_6]
  rfl
theorem v45_1 (b : Fin 128) (j : Fin 16) (h : (x3 (ix2 b j)).toNat < 2560) : val_main_v45 (F := Ideal) x3 (ix3 b j 1) = x3 (ix2 b j) := by
  refine Eq.trans ?_ (word_pos _ h).1
  pointwise [val_main_v45, val_main_v44, val_main_v40, val_main_v37, val_main_v36, val_main_c_4, val_main_v39, val_main_v38, val_main_c_5]

end

section
variable {x0 : FVec Ideal S9216x5120 .f32} {x1 : FVec Ideal S2x2560x128x8x2x64 .f32} {x2 : FVec Ideal S2x2560x128x8x128 .f32} {x3 : IVec S128x16 32} {d : Data} (R : Reads x0 x1 x2 x3 d)
include R

theorem v35_at (b : Fin 128) (j : Fin 16) (k : Fin 128) (h : Fin 8) (a : Fin 2) (e : Fin 64) :
    val_main_v35 (F := Ideal) x1 x3 (ix5 b ⟨128 * j.val + k.val, by omega⟩ h a e) = (d.CK (d.pg b j) k (lane h a e) : EReal) := by
  have hp := R.pg b j
  have hlt : (x3 (ix2 b j)).toNat < 2560 := hp ▸ (d.pg b j).isLt
  unfold val_main_v35
  refine (shapeCast_apply _ _ _ (ix6 b j k h a e) ?_).trans ?_
  · rw [Shape.rowMajor_val_six, Shape.rowMajor_val_five]
    show ((((b.val * 16 + j.val) * 128 + k.val) * 8 + h.val) * 2 + a.val) * 64 + e.val = (((b.val * 2048 + (128 * j.val + k.val)) * 8 + h.val) * 2 + a.val) * 64 + e.val
    omega
  · unfold val_main_v34
    rw [siIdx34]
    rw [← R.ck]
    refine congrArg x1 ?_
    have h0 := v33_0 x3 b j
    have h1 := v33_1 x3 b j hlt
    congr 1
    · refine Fin.ext ((congrArg (fun w : BitVec 32 => min w.toInt.toNat (2560 - 1)) h1).trans ?_)
      rw [(word_pos _ hlt).2, hp]; omega

theorem v47_at (b : Fin 128) (j : Fin 16) (k : Fin 128) (h : Fin 8) (e : Fin 128) :
    val_main_v47 (F := Ideal) x2 x3 (ix4 b ⟨128 * j.val + k.val, by omega⟩ h e) = (d.CV (d.pg b j) k ⟨128 * h.val + e.val, by omega⟩ : EReal) := by
  have hp := R.pg b j
  have hlt : (x3 (ix2 b j)).toNat < 2560 := hp ▸ (d.pg b j).isLt
  unfold val_main_v47
  refine (shapeCast_apply _ _ _ (ix5 b j k h e) ?_).trans ?_
  · rw [Shape.rowMajor_val_five, Shape.rowMajor_val_four]
    show (((b.val * 16 + j.val) * 128 + k.val) * 8 + h.val) * 128 + e.val = ((b.val * 2048 + (128 * j.val + k.val)) * 8 + h.val) * 128 + e.val
    omega
  · unfold val_main_v46
    rw [siIdx46]
    rw [← R.cv]
    refine congrArg x2 ?_
    have h0 := v45_0 x3 b j
    have h1 := v45_1 x3 b j hlt
    congr 1
    · refine Fin.ext ((congrArg (fun w : BitVec 32 => min w.toInt.toNat (2560 - 1)) h1).trans ?_)
      rw [(word_pos _ hlt).2, hp]; omega

theorem v19_at (b : Fin 128) (i h : Fin 8) (a : Fin 2) (e : Fin 64) :
    val_main_v19 (F := Ideal) x0 (ix5 b i h a e) = (d.q b i (lane h a e) : EReal) := by
  rw [val_main_v19_apply, val_main_v18_apply, val_main_v17_apply, val_main_v16_apply]
  unfold Data.q
  rw [← R.z]
  refine congrArg x0 (funext fun q => ?_)
  fin_cases q
  · exact Fin.ext (by dsimp [idx_main_v16, idx_main_v17, idx_main_v18, idx_main_v19, lane]; omega)
  · exact Fin.ext (by dsimp [idx_main_v16, idx_main_v17, idx_main_v18, idx_main_v19, lane]; omega)
theorem v21_at (b : Fin 128) (i h : Fin 8) (a : Fin 2) (e : Fin 64) :
    val_main_v21 (F := Ideal) x0 (ix5 b i h a e) = (d.kn b i (lane h a e) : EReal) := by
  rw [val_main_v21_apply, val_main_v20_apply, val_main_v17_apply, val_main_v16_apply]
  unfold Data.kn
  rw [← R.z]
  refine congrArg x0 (funext fun q => ?_)
  fin_cases q
  · exact Fin.ext (by dsimp [idx_main_v16, idx_main_v17, idx_main_v20, idx_main_v21, lane]; omega)
  · exact Fin.ext (by dsimp [idx_main_v16, idx_main_v17, idx_main_v20, idx_main_v21, lane]; omega)
theorem v23_at (b : Fin 128) (i h : Fin 8) (e : Fin 128) :
    val_main_v23 (F := Ideal) x0 (ix4 b i h e) = (d.vn b i ⟨128 * h.val + e.val, by omega⟩ : EReal) := by
  rw [val_main_v23_apply, val_main_v22_apply, val_main_v17_apply, val_main_v16_apply]
  unfold Data.vn
  rw [← R.z]
  refine congrArg x0 (funext fun q => ?_)
  fin_cases q
  · exact Fin.ext (by dsimp [idx_main_v16, idx_main_v17, idx_main_v22, idx_main_v23]; omega)
  · exact Fin.ext (by dsimp [idx_main_v16, idx_main_v17, idx_main_v22, idx_main_v23]; omega)

end

end Cert.AttnR
end
-- ==== Proof.RefB.lean ====
module

public import proofs.«01_k».proof.Proof.Gen.AttnRefIdeal.Read
public import proofs.«01_k».proof.Proof.RefA
public import proofs.«01_k».proof.Proof.PayF
public import Idealize.ShloMosaic.Lib.Pipeline.ValueKit
public import Idealize.ShloMosaic.Lib.Pointwise
public import Idealize.ShloMosaic.Lib.ValueIdxRank6

@[expose] public section

set_option maxRecDepth 16384

noncomputable section

namespace Cert.AttnR

open Idealize.ShloMosaic Idealize.ShloMosaic.TcCoe Idealize.ShloMosaic.Tactic
open Idealize.SL.Sem
open Cert.AttnRefIdeal Cert.AttnRefIdeal.Gen Cert.AttnRefIdeal.Read

open Cert.Attn

theorem ofBits_one : Ideal.ofBits .f32 0x3F800000#32 = ((1 : ℝ) : EReal) := by
  simp [Ideal.ofBits, Ideal.ieee, -EReal.coe_mul]; norm_num
theorem ofBits_bot : Ideal.ofBits .f32 0xFF800000#32 = (⊥ : EReal) := by
  simp [Ideal.ofBits, Ideal.ieee, -EReal.coe_mul]
theorem ofBits_eighth : Ideal.ofBits .f32 0x3E000000#32 = ((0.125 : ℝ) : EReal) := by
  simp [Ideal.ofBits, Ideal.ieee, -EReal.coe_mul]; norm_num
theorem ofBits_zero : Ideal.ofBits .f32 0x00000000#32 = ((0 : ℝ) : EReal) := by
  simp [Ideal.ofBits, Ideal.ieee, -EReal.coe_mul]

theorem slope_at (h : Fin 8) : val_main_v56 (F := Ideal) (ix4 h 0 0 0) = (slope h : EReal) := by
  rw [val_main_v56_apply, val_main_v55_apply, val_main_v54_apply, val_main_cst_9_apply, val_main_v53_apply, val_main_v52_apply, val_main_v51_apply, val_main_v50_apply, val_main_v49_apply, val_main_v48_apply, val_main_c_7_apply, val_main_c_8_apply]
  show Ideal.div (Ideal.ofBits .f32 0x3F800000#32) ((((IntOp.shli .host 1#32 (1#32 + BitVec.ofNat 32 h.val)).toInt : ℝ)) : EReal) = _
  have e : ((IntOp.shli .host 1#32 (1#32 + BitVec.ofNat 32 h.val)).toInt : ℝ) = 2 ^ (h.val + 1) := by
    have : (IntOp.shli .host 1#32 (1#32 + BitVec.ofNat 32 h.val)).toInt = 2 ^ (h.val + 1) := by
      fin_cases h <;> decide
    rw [this]; push_cast; rfl
  rw [e, ofBits_one, Ideal.div_coe (pow_ne_zero _ two_ne_zero), ← EReal.coe_mul]
  unfold Cert.Attn.slope
  congr 1
  rw [one_mul, one_div_pow]

/-- The difference of two small words, read signed. -/
theorem sub_word (a b : Nat) (ha : a < 65536) (hb : b < 65536) : (BitVec.ofNat 32 a - BitVec.ofNat 32 b).toInt = (a : Int) - b := by
  rw [BitVec.toInt_sub, BitVec.toInt_ofNat', BitVec.toInt_ofNat']
  simp only [Int.bmod]
  omega

theorem distC_at (i : Fin 8) (kk : Fin 2048) : val_main_v66 (F := Ideal) (ix2 i kk) = ((2048 + i.val - kk.val : ℝ) : EReal) := by
  rw [val_main_v66_apply, val_main_v65_apply, val_main_v63_apply, val_main_v60_apply, val_main_v59_apply, val_main_v58_apply, val_main_c_10_apply, val_main_v57_apply, val_main_v64_apply, val_main_v62_apply, val_main_v61_apply]
  show ((((2048#32 + BitVec.ofNat 32 i.val - BitVec.ofNat 32 kk.val).toInt : ℝ)) : EReal) = _
  rw [← BitVec.ofNat_add, sub_word _ _ (by omega) (by omega)]
  push_cast
  rfl

theorem distN_at (i k : Fin 8) : val_main_v74 (F := Ideal) (ix2 i k) = ((i.val - k.val : ℝ) : EReal) := by
  rw [val_main_v74_apply, val_main_v73_apply, val_main_v71_apply, val_main_v68_apply, val_main_v67_apply, val_main_v72_apply, val_main_v70_apply, val_main_v69_apply]
  show ((((BitVec.ofNat 32 i.val - BitVec.ofNat 32 k.val).toInt : ℝ)) : EReal) = _
  rw [sub_word _ _ (by omega) (by omega)]
  push_cast
  rfl

section
variable {x0 : FVec Ideal S9216x5120 .f32} {x1 : FVec Ideal S2x2560x128x8x2x64 .f32} {x2 : FVec Ideal S2x2560x128x8x128 .f32} {x3 : IVec S128x16 32} {d : Data} (R : Reads x0 x1 x2 x3 d)
include R

/-- A cached key's score. -/
theorem scoreC_at (b : Fin 128) (h : Fin 8) (a : Fin 2) (i : Fin 8) (j : Fin 16) (k : Fin 128) :
    val_main_v87 (F := Ideal) x0 x1 x3 (ix5 b h a i ⟨128 * j.val + k.val, by omega⟩) = ((d.sC b i h a j k - slope h * i.val : ℝ) : EReal) := by
  rw [val_main_v87_apply, val_main_v77_apply, val_main_v75_apply, val_main_v76_apply, val_main_cst_11_apply, val_main_v86_apply, val_main_v85_apply, val_main_v84_apply, val_main_v82_apply, val_main_v83_apply, val_main_v81_apply]
  have e1 : ∀ e : Fin 64, val_main_v19 (F := Ideal) x0 (lidx_main_v75 (ix5 b h a i ⟨128 * j.val + k.val, by omega⟩) e) * val_main_v35 (F := Ideal) x1 x3 (ridx_main_v75 (ix5 b h a i ⟨128 * j.val + k.val, by omega⟩) e) = ((d.q b i (lane h a e) * d.CK (d.pg b j) k (lane h a e) : ℝ) : EReal) := fun e => by
    rw [EReal.coe_mul, ← v19_at R, ← v35_at R]
    refine congrArg₂ (· * ·) (congrArg _ (funext fun q => ?_)) (congrArg _ (funext fun q => ?_)) <;> fin_cases q <;> rfl
  have e2 : val_main_v56 (F := Ideal) (idx_main_v82 (idx_main_v85 (idx_main_v86 (ix5 b h a i ⟨128 * j.val + k.val, by omega⟩)))) = (slope h : EReal) := by
    rw [← slope_at]; refine congrArg _ (funext fun q => ?_); fin_cases q <;> rfl
  have e3 : val_main_v66 (F := Ideal) (idx_main_v81 (idx_main_v83 (idx_main_v85 (idx_main_v86 (ix5 b h a i ⟨128 * j.val + k.val, by omega⟩))))) = ((2048 + i.val - (128 * j.val + k.val : Nat) : ℝ) : EReal) := by
    rw [← distC_at i ⟨128 * j.val + k.val, by omega⟩]; refine congrArg _ (funext fun q => ?_); fin_cases q <;> rfl
  rw [Finset.sum_congr rfl fun e _ => e1 e, e2, e3]
  show (∑ e, ((d.q b i (lane h a e) * d.CK (d.pg b j) k (lane h a e) : ℝ) : EReal)) * Ideal.ofBits .f32 0x3E000000#32 - (slope h : EReal) * _ = _
  rw [ofBits_eighth, ← coe_sum, ← EReal.coe_mul, ← EReal.coe_mul, ← EReal.coe_sub]
  refine congrArg _ ?_
  unfold Data.sC
  rw [Finset.sum_mul]
  have : ∀ e, d.q b i (lane h a e) * d.CK (d.pg b j) k (lane h a e) * 0.125 = d.q b i (lane h a e) * 0.125 * d.CK (d.pg b j) k (lane h a e) := fun e => by ring
  simp only [this]
  push_cast
  ring

/-- A new key's score. -/
theorem scoreN_at (b : Fin 128) (h : Fin 8) (a : Fin 2) (i k : Fin 8) :
    val_main_v97 (F := Ideal) x0 (ix5 b h a i k) = score (k.val ≤ i.val) (d.sN b i h a k - slope h * i.val) := by
  rw [val_main_v97_apply, val_main_call0_v1_apply, val_main_v89_apply, val_main_v88_apply, val_main_cst_13_apply, val_main_call0_v2_apply, val_main_call0_v0_apply, val_main_cst_14_apply,
    val_main_v96_apply, val_main_v80_apply, val_main_v78_apply, val_main_v79_apply, val_main_cst_12_apply, val_main_v95_apply, val_main_v94_apply, val_main_v93_apply, val_main_v91_apply, val_main_v92_apply, val_main_v90_apply]
  have e1 : ∀ e : Fin 64, val_main_v19 (F := Ideal) x0 (lidx_main_v78 (ix5 b h a i k) e) * val_main_v21 (F := Ideal) x0 (ridx_main_v78 (ix5 b h a i k) e) = ((d.q b i (lane h a e) * d.kn b k (lane h a e) : ℝ) : EReal) := fun e => by
    rw [EReal.coe_mul, ← v19_at R, ← v21_at R]
    refine congrArg₂ (· * ·) (congrArg _ (funext fun q => ?_)) (congrArg _ (funext fun q => ?_)) <;> fin_cases q <;> rfl
  have e2 : val_main_v56 (F := Ideal) (idx_main_v91 (idx_main_v94 (idx_main_v95 (ix5 b h a i k)))) = (slope h : EReal) := by
    rw [← slope_at]; refine congrArg _ (funext fun q => ?_); fin_cases q <;> rfl
  have e3 : val_main_v74 (F := Ideal) (idx_main_v90 (idx_main_v92 (idx_main_v94 (idx_main_v95 (ix5 b h a i k))))) = ((i.val - k.val : ℝ) : EReal) := by
    rw [← distN_at i k]; refine congrArg _ (funext fun q => ?_); fin_cases q <;> rfl
  rw [Finset.sum_congr rfl fun e _ => e1 e, e2, e3]
  show Scalar.select (Ideal.cmp .oge ((i.val - k.val : ℝ) : EReal) (Ideal.ofBits .f32 0x00000000#32)) ((∑ e, ((d.q b i (lane h a e) * d.kn b k (lane h a e) : ℝ) : EReal)) * Ideal.ofBits .f32 0x3E000000#32 - (slope h : EReal) * ((i.val - k.val : ℝ) : EReal)) (Ideal.ofBits .f32 0xFF800000#32) = _
  rw [ofBits_eighth, ofBits_bot, ofBits_zero, ← coe_sum, ← EReal.coe_mul, ← EReal.coe_mul, ← EReal.coe_sub]
  have es : (∑ e, d.q b i (lane h a e) * d.kn b k (lane h a e)) * 0.125 - slope h * (i.val - k.val : ℝ) = d.sN b i h a k - slope h * i.val := by
    unfold Data.sN
    rw [Finset.sum_mul]
    have : ∀ e, d.q b i (lane h a e) * d.kn b k (lane h a e) * 0.125 = d.q b i (lane h a e) * 0.125 * d.kn b k (lane h a e) := fun e => by ring
    simp only [this]
    ring
  rw [es]
  unfold score
  by_cases hk : k.val ≤ i.val
  · have : ((0 : ℝ) : EReal) ≤ ((i.val - k.val : ℝ) : EReal) := EReal.coe_le_coe_iff.mpr (sub_nonneg.mpr (by exact_mod_cast hk))
    rw [if_pos hk]
    simp only [Ideal.cmp, Scalar.select, ge_iff_le, this]
    simp
  · have : ¬ ((0 : ℝ) : EReal) ≤ ((i.val - k.val : ℝ) : EReal) := by
      rw [EReal.coe_le_coe_iff, sub_nonneg]; exact_mod_cast hk
    rw [if_neg hk]
    simp only [Ideal.cmp, Scalar.select, ge_iff_le, this]
    simp

end

end Cert.AttnR
end
-- ==== Proof.RefC.lean ====
module

public import proofs.«01_k».proof.Proof.Gen.AttnRefIdeal.Read
public import proofs.«01_k».proof.Proof.RefB
public import Idealize.ShloMosaic.Lib.Pipeline.ValueKit
public import Idealize.ShloMosaic.Lib.Pointwise
public import Idealize.ShloMosaic.Lib.ValueIdxRank6

@[expose] public section

set_option maxRecDepth 16384

noncomputable section

namespace Cert.AttnR

open Idealize.ShloMosaic Idealize.ShloMosaic.TcCoe Idealize.ShloMosaic.Tactic
open Idealize.SL.Sem
open Cert.AttnRefIdeal Cert.AttnRefIdeal.Gen Cert.AttnRefIdeal.Read

open Cert.Attn

/-- Which keys a query sees: every cached one, and the new ones not after it. -/
def pK (i : Fin 8) (kk : Fin 2056) : Prop := kk.val < 2048 ∨ kk.val - 2048 ≤ i.val
instance (i : Fin 8) : DecidablePred (pK i) := fun kk => inferInstanceAs (Decidable (_ ∨ _))

/-- A key's score less the term every key of the query shares. -/
def sK (d : Data) (b : Fin 128) (h : Fin 8) (a : Fin 2) (i : Fin 8) (kk : Fin 2056) : ℝ :=
  if g : kk.val < 2048 then d.sC b i h a ⟨kk.val / 128, by omega⟩ ⟨kk.val % 128, by omega⟩ else d.sN b i h a ⟨kk.val - 2048, by omega⟩

theorem sK_C (d : Data) (b : Fin 128) (h : Fin 8) (a : Fin 2) (i : Fin 8) (j : Fin 16) (k : Fin 128) :
    sK d b h a i ⟨128 * j.val + k.val, by omega⟩ = d.sC b i h a j k := by
  unfold sK
  rw [dif_pos (by dsimp only; omega)]
  congr 1
  · exact Fin.ext (by dsimp only; omega)
  · exact Fin.ext (by dsimp only; omega)
theorem sK_N (d : Data) (b : Fin 128) (h : Fin 8) (a : Fin 2) (i k : Fin 8) :
    sK d b h a i ⟨2048 + k.val, by omega⟩ = d.sN b i h a k := by
  unfold sK
  rw [dif_neg (by dsimp only; omega)]
  congr 1
  exact Fin.ext (by dsimp only; omega)
theorem wt_C (d : Data) (b : Fin 128) (h : Fin 8) (a : Fin 2) (i : Fin 8) (j : Fin 16) (k : Fin 128) :
    wt (pK i ⟨128 * j.val + k.val, by omega⟩) (sK d b h a i ⟨128 * j.val + k.val, by omega⟩) = Real.exp (d.sC b i h a j k) := by
  rw [sK_C]; unfold wt
  exact if_pos (.inl (by dsimp only; omega))
theorem wt_N (d : Data) (b : Fin 128) (h : Fin 8) (a : Fin 2) (i k : Fin 8) :
    wt (pK i ⟨2048 + k.val, by omega⟩) (sK d b h a i ⟨2048 + k.val, by omega⟩) = wt (k.val ≤ i.val) (d.sN b i h a k) := by
  rw [sK_N]
  have : pK i ⟨2048 + k.val, by omega⟩ ↔ k.val ≤ i.val := by unfold pK; dsimp only; omega
  unfold wt
  by_cases hk : k.val ≤ i.val
  · rw [if_pos hk, if_pos (this.mpr hk)]
  · rw [if_neg hk, if_neg (fun p => hk (this.mp p))]

/-- A sum over the cached keys, page by page. -/
theorem sum_cached {M : Type} [AddCommMonoid M] (f : Fin 2048 → M) : ∑ kk, f kk = ∑ j : Fin 16, ∑ k : Fin 128, f ⟨128 * j.val + k.val, by omega⟩ := by
  rw [Fin.sum_univ_tiles 16 128 rfl]
  exact Finset.sum_congr rfl fun j _ => Finset.sum_congr rfl fun k _ => congrArg f (Fin.ext (by dsimp only; omega))

/-- The weights of all keys sum to the denominator. -/
theorem sum_wt (d : Data) (b : Fin 128) (h : Fin 8) (a : Fin 2) (i : Fin 8) : ∑ kk, wt (pK i kk) (sK d b h a i kk) = d.den b i h a := by
  rw [Fin.sum_univ_two_halves 2048 8 rfl, sum_cached]
  unfold Data.den
  refine congrArg₂ _ (Finset.sum_congr rfl fun j _ => Finset.sum_congr rfl fun k _ => wt_C d b h a i j k) (Finset.sum_congr rfl fun k _ => wt_N d b h a i k)

/-- A maximum reduction along the last of five axes, read at an index. -/
theorem lift5 (hr : S128x8x2x8x2056.Reduces [4] S128x8x2x8) (b : Fin 128) (h : Fin 8) (a : Fin 2) (i : Fin 8) (kk : Fin 2056) :
    hr.lift (ix4 b h a i) kk = ix5 b h a i kk := by
  funext q; apply Fin.ext; fin_cases q <;> rfl

section
variable {x0 : FVec Ideal S9216x5120 .f32} {x1 : FVec Ideal S2x2560x128x8x2x64 .f32} {x2 : FVec Ideal S2x2560x128x8x128 .f32} {x3 : IVec S128x16 32} {d : Data} (R : Reads x0 x1 x2 x3 d)
include R

theorem v98_at (b : Fin 128) (h : Fin 8) (a : Fin 2) (i : Fin 8) (kk : Fin 2056) :
    val_main_v98 (F := Ideal) x0 x1 x3 (ix5 b h a i kk) = score (pK i kk) (sK d b h a i kk - Cert.Attn.slope h * i.val) := by
  by_cases g : kk.val < 2048
  · obtain ⟨j, k, e⟩ : ∃ (j : Fin 16) (k : Fin 128), kk = ⟨128 * j.val + k.val, by omega⟩ := ⟨⟨kk.val / 128, by omega⟩, ⟨kk.val % 128, by omega⟩, Fin.ext (by dsimp only; omega)⟩
    rw [e, sK_C]
    unfold val_main_v98
    refine (concatenate_pair_apply_left 4 _ _ concatenates_S128x8x2x8x2048_S128x8x2x8x8_S128x8x2x8x2056_d4 _ rfl (ix5 b h a i ⟨128 * j.val + k.val, by omega⟩) (fun q => by fin_cases q <;> rfl)).trans ?_
    rw [scoreC_at R]
    exact (if_pos (.inl (by dsimp only; omega))).symm
  · obtain ⟨k, e⟩ : ∃ (k : Fin 8), kk = ⟨2048 + k.val, by omega⟩ := ⟨⟨kk.val - 2048, by omega⟩, Fin.ext (by dsimp only; omega)⟩
    rw [e, sK_N]
    unfold val_main_v98
    refine (concatenate_pair_apply_right 4 _ _ concatenates_S128x8x2x8x2048_S128x8x2x8x8_S128x8x2x8x2056_d4 _ rfl rfl (ix5 b h a i k) (fun q hq => by fin_cases q <;> first | rfl | exact absurd rfl hq) (Nat.add_comm _ _)).trans ?_
    rw [scoreN_at R]
    have : pK i ⟨2048 + k.val, by omega⟩ ↔ k.val ≤ i.val := by unfold pK; dsimp only; omega
    unfold score
    by_cases hk : k.val ≤ i.val
    · rw [if_pos hk, if_pos (this.mpr hk)]
    · rw [if_neg hk, if_neg (fun p => hk (this.mp p))]

theorem v101_at (b : Fin 128) (h : Fin 8) (a : Fin 2) (i : Fin 8) :
    ∃ M : ℝ, val_main_v101 (F := Ideal) x0 x1 x3 (ix4 b h a i) = (M : EReal) := by
  have e : val_main_v99 (F := Ideal) x0 x1 x3 (ix4 b h a i) = Finset.univ.fold max (⊥ : EReal) (fun kk : Fin 2056 => score (pK i kk) (sK d b h a i kk - Cert.Attn.slope h * i.val)) := by
    unfold val_main_v99
    rw [Host.reduce_eq_fold_single FloatOps.maximumf _ _ reducesTo_S128x8x2x8x2056_S128x8x2x8_d4 (by decide) h_S_]
    rw [← ofBits_bot]
    refine congrArg (fun f => Finset.fold max (Ideal.ofBits .f32 0xFF800000#32) f (Finset.univ : Finset (Fin 2056))) (funext fun kk => ?_)
    refine Eq.trans ?_ (v98_at R b h a i kk)
    exact congrArg _ (lift5 _ b h a i kk)
  rw [val_main_v101_apply, val_main_v100_apply, val_main_cst_16_apply, e]
  rcases fold_max_score (pK i) (fun kk => sK d b h a i kk - Cert.Attn.slope h * i.val) Finset.univ with ⟨-, h'⟩ | ⟨M, hM⟩
  · exact absurd (Or.inl (by dsimp only; omega) : pK i ⟨0, by omega⟩) (h' ⟨0, by omega⟩ (Finset.mem_univ _))
  · refine ⟨M, ?_⟩
    rw [hM]
    show max (Ideal.ofBits .f32 0xFF800000#32) _ = _
    rw [ofBits_bot]
    exact max_eq_right bot_le

/-- The softmax weight of a key. -/
theorem v109_at (b : Fin 128) (h : Fin 8) (a : Fin 2) (i : Fin 8) (kk : Fin 2056) :
    val_main_v109 (F := Ideal) x0 x1 x3 (ix5 b h a i kk) = ((wt (pK i kk) (sK d b h a i kk) / d.den b i h a : ℝ) : EReal) := by
  obtain ⟨M, hM⟩ := v101_at R b h a i
  have e : ∀ kk, val_main_v105 (F := Ideal) x0 x1 x3 (ix5 b h a i kk) = Ideal.exp (score (pK i kk) (sK d b h a i kk - Cert.Attn.slope h * i.val) - (M : EReal)) := fun kk => by
    rw [val_main_v105_apply, val_main_v104_apply, val_main_v103_apply, val_main_v102_apply, v98_at R]
    have ei : idx_main_v102 (idx_main_v103 (ix5 b h a i kk)) = ix4 b h a i := by funext q; fin_cases q <;> rfl
    rw [ei, hM]
    rfl
  have e2 : val_main_v108 (F := Ideal) x0 x1 x3 (ix5 b h a i kk) = ∑ kk, Ideal.exp (score (pK i kk) (sK d b h a i kk - Cert.Attn.slope h * i.val) - (M : EReal)) := by
    rw [val_main_v108_apply, val_main_v107_apply, val_main_v106_apply, val_main_cst_17_apply]
    show Ideal.ofBits .f32 0x00000000#32 + _ = _
    rw [ofBits_zero, EReal.coe_zero, zero_add]
    refine Finset.sum_congr rfl fun k _ => ?_
    rw [← e k]
    refine congrArg _ (funext fun q => ?_)
    fin_cases q <;> rfl
  rw [val_main_v109_apply, e, e2]
  have hs := sum_wt d b h a i
  have := softmax_shift (pK i) (fun kk => sK d b h a i kk - Cert.Attn.slope h * i.val) M (Cert.Attn.slope h * i.val) (by simp only [sub_add_cancel]; rw [hs]; exact d.den_pos b i h a) kk
  simp only [sub_add_cancel] at this
  rw [hs] at this
  exact this

variable {x4 x5 x6 x7 : FVec Ideal S2x64 .f32} {lam : ℝ} (hlam : ∀ q, val_main_v15 (F := Ideal) x4 x5 x6 x7 q = (lam : EReal))
include hlam

/-- The weights' difference at a key. -/
theorem v116_at (b : Fin 128) (h i : Fin 8) (kk : Fin 2056) :
    val_main_v116 (F := Ideal) x0 x1 x3 x4 x5 x6 x7 (ix4 b h i kk) =
      ((wt (pK i kk) (sK d b h 0 i kk) / d.den b i h 0 - lam * (wt (pK i kk) (sK d b h 1 i kk) / d.den b i h 1) : ℝ) : EReal) := by
  have e1 : val_main_v111 (F := Ideal) x0 x1 x3 (ix4 b h i kk) = val_main_v109 (F := Ideal) x0 x1 x3 (ix5 b h 0 i kk) := by
    unfold val_main_v111
    refine (shapeCast_apply _ _ _ (ix5 b h 0 i kk) ?_).trans ?_
    · rw [Shape.rowMajor_val_five, Shape.rowMajor_val_four]
      show (((b.val * 8 + h.val) * 1 + 0) * 8 + i.val) * 2056 + kk.val = ((b.val * 8 + h.val) * 8 + i.val) * 2056 + kk.val
      omega
    · rw [val_main_v110_apply]
      refine congrArg _ (funext fun q => ?_)
      fin_cases q <;> rfl
  have e2 : val_main_v113 (F := Ideal) x0 x1 x3 (ix4 b h i kk) = val_main_v109 (F := Ideal) x0 x1 x3 (ix5 b h 1 i kk) := by
    unfold val_main_v113
    refine (shapeCast_apply _ _ _ (ix5 b h 0 i kk) ?_).trans ?_
    · rw [Shape.rowMajor_val_five, Shape.rowMajor_val_four]
      show (((b.val * 8 + h.val) * 1 + 0) * 8 + i.val) * 2056 + kk.val = ((b.val * 8 + h.val) * 8 + i.val) * 2056 + kk.val
      omega
    · rw [val_main_v112_apply]
      refine congrArg _ (funext fun q => ?_)
      fin_cases q <;> rfl
  rw [val_main_v116_apply, e1, val_main_v115_apply, val_main_v114_apply, hlam, e2, v109_at R, v109_at R]
  show _ - _ * _ = _
  rw [← EReal.coe_mul, ← EReal.coe_sub]

/-- A head's output column before its normalisation. -/
theorem v123_at (b : Fin 128) (i h : Fin 8) (e : Fin 128) :
    val_main_v123 (F := Ideal) x0 x1 x2 x3 x4 x5 x6 x7 (ix4 b i h e) = (d.o lam b i h e : EReal) := by
  have e1 : val_main_v119 (F := Ideal) x0 x1 x2 x3 x4 x5 x6 x7 (ix4 b i h e) =
      ((∑ j : Fin 16, ∑ k : Fin 128, d.CV (d.pg b j) k ⟨128 * h.val + e.val, by omega⟩ * (Real.exp (d.sC b i h 0 j k) / d.den b i h 0 - lam * (Real.exp (d.sC b i h 1 j k) / d.den b i h 1)) : ℝ) : EReal) := by
    rw [val_main_v119_apply, val_main_v118_apply, sum_cached, coe_sum]
    refine Finset.sum_congr rfl fun j _ => ?_
    rw [coe_sum]
    refine Finset.sum_congr rfl fun k _ => ?_
    rw [EReal.coe_mul, ← v47_at R, ← wt_C d b h 0 i j k, ← wt_C d b h 1 i j k, ← v116_at R hlam, val_main_v117_apply]
    refine congrArg₂ (· * ·) (congrArg _ (funext fun q => ?_)) (congrArg _ (funext fun q => ?_)) <;> fin_cases q <;> rfl
  have e2 : val_main_v122 (F := Ideal) x0 x1 x3 x4 x5 x6 x7 (ix4 b i h e) =
      ((∑ k : Fin 8, d.vn b k ⟨128 * h.val + e.val, by omega⟩ * (wt (k.val ≤ i.val) (d.sN b i h 0 k) / d.den b i h 0 - lam * (wt (k.val ≤ i.val) (d.sN b i h 1 k) / d.den b i h 1)) : ℝ) : EReal) := by
    rw [val_main_v122_apply, val_main_v121_apply, coe_sum]
    refine Finset.sum_congr rfl fun k _ => ?_
    rw [EReal.coe_mul, ← v23_at R, ← wt_N d b h 0 i k, ← wt_N d b h 1 i k, ← v116_at R hlam, val_main_v120_apply]
    refine congrArg₂ (· * ·) (congrArg _ (funext fun q => ?_)) (congrArg _ (funext fun q => ?_)) <;> fin_cases q <;> rfl
  rw [val_main_v123_apply, e1, e2]
  show _ + _ = _
  rw [← EReal.coe_add]
  refine congrArg _ ?_
  unfold Data.o Data.num
  rw [add_div, add_div, mul_add]
  simp only [Finset.sum_div, Finset.mul_sum]
  rw [add_sub_add_comm]
  simp only [← Finset.sum_sub_distrib]
  refine congrArg₂ _ (Finset.sum_congr rfl fun j _ => Finset.sum_congr rfl fun k _ => ?_) (Finset.sum_congr rfl fun k _ => ?_) <;> ring

/-- The reference's result. -/
theorem v141_at (x8 : FVec Ideal S2x128 .f32) (y : S1024x1024.Idx) (b : Fin 128) (i h : Fin 8) (e : Fin 128)
    (h0 : (y 0).val = 8 * b.val + i.val) (h1 : (y 1).val = 128 * h.val + e.val) :
    val_main_v141 (F := Ideal) x0 x1 x2 x3 x4 x5 x6 x7 x8 y = Cert.AttnI.rms (fun e => (d.o lam b i h e : EReal)) (fun e => x8 (ix2 0 e)) e := by
  unfold val_main_v141
  refine (shapeCast_apply _ _ _ (ix4 b i h e) ?_).trans ?_
  · rw [Shape.rowMajor_val_four, Shape.rowMajor_val_two, h0, h1]
    show ((b.val * 8 + i.val) * 8 + h.val) * 128 + e.val = (8 * b.val + i.val) * 1024 + (128 * h.val + e.val)
    omega
  rw [val_main_v140_apply, val_main_v139_apply, val_main_cst_21_apply, val_main_v138_apply, val_main_v137_apply, val_main_v136_apply, val_main_v125_apply, val_main_v124_apply,
    val_main_v135_apply, val_main_v134_apply, val_main_v133_apply, val_main_v132_apply, val_main_v131_apply, val_main_cst_20_apply, val_main_v130_apply, val_main_v129_apply, val_main_cst_19_apply,
    val_main_v128_apply, val_main_v127_apply, val_main_cst_18_apply, v123_at R hlam]
  have eg : x8 (idx_main_v124 (idx_main_v125 (idx_main_v136 (idx_main_v137 (ix4 b i h e))))) = x8 (ix2 0 e) := by
    refine congrArg _ (funext fun q => ?_)
    fin_cases q
    · rfl
    · exact Fin.ext (by dsimp [idx_main_v124, idx_main_v125, idx_main_v136, idx_main_v137]; omega)
  have es : ∀ k : Fin 128, val_main_v126 (F := Ideal) x0 x1 x2 x3 x4 x5 x6 x7 (idx_main_v127 (idx_main_v128 (idx_main_v134 (ix4 b i h e))) k) = (d.o lam b i h k : EReal) * (d.o lam b i h k : EReal) := fun k => by
    rw [← v123_at R hlam, val_main_v126_apply]
    have : idx_main_v127 (idx_main_v128 (idx_main_v134 (ix4 b i h e))) k = ix4 b i h k := by
      funext q; fin_cases q <;> rfl
    rw [this]; rfl
  rw [eg, Finset.sum_congr rfl fun k _ => es k]
  unfold Cert.AttnI.rms
  show _ * Ideal.rsqrt (Ideal.div (Ideal.ofBits .f32 0x00000000#32 + _) _ + _) * _ * _ = _
  rw [ofBits_zero, EReal.coe_zero, zero_add]
  rfl

end

/-- The reference's weight of the second map. -/
theorem v15_at (x4 x5 x6 x7 : FVec Ideal S2x64 .f32) (q : S_.Idx) :
    val_main_v15 (F := Ideal) x4 x5 x6 x7 q = Cert.AttnI.lamOf (fun x => x4 (ix2 0 x)) (fun x => x5 (ix2 0 x)) (fun x => x6 (ix2 0 x)) (fun x => x7 (ix2 0 x)) := by
  have sumF : ∀ f : S64.Idx → EReal, ∑ j, f j = ∑ x : Fin 64, f (ix1 x) := fun f =>
    (Fintype.sum_equiv ⟨fun x => ix1 x, fun j => j 0, fun x => rfl, fun j => funext fun q => by fin_cases q; rfl⟩ _ _ (fun x => rfl)).symm
  rw [val_main_v15_apply, val_main_cst_1_apply, val_main_v14_apply, val_main_v6_apply, val_main_v13_apply, val_main_v5_apply, val_main_v12_apply, val_main_cst_apply, val_main_cst_0_apply, sumF, sumF]
  have ea : ∀ x : Fin 64, val_main_v4 (F := Ideal) x4 x5 (ix1 x) = x4 (ix2 0 x) * x5 (ix2 0 x) := fun x => by
    rw [val_main_v4_apply, val_main_v1_apply, val_main_v0_apply, val_main_v3_apply, val_main_v2_apply]
    refine congrArg₂ (· * ·) (congrArg _ (funext fun q => ?_)) (congrArg _ (funext fun q => ?_)) <;> fin_cases q
    · rfl
    · exact Fin.ext (by dsimp [idx_main_v0, idx_main_v1]; omega)
    · rfl
    · exact Fin.ext (by dsimp [idx_main_v2, idx_main_v3]; omega)
  have eb : ∀ x : Fin 64, val_main_v11 (F := Ideal) x6 x7 (ix1 x) = x6 (ix2 0 x) * x7 (ix2 0 x) := fun x => by
    rw [val_main_v11_apply, val_main_v8_apply, val_main_v7_apply, val_main_v10_apply, val_main_v9_apply]
    refine congrArg₂ (· * ·) (congrArg _ (funext fun q => ?_)) (congrArg _ (funext fun q => ?_)) <;> fin_cases q
    · rfl
    · exact Fin.ext (by dsimp [idx_main_v7, idx_main_v8]; omega)
    · rfl
    · exact Fin.ext (by dsimp [idx_main_v9, idx_main_v10]; omega)
  rw [Finset.sum_congr rfl fun x _ => ea x, Finset.sum_congr rfl fun x _ => eb x]
  unfold Cert.AttnI.lamOf
  show Ideal.exp (Ideal.ofBits .f32 0x00000000#32 + _) - Ideal.exp (Ideal.ofBits .f32 0x00000000#32 + _) + _ = _
  rw [ofBits_zero, EReal.coe_zero, zero_add, zero_add]
  rfl

/-- On real vectors that weight is a real. -/
theorem lamOf_real (q1 k1 q2 k2 : Fin 64 → ℝ) : ∃ lam : ℝ, Cert.AttnI.lamOf (fun x => (q1 x : EReal)) (fun x => (k1 x : EReal)) (fun x => (q2 x : EReal)) (fun x => (k2 x : EReal)) = (lam : EReal) := by
  unfold Cert.AttnI.lamOf
  simp only [← EReal.coe_mul, ← coe_sum, Ideal.exp_coe]
  obtain ⟨w, hw⟩ : ∃ w : ℝ, Ideal.ofBits .f32 0x3E4CCCCD#32 = (w : EReal) := ⟨13421773 * (2 ^ 26)⁻¹, by
    simp [Ideal.ofBits, Ideal.ieee, -EReal.coe_mul]⟩
  exact ⟨_, by rw [hw, ← EReal.coe_sub, ← EReal.coe_add]⟩

end Cert.AttnR
end
-- ==== Proof.EqI.lean ====
module

public import proofs.«01_k».proof.Proof.OkI
public import proofs.«01_k».proof.Proof.ArrI
public import proofs.«01_k».proof.Proof.RefC

@[expose] public section

set_option maxRecDepth 16384

noncomputable section

namespace Cert.AttnI

open Idealize.ShloMosaic Idealize.ShloMosaic.TcCoe Idealize.ShloMosaic.Tactic
open Idealize.SL Idealize.SL.Sem
open Cert.AttnSIdeal Cert.AttnSIdeal.Gen
open Cert.Attn

/-- An extended real whose absolute value is below infinity is a real. -/
theorem real_of (x : EReal) (h : Ideal.cmp .olt (max x (-x)) (Ideal.ofBits .f32 0x7F800000#32) = 1#1) : ∃ r : ℝ, x = (r : EReal) := by
  have e : Ideal.ofBits .f32 0x7F800000#32 = (⊤ : EReal) := by simp [Ideal.ofBits, Ideal.ieee, -EReal.coe_mul]
  rw [e] at h
  have h2 : max x (-x) < ⊤ := by
    by_contra hn
    rw [show Ideal.cmp .olt (max x (-x)) ⊤ = BitVec.ofBool (decide (max x (-x) < ⊤)) from rfl, decide_eq_false hn] at h
    exact absurd h (by decide)
  induction x using EReal.rec with
  | bot => simp at h2
  | coe r => exact ⟨r, rfl⟩
  | top => simp at h2

variable (m : (ℓ : Loc nD τ sig) → Buf (Elt Ideal) ℓ) (hp : Cert.Pre_AttnSIdeal_attn_finite m) (c : Dev nD)
include hp

/-- Under the finiteness precondition the arguments hold real data. -/
theorem exists_data : ∃ d : Data, Reads m c d := by
  have hz : ∀ y, ∃ r : ℝ, (m ((c : Thread nD τ).loc main_arg0) : FVec Ideal S9216x5120 .f32) y = (r : EReal) := fun y => real_of _ (congrFun (hp c).2.1 y)
  have hk : ∀ y, ∃ r : ℝ, (m ((c : Thread nD τ).loc main_arg1) : FVec Ideal S2x2560x128x8x2x64 .f32) y = (r : EReal) := fun y => real_of _ (congrFun (hp c).2.2.1 y)
  have hv : ∀ y, ∃ r : ℝ, (m ((c : Thread nD τ).loc main_arg2) : FVec Ideal S2x2560x128x8x128 .f32) y = (r : EReal) := fun y => real_of _ (congrFun (hp c).2.2.2.1 y)
  have hg : ∀ b j, pgN m b j < 2560 := fun b j => by
    refine word_range _ ?_
    have e := congrFun (hp 0).1 (ix2 b j)
    simpa only [Pre_attn_finite.fn, Pre_attn_finite.fn_part1, andi, cmpi, broadcastInDim, constantI] using e
  choose fz hz using hz
  choose fk hk using hk
  choose fv hv using hv
  exact ⟨{ Z := fun r w => fz (ix2 r w)
           CK := fun n k w => fk (ix6 0 n k ⟨w.val / 128, by omega⟩ ⟨w.val / 64 % 2, by omega⟩ ⟨w.val % 64, by omega⟩)
           CV := fun n k w => fv (ix5 0 n k ⟨w.val / 128, by omega⟩ ⟨w.val % 128, by omega⟩)
           pg := fun b j => ⟨pgN m b j, hg b j⟩ }, fun r w => hz _, fun n k w => hk _, fun n k w => hv _, fun b j => rfl⟩

/-- Under the finiteness precondition the weight of the second map is a real. -/
theorem exists_lam : ∃ lam : ℝ, lamOf (fun x => (m ((c : Thread nD τ).loc main_arg4) : FVec Ideal S2x64 .f32) (ix2 0 x)) (fun x => (m ((c : Thread nD τ).loc main_arg5) : FVec Ideal S2x64 .f32) (ix2 0 x)) (fun x => (m ((c : Thread nD τ).loc main_arg6) : FVec Ideal S2x64 .f32) (ix2 0 x)) (fun x => (m ((c : Thread nD τ).loc main_arg7) : FVec Ideal S2x64 .f32) (ix2 0 x)) = (lam : EReal) := by
  have h4 : ∀ x : Fin 64, ∃ r : ℝ, (m ((c : Thread nD τ).loc main_arg4) : FVec Ideal S2x64 .f32) (ix2 0 x) = (r : EReal) := fun x => real_of _ (congrFun (hp c).2.2.2.2.1 _)
  have h5 : ∀ x : Fin 64, ∃ r : ℝ, (m ((c : Thread nD τ).loc main_arg5) : FVec Ideal S2x64 .f32) (ix2 0 x) = (r : EReal) := fun x => real_of _ (congrFun (hp c).2.2.2.2.2.1 _)
  have h6 : ∀ x : Fin 64, ∃ r : ℝ, (m ((c : Thread nD τ).loc main_arg6) : FVec Ideal S2x64 .f32) (ix2 0 x) = (r : EReal) := fun x => real_of _ (congrFun (hp c).2.2.2.2.2.2.1 _)
  have h7 : ∀ x : Fin 64, ∃ r : ℝ, (m ((c : Thread nD τ).loc main_arg7) : FVec Ideal S2x64 .f32) (ix2 0 x) = (r : EReal) := fun x => real_of _ (congrFun (hp c).2.2.2.2.2.2.2 _)
  choose f4 h4 using h4
  choose f5 h5 using h5
  choose f6 h6 using h6
  choose f7 h7 using h7
  obtain ⟨lam, h⟩ := Cert.AttnR.lamOf_real f4 f5 f6 f7
  exact ⟨lam, by rw [← h]; simp only [h4, h5, h6, h7]⟩

omit hp
/-- The kernel's window of the lambda vectors gives the same weight at every point. -/
theorem lam_blk (hO : Ok m) (t : Fin (cfgM m hO).N) : lamOf (fun x => iblk m hO c 0 t (ix3 0 0 x)) (fun x => iblk m hO c 0 t (ix3 0 1 x)) (fun x => iblk m hO c 0 t (ix3 0 2 x)) (fun x => iblk m hO c 0 t (ix3 0 3 x)) =
    lamOf (fun x => (m ((c : Thread nD τ).loc main_arg4) : FVec Ideal S2x64 .f32) (ix2 0 x)) (fun x => (m ((c : Thread nD τ).loc main_arg5) : FVec Ideal S2x64 .f32) (ix2 0 x)) (fun x => (m ((c : Thread nD τ).loc main_arg6) : FVec Ideal S2x64 .f32) (ix2 0 x)) (fun x => (m ((c : Thread nD τ).loc main_arg7) : FVec Ideal S2x64 .f32) (ix2 0 x)) := by
  have e0 : (fun x => iblk m hO c 0 t (ix3 0 0 x)) = (fun x => (m ((c : Thread nD τ).loc main_arg4) : FVec Ideal S2x64 .f32) (ix2 0 x)) := funext fun x => (blk0 m hO c t 0 x).trans (V_v5 m c 0 x)
  have e1 : (fun x => iblk m hO c 0 t (ix3 0 1 x)) = (fun x => (m ((c : Thread nD τ).loc main_arg5) : FVec Ideal S2x64 .f32) (ix2 0 x)) := funext fun x => (blk0 m hO c t 1 x).trans (V_v5 m c 1 x)
  have e2 : (fun x => iblk m hO c 0 t (ix3 0 2 x)) = (fun x => (m ((c : Thread nD τ).loc main_arg6) : FVec Ideal S2x64 .f32) (ix2 0 x)) := funext fun x => (blk0 m hO c t 2 x).trans (V_v5 m c 2 x)
  have e3 : (fun x => iblk m hO c 0 t (ix3 0 3 x)) = (fun x => (m ((c : Thread nD τ).loc main_arg7) : FVec Ideal S2x64 .f32) (ix2 0 x)) := funext fun x => (blk0 m hO c t 3 x).trans (V_v5 m c 3 x)
  exact congr (congr (congr (congrArg lamOf e0) e1) e2) e3

/-- The reference, of the same arguments, gives the kernel's output array. -/
theorem ref_eq (d : Data) (R : Reads m c d) (lam : ℝ)
    (hlam : lamOf (fun x => (m ((c : Thread nD τ).loc main_arg4) : FVec Ideal S2x64 .f32) (ix2 0 x)) (fun x => (m ((c : Thread nD τ).loc main_arg5) : FVec Ideal S2x64 .f32) (ix2 0 x)) (fun x => (m ((c : Thread nD τ).loc main_arg6) : FVec Ideal S2x64 .f32) (ix2 0 x)) (fun x => (m ((c : Thread nD τ).loc main_arg7) : FVec Ideal S2x64 .f32) (ix2 0 x)) = (lam : EReal)) :
    Cert.AttnRefIdeal.Read.val_main_v141 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) = outArr m c d lam := by
  have R' : Cert.AttnR.Reads (m ((c : Thread nD τ).loc main_arg0)) (m ((c : Thread nD τ).loc main_arg1)) (m ((c : Thread nD τ).loc main_arg2)) (m ((c : Thread nD τ).loc main_arg3)) d := by
    refine ⟨R.z, fun n k h a e => ?_, fun n k h e => ?_, fun b j => ?_⟩
    · refine Eq.trans (congrArg _ ?_) (R.ck n k (lane h a e))
      have e1 : h = (⟨(lane h a e).val / 128, by omega⟩ : Fin 8) := Fin.ext (by dsimp only [lane]; omega)
      have e2 : a = (⟨(lane h a e).val / 64 % 2, by omega⟩ : Fin 2) := Fin.ext (by dsimp only [lane]; omega)
      have e3 : e = (⟨(lane h a e).val % 64, by omega⟩ : Fin 64) := Fin.ext (by dsimp only [lane]; omega)
      rw [← e1, ← e2, ← e3]
    · refine Eq.trans (congrArg _ ?_) (R.cv n k ⟨128 * h.val + e.val, by omega⟩)
      have e1 : h = (⟨(128 * h.val + e.val) / 128, by omega⟩ : Fin 8) := Fin.ext (by dsimp only; omega)
      have e3 : e = (⟨(128 * h.val + e.val) % 128, by omega⟩ : Fin 128) := Fin.ext (by dsimp only; omega)
      dsimp only
      rw [← e1, ← e3]
    · have hc : c = 0 := Subsingleton.elim _ _
      subst hc
      exact R.pg b j
  have hl : ∀ q, Cert.AttnRefIdeal.Read.val_main_v15 (F := Ideal) (m ((c : Thread nD τ).loc main_arg4)) (m ((c : Thread nD τ).loc main_arg5)) (m ((c : Thread nD τ).loc main_arg6)) (m ((c : Thread nD τ).loc main_arg7)) q = (lam : EReal) := fun q => (Cert.AttnR.v15_at _ _ _ _ q).trans hlam
  funext y
  have y0 : (y 0).val < 1024 := (y 0).isLt
  have y1 : (y 1).val < 1024 := (y 1).isLt
  refine (Cert.AttnR.v141_at R' hl _ y ⟨(y 0).val / 8, by omega⟩ ⟨(y 0).val % 8, by omega⟩ ⟨(y 1).val / 128, by omega⟩ ⟨(y 1).val % 128, by omega⟩ (by dsimp only; omega) (by dsimp only; omega)).trans ?_
  rfl

end Cert.AttnI
end
-- ==== Proof.FfnOkB.lean ====
/- The tables of the expert feed-forward name tiles and experts: the side condition of its frame, from the precondition. -/
module

public import proofs.«01_k».proof.Defs
public import proofs.«01_k».proof.Proof.FfnRunB
public import proofs.«01_k».proof.Proof.Gen.Pre_tiles_exist
public import Idealize.ShloMosaic.Lib.Pipeline.ValueKit
public import Idealize.ShloMosaic.Lib.Pointwise

@[expose] public section

set_option maxRecDepth 16384

noncomputable section

namespace Cert.FfnB

open Idealize.ShloMosaic Idealize.ShloMosaic.TcCoe Idealize.ShloMosaic.Tactic
open Idealize.SL Idealize.SL.Sem
open Cert.Ffn Cert.Ffn.Gen

/-- A word between zero and a small bound, as two signed comparisons say it, is a natural number below the bound. -/
theorem word_below (v w : BitVec 32) (hw : w.toNat < 100) (e : IntOp.andi (IntOp.cmpi .sge v 0#32) (IntOp.cmpi .slt v w) = 1#1) : v.toNat < w.toNat := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  have := v.isLt
  omega

variable {F : FTy → Type} [FloatOps F]
variable (m : (ℓ : Loc nD τ sig) → Buf (Elt F) ℓ)

/-- The column block a weight window asks for is one of the twenty-eight. -/
theorem sel_lt (b : BitVec 1) (j : ℕ) (h : j < 28) : (Scalar.select b (BitVec.ofNat 32 j) 27#32).toNat < 28 := by
  unfold Scalar.select
  split
  · rw [BitVec.toNat_ofNat]; omega
  · decide

/-- If the expert words are below 8 and the tile words below 25, every block lies in its array. -/
theorem ok_of_range (he : ∀ j, ((m (((0 : Dev nD) : Thread nD τ).loc main_arg4) : IVec S25 32) j).toNat < 8)
    (hx : ∀ j, ((m (((0 : Dev nD) : Thread nD τ).loc main_arg5) : IVec S25 32) j).toNat < 25) : Ok m := by
  have keyE : ∀ (i : grid0.Coords), ((tbl m).at 0 (Rect.unit (s := S25) (k0_off1 i) S1.size (k0_off1_inb i)) numel1_S1 : BitVec 32).toNat < 8 := fun i => he _
  have keyX : ∀ (i : grid0.Coords), ((tbl m).at 1 (Rect.unit (s := S25) (k0_off1 i) S1.size (k0_off1_inb i)) numel1_S1 : BitVec 32).toNat < 25 := fun i => hx _
  have keyS : ∀ (i : grid0.Coords) (b : BitVec 1), (Scalar.select b (BitVec.ofNat 32 (i 1).val) 27#32).toNat < 28 := fun i b => sel_lt b _ (i 1).isLt
  refine ⟨fun i => ⟨fun a => ?_, .inr (.inl (.inr ⟨by decide, rfl, .inl ⟨?_, ?_⟩⟩))⟩, fun i => ⟨fun a => ?_, .inl rfl⟩, fun i => ⟨fun a => ?_, .inl rfl⟩, fun i => ⟨fun a => ?_, .inl rfl⟩⟩
  · have := keyX i
    fin_cases a
    · show (_ + 1) * 1024 ≤ 25600
      exact (Nat.mul_le_mul_right 1024 (Nat.succ_le_of_lt this)).trans (by decide)
    · exact (by decide : (0 + 1) * 2048 ≤ 2048)
  · exact Dvd.dvd.mul_left (by decide : 2 ∣ 1024) _
  · exact (by decide : 2 ∣ 1024)
  · have h1 := keyE i
    fin_cases a
    · exact (by decide : (0 + 1) * 1 ≤ 1)
    · exact (Nat.mul_le_mul_right 1 (Nat.succ_le_of_lt h1)).trans (by decide)
    · exact (by decide : (0 + 1) * 2048 ≤ 2048)
    · exact (Nat.mul_le_mul_right 256 (Nat.succ_le_of_lt (keyS i _))).trans (by decide)
  · have h1 := keyE i
    fin_cases a
    · exact (by decide : (0 + 1) * 1 ≤ 1)
    · exact (Nat.mul_le_mul_right 1 (Nat.succ_le_of_lt h1)).trans (by decide)
    · exact (by decide : (0 + 1) * 2048 ≤ 2048)
    · exact (Nat.mul_le_mul_right 256 (Nat.succ_le_of_lt (keyS i _))).trans (by decide)
  · have h1 := keyE i
    fin_cases a
    · exact (by decide : (0 + 1) * 1 ≤ 1)
    · exact (Nat.mul_le_mul_right 1 (Nat.succ_le_of_lt h1)).trans (by decide)
    · exact (Nat.mul_le_mul_right 256 (Nat.succ_le_of_lt (keyS i _))).trans (by decide)
    · exact (by decide : (0 + 1) * 2048 ≤ 2048)

/-- What the precondition says of the expert words. -/
theorem expert_lt (m : (ℓ : Loc nD τ sig) → Buf (Elt Bits) ℓ) (h : Cert.Pre_Ffn m) (c : Dev nD) (j) : ((m ((c : Thread nD τ).loc main_arg4) : IVec S25 32) j).toNat < 8 := by
  have e := congrFun (h c).1 j
  exact word_below _ 8#32 (by decide) (by simpa only [Pre_tiles_exist.fn, andi, cmpi, broadcastInDim, constantI] using e)

/-- What the precondition says of the tile words. -/
theorem tile_lt (m : (ℓ : Loc nD τ sig) → Buf (Elt Bits) ℓ) (h : Cert.Pre_Ffn m) (c : Dev nD) (j) : ((m ((c : Thread nD τ).loc main_arg5) : IVec S25 32) j).toNat < 25 := by
  have e := congrFun (h c).2 j
  exact word_below _ 25#32 (by decide) (by simpa only [Pre_tiles_exist.fn, andi, cmpi, broadcastInDim, constantI] using e)

/-- The precondition gives the side condition. -/
theorem ok_of_tiles (m : (ℓ : Loc nD τ sig) → Buf (Elt Bits) ℓ) (h : Cert.Pre_Ffn m) : Ok m :=
  ok_of_range m (expert_lt m h 0) (tile_lt m h 0)

end Cert.FfnB

end
-- ==== Proof.FfnRunI.lean ====
/- The expert feed-forward: the pipeline's points, the blocks its windows read, and the body run in each of its four cases
   (first step of a tile or not; tile taken or not), from any contents of the tables. -/
module

public import proofs.«01_k».proof.Proof.Gen.FfnIdeal.Launch
public import proofs.«01_k».proof.Proof.Gen.FfnIdeal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
theorem flush0_4 (a : (pcfg0 (F := F)).Adm) : ∀ t : Fin (cfg0 a).N, ((cfg0 a).win 4).flush t = true ↔ t.val % 28 = 27 :=
  (fun t => Pipeline.Window.flushOf_reads cc0_transform_4 reads0_4 hreads0_4 0 (by decide) (by decide) (Pipeline.Window.sep_of_coord cc0_transform_4 0 0 (fun _ => rfl) (by decide)) (P := 28) (m := 27) (by decide) rfl t : ∀ t : Fin grid0.N, Pipeline.Window.flushOf grid0 true cc0_transform_4 t = true ↔ t.val % 28 = 27)

abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)

abbrev bodyAt0 (a : (pcfg0 (F := F)).Adm) (t : Fin (cfg0 a).N) : Prog (TpuEff nD τ sig (Elt F) Λ₀ .tc) PUnit :=
  cc0_ffn (grid0.coords t) (Memref.whole main_arg4) (Memref.isWhole_whole _) (Memref.whole main_arg5) (Memref.isWhole_whole _) (Memref.whole main_arg6) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4))

abbrev V (c : Dev nD) (b : Ref sig .tc) : Buf (Elt F) ((c : Thread nD τ).loc b) := m ((c : Thread nD τ).loc b)

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl

def tbl : pre0.Contents (Elt F) := fun j => V m (0 : Dev nD) (pre0.ref j)
theorem V_pre (c : Dev nD) (j : Fin 3) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S25 .i32 := Memref.whole main_arg4
abbrev htbM0_0 : tbM0_0.IsWhole := Memref.isWhole_whole _
abbrev tbM0_1 : Memref sig .tc .smem S25 .i32 := Memref.whole main_arg5
abbrev htbM0_1 : tbM0_1.IsWhole := Memref.isWhole_whole _
abbrev tbM0_2 : Memref sig .tc .smem S25 .i32 := Memref.whole main_arg6
abbrev htbM0_2 : tbM0_2.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c)⟩) h

abbrev cond0_0 (i : grid0.Coords) : Prop := k0_cond1 i = 1#1
theorem hcond0_0 : ∀ t : Fin grid0.N, cond0_0 (grid0.coords t) ↔ t.val % 28 = 0 :=
  (fun t => by
    have ht : t.val < 700 := Nat.lt_of_lt_of_eq t.isLt N_0
    have e0 : (grid0.coords t 0).val = t.val / 28 % 25 := Pipeline.Grid.coords_val t 0 (by decide) rfl
    have e1 : (grid0.coords t 1).val = t.val / 1 % 28 := Pipeline.Grid.coords_val t 1 (by decide) rfl
    simp only [cond0_0, k0_cond1, e0, e1]
    word_cmp
   : ∀ t : Fin grid0.N, cond0_0 (grid0.coords t) ↔ t.val % 28 = 0)

abbrev cond0_1 (i : grid0.Coords) (v4 : BitVec 32) : Prop := k0_cond2 v4 = 1#1

abbrev VO0_4 : View sig .tc .vmem S1024x2048 .f32 := (Memref.whole cc0_stg4_0 : Memref sig .tc .vmem S1024x2048 .f32).view
abbrev ms0_0 (hO : Ok m) (t : Fin (cfgM m hO).N) : Memref sig .tc .vmem S1024x2048 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x2048x256 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x2048x256 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x256x2048 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1024x2048 .f32 := spec0_4.stage ((cfgM m hO).slots t 4)
abbrev hs0_4 (hO : Ok m) (t : Fin (cfgM m hO).N) : (ms0_4 m hO t).IsWhole := hstage0_4 (((cfgM m hO).slots t 4).cast nbuf0_4)

set_option maxHeartbeats 4000000 in
noncomputable def kernelRun0_A (c : Dev nD) (i : grid0.Coords) (arg5 : Memref sig .tc .vmem S1024x2048 .bf16) (harg5 : arg5.IsWhole) (arg6 : Memref sig .tc .vmem S1x1x2048x256 .f32) (harg6 : arg6.IsWhole) (arg7 : Memref sig .tc .vmem S1x1x2048x256 .f32) (harg7 : arg7.IsWhole) (arg8 : Memref sig .tc .vmem S1x1x256x2048 .f32) (harg8 : arg8.IsWhole) (arg9 : Memref sig .tc .vmem S1024x2048 .f32) (harg9 : arg9.IsWhole) (hc0 : cond0_0 i)
    (x0 : Vec F S1024x2048 .bf16) (x1 : Vec F S1x1x2048x256 .f32) (x2 : Vec F S1x1x2048x256 .f32) (x3 : Vec F S1x1x256x2048 .f32) (xt0 : TbBuf0 (F := F) c tbM0_0) (xt1 : TbBuf0 (F := F) c tbM0_1) (xt2 : TbBuf0 (F := F) c tbM0_2) (hc1 : cond0_1 i (tbM0_2.view.readAt (Elt F) (Rect.unit (s := S25) (k0_off1 i) S1.size (k0_off1_inb i)).toLoadRect xt2 (Shape.Idx.first (numel1_S1.symm ▸ Nat.one_pos)))) :
    { L4 : List (View.Piece (Elt F) S1024x2048 .f32) //
      ∀ (E : Set ℕ) (K : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ (∃ d, owns (c : Thread nD τ) arg9 fullShare d) ∗ tbPt0 c tbM0_0 xt0 ∗ tbPt0 c tbM0_1 xt1 ∗ tbPt0 c tbM0_2 xt2
            ∗ (iprop(owns (c : Thread nD τ) arg5 fullShare x0 ∗ owns (c : Thread nD τ) arg6 fullShare x1 ∗ owns (c : Thread nD τ) arg7 fullShare x2 ∗ owns (c : Thread nD τ) arg8 fullShare x3 ∗ (∃ f, arg9.view.loc (c : Thread nD τ) ↦[arg9.view.set]{fullShare} arg9.view.writes (Elt F) f L4) ∗ tbPt0 c tbM0_0 xt0 ∗ tbPt0 c tbM0_1 xt1 ∗ tbPt0 c tbM0_2 xt2) -∗ K ⟨⟩))
          ⊢ wp frame (wpE (defs₀ (F := F)) Variants.none c none) E (cc0_ffn i tbM0_0 htbM0_0 tbM0_1 htbM0_1 tbM0_2 htbM0_2 arg5 harg5 arg6 harg6 arg7 harg7 arg8 harg8 arg9 harg9) K } := by
  refine ⟨?_, fun E K => ?run⟩
  case run =>
    simp only [cc0_ffn_eq_skeleton]; unfold cc0_ffn_skel
    unfold owns
    iintro ⟨⟨%f0, %hf0, H0⟩, ⟨%f1, %hf1, H1⟩, ⟨%f2, %hf2, H2⟩, ⟨%f3, %hf3, H3⟩, ⟨%d4, %f4, -, H4⟩, HT0, HT1, HT2, Hk⟩
    obtain rfl := harg5.eq_unread hf0; obtain rfl := harg6.eq_unread hf1; obtain rfl := harg7.eq_unread hf2; obtain rfl := harg8.eq_unread hf3
    sl_exec (disch := first | (guard_target = k0_cond1 _ = _; exact hc0) | (guard_target = k0_cond2 _ = _; exact hc1))
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]; · iexists _; iexact H4
    isplitl [HT0]; · iexact HT0
    isplitl [HT1]; · iexact HT1
    iexact HT2

set_option maxHeartbeats 4000000 in
noncomputable def kernelRun0_B (c : Dev nD) (i : grid0.Coords) (arg5 : Memref sig .tc .vmem S1024x2048 .bf16) (harg5 : arg5.IsWhole) (arg6 : Memref sig .tc .vmem S1x1x2048x256 .f32) (harg6 : arg6.IsWhole) (arg7 : Memref sig .tc .vmem S1x1x2048x256 .f32) (harg7 : arg7.IsWhole) (arg8 : Memref sig .tc .vmem S1x1x256x2048 .f32) (harg8 : arg8.IsWhole) (arg9 : Memref sig .tc .vmem S1024x2048 .f32) (harg9 : arg9.IsWhole) (hc0 : cond0_0 i)
    (x0 : Vec F S1024x2048 .bf16) (x1 : Vec F S1x1x2048x256 .f32) (x2 : Vec F S1x1x2048x256 .f32) (x3 : Vec F S1x1x256x2048 .f32) (xt0 : TbBuf0 (F := F) c tbM0_0) (xt1 : TbBuf0 (F := F) c tbM0_1) (xt2 : TbBuf0 (F := F) c tbM0_2) (hc1 : ¬cond0_1 i (tbM0_2.view.readAt (Elt F) (Rect.unit (s := S25) (k0_off1 i) S1.size (k0_off1_inb i)).toLoadRect xt2 (Shape.Idx.first (numel1_S1.symm ▸ Nat.one_pos)))) :
    { L4 : List (View.Piece (Elt F) S1024x2048 .f32) //
      ∀ (E : Set ℕ) (K : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ (∃ d, owns (c : Thread nD τ) arg9 fullShare d) ∗ tbPt0 c tbM0_0 xt0 ∗ tbPt0 c tbM0_1 xt1 ∗ tbPt0 c tbM0_2 xt2
            ∗ (iprop(owns (c : Thread nD τ) arg5 fullShare x0 ∗ owns (c : Thread nD τ) arg6 fullShare x1 ∗ owns (c : Thread nD τ) arg7 fullShare x2 ∗ owns (c : Thread nD τ) arg8 fullShare x3 ∗ (∃ f, arg9.view.loc (c : Thread nD τ) ↦[arg9.view.set]{fullShare} arg9.view.writes (Elt F) f L4) ∗ tbPt0 c tbM0_0 xt0 ∗ tbPt0 c tbM0_1 xt1 ∗ tbPt0 c tbM0_2 xt2) -∗ K ⟨⟩))
          ⊢ wp frame (wpE (defs₀ (F := F)) Variants.none c none) E (cc0_ffn i tbM0_0 htbM0_0 tbM0_1 htbM0_1 tbM0_2 htbM0_2 arg5 harg5 arg6 harg6 arg7 harg7 arg8 harg8 arg9 harg9) K } := by
  refine ⟨?_, fun E K => ?run⟩
  case run =>
    simp only [cc0_ffn_eq_skeleton]; unfold cc0_ffn_skel
    unfold owns
    iintro ⟨⟨%f0, %hf0, H0⟩, ⟨%f1, %hf1, H1⟩, ⟨%f2, %hf2, H2⟩, ⟨%f3, %hf3, H3⟩, ⟨%d4, %f4, -, H4⟩, HT0, HT1, HT2, Hk⟩
    obtain rfl := harg5.eq_unread hf0; obtain rfl := harg6.eq_unread hf1; obtain rfl := harg7.eq_unread hf2; obtain rfl := harg8.eq_unread hf3
    sl_exec (disch := first | (guard_target = k0_cond1 _ = _; exact hc0) | (guard_target = ¬(k0_cond2 _ = _); exact hc1))
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]; · iexists _; iexact H4
    isplitl [HT0]; · iexact HT0
    isplitl [HT1]; · iexact HT1
    iexact HT2

set_option maxHeartbeats 4000000 in
noncomputable def kernelRun0_C (c : Dev nD) (i : grid0.Coords) (arg5 : Memref sig .tc .vmem S1024x2048 .bf16) (harg5 : arg5.IsWhole) (arg6 : Memref sig .tc .vmem S1x1x2048x256 .f32) (harg6 : arg6.IsWhole) (arg7 : Memref sig .tc .vmem S1x1x2048x256 .f32) (harg7 : arg7.IsWhole) (arg8 : Memref sig .tc .vmem S1x1x256x2048 .f32) (harg8 : arg8.IsWhole) (arg9 : Memref sig .tc .vmem S1024x2048 .f32) (harg9 : arg9.IsWhole) (hc0 : ¬cond0_0 i)
    (x0 : Vec F S1024x2048 .bf16) (x1 : Vec F S1x1x2048x256 .f32) (x2 : Vec F S1x1x2048x256 .f32) (x3 : Vec F S1x1x256x2048 .f32) (xt0 : TbBuf0 (F := F) c tbM0_0) (xt1 : TbBuf0 (F := F) c tbM0_1) (xt2 : TbBuf0 (F := F) c tbM0_2) (xo4 : Vec F S1024x2048 .f32) (hc1 : cond0_1 i (tbM0_2.view.readAt (Elt F) (Rect.unit (s := S25) (k0_off1 i) S1.size (k0_off1_inb i)).toLoadRect xt2 (Shape.Idx.first (numel1_S1.symm ▸ Nat.one_pos)))) :
    { L4 : List (View.Piece (Elt F) S1024x2048 .f32) //
      ∀ (E : Set ℕ) (K : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare xo4 ∗ tbPt0 c tbM0_0 xt0 ∗ tbPt0 c tbM0_1 xt1 ∗ tbPt0 c tbM0_2 xt2
            ∗ (iprop(owns (c : Thread nD τ) arg5 fullShare x0 ∗ owns (c : Thread nD τ) arg6 fullShare x1 ∗ owns (c : Thread nD τ) arg7 fullShare x2 ∗ owns (c : Thread nD τ) arg8 fullShare x3 ∗ (∃ f, arg9.view.loc (c : Thread nD τ) ↦[arg9.view.set]{fullShare} arg9.view.writes (Elt F) f L4) ∗ tbPt0 c tbM0_0 xt0 ∗ tbPt0 c tbM0_1 xt1 ∗ tbPt0 c tbM0_2 xt2) -∗ K ⟨⟩))
          ⊢ wp frame (wpE (defs₀ (F := F)) Variants.none c none) E (cc0_ffn i tbM0_0 htbM0_0 tbM0_1 htbM0_1 tbM0_2 htbM0_2 arg5 harg5 arg6 harg6 arg7 harg7 arg8 harg8 arg9 harg9) K } := by
  refine ⟨?_, fun E K => ?run⟩
  case run =>
    simp only [cc0_ffn_eq_skeleton]; unfold cc0_ffn_skel
    unfold owns
    iintro ⟨⟨%f0, %hf0, H0⟩, ⟨%f1, %hf1, H1⟩, ⟨%f2, %hf2, H2⟩, ⟨%f3, %hf3, H3⟩, ⟨%f4, %hf4, H4⟩, HT0, HT1, HT2, Hk⟩
    obtain rfl := harg5.eq_unread hf0; obtain rfl := harg6.eq_unread hf1; obtain rfl := harg7.eq_unread hf2; obtain rfl := harg8.eq_unread hf3; obtain rfl := harg9.eq_unread hf4
    sl_exec (disch := first | (guard_target = ¬(k0_cond1 _ = _); exact hc0) | (guard_target = k0_cond2 _ = _; exact hc1))
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]; · iexists _; iexact H4
    isplitl [HT0]; · iexact HT0
    isplitl [HT1]; · iexact HT1
    iexact HT2

set_option maxHeartbeats 4000000 in
noncomputable def kernelRun0_D (c : Dev nD) (i : grid0.Coords) (arg5 : Memref sig .tc .vmem S1024x2048 .bf16) (harg5 : arg5.IsWhole) (arg6 : Memref sig .tc .vmem S1x1x2048x256 .f32) (harg6 : arg6.IsWhole) (arg7 : Memref sig .tc .vmem S1x1x2048x256 .f32) (harg7 : arg7.IsWhole) (arg8 : Memref sig .tc .vmem S1x1x256x2048 .f32) (harg8 : arg8.IsWhole) (arg9 : Memref sig .tc .vmem S1024x2048 .f32) (harg9 : arg9.IsWhole) (hc0 : ¬cond0_0 i)
    (x0 : Vec F S1024x2048 .bf16) (x1 : Vec F S1x1x2048x256 .f32) (x2 : Vec F S1x1x2048x256 .f32) (x3 : Vec F S1x1x256x2048 .f32) (xt0 : TbBuf0 (F := F) c tbM0_0) (xt1 : TbBuf0 (F := F) c tbM0_1) (xt2 : TbBuf0 (F := F) c tbM0_2) (xo4 : Vec F S1024x2048 .f32) (hc1 : ¬cond0_1 i (tbM0_2.view.readAt (Elt F) (Rect.unit (s := S25) (k0_off1 i) S1.size (k0_off1_inb i)).toLoadRect xt2 (Shape.Idx.first (numel1_S1.symm ▸ Nat.one_pos)))) :
    { L4 : List (View.Piece (Elt F) S1024x2048 .f32) //
      ∀ (E : Set ℕ) (K : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare xo4 ∗ tbPt0 c tbM0_0 xt0 ∗ tbPt0 c tbM0_1 xt1 ∗ tbPt0 c tbM0_2 xt2
            ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare xo4 ∗ tbPt0 c tbM0_0 xt0 ∗ tbPt0 c tbM0_1 xt1 ∗ tbPt0 c tbM0_2 xt2) -∗ K ⟨⟩))
          ⊢ wp frame (wpE (defs₀ (F := F)) Variants.none c none) E (cc0_ffn i tbM0_0 htbM0_0 tbM0_1 htbM0_1 tbM0_2 htbM0_2 arg5 harg5 arg6 harg6 arg7 harg7 arg8 harg8 arg9 harg9) K } := by
  refine ⟨[], fun E K => ?run⟩
  case run =>
    simp only [cc0_ffn_eq_skeleton]; unfold cc0_ffn_skel
    unfold owns
    iintro ⟨⟨%f0, %hf0, H0⟩, ⟨%f1, %hf1, H1⟩, ⟨%f2, %hf2, H2⟩, ⟨%f3, %hf3, H3⟩, ⟨%f4, %hf4, H4⟩, HT0, HT1, HT2, Hk⟩
    obtain rfl := harg5.eq_unread hf0; obtain rfl := harg6.eq_unread hf1; obtain rfl := harg7.eq_unread hf2; obtain rfl := harg8.eq_unread hf3; obtain rfl := harg9.eq_unread hf4
    sl_exec (disch := first | (guard_target = ¬(k0_cond1 _ = _); exact hc0) | (guard_target = ¬(k0_cond2 _ = _); exact hc1))
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; · ipureintro; exact harg9.read_unread _
      iexact H4
    isplitl [HT0]; · iexact HT0
    isplitl [HT1]; · iexact HT1
    iexact HT2

end Cert.FfnIdeal.Gen

end
-- ==== Proof.FfnFrameI.lean ====
/- The expert feed-forward: what the output block holds after every step, and the run of the whole program under
   the side condition of its tables. -/
module

public import proofs.«01_k».proof.Proof.FfnRunI
public import Idealize.ShloMosaic.Lib.Claim
public import Idealize.ShloMosaic.Lib.Pipeline.TableIdle

@[expose] public section

set_option maxRecDepth 16384

noncomputable section

namespace Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
theorem cover0_A_4 (c : Dev nD) (i : grid0.Coords) (arg5 : Memref sig .tc .vmem S1024x2048 .bf16) (harg5 : arg5.IsWhole) (arg6 : Memref sig .tc .vmem S1x1x2048x256 .f32) (harg6 : arg6.IsWhole) (arg7 : Memref sig .tc .vmem S1x1x2048x256 .f32) (harg7 : arg7.IsWhole) (arg8 : Memref sig .tc .vmem S1x1x256x2048 .f32) (harg8 : arg8.IsWhole) (arg9 : Memref sig .tc .vmem S1024x2048 .f32) (harg9 : arg9.IsWhole) (hc0 : cond0_0 i)
    (x0 : Vec F S1024x2048 .bf16) (x1 : Vec F S1x1x2048x256 .f32) (x2 : Vec F S1x1x2048x256 .f32) (x3 : Vec F S1x1x256x2048 .f32) (xt0 : TbBuf0 (F := F) c tbM0_0) (xt1 : TbBuf0 (F := F) c tbM0_1) (xt2 : TbBuf0 (F := F) c tbM0_2) (hc1 : cond0_1 i (tbM0_2.view.readAt (Elt F) (Rect.unit (s := S25) (k0_off1 i) S1.size (k0_off1_inb i)).toLoadRect xt2 (Shape.Idx.first (numel1_S1.symm ▸ Nat.one_pos)))) (y : S1024x2048.Idx) :
    ∃ pc ∈ (kernelRun0_A c i arg5 harg5 arg6 harg6 arg7 harg7 arg8 harg8 arg9 harg9 hc0 x0 x1 x2 x3 xt0 xt1 xt2 hc1).1, y ∈ pc.1.set :=
  View.cover_of_tiledL (kernelRun0_A c i arg5 harg5 arg6 harg6 arg7 harg7 arg8 harg8 arg9 harg9 hc0 x0 x1 x2 x3 xt0 xt1 xt2 hc1).1 S1024x2048.size (by sl_kernel_rfl) y

def out0_A_4 (c : Dev nD) (i : grid0.Coords) (arg5 : Memref sig .tc .vmem S1024x2048 .bf16) (harg5 : arg5.IsWhole) (arg6 : Memref sig .tc .vmem S1x1x2048x256 .f32) (harg6 : arg6.IsWhole) (arg7 : Memref sig .tc .vmem S1x1x2048x256 .f32) (harg7 : arg7.IsWhole) (arg8 : Memref sig .tc .vmem S1x1x256x2048 .f32) (harg8 : arg8.IsWhole) (arg9 : Memref sig .tc .vmem S1024x2048 .f32) (harg9 : arg9.IsWhole) (hc0 : cond0_0 i)
    (x0 : Vec F S1024x2048 .bf16) (x1 : Vec F S1x1x2048x256 .f32) (x2 : Vec F S1x1x2048x256 .f32) (x3 : Vec F S1x1x256x2048 .f32) (xt0 : TbBuf0 (F := F) c tbM0_0) (xt1 : TbBuf0 (F := F) c tbM0_1) (xt2 : TbBuf0 (F := F) c tbM0_2) (hc1 : cond0_1 i (tbM0_2.view.readAt (Elt F) (Rect.unit (s := S25) (k0_off1 i) S1.size (k0_off1_inb i)).toLoadRect xt2 (Shape.Idx.first (numel1_S1.symm ▸ Nat.one_pos)))) : Vec F S1024x2048 .f32 :=
  VO0_4.read (Elt F) (VO0_4.writes (Elt F) VO0_4.junk (kernelRun0_A c i arg5 harg5 arg6 harg6 arg7 harg7 arg8 harg8 arg9 harg9 hc0 x0 x1 x2 x3 xt0 xt1 xt2 hc1).1)

theorem cover0_B_4 (c : Dev nD) (i : grid0.Coords) (arg5 : Memref sig .tc .vmem S1024x2048 .bf16) (harg5 : arg5.IsWhole) (arg6 : Memref sig .tc .vmem S1x1x2048x256 .f32) (harg6 : arg6.IsWhole) (arg7 : Memref sig .tc .vmem S1x1x2048x256 .f32) (harg7 : arg7.IsWhole) (arg8 : Memref sig .tc .vmem S1x1x256x2048 .f32) (harg8 : arg8.IsWhole) (arg9 : Memref sig .tc .vmem S1024x2048 .f32) (harg9 : arg9.IsWhole) (hc0 : cond0_0 i)
    (x0 : Vec F S1024x2048 .bf16) (x1 : Vec F S1x1x2048x256 .f32) (x2 : Vec F S1x1x2048x256 .f32) (x3 : Vec F S1x1x256x2048 .f32) (xt0 : TbBuf0 (F := F) c tbM0_0) (xt1 : TbBuf0 (F := F) c tbM0_1) (xt2 : TbBuf0 (F := F) c tbM0_2) (hc1 : ¬cond0_1 i (tbM0_2.view.readAt (Elt F) (Rect.unit (s := S25) (k0_off1 i) S1.size (k0_off1_inb i)).toLoadRect xt2 (Shape.Idx.first (numel1_S1.symm ▸ Nat.one_pos)))) (y : S1024x2048.Idx) :
    ∃ pc ∈ (kernelRun0_B c i arg5 harg5 arg6 harg6 arg7 harg7 arg8 harg8 arg9 harg9 hc0 x0 x1 x2 x3 xt0 xt1 xt2 hc1).1, y ∈ pc.1.set :=
  View.cover_of_tiledL (kernelRun0_B c i arg5 harg5 arg6 harg6 arg7 harg7 arg8 harg8 arg9 harg9 hc0 x0 x1 x2 x3 xt0 xt1 xt2 hc1).1 S1024x2048.size (by sl_kernel_rfl) y

def out0_B_4 (c : Dev nD) (i : grid0.Coords) (arg5 : Memref sig .tc .vmem S1024x2048 .bf16) (harg5 : arg5.IsWhole) (arg6 : Memref sig .tc .vmem S1x1x2048x256 .f32) (harg6 : arg6.IsWhole) (arg7 : Memref sig .tc .vmem S1x1x2048x256 .f32) (harg7 : arg7.IsWhole) (arg8 : Memref sig .tc .vmem S1x1x256x2048 .f32) (harg8 : arg8.IsWhole) (arg9 : Memref sig .tc .vmem S1024x2048 .f32) (harg9 : arg9.IsWhole) (hc0 : cond0_0 i)
    (x0 : Vec F S1024x2048 .bf16) (x1 : Vec F S1x1x2048x256 .f32) (x2 : Vec F S1x1x2048x256 .f32) (x3 : Vec F S1x1x256x2048 .f32) (xt0 : TbBuf0 (F := F) c tbM0_0) (xt1 : TbBuf0 (F := F) c tbM0_1) (xt2 : TbBuf0 (F := F) c tbM0_2) (hc1 : ¬cond0_1 i (tbM0_2.view.readAt (Elt F) (Rect.unit (s := S25) (k0_off1 i) S1.size (k0_off1_inb i)).toLoadRect xt2 (Shape.Idx.first (numel1_S1.symm ▸ Nat.one_pos)))) : Vec F S1024x2048 .f32 :=
  VO0_4.read (Elt F) (VO0_4.writes (Elt F) VO0_4.junk (kernelRun0_B c i arg5 harg5 arg6 harg6 arg7 harg7 arg8 harg8 arg9 harg9 hc0 x0 x1 x2 x3 xt0 xt1 xt2 hc1).1)

theorem cover0_C_4 (c : Dev nD) (i : grid0.Coords) (arg5 : Memref sig .tc .vmem S1024x2048 .bf16) (harg5 : arg5.IsWhole) (arg6 : Memref sig .tc .vmem S1x1x2048x256 .f32) (harg6 : arg6.IsWhole) (arg7 : Memref sig .tc .vmem S1x1x2048x256 .f32) (harg7 : arg7.IsWhole) (arg8 : Memref sig .tc .vmem S1x1x256x2048 .f32) (harg8 : arg8.IsWhole) (arg9 : Memref sig .tc .vmem S1024x2048 .f32) (harg9 : arg9.IsWhole) (hc0 : ¬cond0_0 i)
    (x0 : Vec F S1024x2048 .bf16) (x1 : Vec F S1x1x2048x256 .f32) (x2 : Vec F S1x1x2048x256 .f32) (x3 : Vec F S1x1x256x2048 .f32) (xt0 : TbBuf0 (F := F) c tbM0_0) (xt1 : TbBuf0 (F := F) c tbM0_1) (xt2 : TbBuf0 (F := F) c tbM0_2) (xo4 : Vec F S1024x2048 .f32) (hc1 : cond0_1 i (tbM0_2.view.readAt (Elt F) (Rect.unit (s := S25) (k0_off1 i) S1.size (k0_off1_inb i)).toLoadRect xt2 (Shape.Idx.first (numel1_S1.symm ▸ Nat.one_pos)))) (y : S1024x2048.Idx) :
    ∃ pc ∈ (kernelRun0_C c i arg5 harg5 arg6 harg6 arg7 harg7 arg8 harg8 arg9 harg9 hc0 x0 x1 x2 x3 xt0 xt1 xt2 xo4 hc1).1, y ∈ pc.1.set :=
  View.cover_of_tiledL (kernelRun0_C c i arg5 harg5 arg6 harg6 arg7 harg7 arg8 harg8 arg9 harg9 hc0 x0 x1 x2 x3 xt0 xt1 xt2 xo4 hc1).1 S1024x2048.size (by sl_kernel_rfl) y

def out0_C_4 (c : Dev nD) (i : grid0.Coords) (arg5 : Memref sig .tc .vmem S1024x2048 .bf16) (harg5 : arg5.IsWhole) (arg6 : Memref sig .tc .vmem S1x1x2048x256 .f32) (harg6 : arg6.IsWhole) (arg7 : Memref sig .tc .vmem S1x1x2048x256 .f32) (harg7 : arg7.IsWhole) (arg8 : Memref sig .tc .vmem S1x1x256x2048 .f32) (harg8 : arg8.IsWhole) (arg9 : Memref sig .tc .vmem S1024x2048 .f32) (harg9 : arg9.IsWhole) (hc0 : ¬cond0_0 i)
    (x0 : Vec F S1024x2048 .bf16) (x1 : Vec F S1x1x2048x256 .f32) (x2 : Vec F S1x1x2048x256 .f32) (x3 : Vec F S1x1x256x2048 .f32) (xt0 : TbBuf0 (F := F) c tbM0_0) (xt1 : TbBuf0 (F := F) c tbM0_1) (xt2 : TbBuf0 (F := F) c tbM0_2) (xo4 : Vec F S1024x2048 .f32) (hc1 : cond0_1 i (tbM0_2.view.readAt (Elt F) (Rect.unit (s := S25) (k0_off1 i) S1.size (k0_off1_inb i)).toLoadRect xt2 (Shape.Idx.first (numel1_S1.symm ▸ Nat.one_pos)))) : Vec F S1024x2048 .f32 :=
  VO0_4.read (Elt F) (VO0_4.writes (Elt F) VO0_4.junk (kernelRun0_C c i arg5 harg5 arg6 harg6 arg7 harg7 arg8 harg8 arg9 harg9 hc0 x0 x1 x2 x3 xt0 xt1 xt2 xo4 hc1).1)

def out0_D_4 (c : Dev nD) (i : grid0.Coords) (arg5 : Memref sig .tc .vmem S1024x2048 .bf16) (harg5 : arg5.IsWhole) (arg6 : Memref sig .tc .vmem S1x1x2048x256 .f32) (harg6 : arg6.IsWhole) (arg7 : Memref sig .tc .vmem S1x1x2048x256 .f32) (harg7 : arg7.IsWhole) (arg8 : Memref sig .tc .vmem S1x1x256x2048 .f32) (harg8 : arg8.IsWhole) (arg9 : Memref sig .tc .vmem S1024x2048 .f32) (harg9 : arg9.IsWhole) (hc0 : ¬cond0_0 i)
    (x0 : Vec F S1024x2048 .bf16) (x1 : Vec F S1x1x2048x256 .f32) (x2 : Vec F S1x1x2048x256 .f32) (x3 : Vec F S1x1x256x2048 .f32) (xt0 : TbBuf0 (F := F) c tbM0_0) (xt1 : TbBuf0 (F := F) c tbM0_1) (xt2 : TbBuf0 (F := F) c tbM0_2) (xo4 : Vec F S1024x2048 .f32) (hc1 : ¬cond0_1 i (tbM0_2.view.readAt (Elt F) (Rect.unit (s := S25) (k0_off1 i) S1.size (k0_off1_inb i)).toLoadRect xt2 (Shape.Idx.first (numel1_S1.symm ▸ Nat.one_pos)))) : Vec F S1024x2048 .f32 := xo4

def outsAt0 (hO : Ok m) (c : Dev nD) : (n : ℕ) → n < (cfgM m hO).N → Vec F S1024x2048 .f32
  | 0, hn => if h1 : cond0_1 (grid0.coords ⟨0, hn⟩) (tbM0_2.view.readAt (Elt F) (Rect.unit (s := S25) (k0_off1 (grid0.coords ⟨0, hn⟩)) S1.size (k0_off1_inb (grid0.coords ⟨0, hn⟩))).toLoadRect (tbl m 2) (Shape.Idx.first (numel1_S1.symm ▸ Nat.one_pos))) then
      out0_A_4 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) ((hcond0_0 ⟨0, hn⟩).mpr (Nat.zero_mod _)) (iblk m hO c 0 ⟨0, hn⟩) (iblk m hO c 1 ⟨0, hn⟩) (iblk m hO c 2 ⟨0, hn⟩) (iblk m hO c 3 ⟨0, hn⟩) (tbl m 0) (tbl m 1) (tbl m 2) h1
    else
      out0_B_4 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) ((hcond0_0 ⟨0, hn⟩).mpr (Nat.zero_mod _)) (iblk m hO c 0 ⟨0, hn⟩) (iblk m hO c 1 ⟨0, hn⟩) (iblk m hO c 2 ⟨0, hn⟩) (iblk m hO c 3 ⟨0, hn⟩) (tbl m 0) (tbl m 1) (tbl m 2) h1
  | n + 1, hn =>
    if h1 : cond0_1 (grid0.coords ⟨n + 1, hn⟩) (tbM0_2.view.readAt (Elt F) (Rect.unit (s := S25) (k0_off1 (grid0.coords ⟨n + 1, hn⟩)) S1.size (k0_off1_inb (grid0.coords ⟨n + 1, hn⟩))).toLoadRect (tbl m 2) (Shape.Idx.first (numel1_S1.symm ▸ Nat.one_pos))) then
      if h0 : (n + 1) % 28 = 0 then
        out0_A_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) ((hcond0_0 ⟨n + 1, hn⟩).mpr h0) (iblk m hO c 0 ⟨n + 1, hn⟩) (iblk m hO c 1 ⟨n + 1, hn⟩) (iblk m hO c 2 ⟨n + 1, hn⟩) (iblk m hO c 3 ⟨n + 1, hn⟩) (tbl m 0) (tbl m 1) (tbl m 2) h1
      else
        out0_C_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (fun h => h0 ((hcond0_0 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) (tbl m 2) (outsAt0 hO c n (Nat.lt_of_succ_lt hn)) h1
    else
      if h0 : (n + 1) % 28 = 0 then
        out0_B_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) ((hcond0_0 ⟨n + 1, hn⟩).mpr h0) (iblk m hO c 0 ⟨n + 1, hn⟩) (iblk m hO c 1 ⟨n + 1, hn⟩) (iblk m hO c 2 ⟨n + 1, hn⟩) (iblk m hO c 3 ⟨n + 1, hn⟩) (tbl m 0) (tbl m 1) (tbl m 2) h1
      else
        out0_D_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (fun h => h0 ((hcond0_0 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) (tbl m 2) (outsAt0 hO c n (Nat.lt_of_succ_lt hn)) h1

theorem outsAt0_A (hO : Ok m) (c : Dev nD) (t : Fin (cfgM m hO).N) (h0 : t.val % 28 = 0) (h1 : cond0_1 (grid0.coords t) (tbM0_2.view.readAt (Elt F) (Rect.unit (s := S25) (k0_off1 (grid0.coords t)) S1.size (k0_off1_inb (grid0.coords t))).toLoadRect (tbl m 2) (Shape.Idx.first (numel1_S1.symm ▸ Nat.one_pos)))) :
    outsAt0 m hO c t.val t.isLt = out0_A_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) ((hcond0_0 t).mpr h0) (iblk m hO c 0 t) (iblk m hO c 1 t) (iblk m hO c 2 t) (iblk m hO c 3 t) (tbl m 0) (tbl m 1) (tbl m 2) h1 := by
  obtain ⟨n, hn⟩ := t
  cases n with
  | zero => exact (dif_pos h1).trans rfl
  | succ n => exact (dif_pos h1).trans ((dif_pos h0).trans rfl)

theorem outsAt0_B (hO : Ok m) (c : Dev nD) (t : Fin (cfgM m hO).N) (h0 : t.val % 28 = 0) (h1 : ¬cond0_1 (grid0.coords t) (tbM0_2.view.readAt (Elt F) (Rect.unit (s := S25) (k0_off1 (grid0.coords t)) S1.size (k0_off1_inb (grid0.coords t))).toLoadRect (tbl m 2) (Shape.Idx.first (numel1_S1.symm ▸ Nat.one_pos)))) :
    outsAt0 m hO c t.val t.isLt = out0_B_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) ((hcond0_0 t).mpr h0) (iblk m hO c 0 t) (iblk m hO c 1 t) (iblk m hO c 2 t) (iblk m hO c 3 t) (tbl m 0) (tbl m 1) (tbl m 2) h1 := by
  obtain ⟨n, hn⟩ := t
  cases n with
  | zero => exact (dif_neg h1).trans rfl
  | succ n => exact (dif_neg h1).trans ((dif_pos h0).trans rfl)

theorem outsAt0_C (hO : Ok m) (c : Dev nD) (t : Fin (cfgM m hO).N) (h0 : ¬t.val % 28 = 0) (h1 : cond0_1 (grid0.coords t) (tbM0_2.view.readAt (Elt F) (Rect.unit (s := S25) (k0_off1 (grid0.coords t)) S1.size (k0_off1_inb (grid0.coords t))).toLoadRect (tbl m 2) (Shape.Idx.first (numel1_S1.symm ▸ Nat.one_pos)))) :
    outsAt0 m hO c t.val t.isLt = out0_C_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (fun h => h0 ((hcond0_0 t).mp h)) (iblk m hO c 0 t) (iblk m hO c 1 t) (iblk m hO c 2 t) (iblk m hO c 3 t) (tbl m 0) (tbl m 1) (tbl m 2) (outsAt0 m hO c (t.val - 1) (Nat.lt_of_le_of_lt (Nat.sub_le _ _) t.isLt)) h1 := by
  obtain ⟨n, hn⟩ := t
  cases n with
  | zero => exact (by exfalso; (try dsimp only at h0); exact absurd (Nat.zero_mod _) h0)
  | succ n => exact (dif_pos h1).trans ((dif_neg h0).trans rfl)

theorem outsAt0_D (hO : Ok m) (c : Dev nD) (t : Fin (cfgM m hO).N) (h0 : ¬t.val % 28 = 0) (h1 : ¬cond0_1 (grid0.coords t) (tbM0_2.view.readAt (Elt F) (Rect.unit (s := S25) (k0_off1 (grid0.coords t)) S1.size (k0_off1_inb (grid0.coords t))).toLoadRect (tbl m 2) (Shape.Idx.first (numel1_S1.symm ▸ Nat.one_pos)))) :
    outsAt0 m hO c t.val t.isLt = out0_D_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (fun h => h0 ((hcond0_0 t).mp h)) (iblk m hO c 0 t) (iblk m hO c 1 t) (iblk m hO c 2 t) (iblk m hO c 3 t) (tbl m 0) (tbl m 1) (tbl m 2) (outsAt0 m hO c (t.val - 1) (Nat.lt_of_le_of_lt (Nat.sub_le _ _) t.isLt)) h1 := by
  obtain ⟨n, hn⟩ := t
  cases n with
  | zero => exact (by exfalso; (try dsimp only at h0); exact absurd (Nat.zero_mod _) h0)
  | succ n => exact (dif_neg h1).trans ((dif_neg h0).trans rfl)

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (outsAt0 m hO c t.val t.isLt)
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = (outsAt0 m hO c t.val t.isLt) := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
/-- The word the schedule looks up at a step is the word the body reads there. -/
theorem word_eq (t : Fin grid0.N) : (tbl m).atD 2 (k0_off1 (grid0.coords t)) = (tbM0_2.view.readAt (Elt F) (Rect.unit (s := S25) (k0_off1 (grid0.coords t)) S1.size (k0_off1_inb (grid0.coords t))).toLoadRect (tbl m 2) (Shape.Idx.first (numel1_S1.symm ▸ Nat.one_pos))) := by
  have h : ∀ a, (k0_off1 (grid0.coords t)) a + 1 ≤ S25.size a := fun a => by
    have := k0_off1_inb (grid0.coords t) a
    fin_cases a; exact this
  refine (dif_pos h).trans ?_
  refine congrArg (tbl m 2) (funext fun a => Fin.ext ?_)
  fin_cases a
  rfl

/-- The output block is left alone exactly where the step is not a tile's first and the tile is not taken. -/
theorem idle_iff (hO : Ok m) (t : Fin (cfgM m hO).N) : (cfgM m hO).idle 4 ((cfgM m hO).grid.coords t) = true ↔ (¬t.val % 28 = 0 ∧ ¬cond0_1 (grid0.coords t) (tbM0_2.view.readAt (Elt F) (Rect.unit (s := S25) (k0_off1 (grid0.coords t)) S1.size (k0_off1_inb (grid0.coords t))).toLoadRect (tbl m 2) (Shape.Idx.first (numel1_S1.symm ▸ Nat.one_pos)))) := by
  rw [← word_eq m t, ← hcond0_0 t]
  show (!(k0_cond1 (grid0.coords t) == 1#1) && !(k0_cond2 ((tbl m).atD 2 (k0_off1 (grid0.coords t))) == 1#1)) = true ↔ _
  simp only [Bool.and_eq_true, Bool.not_eq_true', beq_eq_false_iff_ne, ne_eq]

/-- The output block holds nothing of its own exactly at a tile's first step. -/
theorem fresh_eq (hO : Ok m) (t : Fin (cfgM m hO).N) : (cfgM m hO).fresh 4 t.val = decide (t.val % 28 = 0) := by
  refine (cfgM m hO).fresh_tab 4 (fun n => decide (n % 28 = 0)) rfl (fun t => ?_) t.val (Nat.le_of_lt t.isLt)
  rw [Bool.eq_iff_iff]
  simp only [Bool.or_eq_true, Bool.and_eq_true, decide_eq_true_eq, flush0_4 (adm m hO) t, idle_iff m hO t]
  constructor
  · intro h; left; omega
  · rintro (h | ⟨⟨h, -⟩, h'⟩)
    · omega
    · exact absurd h' h

theorem before0_4 (hO : Ok m) (c : Dev nD) (t : Fin (cfgM m hO).N) (h0 : ¬t.val % 28 = 0) (d) :
    (dats m hO 0 c).before 4 t d = (outsAt0 m hO c (t.val - 1) (Nat.lt_of_le_of_lt (Nat.sub_le _ _) t.isLt)) := by
  refine ((dats m hO 0 c).before_out_traj 4 rfl (fun _ _ => rfl) (fun t ht hi hf => ?_) t.val t rfl d).trans ?_
  · rw [after0_4, after0_4]
    have h := (idle_iff m hO t).mp hi
    rw [outsAt0_D m hO c t h.1 h.2]
    rfl
  · rw [fresh_eq, if_neg (by simpa using h0), after0_4]

/-- What the body leaves in the output block is what the pipeline asks for, at an idle step too. -/
theorem leaves4 (hO : Ok m) (c : Dev nD) (t : Fin (cfgM m hO).N) :
    (owns (c : Thread nD τ) (ms0_4 m hO t) fullShare ((dats m hO 0 c).after 4 t) : sProp 𝕄)
      ⊢ match (cfgM m hO).idle 4 ((cfgM m hO).grid.coords t) with
        | true =>
          match ((cfgM m hO).win 4).flush t with
          | false => iprop(∃ d, owns (c : Thread nD τ) (((cfgM m hO).win 4).stage ((cfgM m hO).slots t 4)) fullShare ((dats m hO 0 c).before 4 t d))
          | true => owns (c : Thread nD τ) (((cfgM m hO).win 4).stage ((cfgM m hO).slots t 4)) fullShare ((dats m hO 0 c).after 4 t)
        | false => owns (c : Thread nD τ) (((cfgM m hO).win 4).stage ((cfgM m hO).slots t 4)) fullShare ((dats m hO 0 c).after 4 t) := by
  cases hi : (cfgM m hO).idle 4 ((cfgM m hO).grid.coords t)
  · exact .rfl
  · cases hf : ((cfgM m hO).win 4).flush t
    · have h := (idle_iff m hO t).mp hi
      have e : ∀ d, (dats m hO 0 c).before 4 t d = (dats m hO 0 c).after 4 t := fun d => by
        rw [before0_4 m hO c t h.1, after0_4, outsAt0_D m hO c t h.1 h.2]
        rfl
      simp only [e]
      iintro H
      iexists (outsAt0 m hO c t.val t.isLt)
      iexact H
    · exact .rfl

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t))

set_option maxHeartbeats 1600000 in
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4]
  rw [show (dats m hO 0 c).Φ t.castSucc = iprop(Pipeline.ΦA spec0 c ∗ Pipeline.ΦT pre0 (tbl m) c) from rfl, PhiT0_eq]
  have hN : t.val < 700 := lt_of_lt_of_eq t.isLt (show (cfgM m hO).N = 700 from N_0)
  by_cases h0 : t.val % 28 = 0
  · by_cases h1 : cond0_1 (grid0.coords t) (tbM0_2.view.readAt (Elt F) (Rect.unit (s := S25) (k0_off1 (grid0.coords t)) S1.size (k0_off1_inb (grid0.coords t))).toLoadRect (tbl m 2) (Shape.Idx.first (numel1_S1.symm ▸ Nat.one_pos)))
    · rw [outsAt0_A m hO c t h0 h1]
      unfold out0_A_4
      iintro ⟨⟨HΦ, ⟨HT0, HT1, HT2⟩⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ ((hcond0_0 t).mpr h0) (iblk m hO c 0 t) (iblk m hO c 1 t) (iblk m hO c 2 t) (iblk m hO c 3 t) (tbl m 0) (tbl m 1) (tbl m 2) h1).2 Set.univ _)
      isplitl [H0]; · iexact H0
      isplitl [H1]; · iexact H1
      isplitl [H2]; · iexact H2
      isplitl [H3]; · iexact H3
      isplitl [H4]; · iexists _; iexact H4
      isplitl [HT0]; · iexact HT0
      isplitl [HT1]; · iexact HT1
      isplitl [HT2]; · iexact HT2
      iintro ⟨H0, H1, H2, H3, ⟨%e4, H4⟩, HT0, HT1, HT2⟩
      isplitl [HΦ HT0 HT1 HT2]
      · isplitl [HΦ]
        · iexact HΦ
        isplitl [HT0]; · iexact HT0
        isplitl [HT1]; · iexact HT1
        iexact HT2
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_A_4 c _ _ _ _ _ _ _ _ _ _ _ _ _ _ _ _ _ _ _ _)
    · rw [outsAt0_B m hO c t h0 h1]
      unfold out0_B_4
      iintro ⟨⟨HΦ, ⟨HT0, HT1, HT2⟩⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ ((hcond0_0 t).mpr h0) (iblk m hO c 0 t) (iblk m hO c 1 t) (iblk m hO c 2 t) (iblk m hO c 3 t) (tbl m 0) (tbl m 1) (tbl m 2) h1).2 Set.univ _)
      isplitl [H0]; · iexact H0
      isplitl [H1]; · iexact H1
      isplitl [H2]; · iexact H2
      isplitl [H3]; · iexact H3
      isplitl [H4]; · iexists _; iexact H4
      isplitl [HT0]; · iexact HT0
      isplitl [HT1]; · iexact HT1
      isplitl [HT2]; · iexact HT2
      iintro ⟨H0, H1, H2, H3, ⟨%e4, H4⟩, HT0, HT1, HT2⟩
      isplitl [HΦ HT0 HT1 HT2]
      · isplitl [HΦ]
        · iexact HΦ
        isplitl [HT0]; · iexact HT0
        isplitl [HT1]; · iexact HT1
        iexact HT2
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_B_4 c _ _ _ _ _ _ _ _ _ _ _ _ _ _ _ _ _ _ _ _)
  · by_cases h1 : cond0_1 (grid0.coords t) (tbM0_2.view.readAt (Elt F) (Rect.unit (s := S25) (k0_off1 (grid0.coords t)) S1.size (k0_off1_inb (grid0.coords t))).toLoadRect (tbl m 2) (Shape.Idx.first (numel1_S1.symm ▸ Nat.one_pos)))
    · rw [outsAt0_C m hO c t h0 h1]
      simp only [before0_4 m hO c t h0]
      unfold out0_C_4
      iintro ⟨⟨HΦ, ⟨HT0, HT1, HT2⟩⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ (fun h => h0 ((hcond0_0 t).mp h)) (iblk m hO c 0 t) (iblk m hO c 1 t) (iblk m hO c 2 t) (iblk m hO c 3 t) (tbl m 0) (tbl m 1) (tbl m 2) _ h1).2 Set.univ _)
      isplitl [H0]; · iexact H0
      isplitl [H1]; · iexact H1
      isplitl [H2]; · iexact H2
      isplitl [H3]; · iexact H3
      isplitl [H4]; · iexact H4
      isplitl [HT0]; · iexact HT0
      isplitl [HT1]; · iexact HT1
      isplitl [HT2]; · iexact HT2
      iintro ⟨H0, H1, H2, H3, ⟨%e4, H4⟩, HT0, HT1, HT2⟩
      isplitl [HΦ HT0 HT1 HT2]
      · isplitl [HΦ]
        · iexact HΦ
        isplitl [HT0]; · iexact HT0
        isplitl [HT1]; · iexact HT1
        iexact HT2
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _ _)
    · rw [outsAt0_D m hO c t h0 h1]
      simp only [before0_4 m hO c t h0]
      unfold out0_D_4
      iintro ⟨⟨HΦ, ⟨HT0, HT1, HT2⟩⟩, Ho, ⟨%d0, H0⟩, ⟨%d1, H1⟩, ⟨%d2, H2⟩, ⟨%d3, H3⟩, ⟨%d4, H4⟩⟩
      iapply ((kernelRun0_D c (grid0.coords t) _ _ _ _ _ _ _ _ _ _ (fun h => h0 ((hcond0_0 t).mp h)) (iblk m hO c 0 t) (iblk m hO c 1 t) (iblk m hO c 2 t) (iblk m hO c 3 t) (tbl m 0) (tbl m 1) (tbl m 2) _ h1).2 Set.univ _)
      isplitl [H0]; · iexact H0
      isplitl [H1]; · iexact H1
      isplitl [H2]; · iexact H2
      isplitl [H3]; · iexact H3
      isplitl [H4]; · iexact H4
      isplitl [HT0]; · iexact HT0
      isplitl [HT1]; · iexact HT1
      isplitl [HT2]; · iexact HT2
      iintro ⟨H0, H1, H2, H3, H4, HT0, HT1, HT2⟩
      isplitl [HΦ HT0 HT1 HT2]
      · isplitl [HΦ]
        · iexact HΦ
        isplitl [HT0]; · iexact HT0
        isplitl [HT1]; · iexact HT1
        iexact HT2
      isplitl [Ho]; · iexact Ho
      isplitl [H0]; · iexact H0
      isplitl [H1]; · iexact H1
      isplitl [H2]; · iexact H2
      isplitl [H3]; · iexact H3
      iexact H4

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => sep_mono .rfl (sep_mono .rfl (sep_mono .rfl (sep_mono .rfl (sep_mono .rfl (sep_mono .rfl (leaves4 m hO c t))))))
set_option backward.isDefEq.respectTransparency.types false in
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (dats m hO) (A_eq m hO) (run_main m ρ hO)

theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO) ((θ_run defs _ _).mono (fun _ h => h.2) (run_main_quiescent m ρ hO))

end Cert.FfnIdeal.Gen

end
-- ==== Proof.FfnOkI.lean ====
/- The tables of the expert feed-forward name tiles and experts: the side condition of its frame, from the precondition. -/
module

public import proofs.«01_k».proof.Defs
public import proofs.«01_k».proof.Proof.FfnRunI
public import proofs.«01_k».proof.Proof.Gen.Pre_tiles_exist
public import Idealize.ShloMosaic.Lib.Pipeline.ValueKit
public import Idealize.ShloMosaic.Lib.Pointwise

@[expose] public section

set_option maxRecDepth 16384

noncomputable section

namespace Cert.FfnI

open Idealize.ShloMosaic Idealize.ShloMosaic.TcCoe Idealize.ShloMosaic.Tactic
open Idealize.SL Idealize.SL.Sem
open Cert.FfnIdeal Cert.FfnIdeal.Gen

/-- A word between zero and a small bound, as two signed comparisons say it, is a natural number below the bound. -/
theorem word_below (v w : BitVec 32) (hw : w.toNat < 100) (e : IntOp.andi (IntOp.cmpi .sge v 0#32) (IntOp.cmpi .slt v w) = 1#1) : v.toNat < w.toNat := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  have := v.isLt
  omega

variable {F : FTy → Type} [FloatOps F]
variable (m : (ℓ : Loc nD τ sig) → Buf (Elt F) ℓ)

/-- The column block a weight window asks for is one of the twenty-eight. -/
theorem sel_lt (b : BitVec 1) (j : ℕ) (h : j < 28) : (Scalar.select b (BitVec.ofNat 32 j) 27#32).toNat < 28 := by
  unfold Scalar.select
  split
  · rw [BitVec.toNat_ofNat]; omega
  · decide

/-- If the expert words are below 8 and the tile words below 25, every block lies in its array. -/
theorem ok_of_range (he : ∀ j, ((m (((0 : Dev nD) : Thread nD τ).loc main_arg4) : IVec S25 32) j).toNat < 8)
    (hx : ∀ j, ((m (((0 : Dev nD) : Thread nD τ).loc main_arg5) : IVec S25 32) j).toNat < 25) : Ok m := by
  have keyE : ∀ (i : grid0.Coords), ((tbl m).at 0 (Rect.unit (s := S25) (k0_off1 i) S1.size (k0_off1_inb i)) numel1_S1 : BitVec 32).toNat < 8 := fun i => he _
  have keyX : ∀ (i : grid0.Coords), ((tbl m).at 1 (Rect.unit (s := S25) (k0_off1 i) S1.size (k0_off1_inb i)) numel1_S1 : BitVec 32).toNat < 25 := fun i => hx _
  have keyS : ∀ (i : grid0.Coords) (b : BitVec 1), (Scalar.select b (BitVec.ofNat 32 (i 1).val) 27#32).toNat < 28 := fun i b => sel_lt b _ (i 1).isLt
  refine ⟨fun i => ⟨fun a => ?_, .inr (.inl (.inr ⟨by decide, rfl, .inl ⟨?_, ?_⟩⟩))⟩, fun i => ⟨fun a => ?_, .inl rfl⟩, fun i => ⟨fun a => ?_, .inl rfl⟩, fun i => ⟨fun a => ?_, .inl rfl⟩⟩
  · have := keyX i
    fin_cases a
    · show (_ + 1) * 1024 ≤ 25600
      exact (Nat.mul_le_mul_right 1024 (Nat.succ_le_of_lt this)).trans (by decide)
    · exact (by decide : (0 + 1) * 2048 ≤ 2048)
  · exact Dvd.dvd.mul_left (by decide : 2 ∣ 1024) _
  · exact (by decide : 2 ∣ 1024)
  · have h1 := keyE i
    fin_cases a
    · exact (by decide : (0 + 1) * 1 ≤ 1)
    · exact (Nat.mul_le_mul_right 1 (Nat.succ_le_of_lt h1)).trans (by decide)
    · exact (by decide : (0 + 1) * 2048 ≤ 2048)
    · exact (Nat.mul_le_mul_right 256 (Nat.succ_le_of_lt (keyS i _))).trans (by decide)
  · have h1 := keyE i
    fin_cases a
    · exact (by decide : (0 + 1) * 1 ≤ 1)
    · exact (Nat.mul_le_mul_right 1 (Nat.succ_le_of_lt h1)).trans (by decide)
    · exact (by decide : (0 + 1) * 2048 ≤ 2048)
    · exact (Nat.mul_le_mul_right 256 (Nat.succ_le_of_lt (keyS i _))).trans (by decide)
  · have h1 := keyE i
    fin_cases a
    · exact (by decide : (0 + 1) * 1 ≤ 1)
    · exact (Nat.mul_le_mul_right 1 (Nat.succ_le_of_lt h1)).trans (by decide)
    · exact (Nat.mul_le_mul_right 256 (Nat.succ_le_of_lt (keyS i _))).trans (by decide)
    · exact (by decide : (0 + 1) * 2048 ≤ 2048)

/-- What the precondition says of the expert words. -/
theorem expert_lt (m : (ℓ : Loc nD τ sig) → Buf (Elt Ideal) ℓ) (h : Cert.Pre_FfnIdeal m) (c : Dev nD) (j) : ((m ((c : Thread nD τ).loc main_arg4) : IVec S25 32) j).toNat < 8 := by
  have e := congrFun (h c).1 j
  exact word_below _ 8#32 (by decide) (by simpa only [Pre_tiles_exist.fn, andi, cmpi, broadcastInDim, constantI] using e)

/-- What the precondition says of the tile words. -/
theorem tile_lt (m : (ℓ : Loc nD τ sig) → Buf (Elt Ideal) ℓ) (h : Cert.Pre_FfnIdeal m) (c : Dev nD) (j) : ((m ((c : Thread nD τ).loc main_arg5) : IVec S25 32) j).toNat < 25 := by
  have e := congrFun (h c).2 j
  exact word_below _ 25#32 (by decide) (by simpa only [Pre_tiles_exist.fn, andi, cmpi, broadcastInDim, constantI] using e)

/-- The precondition gives the side condition. -/
theorem ok_of_tiles (m : (ℓ : Loc nD τ sig) → Buf (Elt Ideal) ℓ) (h : Cert.Pre_FfnIdeal m) : Ok m :=
  ok_of_range m (expert_lt m h 0) (tile_lt m h 0)

end Cert.FfnI

end
-- ==== Proof.FfnCasesI.lean ====
/- What one grid step of the expert feed-forward leaves in its output block, entry by entry. -/
module

public import proofs.«01_k».proof.Proof.FfnFrameI
public import proofs.«01_k».proof.Proof.FfnOkI
public import Idealize.ShloMosaic.Lib.Pipeline.ValueKit
public import Idealize.ShloMosaic.Lib.Pointwise

@[expose] public section

set_option maxRecDepth 16384

noncomputable section

namespace Cert.FfnI

open Idealize.ShloMosaic Idealize.ShloMosaic.TcCoe Idealize.ShloMosaic.Tactic
open Idealize.SL.Sem
open Cert.FfnIdeal Cert.FfnIdeal.Gen

/-- The first step of an active tile leaves its product on a zero block. -/
theorem out_A (c : Dev nD) (i : grid0.Coords) (arg5 : Memref sig .tc .vmem S1024x2048 .bf16) (harg5 : arg5.IsWhole) (arg6 : Memref sig .tc .vmem S1x1x2048x256 .f32) (harg6 : arg6.IsWhole) (arg7 : Memref sig .tc .vmem S1x1x2048x256 .f32) (harg7 : arg7.IsWhole) (arg8 : Memref sig .tc .vmem S1x1x256x2048 .f32) (harg8 : arg8.IsWhole) (arg9 : Memref sig .tc .vmem S1024x2048 .f32) (harg9 : arg9.IsWhole) (hc0 : cond0_0 i)
    (x0 : Vec Ideal S1024x2048 .bf16) (x1 : Vec Ideal S1x1x2048x256 .f32) (x2 : Vec Ideal S1x1x2048x256 .f32) (x3 : Vec Ideal S1x1x256x2048 .f32) (xt0 : TbBuf0 (F := Ideal) c tbM0_0) (xt1 : TbBuf0 (F := Ideal) c tbM0_1) (xt2 : TbBuf0 (F := Ideal) c tbM0_2) (hc1 : cond0_1 i (tbM0_2.view.readAt (Elt Ideal) (Rect.unit (s := S25) (k0_off1 i) S1.size (k0_off1_inb i)).toLoadRect xt2 (Shape.Idx.first (numel1_S1.symm ▸ Nat.one_pos)))) :
    out0_A_4 c i arg5 harg5 arg6 harg6 arg7 harg7 arg8 harg8 arg9 harg9 hc0 x0 x1 x2 x3 xt0 xt1 xt2 hc1 = k0_pay2 (F := Ideal) x0 x1 x2 (k0_pay1 (F := Ideal)) x3 := by
  frame_out
  try simp only [Memref.IsWhole.read_unread]
  try rfl

/-- The first step of an idle tile leaves a zero block. -/
theorem out_B (c : Dev nD) (i : grid0.Coords) (arg5 : Memref sig .tc .vmem S1024x2048 .bf16) (harg5 : arg5.IsWhole) (arg6 : Memref sig .tc .vmem S1x1x2048x256 .f32) (harg6 : arg6.IsWhole) (arg7 : Memref sig .tc .vmem S1x1x2048x256 .f32) (harg7 : arg7.IsWhole) (arg8 : Memref sig .tc .vmem S1x1x256x2048 .f32) (harg8 : arg8.IsWhole) (arg9 : Memref sig .tc .vmem S1024x2048 .f32) (harg9 : arg9.IsWhole) (hc0 : cond0_0 i)
    (x0 : Vec Ideal S1024x2048 .bf16) (x1 : Vec Ideal S1x1x2048x256 .f32) (x2 : Vec Ideal S1x1x2048x256 .f32) (x3 : Vec Ideal S1x1x256x2048 .f32) (xt0 : TbBuf0 (F := Ideal) c tbM0_0) (xt1 : TbBuf0 (F := Ideal) c tbM0_1) (xt2 : TbBuf0 (F := Ideal) c tbM0_2) (hc1 : ¬cond0_1 i (tbM0_2.view.readAt (Elt Ideal) (Rect.unit (s := S25) (k0_off1 i) S1.size (k0_off1_inb i)).toLoadRect xt2 (Shape.Idx.first (numel1_S1.symm ▸ Nat.one_pos)))) :
    out0_B_4 c i arg5 harg5 arg6 harg6 arg7 harg7 arg8 harg8 arg9 harg9 hc0 x0 x1 x2 x3 xt0 xt1 xt2 hc1 = k0_pay1 (F := Ideal) := by
  frame_out
  try simp only [Memref.IsWhole.read_unread]
  try rfl

/-- A later step of an active tile adds its product to what the block held. -/
theorem out_C (c : Dev nD) (i : grid0.Coords) (arg5 : Memref sig .tc .vmem S1024x2048 .bf16) (harg5 : arg5.IsWhole) (arg6 : Memref sig .tc .vmem S1x1x2048x256 .f32) (harg6 : arg6.IsWhole) (arg7 : Memref sig .tc .vmem S1x1x2048x256 .f32) (harg7 : arg7.IsWhole) (arg8 : Memref sig .tc .vmem S1x1x256x2048 .f32) (harg8 : arg8.IsWhole) (arg9 : Memref sig .tc .vmem S1024x2048 .f32) (harg9 : arg9.IsWhole) (hc0 : ¬cond0_0 i)
    (x0 : Vec Ideal S1024x2048 .bf16) (x1 : Vec Ideal S1x1x2048x256 .f32) (x2 : Vec Ideal S1x1x2048x256 .f32) (x3 : Vec Ideal S1x1x256x2048 .f32) (xt0 : TbBuf0 (F := Ideal) c tbM0_0) (xt1 : TbBuf0 (F := Ideal) c tbM0_1) (xt2 : TbBuf0 (F := Ideal) c tbM0_2) (xo4 : Vec Ideal S1024x2048 .f32) (hc1 : cond0_1 i (tbM0_2.view.readAt (Elt Ideal) (Rect.unit (s := S25) (k0_off1 i) S1.size (k0_off1_inb i)).toLoadRect xt2 (Shape.Idx.first (numel1_S1.symm ▸ Nat.one_pos)))) :
    out0_C_4 c i arg5 harg5 arg6 harg6 arg7 harg7 arg8 harg8 arg9 harg9 hc0 x0 x1 x2 x3 xt0 xt1 xt2 xo4 hc1 = k0_pay2 (F := Ideal) x0 x1 x2 xo4 x3 := by
  frame_out
  try simp only [Memref.IsWhole.read_unread]
  try rfl

/-- The zero block, entry by entry. -/
theorem pay1_at (r : Fin 1024) (w : Fin 2048) : k0_pay1 (F := Ideal) (ix2 r w) = 0 := by
  rw [← Ideal.ofBits_zero_f32]
  pointwise [k0_pay1]

/-- A block's product added to an accumulator, entry by entry. -/
theorem pay2_at (x : FVec Ideal S1024x2048 .bf16) (g u : FVec Ideal S1x1x2048x256 .f32) (acc : FVec Ideal S1024x2048 .f32) (d : FVec Ideal S1x1x256x2048 .f32) (r : Fin 1024) (w : Fin 2048) :
    k0_pay2 (F := Ideal) x g u acc d (ix2 r w) = acc (ix2 r w) + ∑ p : Fin 256, ((∑ k : Fin 2048, x (ix2 r k) * g (ix4 0 0 k p)) * Ideal.logistic (∑ k : Fin 2048, x (ix2 r k) * g (ix4 0 0 k p)) * (∑ k : Fin 2048, x (ix2 r k) * u (ix4 0 0 k p))) * d (ix4 0 0 p w) := by
  pointwise [k0_pay2]

end Cert.FfnI

end
-- ==== Proof.FfnSpec.lean ====
/- The expert feed-forward, written plainly: what each tile's rows become. -/
module

public import Idealize.ShloMosaic.Lib.Pipeline.ValueKit
public import Idealize.ShloMosaic.Lib.Pointwise

@[expose] public section

noncomputable section

namespace Cert.FfnS

open Idealize.ShloMosaic Idealize.ShloMosaic.TcCoe Idealize.ShloMosaic.Tactic

/-- The feed-forward's data: rows, the experts' three weights, and for each tile its expert, its rows' tile and its activity word. -/
structure Data where
  X : Fin 25600 → Fin 2048 → EReal
  G : Fin 8 → Fin 2048 → Fin 7168 → EReal
  U : Fin 8 → Fin 2048 → Fin 7168 → EReal
  D : Fin 8 → Fin 7168 → Fin 2048 → EReal
  e : Fin 25 → Fin 8
  n : Fin 25 → Fin 25
  a : Fin 25 → BitVec 32

/-- The data the arrays hold. -/
def Data.of (x0 : FVec Ideal ⟨2, ![25600, 2048]⟩ .bf16) (x1 x2 : FVec Ideal ⟨4, ![1, 8, 2048, 7168]⟩ .f32) (x3 : FVec Ideal ⟨4, ![1, 8, 7168, 2048]⟩ .f32) (x4 x5 x6 : IVec ⟨1, ![25]⟩ 32) : Data where
  X r k := x0 (ix2 r k)
  G e k f := x1 (ix4 0 e k f)
  U e k f := x2 (ix4 0 e k f)
  D e f w := x3 (ix4 0 e f w)
  e i := ⟨(x4 (ix1 i)).toNat % 8, Nat.mod_lt _ (by norm_num)⟩
  n i := ⟨(x5 (ix1 i)).toNat % 25, Nat.mod_lt _ (by norm_num)⟩
  a i := x6 (ix1 i)

variable (d : Data)

/-- The gate's product at a row of a tile. -/
def Data.gate (i : Fin 25) (r : Fin 1024) (f : Fin 7168) : EReal := ∑ k : Fin 2048, d.X ⟨(d.n i).val * 1024 + r.val, by omega⟩ k * d.G (d.e i) k f
/-- The up product at a row of a tile. -/
def Data.up (i : Fin 25) (r : Fin 1024) (f : Fin 7168) : EReal := ∑ k : Fin 2048, d.X ⟨(d.n i).val * 1024 + r.val, by omega⟩ k * d.U (d.e i) k f
/-- The hidden value at a row of a tile. -/
def Data.hid (i : Fin 25) (r : Fin 1024) (f : Fin 7168) : EReal := d.gate i r f * Ideal.logistic (d.gate i r f) * d.up i r f
/-- The result at a row of a tile: nothing where the tile is idle. -/
def Data.out (i : Fin 25) (r : Fin 1024) (w : Fin 2048) : EReal :=
  if IntOp.cmpi .sgt (d.a i) 0#32 = 1#1 then ∑ f : Fin 7168, d.hid i r f * d.D (d.e i) f w else 0
/-- The share of the sum a block of the hidden axis has. -/
def Data.part (i : Fin 25) (r : Fin 1024) (w : Fin 2048) (j : ℕ) : EReal :=
  ∑ p : Fin 256, d.hid i r ⟨(j * 256 + p.val) % 7168, Nat.mod_lt _ (by norm_num)⟩ * d.D (d.e i) ⟨(j * 256 + p.val) % 7168, Nat.mod_lt _ (by norm_num)⟩ w
/-- The result after a number of blocks. -/
def Data.upto (i : Fin 25) (r : Fin 1024) (w : Fin 2048) (j : ℕ) : EReal :=
  if IntOp.cmpi .sgt (d.a i) 0#32 = 1#1 then ∑ q ∈ Finset.range j, d.part i r w q else 0

/-- Twenty-eight blocks are the whole. -/
theorem Data.upto_all (i : Fin 25) (r : Fin 1024) (w : Fin 2048) : d.upto i r w 28 = d.out i r w := by
  unfold Data.upto Data.out
  refine congrArg (fun z : EReal => if IntOp.cmpi .sgt (d.a i) 0#32 = 1#1 then z else 0) ?_
  rw [Finset.sum_range, Fin.sum_univ_tiles 28 256 rfl]
  refine Finset.sum_congr rfl fun j _ => Finset.sum_congr rfl fun p _ => ?_
  have e : (⟨(j.val * 256 + p.val) % 7168, Nat.mod_lt _ (by norm_num)⟩ : Fin 7168) = ⟨j.val * 256 + p.val, by omega⟩ := Fin.ext (Nat.mod_eq_of_lt (by omega))
  rw [e]

/-- The feed-forward's output array. -/
def outArr (d : Data) : FVec Ideal ⟨2, ![25600, 2048]⟩ .f32 := fun y =>
  d.out ⟨(y 0).val / 1024, by have := (y 0).isLt; change _ < 25600 at this; omega⟩ ⟨(y 0).val % 1024, by omega⟩ ⟨(y 1).val, (y 1).isLt⟩

theorem outArr_at (d : Data) (y : (⟨2, ![25600, 2048]⟩ : Shape).Idx) (i : Fin 25) (r : Fin 1024) (w : Fin 2048)
    (h0 : (y 0).val = i.val * 1024 + r.val) (h1 : (y 1).val = w.val) : outArr d y = d.out i r w := by
  unfold outArr
  have ei : (⟨(y 0).val / 1024, by omega⟩ : Fin 25) = i := Fin.ext (by dsimp only; omega)
  have er : (⟨(y 0).val % 1024, by omega⟩ : Fin 1024) = r := Fin.ext (by dsimp only; omega)
  have ew : (⟨(y 1).val, (y 1).isLt⟩ : Fin 2048) = w := Fin.ext h1
  rw [ei, er, ew]

end Cert.FfnS

end
-- ==== Proof.FfnBlocksI.lean ====
/- What the blocks of the expert feed-forward hold, as entries of the arrays. -/
module

public import proofs.«01_k».proof.Proof.FfnCasesI
public import proofs.«01_k».proof.Proof.FfnSpec

@[expose] public section

set_option maxRecDepth 16384

noncomputable section

namespace Cert.FfnI

open Idealize.ShloMosaic Idealize.ShloMosaic.TcCoe Idealize.ShloMosaic.Tactic
open Idealize.SL.Sem
open Cert.FfnIdeal Cert.FfnIdeal.Gen
open Cert.FfnS

variable (m : (ℓ : Loc nD τ sig) → Buf (Elt Ideal) ℓ) (hO : Ok m) (c : Dev nD)

/-- The data a memory holds. -/
def dat : Data := Data.of (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- The launch has 700 points. -/
theorem lt_N (t : Fin (cfgM m hO).N) : t.val < 700 := t.isLt.trans_eq (by decide +kernel : grid0.N = 700)

/-- The coordinates of every point, the word it reads, and its output block. -/
theorem idx : ∀ t : Fin grid0.N, k0_off1 (grid0.coords t) = ![t.val / 28] ∧ (grid0.coords t 1).val = t.val % 28 ∧ (grid0.coords t 0).val = t.val / 28 ∧ cc0_transform_4 (grid0.coords t) = ![t.val / 28, 0] := by
  decide +kernel

/-- The place of the word a point reads. -/
theorem word_place (t : Fin grid0.N) (h : t.val < 700) (hp) : (Rect.unit (s := S25) (k0_off1 (grid0.coords t)) S1.size (k0_off1_inb (grid0.coords t))).emb (Shape.Idx.first hp) = ix1 ⟨t.val / 28, by omega⟩ := by
  funext q
  fin_cases q
  refine Fin.ext ?_
  show k0_off1 (grid0.coords t) 0 + 1 * 0 = t.val / 28
  rw [(idx t).1]; rfl

theorem wordE (t : Fin grid0.N) (h : t.val < 700) : ((tbl m).at 0 (Rect.unit (s := S25) (k0_off1 (grid0.coords t)) S1.size (k0_off1_inb (grid0.coords t))) numel1_S1 : BitVec 32) = (m (((0 : Dev nD) : Thread nD τ).loc main_arg4) : IVec S25 32) (ix1 ⟨t.val / 28, by omega⟩) :=
  congrArg (m (((0 : Dev nD) : Thread nD τ).loc main_arg4) : IVec S25 32) (word_place t h _)
theorem wordX (t : Fin grid0.N) (h : t.val < 700) : ((tbl m).at 1 (Rect.unit (s := S25) (k0_off1 (grid0.coords t)) S1.size (k0_off1_inb (grid0.coords t))) numel1_S1 : BitVec 32) = (m (((0 : Dev nD) : Thread nD τ).loc main_arg5) : IVec S25 32) (ix1 ⟨t.val / 28, by omega⟩) :=
  congrArg (m (((0 : Dev nD) : Thread nD τ).loc main_arg5) : IVec S25 32) (word_place t h _)
theorem wordA (t : Fin grid0.N) (h : t.val < 700) : ((tbl m).at 2 (Rect.unit (s := S25) (k0_off1 (grid0.coords t)) S1.size (k0_off1_inb (grid0.coords t))) numel1_S1 : BitVec 32) = (m (((0 : Dev nD) : Thread nD τ).loc main_arg6) : IVec S25 32) (ix1 ⟨t.val / 28, by omega⟩) :=
  congrArg (m (((0 : Dev nD) : Thread nD τ).loc main_arg6) : IVec S25 32) (word_place t h _)

/-- The word the body reads is the tile's activity word. -/
theorem body_word (t : Fin grid0.N) (h : t.val < 700) : (tbM0_2.view.readAt (Elt Ideal) (Rect.unit (s := S25) (k0_off1 (grid0.coords t)) S1.size (k0_off1_inb (grid0.coords t))).toLoadRect (tbl m 2) (Shape.Idx.first (numel1_S1.symm ▸ Nat.one_pos))) = (dat m c).a ⟨t.val / 28, by omega⟩ := by
  obtain rfl : c = 0 := Subsingleton.elim _ _
  exact wordA m t h

/-- The body's second condition is that the activity word is positive. -/
theorem cond_iff (w : BitVec 32) : k0_cond2 w = 1#1 ↔ IntOp.cmpi .sgt w 0#32 = 1#1 := by
  have key : ∀ b : BitVec 1, Scalar.cmpi .ne (Scalar.extui b : BitVec 32) 0#32 = 1#1 ↔ b = 1#1 := by decide
  exact key _

variable (he : ∀ j, ((m ((c : Thread nD τ).loc main_arg4) : IVec S25 32) j).toNat < 8) (hx : ∀ j, ((m ((c : Thread nD τ).loc main_arg5) : IVec S25 32) j).toNat < 25)

include hx in
theorem blk0 (t : Fin (cfgM m hO).N) (h : t.val < 700) (r : Fin 1024) (k : Fin 2048) :
    iblk m hO c 0 t (ix2 r k) = (dat m c).X ⟨((dat m c).n ⟨t.val / 28, by omega⟩).val * 1024 + r.val, by omega⟩ k := by
  obtain rfl : c = 0 := Subsingleton.elim _ _
  have e : (pcfg0.win (adm m hO) 0).index t = ![((tbl m).at 1 (Rect.unit (s := S25) (k0_off1 (grid0.coords t)) S1.size (k0_off1_inb (grid0.coords t))) numel1_S1 : BitVec 32).toNat, 0] := rfl
  rw [wordX m t h] at e
  have e0 : (pcfg0.win (adm m hO) 0).index t 0 = ((dat m 0).n ⟨t.val / 28, by omega⟩).val := (congrFun e 0).trans (Nat.mod_eq_of_lt (hx _)).symm
  have e1 : (pcfg0.win (adm m hO) 0).index t 1 = 0 := congrFun e 1
  show _ = m (((0 : Dev nD) : Thread nD τ).loc main_arg0) (ix2 _ _)
  blk_ext [iblk, V]
  · exact (congrArg (fun z => z * 1024 + r.val) e0)
  · exact (congrArg (fun z => z * 2048 + k.val) e1).trans (by first | omega | (dsimp only; omega) | dsimp only)

/-- The column block of a weight window at an active tile. -/
theorem col (t : Fin grid0.N) (h : t.val < 700) (b : BitVec 1) (hb : b = 1#1) : (Scalar.select b (BitVec.ofNat 32 (grid0.coords t 1).val) 27#32).toNat = t.val % 28 := by
  subst hb
  show (BitVec.ofNat 32 (grid0.coords t 1).val).toNat = _
  rw [BitVec.toNat_ofNat, (idx t).2.1]
  omega

include he in
theorem blk1 (t : Fin (cfgM m hO).N) (h : t.val < 700) (ha : IntOp.cmpi .sgt ((dat m c).a ⟨t.val / 28, by omega⟩) 0#32 = 1#1) (k : Fin 2048) (p : Fin 256) :
    iblk m hO c 1 t (ix4 0 0 k p) = (dat m c).G ((dat m c).e ⟨t.val / 28, by omega⟩) k ⟨(t.val % 28 * 256 + p.val) % 7168, Nat.mod_lt _ (by norm_num)⟩ := by
  obtain rfl : c = 0 := Subsingleton.elim _ _
  have e : (pcfg0.win (adm m hO) 1).index t = ![0, ((tbl m).at 0 (Rect.unit (s := S25) (k0_off1 (grid0.coords t)) S1.size (k0_off1_inb (grid0.coords t))) numel1_S1 : BitVec 32).toNat, 0, (Scalar.select (Scalar.cmpi .sgt ((tbl m).at 2 (Rect.unit (s := S25) (k0_off1 (grid0.coords t)) S1.size (k0_off1_inb (grid0.coords t))) numel1_S1 : BitVec 32) 0#32) (BitVec.ofNat 32 (grid0.coords t 1).val) 27#32).toNat] := rfl
  have hb : Scalar.cmpi .sgt ((m (((0 : Dev nD) : Thread nD τ).loc main_arg6) : IVec S25 32) (ix1 ⟨t.val / 28, by omega⟩)) 0#32 = 1#1 := ha
  rw [wordE m t h, wordA m t h, col t h _ hb] at e
  have e0 : (pcfg0.win (adm m hO) 1).index t 0 = 0 := congrFun e 0
  have e1 : (pcfg0.win (adm m hO) 1).index t 1 = ((dat m 0).e ⟨t.val / 28, by omega⟩).val := (congrFun e 1).trans (Nat.mod_eq_of_lt (he _)).symm
  have e2 : (pcfg0.win (adm m hO) 1).index t 2 = 0 := congrFun e 2
  have e3 : (pcfg0.win (adm m hO) 1).index t 3 = t.val % 28 := congrFun e 3
  show _ = m (((0 : Dev nD) : Thread nD τ).loc main_arg1) (ix4 _ _ _ _)
  blk_ext [iblk, V]
  · exact (congrArg (fun z => z + 0) e0)
  · exact (congrArg (fun z => z + 0) e1)
  · exact (congrArg (fun z => z * 2048 + k.val) e2).trans (by first | omega | (dsimp only; omega) | dsimp only)
  · exact (congrArg (fun z => z * 256 + p.val) e3).trans (by first | omega | (dsimp only; omega) | dsimp only)

include he in
theorem blk2 (t : Fin (cfgM m hO).N) (h : t.val < 700) (ha : IntOp.cmpi .sgt ((dat m c).a ⟨t.val / 28, by omega⟩) 0#32 = 1#1) (k : Fin 2048) (p : Fin 256) :
    iblk m hO c 2 t (ix4 0 0 k p) = (dat m c).U ((dat m c).e ⟨t.val / 28, by omega⟩) k ⟨(t.val % 28 * 256 + p.val) % 7168, Nat.mod_lt _ (by norm_num)⟩ := by
  obtain rfl : c = 0 := Subsingleton.elim _ _
  have e : (pcfg0.win (adm m hO) 2).index t = ![0, ((tbl m).at 0 (Rect.unit (s := S25) (k0_off1 (grid0.coords t)) S1.size (k0_off1_inb (grid0.coords t))) numel1_S1 : BitVec 32).toNat, 0, (Scalar.select (Scalar.cmpi .sgt ((tbl m).at 2 (Rect.unit (s := S25) (k0_off1 (grid0.coords t)) S1.size (k0_off1_inb (grid0.coords t))) numel1_S1 : BitVec 32) 0#32) (BitVec.ofNat 32 (grid0.coords t 1).val) 27#32).toNat] := rfl
  have hb : Scalar.cmpi .sgt ((m (((0 : Dev nD) : Thread nD τ).loc main_arg6) : IVec S25 32) (ix1 ⟨t.val / 28, by omega⟩)) 0#32 = 1#1 := ha
  rw [wordE m t h, wordA m t h, col t h _ hb] at e
  have e0 : (pcfg0.win (adm m hO) 2).index t 0 = 0 := congrFun e 0
  have e1 : (pcfg0.win (adm m hO) 2).index t 1 = ((dat m 0).e ⟨t.val / 28, by omega⟩).val := (congrFun e 1).trans (Nat.mod_eq_of_lt (he _)).symm
  have e2 : (pcfg0.win (adm m hO) 2).index t 2 = 0 := congrFun e 2
  have e3 : (pcfg0.win (adm m hO) 2).index t 3 = t.val % 28 := congrFun e 3
  show _ = m (((0 : Dev nD) : Thread nD τ).loc main_arg2) (ix4 _ _ _ _)
  blk_ext [iblk, V]
  · exact (congrArg (fun z => z + 0) e0)
  · exact (congrArg (fun z => z + 0) e1)
  · exact (congrArg (fun z => z * 2048 + k.val) e2).trans (by first | omega | (dsimp only; omega) | dsimp only)
  · exact (congrArg (fun z => z * 256 + p.val) e3).trans (by first | omega | (dsimp only; omega) | dsimp only)

include he in
theorem blk3 (t : Fin (cfgM m hO).N) (h : t.val < 700) (ha : IntOp.cmpi .sgt ((dat m c).a ⟨t.val / 28, by omega⟩) 0#32 = 1#1) (p : Fin 256) (w : Fin 2048) :
    iblk m hO c 3 t (ix4 0 0 p w) = (dat m c).D ((dat m c).e ⟨t.val / 28, by omega⟩) ⟨(t.val % 28 * 256 + p.val) % 7168, Nat.mod_lt _ (by norm_num)⟩ w := by
  obtain rfl : c = 0 := Subsingleton.elim _ _
  have e : (pcfg0.win (adm m hO) 3).index t = ![0, ((tbl m).at 0 (Rect.unit (s := S25) (k0_off1 (grid0.coords t)) S1.size (k0_off1_inb (grid0.coords t))) numel1_S1 : BitVec 32).toNat, (Scalar.select (Scalar.cmpi .sgt ((tbl m).at 2 (Rect.unit (s := S25) (k0_off1 (grid0.coords t)) S1.size (k0_off1_inb (grid0.coords t))) numel1_S1 : BitVec 32) 0#32) (BitVec.ofNat 32 (grid0.coords t 1).val) 27#32).toNat, 0] := rfl
  have hb : Scalar.cmpi .sgt ((m (((0 : Dev nD) : Thread nD τ).loc main_arg6) : IVec S25 32) (ix1 ⟨t.val / 28, by omega⟩)) 0#32 = 1#1 := ha
  rw [wordE m t h, wordA m t h, col t h _ hb] at e
  have e0 : (pcfg0.win (adm m hO) 3).index t 0 = 0 := congrFun e 0
  have e1 : (pcfg0.win (adm m hO) 3).index t 1 = ((dat m 0).e ⟨t.val / 28, by omega⟩).val := (congrFun e 1).trans (Nat.mod_eq_of_lt (he _)).symm
  have e2 : (pcfg0.win (adm m hO) 3).index t 2 = t.val % 28 := congrFun e 2
  have e3 : (pcfg0.win (adm m hO) 3).index t 3 = 0 := congrFun e 3
  show _ = m (((0 : Dev nD) : Thread nD τ).loc main_arg3) (ix4 _ _ _ _)
  blk_ext [iblk, V]
  · exact (congrArg (fun z => z + 0) e0)
  · exact (congrArg (fun z => z + 0) e1)
  · exact (congrArg (fun z => z * 256 + p.val) e2).trans (by first | omega | (dsimp only; omega) | dsimp only)
  · exact (congrArg (fun z => z * 2048 + w.val) e3).trans (by first | omega | (dsimp only; omega) | dsimp only)

/-- One block's product is a share of the sum. -/
theorem part_eq (d : Data) (i : Fin 25) (j : ℕ) (x : FVec Ideal S1024x2048 .bf16) (g u : FVec Ideal S1x1x2048x256 .f32) (acc : FVec Ideal S1024x2048 .f32) (wd : FVec Ideal S1x1x256x2048 .f32)
    (hx : ∀ r k, x (ix2 r k) = d.X ⟨(d.n i).val * 1024 + r.val, by omega⟩ k)
    (hg : ∀ k p, g (ix4 0 0 k p) = d.G (d.e i) k ⟨(j * 256 + p.val) % 7168, Nat.mod_lt _ (by norm_num)⟩)
    (hu : ∀ k p, u (ix4 0 0 k p) = d.U (d.e i) k ⟨(j * 256 + p.val) % 7168, Nat.mod_lt _ (by norm_num)⟩)
    (hd : ∀ p w, wd (ix4 0 0 p w) = d.D (d.e i) ⟨(j * 256 + p.val) % 7168, Nat.mod_lt _ (by norm_num)⟩ w) (r : Fin 1024) (w : Fin 2048) :
    k0_pay2 (F := Ideal) x g u acc wd (ix2 r w) = acc (ix2 r w) + d.part i r w j := by
  rw [pay2_at]
  simp only [hx, hg, hu, hd]
  rfl

/-- After every step, an active tile's block holds the sum over the blocks of the hidden axis so far. -/
theorem inv (he : ∀ j, ((m ((c : Thread nD τ).loc main_arg4) : IVec S25 32) j).toNat < 8) (hx : ∀ j, ((m ((c : Thread nD τ).loc main_arg5) : IVec S25 32) j).toNat < 25) :
    ∀ (n : ℕ) (hn : n < (cfgM m hO).N) (h : n < 700) (r : Fin 1024) (w : Fin 2048), outsAt0 m hO c n hn (ix2 r w) = (dat m c).upto ⟨n / 28, by omega⟩ r w (n % 28 + 1) := by
  intro n
  induction n with
  | zero =>
    intro hn h r w
    by_cases ha : IntOp.cmpi .sgt ((dat m c).a ⟨0 / 28, by omega⟩) 0#32 = 1#1
    · refine (congrFun (outsAt0_A m hO c ⟨0, hn⟩ (by rfl) ((congrArg (fun w => k0_cond2 w = 1#1) (body_word m c ⟨0, hn⟩ h)).mpr ((cond_iff _).mpr ha))) (ix2 r w)).trans ?_
      refine (congrFun (out_A ..) (ix2 r w)).trans ?_
      refine (part_eq (dat m c) ⟨0 / 28, by omega⟩ 0 _ _ _ _ _ (blk0 m hO c hx ⟨0, hn⟩ h) (blk1 m hO c he ⟨0, hn⟩ h ha) (blk2 m hO c he ⟨0, hn⟩ h ha) (blk3 m hO c he ⟨0, hn⟩ h ha) r w).trans ?_
      rw [pay1_at, zero_add]
      unfold Data.upto
      rw [if_pos ha]
      exact (Finset.sum_range_one _).symm
    · refine (congrFun (outsAt0_B m hO c ⟨0, hn⟩ (by rfl) (fun hc => ha ((cond_iff _).mp ((congrArg (fun w => k0_cond2 w = 1#1) (body_word m c ⟨0, hn⟩ h)).mp hc)))) (ix2 r w)).trans ?_
      refine ((congrFun (out_B ..) (ix2 r w)).trans (pay1_at r w)).trans ?_
      unfold Data.upto
      rw [if_neg ha]
  | succ n ih =>
    intro hn h r w
    by_cases h0 : (n + 1) % 28 = 0
    · by_cases ha : IntOp.cmpi .sgt ((dat m c).a ⟨(n + 1) / 28, by omega⟩) 0#32 = 1#1
      · refine (congrFun (outsAt0_A m hO c ⟨n + 1, hn⟩ h0 ((congrArg (fun w => k0_cond2 w = 1#1) (body_word m c ⟨n + 1, hn⟩ h)).mpr ((cond_iff _).mpr ha))) (ix2 r w)).trans ?_
        refine (congrFun (out_A ..) (ix2 r w)).trans ?_
        refine (part_eq (dat m c) ⟨(n + 1) / 28, by omega⟩ ((n + 1) % 28) _ _ _ _ _ (blk0 m hO c hx ⟨n + 1, hn⟩ h) (blk1 m hO c he ⟨n + 1, hn⟩ h ha) (blk2 m hO c he ⟨n + 1, hn⟩ h ha) (blk3 m hO c he ⟨n + 1, hn⟩ h ha) r w).trans ?_
        rw [pay1_at, zero_add]
        unfold Data.upto
        rw [if_pos ha, h0]
        exact (Finset.sum_range_one _).symm
      · refine (congrFun (outsAt0_B m hO c ⟨n + 1, hn⟩ h0 (fun hc => ha ((cond_iff _).mp ((congrArg (fun w => k0_cond2 w = 1#1) (body_word m c ⟨n + 1, hn⟩ h)).mp hc)))) (ix2 r w)).trans ?_
        refine ((congrFun (out_B ..) (ix2 r w)).trans (pay1_at r w)).trans ?_
        unfold Data.upto
        rw [if_neg ha]
    · have hp := ih (Nat.lt_of_succ_lt hn) (by omega) r w
      have hi : (⟨n / 28, by omega⟩ : Fin 25) = ⟨(n + 1) / 28, by omega⟩ := Fin.ext (by dsimp only; omega)
      have hj : n % 28 + 1 = (n + 1) % 28 := by omega
      rw [hi, hj] at hp
      by_cases ha : IntOp.cmpi .sgt ((dat m c).a ⟨(n + 1) / 28, by omega⟩) 0#32 = 1#1
      · refine (congrFun (outsAt0_C m hO c ⟨n + 1, hn⟩ h0 ((congrArg (fun w => k0_cond2 w = 1#1) (body_word m c ⟨n + 1, hn⟩ h)).mpr ((cond_iff _).mpr ha))) (ix2 r w)).trans ?_
        refine (congrFun (out_C ..) (ix2 r w)).trans ?_
        refine (part_eq (dat m c) ⟨(n + 1) / 28, by omega⟩ ((n + 1) % 28) _ _ _ _ _ (blk0 m hO c hx ⟨n + 1, hn⟩ h) (blk1 m hO c he ⟨n + 1, hn⟩ h ha) (blk2 m hO c he ⟨n + 1, hn⟩ h ha) (blk3 m hO c he ⟨n + 1, hn⟩ h ha) r w).trans ?_
        refine (congrArg (· + _) hp).trans ?_
        unfold Data.upto
        rw [if_pos ha, if_pos ha]
        exact (Finset.sum_range_succ _ _).symm
      · refine (congrFun (outsAt0_D m hO c ⟨n + 1, hn⟩ h0 (fun hc => ha ((cond_iff _).mp ((congrArg (fun w => k0_cond2 w = 1#1) (body_word m c ⟨n + 1, hn⟩ h)).mp hc)))) (ix2 r w)).trans ?_
        refine Eq.trans (b := outsAt0 m hO c n (Nat.lt_of_succ_lt hn) (ix2 r w)) rfl ?_
        rw [hp]
        unfold Data.upto
        rw [if_neg ha, if_neg ha]

end Cert.FfnI

end
-- ==== Proof.FfnArrI.lean ====
/- The array the expert feed-forward's launch leaves. -/
module

public import proofs.«01_k».proof.Proof.FfnBlocksI

@[expose] public section

set_option maxRecDepth 16384

noncomputable section

namespace Cert.FfnI

open Idealize.ShloMosaic Idealize.ShloMosaic.TcCoe Idealize.ShloMosaic.Tactic
open Idealize.SL.Sem
open Cert.FfnIdeal Cert.FfnIdeal.Gen
open Cert.FfnS

variable {m : (ℓ : Loc nD τ sig) → Buf (Elt Ideal) ℓ} (hO : Ok m) {c : Dev nD}

theorem covers : ((cfgM m hO).win 4).Covers := by
  refine ⟨fun a => by fin_cases a; exact (by decide : 0 < 1024); exact (by decide : 0 < 2048), fun β => ?_⟩
  have e0 : ((cfgM m hO).win 4).nblk (0 : Fin 2) = (25600 + 1024 - 1) / 1024 := rfl
  have e1 : ((cfgM m hO).win 4).nblk (1 : Fin 2) = (2048 + 2048 - 1) / 2048 := rfl
  have hβ : (β (0 : Fin 2)).val < 25 := lt_of_lt_of_eq (β (0 : Fin 2)).isLt e0
  have hN : (cfgM m hO).grid.N = 700 := (by decide +kernel : grid0.N = 700)
  refine ⟨⟨28 * (β (0 : Fin 2)).val + 27, lt_of_lt_of_eq (by omega : _ < 700) hN.symm⟩, (flush0_4 (adm m hO) _).mpr (by dsimp only; omega), fun a => ?_⟩
  have e := (idx (⟨28 * (β (0 : Fin 2)).val + 27, by rw [show grid0.N = 700 from by decide +kernel]; omega⟩ : Fin grid0.N)).2.2.2
  fin_cases a
  · refine ⟨(congrFun e (0 : Fin 2)).trans ?_, Or.inl ?_⟩
    · show (28 * (β (0 : Fin 2)).val + 27) / 28 = (β (0 : Fin 2)).val
      omega
    · rfl
  · refine ⟨(congrFun e (1 : Fin 2)).trans ?_, Or.inl ?_⟩
    · have h1 : (β (1 : Fin 2)).val < 1 := lt_of_lt_of_eq (β (1 : Fin 2)).isLt e1
      show 0 = (β (1 : Fin 2)).val
      omega
    · rfl

theorem arr_out (he : ∀ j, ((m ((c : Thread nD τ).loc main_arg4) : IVec S25 32) j).toNat < 8) (hx : ∀ j, ((m ((c : Thread nD τ).loc main_arg5) : IVec S25 32) j).toNat < 25) :
    (dats m hO 0 c).arrAt 4 (cfgM m hO).N = outArr (dat m c) := by
  refine (dats m hO 0 c).arrAt_eq_of_covers 4 _ (covers hO) fun t hf yy => ?_
  obtain ⟨y, hyy⟩ : ∃ y : S1024x2048.Idx, y = yy := ⟨yy, rfl⟩
  have h27 : t.val % 28 = 27 := (flush0_4 (adm m hO) t).mp hf
  have ht : t.val < 700 := lt_N m hO t
  have e := (idx t).2.2.2
  have y0 : (y 0).val < 1024 := (y 0).isLt
  have y1 : (y 1).val < 2048 := (y 1).isLt
  have hy : y = (ix2 ⟨(y 0).val, y0⟩ ⟨(y 1).val, y1⟩ : S1024x2048.Idx) := by
    funext q
    fin_cases q <;> rfl
  have hout := inv m hO c he hx t.val t.isLt ht ⟨(y 0).val, y0⟩ ⟨(y 1).val, y1⟩
  rw [h27, Data.upto_all] at hout
  have hA := outArr_at (dat m c) ((((cfgM m hO).win 4).blk t).view.emb yy) ⟨t.val / 28, by omega⟩ ⟨(y 0).val, y0⟩ ⟨(y 1).val, y1⟩
    (by
      have e0 : (pcfg0.win (adm m hO) 4).index t 0 = t.val / 28 := congrFun e 0
      rw [← hyy]
      blk_simp
      exact (congrArg (fun z => z * 1024 + (y 0).val) e0).trans (by dsimp only))
    (by
      have e1 : (pcfg0.win (adm m hO) 4).index t 1 = 0 := congrFun e 1
      rw [← hyy]
      blk_simp
      exact (congrArg (fun z => z * 2048 + (y 1).val) e1).trans (by dsimp only; omega))
  refine Eq.trans ?_ (hout.trans hA.symm)
  refine (congrFun (after0_4 m hO c t) _).trans ?_
  exact congrArg (outsAt0 m hO c t.val t.isLt) (hyy.symm.trans hy)

end Cert.FfnI

end
-- ==== Proof.FfnRefA.lean ====
/- The reference of the expert feed-forward, read entry by entry. -/
module

public import proofs.«01_k».proof.Proof.Gen.FfnRefIdeal.Read
public import proofs.«01_k».proof.Proof.FfnSpec
public import Idealize.ShloMosaic.Lib.Pipeline.ValueKit
public import Idealize.ShloMosaic.Lib.Pointwise

@[expose] public section

set_option maxRecDepth 16384

noncomputable section

namespace Cert.FfnR

open Idealize.ShloMosaic Idealize.ShloMosaic.TcCoe Idealize.ShloMosaic.Tactic
open Idealize.SL.Sem
open Cert.FfnRefIdeal Cert.FfnRefIdeal.Gen Cert.FfnRefIdeal.Read
open Cert.FfnS

/-- The rows of the tile an index names. -/
theorem gatherX (x : FVec Ideal S25x1024x2048 .f32) (y : IVec S25x1 32) (i : Fin 25) (r : Fin 1024) (k : Fin 2048) :
    Host.gather gather_S25x1024x2048_S25x1_S25x1024x2048_12_0_n_n_0_1_110242048 x y (ix3 i r k)
      = x (ix3 ⟨min (y (ix2 i 0)).toInt.toNat (25 - 1), by omega⟩ r k) := by
  unfold Host.gather
  refine congrArg x (funext fun q => ?_)
  fin_cases q
  · refine Fin.ext (congrArg (fun p => min (y p).toInt.toNat (25 - 1)) (funext fun q => ?_))
    fin_cases q <;> rfl
  · exact Fin.ext (Nat.zero_add r.val)
  · exact Fin.ext (Nat.zero_add k.val)

/-- The gate or up weights of the expert an index names. -/
theorem gatherG (x : FVec Ideal S8x2048x7168 .f32) (y : IVec S25x1 32) (i : Fin 25) (k : Fin 2048) (f : Fin 7168) :
    Host.gather gather_S8x2048x7168_S25x1_S25x2048x7168_12_0_n_n_0_1_120487168 x y (ix3 i k f)
      = x (ix3 ⟨min (y (ix2 i 0)).toInt.toNat (8 - 1), by omega⟩ k f) := by
  unfold Host.gather
  refine congrArg x (funext fun q => ?_)
  fin_cases q
  · refine Fin.ext (congrArg (fun p => min (y p).toInt.toNat (8 - 1)) (funext fun q => ?_))
    fin_cases q <;> rfl
  · exact Fin.ext (Nat.zero_add k.val)
  · exact Fin.ext (Nat.zero_add f.val)

/-- The down weights of the expert an index names. -/
theorem gatherD (x : FVec Ideal S8x7168x2048 .f32) (y : IVec S25x1 32) (i : Fin 25) (f : Fin 7168) (w : Fin 2048) :
    Host.gather gather_S8x7168x2048_S25x1_S25x7168x2048_12_0_n_n_0_1_171682048 x y (ix3 i f w)
      = x (ix3 ⟨min (y (ix2 i 0)).toInt.toNat (8 - 1), by omega⟩ f w) := by
  unfold Host.gather
  refine congrArg x (funext fun q => ?_)
  fin_cases q
  · refine Fin.ext (congrArg (fun p => min (y p).toInt.toNat (8 - 1)) (funext fun q => ?_))
    fin_cases q <;> rfl
  · exact Fin.ext (Nat.zero_add f.val)
  · exact Fin.ext (Nat.zero_add w.val)

/-- A small word is not negative, so wrapping it around leaves it. -/
theorem word_pos (w b : BitVec 32) (h : w.toNat < 100) : Scalar.select (IntOp.cmpi .slt w 0#32) (IntOp.addi w b) w = w ∧ w.toInt.toNat = w.toNat := by
  have e : w.toInt = w.toNat := BitVec.toInt_eq_toNat_of_lt (by omega)
  have e2 : IntOp.cmpi .slt w 0#32 = 0#1 := by
    have : ¬ w.toInt < 0 := by omega
    simp [IntOp.cmpi, BitVec.slt, this]
  exact ⟨by rw [e2]; rfl, by omega⟩

section
variable (x0 : FVec Ideal S25600x2048 .bf16) (x1 x2 : FVec Ideal S1x8x2048x7168 .f32) (x3 : FVec Ideal S1x8x7168x2048 .f32) (x4 x5 x6 : IVec S25 32)

theorem v7_at (i : Fin 25) (h : (x5 (ix1 i)).toNat < 100) : val_main_v7 (F := Ideal) x5 (ix2 i 0) = x5 (ix1 i) := by
  refine Eq.trans ?_ (word_pos _ 25#32 h).1
  pointwise [val_main_v7, val_main_v6, val_main_v3, val_main_v2, val_main_c, val_main_v5, val_main_v4, val_main_c_0]
theorem v15_at (i : Fin 25) (h : (x4 (ix1 i)).toNat < 100) : val_main_v15 (F := Ideal) x4 (ix2 i 0) = x4 (ix1 i) := by
  refine Eq.trans ?_ (word_pos _ 8#32 h).1
  pointwise [val_main_v15, val_main_v14, val_main_v11, val_main_v10, val_main_c_1, val_main_v13, val_main_v12, val_main_c_2]
theorem v24_at (i : Fin 25) (h : (x4 (ix1 i)).toNat < 100) : val_main_v24 (F := Ideal) x4 (ix2 i 0) = x4 (ix1 i) := by
  refine Eq.trans ?_ (word_pos _ 8#32 h).1
  pointwise [val_main_v24, val_main_v23, val_main_v20, val_main_v19, val_main_c_3, val_main_v22, val_main_v21, val_main_c_4]
theorem v35_at (i : Fin 25) (h : (x4 (ix1 i)).toNat < 100) : val_main_v35 (F := Ideal) x4 (ix2 i 0) = x4 (ix1 i) := by
  refine Eq.trans ?_ (word_pos _ 8#32 h).1
  pointwise [val_main_v35, val_main_v34, val_main_v31, val_main_v30, val_main_c_5, val_main_v33, val_main_v32, val_main_c_6]

variable (he : ∀ j, (x4 j).toNat < 8) (hx : ∀ j, (x5 j).toNat < 25)

/-- A clamped index is the word, where the word is in range. -/
theorem clamp (w v : BitVec 32) (b : ℕ) (hb : b < 100) (h : w.toNat < b + 1) (hv : v = w) : min v.toInt.toNat b = w.toNat % (b + 1) := by
  subst hv
  rw [(word_pos v 0#32 (by omega)).2, Nat.mod_eq_of_lt h]; omega

include hx in
theorem v8_at (i : Fin 25) (r : Fin 1024) (k : Fin 2048) : val_main_v8 (F := Ideal) x0 x5 (ix3 i r k) = (Data.of x0 x1 x2 x3 x4 x5 x6).X ⟨((Data.of x0 x1 x2 x3 x4 x5 x6).n i).val * 1024 + r.val, by omega⟩ k := by
  have hw := hx (ix1 i)
  unfold val_main_v8
  rw [gatherX, val_main_v1_apply, val_main_v0_apply]
  refine congrArg x0 ?_
  have e := clamp (x5 (ix1 i)) _ 24 (by norm_num) hw (v7_at x5 i (by omega))
  funext q
  fin_cases q
  · refine Fin.ext ?_
    show ((min (val_main_v7 (F := Ideal) x5 (ix2 i 0)).toInt.toNat 24 * 1024 + r.val) * 2048 + k.val) / 2048 = (x5 (ix1 i)).toNat % 25 * 1024 + r.val
    rw [e]; omega
  · refine Fin.ext ?_
    show ((min (val_main_v7 (F := Ideal) x5 (ix2 i 0)).toInt.toNat 24 * 1024 + r.val) * 2048 + k.val) % 2048 = k.val
    omega

include he in
theorem v16_at (i : Fin 25) (k : Fin 2048) (f : Fin 7168) : val_main_v16 (F := Ideal) x1 x4 (ix3 i k f) = (Data.of x0 x1 x2 x3 x4 x5 x6).G ((Data.of x0 x1 x2 x3 x4 x5 x6).e i) k f := by
  have hw := he (ix1 i)
  unfold val_main_v16
  rw [gatherG]
  have e := clamp (x4 (ix1 i)) _ 7 (by norm_num) hw (v15_at x4 i (by omega))
  unfold val_main_v9
  refine (shapeCast_apply _ _ _ (ix4 0 ((Data.of x0 x1 x2 x3 x4 x5 x6).e i) k f) ?_).trans rfl
  rw [Shape.rowMajor_val_four, Shape.rowMajor_val_three]
  show ((0 * 8 + (x4 (ix1 i)).toNat % 8) * 2048 + k.val) * 7168 + f.val = (min (val_main_v15 (F := Ideal) x4 (ix2 i 0)).toInt.toNat 7 * 2048 + k.val) * 7168 + f.val
  rw [e]; omega
include he in
theorem v25_at (i : Fin 25) (k : Fin 2048) (f : Fin 7168) : val_main_v25 (F := Ideal) x2 x4 (ix3 i k f) = (Data.of x0 x1 x2 x3 x4 x5 x6).U ((Data.of x0 x1 x2 x3 x4 x5 x6).e i) k f := by
  have hw := he (ix1 i)
  unfold val_main_v25
  rw [gatherG]
  have e := clamp (x4 (ix1 i)) _ 7 (by norm_num) hw (v24_at x4 i (by omega))
  unfold val_main_v18
  refine (shapeCast_apply _ _ _ (ix4 0 ((Data.of x0 x1 x2 x3 x4 x5 x6).e i) k f) ?_).trans rfl
  rw [Shape.rowMajor_val_four, Shape.rowMajor_val_three]
  show ((0 * 8 + (x4 (ix1 i)).toNat % 8) * 2048 + k.val) * 7168 + f.val = (min (val_main_v24 (F := Ideal) x4 (ix2 i 0)).toInt.toNat 7 * 2048 + k.val) * 7168 + f.val
  rw [e]; omega
include he in
theorem v36_at (i : Fin 25) (f : Fin 7168) (w : Fin 2048) : val_main_v36 (F := Ideal) x3 x4 (ix3 i f w) = (Data.of x0 x1 x2 x3 x4 x5 x6).D ((Data.of x0 x1 x2 x3 x4 x5 x6).e i) f w := by
  have hw := he (ix1 i)
  unfold val_main_v36
  rw [gatherD]
  have e := clamp (x4 (ix1 i)) _ 7 (by norm_num) hw (v35_at x4 i (by omega))
  unfold val_main_v29
  refine (shapeCast_apply _ _ _ (ix4 0 ((Data.of x0 x1 x2 x3 x4 x5 x6).e i) f w) ?_).trans rfl
  rw [Shape.rowMajor_val_four, Shape.rowMajor_val_three]
  show ((0 * 8 + (x4 (ix1 i)).toNat % 8) * 7168 + f.val) * 2048 + w.val = (min (val_main_v35 (F := Ideal) x4 (ix2 i 0)).toInt.toNat 7 * 7168 + f.val) * 2048 + w.val
  rw [e]; omega

include he hx in
theorem v17_at (i : Fin 25) (r : Fin 1024) (f : Fin 7168) : val_main_v17 (F := Ideal) x0 x1 x4 x5 (ix3 i r f) = (Data.of x0 x1 x2 x3 x4 x5 x6).gate i r f := by
  rw [val_main_v17_apply]
  unfold Data.gate
  refine Finset.sum_congr rfl fun k _ => ?_
  have el : lidx_main_v17 (ix3 i r f) k = ix3 i r k := funext fun q => by fin_cases q <;> rfl
  have er : ridx_main_v17 (ix3 i r f) k = ix3 i k f := funext fun q => by fin_cases q <;> rfl
  rw [el, er, v8_at x0 x1 x2 x3 x4 x5 x6 hx, v16_at x0 x1 x2 x3 x4 x5 x6 he]
include he hx in
theorem v26_at (i : Fin 25) (r : Fin 1024) (f : Fin 7168) : val_main_v26 (F := Ideal) x0 x2 x4 x5 (ix3 i r f) = (Data.of x0 x1 x2 x3 x4 x5 x6).up i r f := by
  rw [val_main_v26_apply]
  unfold Data.up
  refine Finset.sum_congr rfl fun k _ => ?_
  have el : lidx_main_v26 (ix3 i r f) k = ix3 i r k := funext fun q => by fin_cases q <;> rfl
  have er : ridx_main_v26 (ix3 i r f) k = ix3 i k f := funext fun q => by fin_cases q <;> rfl
  rw [el, er, v8_at x0 x1 x2 x3 x4 x5 x6 hx, v25_at x0 x1 x2 x3 x4 x5 x6 he]

/-- The word of one. -/
theorem one_f32 : Ideal.ofBits .f32 0x3F800000#32 = 1 := by
  simp [Ideal.ofBits, Ideal.ieee, -EReal.coe_mul]; norm_num

include he hx in
theorem v28_at (i : Fin 25) (r : Fin 1024) (f : Fin 7168) : val_main_v28 (F := Ideal) x0 x1 x2 x4 x5 (ix3 i r f) = (Data.of x0 x1 x2 x3 x4 x5 x6).hid i r f := by
  rw [val_main_v28_apply, val_main_v27_apply, val_main_call0_v5_apply, val_main_call0_v3_apply, val_main_call0_v1_apply, val_main_call0_v0_apply, val_main_call0_v4_apply, val_main_call0_v2_apply, val_main_call0_cst_apply, val_main_call0_cst_0_apply, v17_at x0 x1 x2 x3 x4 x5 x6 he hx, v26_at x0 x1 x2 x3 x4 x5 x6 he hx]
  unfold Data.hid Ideal.logistic
  rw [← one_f32]
  rfl

include he hx in
theorem v37_at (i : Fin 25) (r : Fin 1024) (w : Fin 2048) : val_main_v37 (F := Ideal) x0 x1 x2 x3 x4 x5 (ix3 i r w) = ∑ f : Fin 7168, (Data.of x0 x1 x2 x3 x4 x5 x6).hid i r f * (Data.of x0 x1 x2 x3 x4 x5 x6).D ((Data.of x0 x1 x2 x3 x4 x5 x6).e i) f w := by
  rw [val_main_v37_apply]
  refine Finset.sum_congr rfl fun f _ => ?_
  have el : lidx_main_v37 (ix3 i r w) f = ix3 i r f := funext fun q => by fin_cases q <;> rfl
  have er : ridx_main_v37 (ix3 i r w) f = ix3 i f w := funext fun q => by fin_cases q <;> rfl
  rw [el, er, v28_at x0 x1 x2 x3 x4 x5 x6 he hx, v36_at x0 x1 x2 x3 x4 x5 x6 he]

theorem flag_at (i : Fin 25) (r : Fin 1024) (w : Fin 2048) : val_main_call1_v1 (F := Ideal) x6 (ix3 i r w) = IntOp.cmpi .sgt (x6 (ix1 i)) 0#32 := by
  pointwise [val_main_call1_v1, val_main_v40, val_main_v39, val_main_v38, val_main_c_7]
theorem zero_at (i : Fin 25) (r : Fin 1024) (w : Fin 2048) : val_main_call1_v2 (F := Ideal) (ix3 i r w) = 0 := by
  pointwise [val_main_call1_v2, val_main_call1_v0, val_main_cst]
  exact Ideal.ofBits_zero_f32

include he hx in
/-- The reference's result at a tile's row is the plain feed-forward's. -/
theorem v42_at (y : S25600x2048.Idx) (i : Fin 25) (r : Fin 1024) (w : Fin 2048) (h0 : (y 0).val = i.val * 1024 + r.val) (h1 : (y 1).val = w.val) :
    val_main_v42 (F := Ideal) x0 x1 x2 x3 x4 x5 x6 y = (Data.of x0 x1 x2 x3 x4 x5 x6).out i r w := by
  unfold val_main_v42
  refine (shapeCast_apply _ _ _ (ix3 i r w) ?_).trans ?_
  · rw [Shape.rowMajor_val_three, Shape.rowMajor_val_two]
    show (i.val * 1024 + r.val) * 2048 + w.val = (y 0).val * 2048 + (y 1).val
    rw [h0, h1]
  · rw [val_main_v41_apply, flag_at, zero_at, v37_at x0 x1 x2 x3 x4 x5 x6 he hx]
    rfl

include he hx in
/-- The reference's result is the plain feed-forward's array. -/
theorem ref_eq : val_main_v42 (F := Ideal) x0 x1 x2 x3 x4 x5 x6 = outArr (Data.of x0 x1 x2 x3 x4 x5 x6) := by
  funext y
  have y0 : (y 0).val < 25600 := (y 0).isLt
  exact v42_at x0 x1 x2 x3 x4 x5 x6 he hx y ⟨(y 0).val / 1024, by omega⟩ ⟨(y 0).val % 1024, by omega⟩ ⟨(y 1).val, (y 1).isLt⟩ (by dsimp only; omega) rfl

end

end Cert.FfnR

end
-- ==== Proof.ProjRun.lean ====
/- Where the projection's run ends: every array of the run, at what the two launches and the host's steps leave in it. -/
module

public import proofs.«01_k».proof.Proof.Gen.ProjIdeal.Frame

@[expose] public section

noncomputable section

namespace Cert.ProjI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ProjIdeal Cert.ProjIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run ends, with every array of the run at its last contents. -/
theorem run_end : θ_run defs (onTc (τ := τ) (main (F := F))) ⟨m, fun _ => 0, ρ⟩ (fun r => ∀ c : Dev nD, ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

end Cert.ProjI

end
-- ==== Proof.ProjArr.lean ====
/- The arrays the projection's two launches leave: each entry is a row of the normalised input against a column of the weights. -/
module

public import proofs.«01_k».proof.Proof.ProjRun
public import Idealize.ShloMosaic.Lib.Pipeline.ValueKit
public import Idealize.ShloMosaic.Lib.Pointwise

@[expose] public section

set_option maxRecDepth 16384

noncomputable section

namespace Cert.ProjI

open Idealize.ShloMosaic Idealize.ShloMosaic.TcCoe Idealize.ShloMosaic.Tactic
open Idealize.SL.Sem
open Cert.ProjIdeal Cert.ProjIdeal.Gen

/-- The projection of a layer. -/
def zArr (l : Fin 2) (x : FVec Ideal S9216x2048 .bf16) (w : FVec Ideal S2x2048x5120 .f32) : FVec Ideal S9216x5120 .f32 := fun y =>
  ∑ k : Fin 2048, x (ix2 ⟨(y 0).val, (y 0).isLt⟩ k) * w (ix3 l k ⟨(y 1).val, (y 1).isLt⟩)

theorem zArr_at (l : Fin 2) (x : FVec Ideal S9216x2048 .bf16) (w : FVec Ideal S2x2048x5120 .f32) (y : S9216x5120.Idx) (r : Fin 9216) (p : Fin 5120)
    (h0 : (y 0).val = r.val) (h1 : (y 1).val = p.val) : zArr l x w y = ∑ k : Fin 2048, x (ix2 r k) * w (ix3 l k p) := by
  unfold zArr
  have er : (⟨(y 0).val, (y 0).isLt⟩ : Fin 9216) = r := Fin.ext h0
  have ew : (⟨(y 1).val, (y 1).isLt⟩ : Fin 5120) = p := Fin.ext h1
  rw [er, ew]

/-- A block's product, entry by entry. -/
theorem pay0_at (x : FVec Ideal S1024x2048 .bf16) (w : FVec Ideal S1x2048x512 .f32) (r : Fin 1024) (p : Fin 512) :
    k0_pay1 (F := Ideal) x w (ix2 r p) = ∑ k : Fin 2048, x (ix2 r k) * w (ix3 0 k p) := by
  pointwise [k0_pay1]

/-- A point leaves its product in the output's block. -/
theorem out0 (x : FVec Ideal S1024x2048 .bf16) (w : FVec Ideal S1x2048x512 .f32) : out0_2 (F := Ideal) x w = k0_pay1 (F := Ideal) x w := by
  have h2 : (![0, 0] : Fin 2 → ℕ) = fun _ => 0 := by decide
  have h3 : (![0, 0, 0] : Fin 3 → ℕ) = fun _ => 0 := by decide
  unfold out0_2
  rw [View.canon_unit_zero h2, View.ld_unit_zero h2, View.ld_unit_zero h3]

/-- The blocks of every point. -/
theorem idx0 : ∀ t : Fin grid0.N, cc0_transform_0 (grid0.coords t) = ![t.val / 10, 0] ∧ cc0_transform_1 (grid0.coords t) = ![0, 0, t.val % 10] ∧ cc0_transform_2 (grid0.coords t) = ![t.val / 10, t.val % 10] := by
  decide +kernel

theorem lt_N0 (t : Fin cfg0.N) : t.val < 90 := t.isLt.trans_eq (by decide +kernel : grid0.N = 90)

theorem covers0 : (cfg0.win 2).Covers := by
  refine ⟨fun a => by fin_cases a; exact (by decide : 0 < 1024); exact (by decide : 0 < 512), fun β => ?_⟩
  have e0 : (cfg0.win 2).nblk (0 : Fin 2) = (9216 + 1024 - 1) / 1024 := rfl
  have e1 : (cfg0.win 2).nblk (1 : Fin 2) = (5120 + 512 - 1) / 512 := rfl
  have hβ : (β (0 : Fin 2)).val < 9 := lt_of_lt_of_eq (β (0 : Fin 2)).isLt e0
  have hγ : (β (1 : Fin 2)).val < 10 := lt_of_lt_of_eq (β (1 : Fin 2)).isLt e1
  have hN : cfg0.grid.N = 90 := (by decide +kernel : grid0.N = 90)
  refine ⟨⟨10 * (β (0 : Fin 2)).val + (β (1 : Fin 2)).val, lt_of_lt_of_eq (by omega : _ < 90) hN.symm⟩, flush0_2 _, fun a => ?_⟩
  have e := (idx0 (⟨10 * (β (0 : Fin 2)).val + (β (1 : Fin 2)).val, by rw [show grid0.N = 90 from by decide +kernel]; omega⟩ : Fin grid0.N)).2.2
  fin_cases a
  · refine ⟨(congrFun e (0 : Fin 2)).trans ?_, Or.inl ?_⟩
    · show (10 * (β (0 : Fin 2)).val + (β (1 : Fin 2)).val) / 10 = (β (0 : Fin 2)).val
      omega
    · rfl
  · refine ⟨(congrFun e (1 : Fin 2)).trans ?_, Or.inl ?_⟩
    · show (10 * (β (0 : Fin 2)).val + (β (1 : Fin 2)).val) % 10 = (β (1 : Fin 2)).val
      omega
    · rfl

section
variable (V : (c : Dev nD) → (b : Ref sig .tc) → Buf (Elt Ideal) ((c : Thread nD τ).loc b)) (c : Dev nD)

theorem rows0 (t : Fin cfg0.N) (h : t.val < 90) (r : Fin 1024) (k : Fin 2048) :
    iblk0 V c 0 t (ix2 r k) = (V c main_arg0 : FVec Ideal S9216x2048 .bf16) (ix2 ⟨t.val / 10 * 1024 + r.val, by omega⟩ k) := by
  have e0 : (cfg0.win 0).index t 0 = t.val / 10 := congrFun (idx0 t).1 0
  have e1 : (cfg0.win 0).index t 1 = 0 := congrFun (idx0 t).1 1
  blk_ext [iblk0]
  · exact congrArg (fun z => z * 1024 + r.val) e0
  · exact (congrArg (fun z => z * 2048 + k.val) e1).trans (by first | omega | (dsimp only; omega))
theorem cols0 (t : Fin cfg0.N) (h : t.val < 90) (k : Fin 2048) (p : Fin 512) :
    iblk0 V c 1 t (ix3 0 k p) = (V c main_arg2 : FVec Ideal S2x2048x5120 .f32) (ix3 0 k ⟨t.val % 10 * 512 + p.val, by omega⟩) := by
  have e0 : (cfg0.win 1).index t 0 = 0 := congrFun (idx0 t).2.1 0
  have e1 : (cfg0.win 1).index t 1 = 0 := congrFun (idx0 t).2.1 1
  have e2 : (cfg0.win 1).index t 2 = t.val % 10 := congrFun (idx0 t).2.1 2
  blk_ext [iblk0]
  · exact (congrArg (fun z => z * 2048 + k.val) e1).trans (by first | omega | (dsimp only; omega))
  · exact congrArg (fun z => z * 512 + p.val) e2

/-- The launch leaves the projection. -/
theorem arr0 : (dat0 (F := Ideal) V c).arrAt 2 cfg0.N = zArr 0 (V c main_arg0) (V c main_arg2) := by
  refine (dat0 (F := Ideal) V c).arrAt_eq_of_covers 2 _ covers0 fun t hf yy => ?_
  obtain ⟨y, hyy⟩ : ∃ y : S1024x512.Idx, y = yy := ⟨yy, rfl⟩
  have ht : t.val < 90 := lt_N0 t
  have e := (idx0 t).2.2
  have y0 : (y 0).val < 1024 := (y 0).isLt
  have y1 : (y 1).val < 512 := (y 1).isLt
  have hy : y = (ix2 ⟨(y 0).val, y0⟩ ⟨(y 1).val, y1⟩ : S1024x512.Idx) := by
    funext q
    fin_cases q <;> rfl
  have hA := zArr_at 0 (V c main_arg0) (V c main_arg2) (((cfg0.win 2).blk t).view.emb yy) ⟨t.val / 10 * 1024 + (y 0).val, by omega⟩ ⟨t.val % 10 * 512 + (y 1).val, by omega⟩
    (by
      have e0 : (cfg0.win 2).index t 0 = t.val / 10 := congrFun e 0
      rw [← hyy]
      blk_simp
      exact congrArg (fun z => z * 1024 + (y 0).val) e0)
    (by
      have e1 : (cfg0.win 2).index t 1 = t.val % 10 := congrFun e 1
      rw [← hyy]
      blk_simp
      exact congrArg (fun z => z * 512 + (y 1).val) e1)
  refine Eq.trans ?_ hA.symm
  refine (congrFun (after0_2 V c t) _).trans ?_
  refine (congrFun (out0 (iblk0 V c 0 t) (iblk0 V c 1 t)) _).trans ?_
  refine (congrArg (k0_pay1 (F := Ideal) (iblk0 V c 0 t) (iblk0 V c 1 t)) (hyy.symm.trans hy)).trans ?_
  refine (pay0_at _ _ _ _).trans (Finset.sum_congr rfl fun k _ => ?_)
  exact congrArg₂ (· * ·) (rows0 V c t ht ⟨(y 0).val, y0⟩ k) (cols0 V c t ht k ⟨(y 1).val, y1⟩)
end

/-- A block's product, entry by entry. -/
theorem pay1_at (x : FVec Ideal S1024x2048 .bf16) (w : FVec Ideal S1x2048x512 .f32) (r : Fin 1024) (p : Fin 512) :
    k1_pay1 (F := Ideal) x w (ix2 r p) = ∑ k : Fin 2048, x (ix2 r k) * w (ix3 0 k p) := by
  pointwise [k1_pay1]

/-- A point leaves its product in the output's block. -/
theorem out1 (x : FVec Ideal S1024x2048 .bf16) (w : FVec Ideal S1x2048x512 .f32) : out1_2 (F := Ideal) x w = k1_pay1 (F := Ideal) x w := by
  have h2 : (![0, 0] : Fin 2 → ℕ) = fun _ => 0 := by decide
  have h3 : (![0, 0, 0] : Fin 3 → ℕ) = fun _ => 0 := by decide
  unfold out1_2
  rw [View.canon_unit_zero h2, View.ld_unit_zero h2, View.ld_unit_zero h3]

/-- The blocks of every point. -/
theorem idx1 : ∀ t : Fin grid1.N, cc1_transform_0 (grid1.coords t) = ![t.val / 10, 0] ∧ cc1_transform_1 (grid1.coords t) = ![1, 0, t.val % 10] ∧ cc1_transform_2 (grid1.coords t) = ![t.val / 10, t.val % 10] := by
  decide +kernel

theorem lt_N1 (t : Fin cfg1.N) : t.val < 90 := t.isLt.trans_eq (by decide +kernel : grid1.N = 90)

theorem covers1 : (cfg1.win 2).Covers := by
  refine ⟨fun a => by fin_cases a; exact (by decide : 0 < 1024); exact (by decide : 0 < 512), fun β => ?_⟩
  have e0 : (cfg1.win 2).nblk (0 : Fin 2) = (9216 + 1024 - 1) / 1024 := rfl
  have e1 : (cfg1.win 2).nblk (1 : Fin 2) = (5120 + 512 - 1) / 512 := rfl
  have hβ : (β (0 : Fin 2)).val < 9 := lt_of_lt_of_eq (β (0 : Fin 2)).isLt e0
  have hγ : (β (1 : Fin 2)).val < 10 := lt_of_lt_of_eq (β (1 : Fin 2)).isLt e1
  have hN : cfg1.grid.N = 90 := (by decide +kernel : grid1.N = 90)
  refine ⟨⟨10 * (β (0 : Fin 2)).val + (β (1 : Fin 2)).val, lt_of_lt_of_eq (by omega : _ < 90) hN.symm⟩, flush1_2 _, fun a => ?_⟩
  have e := (idx1 (⟨10 * (β (0 : Fin 2)).val + (β (1 : Fin 2)).val, by rw [show grid1.N = 90 from by decide +kernel]; omega⟩ : Fin grid1.N)).2.2
  fin_cases a
  · refine ⟨(congrFun e (0 : Fin 2)).trans ?_, Or.inl ?_⟩
    · show (10 * (β (0 : Fin 2)).val + (β (1 : Fin 2)).val) / 10 = (β (0 : Fin 2)).val
      omega
    · rfl
  · refine ⟨(congrFun e (1 : Fin 2)).trans ?_, Or.inl ?_⟩
    · show (10 * (β (0 : Fin 2)).val + (β (1 : Fin 2)).val) % 10 = (β (1 : Fin 2)).val
      omega
    · rfl

section
variable (V : (c : Dev nD) → (b : Ref sig .tc) → Buf (Elt Ideal) ((c : Thread nD τ).loc b)) (c : Dev nD)

theorem rows1 (t : Fin cfg1.N) (h : t.val < 90) (r : Fin 1024) (k : Fin 2048) :
    iblk1 V c 0 t (ix2 r k) = (V c main_arg1 : FVec Ideal S9216x2048 .bf16) (ix2 ⟨t.val / 10 * 1024 + r.val, by omega⟩ k) := by
  have e0 : (cfg1.win 0).index t 0 = t.val / 10 := congrFun (idx1 t).1 0
  have e1 : (cfg1.win 0).index t 1 = 0 := congrFun (idx1 t).1 1
  blk_ext [iblk1]
  · exact congrArg (fun z => z * 1024 + r.val) e0
  · exact (congrArg (fun z => z * 2048 + k.val) e1).trans (by first | omega | (dsimp only; omega))
theorem cols1 (t : Fin cfg1.N) (h : t.val < 90) (k : Fin 2048) (p : Fin 512) :
    iblk1 V c 1 t (ix3 0 k p) = (V c main_arg2 : FVec Ideal S2x2048x5120 .f32) (ix3 1 k ⟨t.val % 10 * 512 + p.val, by omega⟩) := by
  have e0 : (cfg1.win 1).index t 0 = 1 := congrFun (idx1 t).2.1 0
  have e1 : (cfg1.win 1).index t 1 = 0 := congrFun (idx1 t).2.1 1
  have e2 : (cfg1.win 1).index t 2 = t.val % 10 := congrFun (idx1 t).2.1 2
  blk_ext [iblk1]
  · exact (congrArg (fun z => z * 2048 + k.val) e1).trans (by first | omega | (dsimp only; omega))
  · exact congrArg (fun z => z * 512 + p.val) e2

/-- The launch leaves the projection. -/
theorem arr1 : (dat1 (F := Ideal) V c).arrAt 2 cfg1.N = zArr 1 (V c main_arg1) (V c main_arg2) := by
  refine (dat1 (F := Ideal) V c).arrAt_eq_of_covers 2 _ covers1 fun t hf yy => ?_
  obtain ⟨y, hyy⟩ : ∃ y : S1024x512.Idx, y = yy := ⟨yy, rfl⟩
  have ht : t.val < 90 := lt_N1 t
  have e := (idx1 t).2.2
  have y0 : (y 0).val < 1024 := (y 0).isLt
  have y1 : (y 1).val < 512 := (y 1).isLt
  have hy : y = (ix2 ⟨(y 0).val, y0⟩ ⟨(y 1).val, y1⟩ : S1024x512.Idx) := by
    funext q
    fin_cases q <;> rfl
  have hA := zArr_at 1 (V c main_arg1) (V c main_arg2) (((cfg1.win 2).blk t).view.emb yy) ⟨t.val / 10 * 1024 + (y 0).val, by omega⟩ ⟨t.val % 10 * 512 + (y 1).val, by omega⟩
    (by
      have e0 : (cfg1.win 2).index t 0 = t.val / 10 := congrFun e 0
      rw [← hyy]
      blk_simp
      exact congrArg (fun z => z * 1024 + (y 0).val) e0)
    (by
      have e1 : (cfg1.win 2).index t 1 = t.val % 10 := congrFun e 1
      rw [← hyy]
      blk_simp
      exact congrArg (fun z => z * 512 + (y 1).val) e1)
  refine Eq.trans ?_ hA.symm
  refine (congrFun (after1_2 V c t) _).trans ?_
  refine (congrFun (out1 (iblk1 V c 0 t) (iblk1 V c 1 t)) _).trans ?_
  refine (congrArg (k1_pay1 (F := Ideal) (iblk1 V c 0 t) (iblk1 V c 1 t)) (hyy.symm.trans hy)).trans ?_
  refine (pay1_at _ _ _ _).trans (Finset.sum_congr rfl fun k _ => ?_)
  exact congrArg₂ (· * ·) (rows1 V c t ht ⟨(y 0).val, y0⟩ k) (cols1 V c t ht k ⟨(y 1).val, y1⟩)
end

end Cert.ProjI

end
-- ==== Proof.ProjEnd.lean ====
/- The projection's results: the keys and values of the prompts and of the samples, in both layers. -/
module

public import proofs.«01_k».proof.Proof.ProjArr
public import proofs.«01_k».proof.Proof.Gen.ProjRefIdeal.Read
public import Idealize.ShloMosaic.Lib.StableHlo.Run

@[expose] public section

set_option maxRecDepth 16384

noncomputable section

namespace Cert.ProjI

open Idealize.ShloMosaic Idealize.ShloMosaic.TcCoe Idealize.ShloMosaic.Tactic
open Idealize.SL.Sem

/-- The reference's projection of the first layer. -/
theorem ref0 (x : FVec Ideal Cert.ProjRefIdeal.S9216x2048 .bf16) (w : FVec Ideal Cert.ProjRefIdeal.S2x2048x5120 .f32) : zArr 0 x w = Cert.ProjRefIdeal.Read.val_main_v3 (F := Ideal) x w := by
  funext y
  refine Eq.trans ?_ (Cert.ProjRefIdeal.Read.val_main_v3_apply x w y).symm
  refine Finset.sum_congr rfl fun k _ => ?_
  have hy : (y 1).val < 5120 := (y 1).isLt
  refine congrArg₂ (· * ·) (congrArg x (funext fun q => by fin_cases q <;> rfl)) ?_
  rw [Cert.ProjRefIdeal.Read.val_main_v2_apply, Cert.ProjRefIdeal.Read.val_main_v1_apply]
  refine congrArg w (funext fun q => ?_)
  fin_cases q
  · rfl
  · refine Fin.ext ?_
    show k.val = (k.val * 5120 + (y 1).val) / 5120 % 2048
    omega
  · refine Fin.ext ?_
    show (y 1).val = (k.val * 5120 + (y 1).val) % 5120
    omega
/-- The reference's projection of the second layer. -/
theorem ref1 (x : FVec Ideal Cert.ProjRefIdeal.S9216x2048 .bf16) (w : FVec Ideal Cert.ProjRefIdeal.S2x2048x5120 .f32) : zArr 1 x w = Cert.ProjRefIdeal.Read.val_main_v15 (F := Ideal) x w := by
  funext y
  refine Eq.trans ?_ (Cert.ProjRefIdeal.Read.val_main_v15_apply x w y).symm
  refine Finset.sum_congr rfl fun k _ => ?_
  have hy : (y 1).val < 5120 := (y 1).isLt
  refine congrArg₂ (· * ·) (congrArg x (funext fun q => by fin_cases q <;> rfl)) ?_
  rw [Cert.ProjRefIdeal.Read.val_main_v14_apply, Cert.ProjRefIdeal.Read.val_main_v13_apply]
  refine congrArg w (funext fun q => ?_)
  fin_cases q
  · rfl
  · refine Fin.ext ?_
    show k.val = (k.val * 5120 + (y 1).val) / 5120 % 2048
    omega
  · refine Fin.ext ?_
    show (y 1).val = (k.val * 5120 + (y 1).val) % 5120
    omega

open Cert.ProjIdeal Cert.ProjIdeal.Gen

variable (m : (ℓ : Loc nD τ sig) → Buf (Elt Ideal) ℓ) (ρ : Dev nD → PrngReg) (c : Dev nD)

/-- What the first launch leaves. -/
theorem z0 : W1 m ρ c (Proc.devRef .tc main_v0) = zArr 0 (m ((c : Thread nD τ).loc main_arg0)) (m ((c : Thread nD τ).loc main_arg2)) :=
  (W1_arr m ρ c 2).trans (arr0 (V0 m ρ) c)
/-- What the second launch leaves. -/
theorem z1 : W3 m ρ c (Proc.devRef .tc main_v9) = zArr 1 (m ((c : Thread nD τ).loc main_arg1)) (m ((c : Thread nD τ).loc main_arg2)) := by
  refine (W3_arr m ρ c 2).trans ((arr1 (V2 m ρ) c).trans ?_)
  have e1 : V2 m ρ c main_arg1 = m ((c : Thread nD τ).loc main_arg1) := W2_args m ρ c main_arg1 (by decide)
  have e2 : V2 m ρ c main_arg2 = m ((c : Thread nD τ).loc main_arg2) := W2_args m ρ c main_arg2 (by decide)
  rw [e1, e2]

/-- The prompts' keys of a layer, cut from its projection. -/
def kp (z : FVec Ideal S9216x5120 .f32) : FVec Ideal S2x4096x8x2x64 .f32 :=
  shapeCast S2x4096x8x2x64 (extractStridedSlice S8192x1024 ![0, 1024] z slices_S9216x5120_S8192x1024_0_1024) shapeCasts_S8192x1024_S2x4096x8x2x64
theorem kp_first : W3 m ρ c (Proc.devRef .tc main_v2) = kp (zArr 0 (m ((c : Thread nD τ).loc main_arg0)) (m ((c : Thread nD τ).loc main_arg2))) := by
  refine (W3_of m ρ c main_v2 (by decide +kernel)).trans ?_
  rw [← z0 m ρ c]
  unfold W2 hostOps1; after_results; try rfl
/-- The prompts' keys, as the run leaves them, are the reference's. -/
theorem kp_end : W4 m ρ c (Proc.devRef .tc main_v20) = Cert.ProjRefIdeal.Read.val_main_v26 (F := Ideal) (m ((c : Thread nD τ).loc main_arg0)) (m ((c : Thread nD τ).loc main_arg1)) (m ((c : Thread nD τ).loc main_arg2)) := by
  have h : W4 m ρ c (Proc.devRef .tc main_v20) = concatenate S2x2x4096x8x2x64 0 [⟨S1x2x4096x8x2x64, broadcastInDim S1x2x4096x8x2x64 ![1, 2, 3, 4, 5] bcast_S2x4096x8x2x64_S1x2x4096x8x2x64_1_2_3_4_5 (W3 m ρ c (Proc.devRef .tc main_v2))⟩, ⟨S1x2x4096x8x2x64, broadcastInDim S1x2x4096x8x2x64 ![1, 2, 3, 4, 5] bcast_S2x4096x8x2x64_S1x2x4096x8x2x64_1_2_3_4_5 (kp (W3 m ρ c (Proc.devRef .tc main_v9)))⟩] concatenates_S1x2x4096x8x2x64_S1x2x4096x8x2x64_S2x2x4096x8x2x64_d0 := by
    unfold W4 hostOps2; after_results; try rfl
  rw [h, kp_first, z1, ref0, ref1]
  rfl

/-- The prompts' values of a layer, cut from its projection. -/
def vp (z : FVec Ideal S9216x5120 .f32) : FVec Ideal S2x4096x8x128 .f32 :=
  shapeCast S2x4096x8x128 (extractStridedSlice S8192x1024 ![0, 2048] z slices_S9216x5120_S8192x1024_0_2048) shapeCasts_S8192x1024_S2x4096x8x128
theorem vp_first : W3 m ρ c (Proc.devRef .tc main_v4) = vp (zArr 0 (m ((c : Thread nD τ).loc main_arg0)) (m ((c : Thread nD τ).loc main_arg2))) := by
  refine (W3_of m ρ c main_v4 (by decide +kernel)).trans ?_
  rw [← z0 m ρ c]
  unfold W2 hostOps1; after_results; try rfl
/-- The prompts' values, as the run leaves them, are the reference's. -/
theorem vp_end : W4 m ρ c (Proc.devRef .tc main_v23) = Cert.ProjRefIdeal.Read.val_main_v29 (F := Ideal) (m ((c : Thread nD τ).loc main_arg0)) (m ((c : Thread nD τ).loc main_arg1)) (m ((c : Thread nD τ).loc main_arg2)) := by
  have h : W4 m ρ c (Proc.devRef .tc main_v23) = concatenate S2x2x4096x8x128 0 [⟨S1x2x4096x8x128, broadcastInDim S1x2x4096x8x128 ![1, 2, 3, 4] bcast_S2x4096x8x128_S1x2x4096x8x128_1_2_3_4 (W3 m ρ c (Proc.devRef .tc main_v4))⟩, ⟨S1x2x4096x8x128, broadcastInDim S1x2x4096x8x128 ![1, 2, 3, 4] bcast_S2x4096x8x128_S1x2x4096x8x128_1_2_3_4 (vp (W3 m ρ c (Proc.devRef .tc main_v9)))⟩] concatenates_S1x2x4096x8x128_S1x2x4096x8x128_S2x2x4096x8x128_d0 := by
    unfold W4 hostOps2; after_results; try rfl
  rw [h, vp_first, z1, ref0, ref1]
  rfl

/-- The samples' keys of a layer, cut from its projection. -/
def ks (z : FVec Ideal S9216x5120 .f32) : FVec Ideal S128x8x8x2x64 .f32 :=
  shapeCast S128x8x8x2x64 (extractStridedSlice S1024x1024 ![8192, 1024] z slices_S9216x5120_S1024x1024_8192_1024) shapeCasts_S1024x1024_S128x8x8x2x64
theorem ks_first : W3 m ρ c (Proc.devRef .tc main_v6) = ks (zArr 0 (m ((c : Thread nD τ).loc main_arg0)) (m ((c : Thread nD τ).loc main_arg2))) := by
  refine (W3_of m ρ c main_v6 (by decide +kernel)).trans ?_
  rw [← z0 m ρ c]
  unfold W2 hostOps1; after_results; try rfl
/-- The samples' keys, as the run leaves them, are the reference's. -/
theorem ks_end : W4 m ρ c (Proc.devRef .tc main_v26) = Cert.ProjRefIdeal.Read.val_main_v32 (F := Ideal) (m ((c : Thread nD τ).loc main_arg0)) (m ((c : Thread nD τ).loc main_arg1)) (m ((c : Thread nD τ).loc main_arg2)) := by
  have h : W4 m ρ c (Proc.devRef .tc main_v26) = concatenate S2x128x8x8x2x64 0 [⟨S1x128x8x8x2x64, broadcastInDim S1x128x8x8x2x64 ![1, 2, 3, 4, 5] bcast_S128x8x8x2x64_S1x128x8x8x2x64_1_2_3_4_5 (W3 m ρ c (Proc.devRef .tc main_v6))⟩, ⟨S1x128x8x8x2x64, broadcastInDim S1x128x8x8x2x64 ![1, 2, 3, 4, 5] bcast_S128x8x8x2x64_S1x128x8x8x2x64_1_2_3_4_5 (ks (W3 m ρ c (Proc.devRef .tc main_v9)))⟩] concatenates_S1x128x8x8x2x64_S1x128x8x8x2x64_S2x128x8x8x2x64_d0 := by
    unfold W4 hostOps2; after_results; try rfl
  rw [h, ks_first, z1, ref0, ref1]
  rfl

/-- The samples' values of a layer, cut from its projection. -/
def vs (z : FVec Ideal S9216x5120 .f32) : FVec Ideal S128x8x8x128 .f32 :=
  shapeCast S128x8x8x128 (extractStridedSlice S1024x1024 ![8192, 2048] z slices_S9216x5120_S1024x1024_8192_2048) shapeCasts_S1024x1024_S128x8x8x128
theorem vs_first : W3 m ρ c (Proc.devRef .tc main_v8) = vs (zArr 0 (m ((c : Thread nD τ).loc main_arg0)) (m ((c : Thread nD τ).loc main_arg2))) := by
  refine (W3_of m ρ c main_v8 (by decide +kernel)).trans ?_
  rw [← z0 m ρ c]
  unfold W2 hostOps1; after_results; try rfl
/-- The samples' values, as the run leaves them, are the reference's. -/
theorem vs_end : W4 m ρ c (Proc.devRef .tc main_v29) = Cert.ProjRefIdeal.Read.val_main_v35 (F := Ideal) (m ((c : Thread nD τ).loc main_arg0)) (m ((c : Thread nD τ).loc main_arg1)) (m ((c : Thread nD τ).loc main_arg2)) := by
  have h : W4 m ρ c (Proc.devRef .tc main_v29) = concatenate S2x128x8x8x128 0 [⟨S1x128x8x8x128, broadcastInDim S1x128x8x8x128 ![1, 2, 3, 4] bcast_S128x8x8x128_S1x128x8x8x128_1_2_3_4 (W3 m ρ c (Proc.devRef .tc main_v8))⟩, ⟨S1x128x8x8x128, broadcastInDim S1x128x8x8x128 ![1, 2, 3, 4] bcast_S128x8x8x128_S1x128x8x8x128_1_2_3_4 (vs (W3 m ρ c (Proc.devRef .tc main_v9)))⟩] concatenates_S1x128x8x8x128_S1x128x8x8x128_S2x128x8x8x128_d0 := by
    unfold W4 hostOps2; after_results; try rfl
  rw [h, vs_first, z1, ref0, ref1]
  rfl

end Cert.ProjI

end
-- ==== Proof.MixArr.lean ====
/- The output projection: what its launch leaves, and that this is its reference's product. -/
module

public import proofs.«01_k».proof.Proof.Gen.MixIdeal.Frame
public import proofs.«01_k».proof.Proof.Gen.MixRefIdeal.Read
public import Idealize.ShloMosaic.Lib.Pipeline.ValueKit
public import Idealize.ShloMosaic.Lib.Pointwise

@[expose] public section

set_option maxRecDepth 16384

noncomputable section

namespace Cert.MixI

open Idealize.ShloMosaic Idealize.ShloMosaic.TcCoe Idealize.ShloMosaic.Tactic
open Idealize.SL.Sem

/-- The two halves of the mixed rows against the two halves of the weights. -/
def mArr (x y : FVec Ideal ⟨2, ![9216, 1024]⟩ .f32) (w : FVec Ideal ⟨3, ![2, 2048, 2048]⟩ .f32) (r : Fin 9216) (p : Fin 2048) : EReal :=
  ∑ k : Fin 1024, x (ix2 r k) * w (ix3 0 ⟨k.val, by omega⟩ p) + ∑ k : Fin 1024, y (ix2 r k) * w (ix3 0 ⟨1024 + k.val, by omega⟩ p)

section
open Cert.MixRefIdeal Cert.MixRefIdeal.Gen Cert.MixRefIdeal.Read

theorem weight (w : FVec Ideal S2x2048x2048 .f32) (k p : Fin 2048) : val_main_v2 (F := Ideal) w (ix2 k p) = w (ix3 0 k p) := by
  rw [val_main_v2_apply, val_main_v1_apply]
  refine congrArg w (funext fun q => ?_)
  fin_cases q
  · rfl
  · refine Fin.ext ?_
    show (k.val * 2048 + p.val) / 2048 % 2048 = k.val
    omega
  · refine Fin.ext ?_
    show (k.val * 2048 + p.val) % 2048 = p.val
    omega
theorem left (x y : FVec Ideal S9216x1024 .f32) (r : Fin 9216) (k : Fin 1024) : val_main_v0 (F := Ideal) x y (ix2 r ⟨k.val, by omega⟩) = x (ix2 r k) := by
  unfold val_main_v0
  exact concatenate_pair_apply_left 1 x y concatenates_S9216x1024_S9216x1024_S9216x2048_d1 _ rfl (ix2 r k) (fun q => by fin_cases q <;> rfl)
theorem right (x y : FVec Ideal S9216x1024 .f32) (r : Fin 9216) (k : Fin 1024) : val_main_v0 (F := Ideal) x y (ix2 r ⟨1024 + k.val, by omega⟩) = y (ix2 r k) := by
  unfold val_main_v0
  exact concatenate_pair_apply_right 1 x y concatenates_S9216x1024_S9216x1024_S9216x2048_d1 _ rfl rfl (ix2 r k) (fun q hq => by fin_cases q <;> first | rfl | exact absurd rfl hq) (Nat.add_comm _ _)

/-- The reference's product, half by half. -/
theorem ref_at (x y : FVec Ideal S9216x1024 .f32) (w : FVec Ideal S2x2048x2048 .f32) (i : S9216x2048.Idx) (r : Fin 9216) (p : Fin 2048) (h0 : (i 0).val = r.val) (h1 : (i 1).val = p.val) :
    val_main_v3 (F := Ideal) x y w i = mArr x y w r p := by
  obtain rfl : i = ix2 r p := by
    funext q
    fin_cases q
    · exact Fin.ext h0
    · exact Fin.ext h1
  rw [val_main_v3_apply]
  unfold mArr
  rw [Fin.sum_univ_tiles 2 1024 rfl, Fin.sum_univ_two]
  refine congrArg₂ (· + ·) (Finset.sum_congr rfl fun k _ => congrArg₂ (· * ·) ?_ ?_) (Finset.sum_congr rfl fun k _ => congrArg₂ (· * ·) ?_ ?_)
  · refine Eq.trans (congrArg (val_main_v0 (F := Ideal) x y) (funext fun q => ?_)) (left x y r k)
    fin_cases q
    · rfl
    · exact Fin.ext (show 0 * 1024 + k.val = k.val by omega)
  · refine Eq.trans (congrArg (val_main_v2 (F := Ideal) w) (funext fun q => ?_)) (weight w ⟨k.val, by omega⟩ p)
    fin_cases q
    · exact Fin.ext (show 0 * 1024 + k.val = k.val by omega)
    · rfl
  · refine Eq.trans (congrArg (val_main_v0 (F := Ideal) x y) (funext fun q => ?_)) (right x y r k)
    fin_cases q
    · rfl
    · exact Fin.ext (show 1 * 1024 + k.val = 1024 + k.val by omega)
  · refine Eq.trans (congrArg (val_main_v2 (F := Ideal) w) (funext fun q => ?_)) (weight w ⟨1024 + k.val, by omega⟩ p)
    fin_cases q
    · exact Fin.ext (show 1 * 1024 + k.val = 1024 + k.val by omega)
    · rfl
end

open Cert.MixIdeal Cert.MixIdeal.Gen

/-- A block's two products, entry by entry. -/
theorem pay1_at (x y : FVec Ideal S1024x1024 .f32) (v w : FVec Ideal S1x1024x512 .f32) (r : Fin 1024) (p : Fin 512) :
    k0_pay1 (F := Ideal) x v y w (ix2 r p) = ∑ k : Fin 1024, x (ix2 r k) * v (ix3 0 k p) + ∑ k : Fin 1024, y (ix2 r k) * w (ix3 0 k p) := by
  pointwise [k0_pay1]

/-- A point leaves its two products in the output's block. -/
theorem out (x y : FVec Ideal S1024x1024 .f32) (v w : FVec Ideal S1x1024x512 .f32) : out0_4 (F := Ideal) x y v w = k0_pay1 (F := Ideal) x v y w := by
  have h2 : (![0, 0] : Fin 2 → ℕ) = fun _ => 0 := by decide
  have h3 : (![0, 0, 0] : Fin 3 → ℕ) = fun _ => 0 := by decide
  unfold out0_4
  rw [View.canon_unit_zero h2, View.ld_unit_zero h2, View.ld_unit_zero h3, View.ld_unit_zero h2, View.ld_unit_zero h3]

/-- The blocks of every point. -/
theorem idx : ∀ t : Fin grid0.N, cc0_transform_0 (grid0.coords t) = ![t.val / 4, 0] ∧ cc0_transform_1 (grid0.coords t) = ![t.val / 4, 0] ∧ cc0_transform_2 (grid0.coords t) = ![0, 0, t.val % 4] ∧ cc0_transform_3 (grid0.coords t) = ![0, 1, t.val % 4] ∧ cc0_transform_4 (grid0.coords t) = ![t.val / 4, t.val % 4] := by
  decide +kernel

theorem lt_N (t : Fin cfg0.N) : t.val < 36 := t.isLt.trans_eq (by decide +kernel : grid0.N = 36)

theorem covers : (cfg0.win 4).Covers := by
  refine ⟨fun a => by fin_cases a; exact (by decide : 0 < 1024); exact (by decide : 0 < 512), fun β => ?_⟩
  have e0 : (cfg0.win 4).nblk (0 : Fin 2) = (9216 + 1024 - 1) / 1024 := rfl
  have e1 : (cfg0.win 4).nblk (1 : Fin 2) = (2048 + 512 - 1) / 512 := rfl
  have hβ : (β (0 : Fin 2)).val < 9 := lt_of_lt_of_eq (β (0 : Fin 2)).isLt e0
  have hγ : (β (1 : Fin 2)).val < 4 := lt_of_lt_of_eq (β (1 : Fin 2)).isLt e1
  have hN : cfg0.grid.N = 36 := (by decide +kernel : grid0.N = 36)
  refine ⟨⟨4 * (β (0 : Fin 2)).val + (β (1 : Fin 2)).val, lt_of_lt_of_eq (by omega : _ < 36) hN.symm⟩, flush0_4 _, fun a => ?_⟩
  have e := (idx (⟨4 * (β (0 : Fin 2)).val + (β (1 : Fin 2)).val, by rw [show grid0.N = 36 from by decide +kernel]; omega⟩ : Fin grid0.N)).2.2.2.2
  fin_cases a
  · refine ⟨(congrFun e (0 : Fin 2)).trans ?_, Or.inl ?_⟩
    · show (4 * (β (0 : Fin 2)).val + (β (1 : Fin 2)).val) / 4 = (β (0 : Fin 2)).val
      omega
    · rfl
  · refine ⟨(congrFun e (1 : Fin 2)).trans ?_, Or.inl ?_⟩
    · show (4 * (β (0 : Fin 2)).val + (β (1 : Fin 2)).val) % 4 = (β (1 : Fin 2)).val
      omega
    · rfl

variable (m : (ℓ : Loc nD τ sig) → Buf (Elt Ideal) ℓ) (c : Dev nD)

theorem rows0 (t : Fin cfg0.N) (h : t.val < 36) (r : Fin 1024) (k : Fin 1024) :
    iblk m c 0 t (ix2 r k) = (m ((c : Thread nD τ).loc main_arg0) : FVec Ideal S9216x1024 .f32) (ix2 ⟨t.val / 4 * 1024 + r.val, by omega⟩ k) := by
  have e0 : (cfg0.win 0).index t 0 = t.val / 4 := congrFun (idx t).1 0
  have e1 : (cfg0.win 0).index t 1 = 0 := congrFun (idx t).1 1
  show _ = m ((c : Thread nD τ).loc main_arg0) (ix2 _ _)
  blk_ext [iblk, V]
  · exact congrArg (fun z => z * 1024 + r.val) e0
  · exact (congrArg (fun z => z * 1024 + k.val) e1).trans (by first | omega | (dsimp only; omega))
theorem rows1 (t : Fin cfg0.N) (h : t.val < 36) (r : Fin 1024) (k : Fin 1024) :
    iblk m c 1 t (ix2 r k) = (m ((c : Thread nD τ).loc main_arg1) : FVec Ideal S9216x1024 .f32) (ix2 ⟨t.val / 4 * 1024 + r.val, by omega⟩ k) := by
  have e0 : (cfg0.win 1).index t 0 = t.val / 4 := congrFun (idx t).2.1 0
  have e1 : (cfg0.win 1).index t 1 = 0 := congrFun (idx t).2.1 1
  show _ = m ((c : Thread nD τ).loc main_arg1) (ix2 _ _)
  blk_ext [iblk, V]
  · exact congrArg (fun z => z * 1024 + r.val) e0
  · exact (congrArg (fun z => z * 1024 + k.val) e1).trans (by first | omega | (dsimp only; omega))
theorem cols0 (t : Fin cfg0.N) (h : t.val < 36) (k : Fin 1024) (p : Fin 512) :
    iblk m c 2 t (ix3 0 k p) = (m ((c : Thread nD τ).loc main_arg2) : FVec Ideal S2x2048x2048 .f32) (ix3 0 ⟨k.val, by omega⟩ ⟨t.val % 4 * 512 + p.val, by omega⟩) := by
  have e1 : (cfg0.win 2).index t 1 = 0 := congrFun (idx t).2.2.1 1
  have e2 : (cfg0.win 2).index t 2 = t.val % 4 := congrFun (idx t).2.2.1 2
  show _ = m ((c : Thread nD τ).loc main_arg2) (ix3 _ _ _)
  blk_ext [iblk, V]
  · exact (congrFun (idx t).2.2.1 0 : (cfg0.win 2).index t 0 = 0)
  · exact (congrArg (fun z => z * 1024 + k.val) e1).trans (by first | omega | (dsimp only; omega))
  · exact congrArg (fun z => z * 512 + p.val) e2
theorem cols1 (t : Fin cfg0.N) (h : t.val < 36) (k : Fin 1024) (p : Fin 512) :
    iblk m c 3 t (ix3 0 k p) = (m ((c : Thread nD τ).loc main_arg2) : FVec Ideal S2x2048x2048 .f32) (ix3 0 ⟨1024 + k.val, by omega⟩ ⟨t.val % 4 * 512 + p.val, by omega⟩) := by
  have e1 : (cfg0.win 3).index t 1 = 1 := congrFun (idx t).2.2.2.1 1
  have e2 : (cfg0.win 3).index t 2 = t.val % 4 := congrFun (idx t).2.2.2.1 2
  show _ = m ((c : Thread nD τ).loc main_arg2) (ix3 _ _ _)
  blk_ext [iblk, V]
  · exact (congrFun (idx t).2.2.2.1 0 : (cfg0.win 3).index t 0 = 0)
  · exact (congrArg (fun z => z * 1024 + k.val) e1).trans (by first | omega | (dsimp only; omega))
  · exact congrArg (fun z => z * 512 + p.val) e2

/-- The launch leaves its reference's product. -/
theorem arr : (dats (F := Ideal) m 0 c).arrAt 4 cfg0.N = Cert.MixRefIdeal.Read.val_main_v3 (F := Ideal) (m ((c : Thread nD τ).loc main_arg0)) (m ((c : Thread nD τ).loc main_arg1)) (m ((c : Thread nD τ).loc main_arg2)) := by
  refine (dats (F := Ideal) m 0 c).arrAt_eq_of_covers 4 _ covers fun t hf yy => ?_
  obtain ⟨y, hyy⟩ : ∃ y : S1024x512.Idx, y = yy := ⟨yy, rfl⟩
  have ht : t.val < 36 := lt_N t
  have e := (idx t).2.2.2.2
  have y0 : (y 0).val < 1024 := (y 0).isLt
  have y1 : (y 1).val < 512 := (y 1).isLt
  have hy : y = (ix2 ⟨(y 0).val, y0⟩ ⟨(y 1).val, y1⟩ : S1024x512.Idx) := by
    funext q
    fin_cases q <;> rfl
  have hA := ref_at (m ((c : Thread nD τ).loc main_arg0)) (m ((c : Thread nD τ).loc main_arg1)) (m ((c : Thread nD τ).loc main_arg2)) (((cfg0.win 4).blk t).view.emb yy) ⟨t.val / 4 * 1024 + (y 0).val, by omega⟩ ⟨t.val % 4 * 512 + (y 1).val, by omega⟩
    (by
      have e0 : (cfg0.win 4).index t 0 = t.val / 4 := congrFun e 0
      rw [← hyy]
      blk_simp
      exact congrArg (fun z => z * 1024 + (y 0).val) e0)
    (by
      have e1 : (cfg0.win 4).index t 1 = t.val % 4 := congrFun e 1
      rw [← hyy]
      blk_simp
      exact congrArg (fun z => z * 512 + (y 1).val) e1)
  refine Eq.trans ?_ hA.symm
  refine (congrFun (after0_4 m c t) _).trans ?_
  refine (congrFun (out (iblk m c 0 t) (iblk m c 1 t) (iblk m c 2 t) (iblk m c 3 t)) _).trans ?_
  refine (congrArg (k0_pay1 (F := Ideal) (iblk m c 0 t) (iblk m c 2 t) (iblk m c 1 t) (iblk m c 3 t)) (hyy.symm.trans hy)).trans ?_
  refine (pay1_at _ _ _ _ _ _).trans (congrArg₂ (· + ·) (Finset.sum_congr rfl fun k _ => ?_) (Finset.sum_congr rfl fun k _ => ?_))
  · exact congrArg₂ (· * ·) (rows0 m c t ht ⟨(y 0).val, y0⟩ k) (cols0 m c t ht k ⟨(y 1).val, y1⟩)
  · exact congrArg₂ (· * ·) (rows1 m c t ht ⟨(y 0).val, y0⟩ k) (cols1 m c t ht k ⟨(y 1).val, y1⟩)

end Cert.MixI

end
-- ==== Proof.GmRun.lean ====
/- Where the chunk MLP's run ends: every array of the run, at what the two launches and the host's steps leave in it. -/
module

public import proofs.«01_k».proof.Proof.Gen.GmIdeal.Frame

@[expose] public section

noncomputable section

namespace Cert.GmI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.GmIdeal Cert.GmIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run ends, with every array of the run at its last contents. -/
theorem run_end : θ_run defs (onTc (τ := τ) (main (F := F))) ⟨m, fun _ => 0, ρ⟩ (fun r => ∀ c : Dev nD, ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => h)

end Cert.GmI

end
-- ==== Proof.GmArr.lean ====
/- The second array that the chunk MLP's two launches leave: each head's columns of a row, through the activation and normalised. -/
module

public import proofs.«01_k».proof.Proof.GmRun
public import Idealize.ShloMosaic.Lib.Pipeline.ValueKit
public import Idealize.ShloMosaic.Lib.Pointwise

@[expose] public section

set_option maxRecDepth 16384

noncomputable section

namespace Cert.GmI

open Idealize.ShloMosaic Idealize.ShloMosaic.TcCoe Idealize.ShloMosaic.Tactic
open Idealize.SL.Sem
open Cert.GmIdeal Cert.GmIdeal.Gen

/-- The activation. -/
def gel (x : EReal) : EReal :=
  x * (Ideal.ofBits .f32 0x3F000000#32 * (Ideal.ofBits .f32 0x3F800000#32 + Ideal.tanh (Ideal.ofBits .f32 0x3F4C422A#32 * (x + Ideal.ofBits .f32 0x3D372713#32 * (x * (x * x))))))
/-- The mean of a head's columns. -/
def mean (f : Fin 128 → EReal) : EReal := Ideal.div (∑ k, f k) (Ideal.ofBits .f32 0x43000000#32)
/-- A column of a head, normalised, scaled and shifted. -/
def lnorm (f : Fin 128 → EReal) (e : Fin 128) (g b : EReal) : EReal :=
  (f e - mean f) * Ideal.rsqrt (mean (fun k => (f k - mean f) * (f k - mean f)) + Ideal.ofBits .f32 0x358637BD#32) * g + b

/-- A head's block, from its columns, gains and shifts. -/
def head (v : Vec Ideal S128x128 .f32) (g b : Vec Ideal S1x1x128 .f32) : Vec Ideal S128x128 .f32 :=
  k0_pay11 (F := Ideal) (k0_pay9 (F := Ideal) v) (k0_pay10 (F := Ideal) v) g b

theorem gel_at (v : Vec Ideal S128x128 .f32) (r k : Fin 128) : k0_pay7 (F := Ideal) v (ix2 r k) = gel (v (ix2 r k)) := by
  unfold gel
  pointwise [k0_pay7]
theorem mean_at (v : Vec Ideal S128x128 .f32) (r : Fin 128) : k0_pay8 (F := Ideal) v (ix2 r 0) = mean (fun k => gel (v (ix2 r k))) := by
  unfold mean
  simp only [← gel_at]
  pointwise [k0_pay8]
theorem var_at (v : Vec Ideal S128x128 .f32) (r : Fin 128) : k0_pay9 (F := Ideal) v (ix2 r 0) = mean (fun k => (gel (v (ix2 r k)) - mean (fun k => gel (v (ix2 r k)))) * (gel (v (ix2 r k)) - mean (fun k => gel (v (ix2 r k))))) := by
  rw [← mean_at]
  unfold mean
  simp only [← gel_at]
  pointwise [k0_pay9]
theorem head_at (v : Vec Ideal S128x128 .f32) (g b : Vec Ideal S1x1x128 .f32) (r e : Fin 128) :
    head v g b (ix2 r e) = lnorm (fun k => gel (v (ix2 r k))) e (g (ix3 0 0 e)) (b (ix3 0 0 e)) := by
  unfold lnorm head
  rw [← var_at, ← mean_at]
  dsimp only
  rw [← gel_at]
  pointwise [k0_pay11, k0_pay10]

/-- The eight heads' stores. -/
abbrev heads (x1 : Vec Ideal S128x1024 .f32) (x4 x5 : Vec Ideal S1x1x1024 .f32) : List (View.Piece (Elt Ideal) S128x1024 .f32) :=
  [⟨r0_28, head (View.ld x1 r0_28) (View.ld x4 r0_29) (View.ld x5 r0_29)⟩,
    ⟨r0_24, head (View.ld x1 r0_24) (View.ld x4 r0_25) (View.ld x5 r0_25)⟩,
    ⟨r0_20, head (View.ld x1 r0_20) (View.ld x4 r0_21) (View.ld x5 r0_21)⟩,
    ⟨r0_16, head (View.ld x1 r0_16) (View.ld x4 r0_17) (View.ld x5 r0_17)⟩,
    ⟨r0_12, head (View.ld x1 r0_12) (View.ld x4 r0_13) (View.ld x5 r0_13)⟩,
    ⟨r0_8, head (View.ld x1 r0_8) (View.ld x4 r0_9) (View.ld x5 r0_9)⟩,
    ⟨r0_4, head (View.ld x1 r0_4) (View.ld x4 r0_5) (View.ld x5 r0_5)⟩,
    ⟨r0_0, head (View.ld x1 r0_0) (View.ld x4 r0_1) (View.ld x5 r0_1)⟩]

theorem out0 (i : grid0.Coords) (x0 x1 : Vec Ideal S128x1024 .f32) (x2 : Vec Ideal S1x8x128x128 .f32) (x3 : Vec Ideal S1x128x8 .f32) (x4 x5 : Vec Ideal S1x1x1024 .f32) :
    out0_7 (F := Ideal) i x0 x1 x2 x3 x4 x5 = View.canon (heads x1 x4 x5) := by
  unfold_out out0_7
  rfl
theorem out1 (i : grid1.Coords) (x0 x1 : Vec Ideal S128x1024 .f32) (x2 : Vec Ideal S1x8x128x128 .f32) (x3 : Vec Ideal S1x128x8 .f32) (x4 x5 : Vec Ideal S1x1x1024 .f32) :
    out1_7 (F := Ideal) i x0 x1 x2 x3 x4 x5 = View.canon (heads x1 x4 x5) := by
  unfold_out out1_7
  rfl

/-- What the eight stores leave at a place of the block. -/
def at_ (x1 : Vec Ideal S128x1024 .f32) (x4 x5 : Vec Ideal S1x1x1024 .f32) (r : Fin 128) (q : Fin 1024) : EReal :=
  lnorm (fun k => gel (x1 (ix2 r ⟨q.val / 128 * 128 + k.val, by omega⟩))) ⟨q.val % 128, by omega⟩ (x4 (ix3 0 0 q)) (x5 (ix3 0 0 q))

theorem tile_at (x1 : Vec Ideal S128x1024 .f32) (x4 x5 : Vec Ideal S1x1x1024 .f32) (r : Fin 128) (q : Fin 1024) (o g : ℕ) (ho : o = g * 128) (i1) (i2) :
    View.TileAt (Val := Elt Ideal) (S := S128x1024) (e := .f32) (ix2 r q) ![0, o] S128x128.size
      (head (View.ld x1 (Rect.unit (s := S128x1024) ![0, o] S128x128.size i1)) (View.ld x4 (Rect.unit (s := S1x1x1024) ![0, 0, o] S1x1x128.size i2)) (View.ld x5 (Rect.unit (s := S1x1x1024) ![0, 0, o] S1x1x128.size i2)))
      (at_ x1 x4 x5 r q) := by
  intro x hx
  have h0 : r.val = 0 + (x 0).val := hx 0
  have h1 : q.val = o + (x 1).val := hx 1
  have b1 : (x 1).val < 128 := (x 1).isLt
  have hX : x = (ix2 r ⟨q.val % 128, by omega⟩ : S128x128.Idx) := by
    funext a
    fin_cases a
    · exact Fin.ext (by show (x 0).val = r.val; omega)
    · exact Fin.ext (by show (x 1).val = q.val % 128; omega)
  have e : o = q.val / 128 * 128 := by omega
  have h2 : q.val = o + q.val % 128 := by omega
  rw [hX]
  refine (head_at _ _ _ _ _).trans ?_
  unfold at_
  have ev : ∀ k : Fin 128, View.ld x1 (Rect.unit (s := S128x1024) ![0, o] S128x128.size i1) (ix2 r k) = x1 (ix2 r ⟨q.val / 128 * 128 + k.val, by omega⟩) := fun k =>
    View.ld_unit_apply_of _ _ _ _ _ _ (fun a => by
      fin_cases a
      · exact (Nat.zero_add _).symm
      · exact congrArg (· + k.val) e.symm)
  have eg : ∀ w : Vec Ideal S1x1x1024 .f32, View.ld w (Rect.unit (s := S1x1x1024) ![0, 0, o] S1x1x128.size i2) (ix3 0 0 ⟨q.val % 128, by omega⟩) = w (ix3 0 0 q) := fun w =>
    View.ld_unit_apply_of _ _ _ _ _ _ (fun a => by
      fin_cases a
      · rfl
      · rfl
      · exact h2)
  rw [eg x4, eg x5]
  simp only [ev]

theorem canon_at (x1 : Vec Ideal S128x1024 .f32) (x4 x5 : Vec Ideal S1x1x1024 .f32) (r : Fin 128) (q : Fin 1024) :
    View.canon (heads x1 x4 x5) (ix2 r q) = at_ x1 x4 x5 r q := by
  refine View.canon_eq_of_allAt _ _ _ (cover0_7 _ _ _ _ _ _ _ _ _) ?_
  refine View.allAt_cons_unit _ _ _ _ _ (tile_at x1 x4 x5 r q 896 7 rfl _ _) ?_
  refine View.allAt_cons_unit _ _ _ _ _ (tile_at x1 x4 x5 r q 768 6 rfl _ _) ?_
  refine View.allAt_cons_unit _ _ _ _ _ (tile_at x1 x4 x5 r q 640 5 rfl _ _) ?_
  refine View.allAt_cons_unit _ _ _ _ _ (tile_at x1 x4 x5 r q 512 4 rfl _ _) ?_
  refine View.allAt_cons_unit _ _ _ _ _ (tile_at x1 x4 x5 r q 384 3 rfl _ _) ?_
  refine View.allAt_cons_unit _ _ _ _ _ (tile_at x1 x4 x5 r q 256 2 rfl _ _) ?_
  refine View.allAt_cons_unit _ _ _ _ _ (tile_at x1 x4 x5 r q 128 1 rfl _ _) ?_
  refine View.allAt_cons_unit _ _ _ _ _ (tile_at x1 x4 x5 r q 0 0 rfl _ _) (View.allAt_nil _ _)

/-- The normalised array of a layer, from the layer's projected array. -/
def gArr (l : Fin 2) (z : Vec Ideal ⟨2, ![9216, 5120]⟩ .f32) (g b : Vec Ideal ⟨3, ![2, 1, 1024]⟩ .f32) (r : Fin 9216) (q : Fin 1024) : EReal :=
  lnorm (fun k => gel (z (ix2 r ⟨4096 + (q.val / 128 * 128 + k.val), by omega⟩))) ⟨q.val % 128, by omega⟩ (g (ix3 l 0 q)) (b (ix3 l 0 q))

/-- The blocks of every point. -/
theorem idx0 : ∀ t : Fin grid0.N, cc0_transform_1 (grid0.coords t) = ![t.val, 4] ∧ cc0_transform_4 (grid0.coords t) = ![0, 0, 0] ∧ cc0_transform_5 (grid0.coords t) = ![0, 0, 0] ∧ cc0_transform_7 (grid0.coords t) = ![t.val, 0] := by
  decide +kernel

theorem lt_N0 (t : Fin cfg0.N) : t.val < 72 := t.isLt.trans_eq (by decide +kernel : grid0.N = 72)

theorem covers0 : (cfg0.win 7).Covers := by
  refine ⟨fun a => by fin_cases a; exact (by decide : 0 < 128); exact (by decide : 0 < 1024), fun β => ?_⟩
  have e0 : (cfg0.win 7).nblk (0 : Fin 2) = (9216 + 128 - 1) / 128 := rfl
  have e1 : (cfg0.win 7).nblk (1 : Fin 2) = (1024 + 1024 - 1) / 1024 := rfl
  have hβ : (β (0 : Fin 2)).val < 72 := lt_of_lt_of_eq (β (0 : Fin 2)).isLt e0
  have hγ : (β (1 : Fin 2)).val < 1 := lt_of_lt_of_eq (β (1 : Fin 2)).isLt e1
  have hN : cfg0.grid.N = 72 := (by decide +kernel : grid0.N = 72)
  refine ⟨⟨(β (0 : Fin 2)).val, lt_of_lt_of_eq hβ hN.symm⟩, flush0_7 _, fun a => ?_⟩
  have e := (idx0 (⟨(β (0 : Fin 2)).val, by rw [show grid0.N = 72 from by decide +kernel]; omega⟩ : Fin grid0.N)).2.2.2
  fin_cases a
  · exact ⟨congrFun e (0 : Fin 2), Or.inl rfl⟩
  · refine ⟨(congrFun e (1 : Fin 2)).trans ?_, Or.inl rfl⟩
    show 0 = (β (1 : Fin 2)).val
    omega

section
variable (V : (c : Dev nD) → (b : Ref sig .tc) → Buf (Elt Ideal) ((c : Thread nD τ).loc b)) (c : Dev nD)

theorem rows0 (t : Fin cfg0.N) (h : t.val < 72) (r : Fin 128) (q : Fin 1024) :
    iblk0 V c 1 t (ix2 r q) = (V c main_arg0 : Vec Ideal S9216x5120 .f32) (ix2 ⟨t.val * 128 + r.val, by omega⟩ ⟨4096 + q.val, by omega⟩) := by
  have e0 : (cfg0.win 1).index t 0 = t.val := congrFun (idx0 t).1 0
  have e1 : (cfg0.win 1).index t 1 = 4 := congrFun (idx0 t).1 1
  blk_ext [iblk0]
  · exact congrArg (fun z => z * 128 + r.val) e0
  · exact (congrArg (fun z => z * 1024 + q.val) e1).trans (by first | omega | (dsimp only; omega))
theorem gains0 (t : Fin cfg0.N) (q : Fin 1024) :
    iblk0 V c 4 t (ix3 0 0 q) = (V c main_v0 : Vec Ideal S2x1x1024 .f32) (ix3 0 0 q) := by
  have e0 : (cfg0.win 4).index t 0 = 0 := congrFun (idx0 t).2.1 0
  have e1 : (cfg0.win 4).index t 1 = 0 := congrFun (idx0 t).2.1 1
  have e2 : (cfg0.win 4).index t 2 = 0 := congrFun (idx0 t).2.1 2
  blk_ext [iblk0]
  · exact (congrArg (fun z => z * 1024 + q.val) e2).trans (by first | omega | (dsimp only; omega))
theorem shifts0 (t : Fin cfg0.N) (q : Fin 1024) :
    iblk0 V c 5 t (ix3 0 0 q) = (V c main_v1 : Vec Ideal S2x1x1024 .f32) (ix3 0 0 q) := by
  have e0 : (cfg0.win 5).index t 0 = 0 := congrFun (idx0 t).2.2.1 0
  have e1 : (cfg0.win 5).index t 1 = 0 := congrFun (idx0 t).2.2.1 1
  have e2 : (cfg0.win 5).index t 2 = 0 := congrFun (idx0 t).2.2.1 2
  blk_ext [iblk0]
  · exact (congrArg (fun z => z * 1024 + q.val) e2).trans (by first | omega | (dsimp only; omega))

/-- What the launch leaves in its second array. -/
theorem arr0 : (dat0 (F := Ideal) V c).arrAt 7 cfg0.N = fun i : S9216x1024.Idx => gArr 0 (V c main_arg0) (V c main_v0) (V c main_v1) (i 0) (i 1) := by
  refine (dat0 (F := Ideal) V c).arrAt_eq_of_covers 7 _ covers0 fun t hf yy => ?_
  obtain ⟨y, hyy⟩ : ∃ y : S128x1024.Idx, y = yy := ⟨yy, rfl⟩
  have ht : t.val < 72 := lt_N0 t
  have e := (idx0 t).2.2.2
  have y0 : (y 0).val < 128 := (y 0).isLt
  have y1 : (y 1).val < 1024 := (y 1).isLt
  have hy : y = (ix2 ⟨(y 0).val, y0⟩ ⟨(y 1).val, y1⟩ : S128x1024.Idx) := by
    funext q
    fin_cases q <;> rfl
  have h0 : (((cfg0.win 7).blk t).view.emb yy : S9216x1024.Idx) 0 = (⟨t.val * 128 + (y 0).val, by omega⟩ : Fin 9216) := Fin.ext (by
    have e0 : (cfg0.win 7).index t 0 = t.val := congrFun e 0
    rw [← hyy]
    blk_simp
    exact congrArg (fun z => z * 128 + (y 0).val) e0)
  have h1 : (((cfg0.win 7).blk t).view.emb yy : S9216x1024.Idx) 1 = (⟨(y 1).val, y1⟩ : Fin 1024) := Fin.ext (by
    have e1 : (cfg0.win 7).index t 1 = 0 := congrFun e 1
    rw [← hyy]
    blk_simp
    exact (congrArg (fun z => z * 1024 + (y 1).val) e1).trans (by first | omega | (dsimp only; omega)))
  refine Eq.trans ?_ (congrArg₂ (gArr 0 (V c main_arg0) (V c main_v0) (V c main_v1)) h0 h1).symm
  refine (congrFun (after0_7 V c t) _).trans ?_
  refine (congrFun (out0 _ _ _ _ _ _ _) _).trans ?_
  refine (congrArg (View.canon (heads (iblk0 V c 1 t) (iblk0 V c 4 t) (iblk0 V c 5 t))) (hyy.symm.trans hy)).trans ?_
  refine (canon_at _ _ _ _ _).trans ?_
  unfold at_ gArr
  rw [gains0, shifts0]
  simp only [rows0 V c t ht]
end

/-- The blocks of every point. -/
theorem idx1 : ∀ t : Fin grid1.N, cc1_transform_1 (grid1.coords t) = ![t.val, 4] ∧ cc1_transform_4 (grid1.coords t) = ![1, 0, 0] ∧ cc1_transform_5 (grid1.coords t) = ![1, 0, 0] ∧ cc1_transform_7 (grid1.coords t) = ![t.val, 0] := by
  decide +kernel

theorem lt_N1 (t : Fin cfg1.N) : t.val < 72 := t.isLt.trans_eq (by decide +kernel : grid1.N = 72)

theorem covers1 : (cfg1.win 7).Covers := by
  refine ⟨fun a => by fin_cases a; exact (by decide : 0 < 128); exact (by decide : 0 < 1024), fun β => ?_⟩
  have e0 : (cfg1.win 7).nblk (0 : Fin 2) = (9216 + 128 - 1) / 128 := rfl
  have e1 : (cfg1.win 7).nblk (1 : Fin 2) = (1024 + 1024 - 1) / 1024 := rfl
  have hβ : (β (0 : Fin 2)).val < 72 := lt_of_lt_of_eq (β (0 : Fin 2)).isLt e0
  have hγ : (β (1 : Fin 2)).val < 1 := lt_of_lt_of_eq (β (1 : Fin 2)).isLt e1
  have hN : cfg1.grid.N = 72 := (by decide +kernel : grid1.N = 72)
  refine ⟨⟨(β (0 : Fin 2)).val, lt_of_lt_of_eq hβ hN.symm⟩, flush1_7 _, fun a => ?_⟩
  have e := (idx1 (⟨(β (0 : Fin 2)).val, by rw [show grid1.N = 72 from by decide +kernel]; omega⟩ : Fin grid1.N)).2.2.2
  fin_cases a
  · exact ⟨congrFun e (0 : Fin 2), Or.inl rfl⟩
  · refine ⟨(congrFun e (1 : Fin 2)).trans ?_, Or.inl rfl⟩
    show 0 = (β (1 : Fin 2)).val
    omega

section
variable (V : (c : Dev nD) → (b : Ref sig .tc) → Buf (Elt Ideal) ((c : Thread nD τ).loc b)) (c : Dev nD)

theorem rows1 (t : Fin cfg1.N) (h : t.val < 72) (r : Fin 128) (q : Fin 1024) :
    iblk1 V c 1 t (ix2 r q) = (V c main_arg1 : Vec Ideal S9216x5120 .f32) (ix2 ⟨t.val * 128 + r.val, by omega⟩ ⟨4096 + q.val, by omega⟩) := by
  have e0 : (cfg1.win 1).index t 0 = t.val := congrFun (idx1 t).1 0
  have e1 : (cfg1.win 1).index t 1 = 4 := congrFun (idx1 t).1 1
  blk_ext [iblk1]
  · exact congrArg (fun z => z * 128 + r.val) e0
  · exact (congrArg (fun z => z * 1024 + q.val) e1).trans (by first | omega | (dsimp only; omega))
theorem gains1 (t : Fin cfg1.N) (q : Fin 1024) :
    iblk1 V c 4 t (ix3 0 0 q) = (V c main_v0 : Vec Ideal S2x1x1024 .f32) (ix3 1 0 q) := by
  have e0 : (cfg1.win 4).index t 0 = 1 := congrFun (idx1 t).2.1 0
  have e1 : (cfg1.win 4).index t 1 = 0 := congrFun (idx1 t).2.1 1
  have e2 : (cfg1.win 4).index t 2 = 0 := congrFun (idx1 t).2.1 2
  blk_ext [iblk1]
  · exact (congrArg (fun z => z * 1024 + q.val) e2).trans (by first | omega | (dsimp only; omega))
theorem shifts1 (t : Fin cfg1.N) (q : Fin 1024) :
    iblk1 V c 5 t (ix3 0 0 q) = (V c main_v1 : Vec Ideal S2x1x1024 .f32) (ix3 1 0 q) := by
  have e0 : (cfg1.win 5).index t 0 = 1 := congrFun (idx1 t).2.2.1 0
  have e1 : (cfg1.win 5).index t 1 = 0 := congrFun (idx1 t).2.2.1 1
  have e2 : (cfg1.win 5).index t 2 = 0 := congrFun (idx1 t).2.2.1 2
  blk_ext [iblk1]
  · exact (congrArg (fun z => z * 1024 + q.val) e2).trans (by first | omega | (dsimp only; omega))

/-- What the launch leaves in its second array. -/
theorem arr1 : (dat1 (F := Ideal) V c).arrAt 7 cfg1.N = fun i : S9216x1024.Idx => gArr 1 (V c main_arg1) (V c main_v0) (V c main_v1) (i 0) (i 1) := by
  refine (dat1 (F := Ideal) V c).arrAt_eq_of_covers 7 _ covers1 fun t hf yy => ?_
  obtain ⟨y, hyy⟩ : ∃ y : S128x1024.Idx, y = yy := ⟨yy, rfl⟩
  have ht : t.val < 72 := lt_N1 t
  have e := (idx1 t).2.2.2
  have y0 : (y 0).val < 128 := (y 0).isLt
  have y1 : (y 1).val < 1024 := (y 1).isLt
  have hy : y = (ix2 ⟨(y 0).val, y0⟩ ⟨(y 1).val, y1⟩ : S128x1024.Idx) := by
    funext q
    fin_cases q <;> rfl
  have h0 : (((cfg1.win 7).blk t).view.emb yy : S9216x1024.Idx) 0 = (⟨t.val * 128 + (y 0).val, by omega⟩ : Fin 9216) := Fin.ext (by
    have e0 : (cfg1.win 7).index t 0 = t.val := congrFun e 0
    rw [← hyy]
    blk_simp
    exact congrArg (fun z => z * 128 + (y 0).val) e0)
  have h1 : (((cfg1.win 7).blk t).view.emb yy : S9216x1024.Idx) 1 = (⟨(y 1).val, y1⟩ : Fin 1024) := Fin.ext (by
    have e1 : (cfg1.win 7).index t 1 = 0 := congrFun e 1
    rw [← hyy]
    blk_simp
    exact (congrArg (fun z => z * 1024 + (y 1).val) e1).trans (by first | omega | (dsimp only; omega)))
  refine Eq.trans ?_ (congrArg₂ (gArr 1 (V c main_arg1) (V c main_v0) (V c main_v1)) h0 h1).symm
  refine (congrFun (after1_7 V c t) _).trans ?_
  refine (congrFun (out1 _ _ _ _ _ _ _) _).trans ?_
  refine (congrArg (View.canon (heads (iblk1 V c 1 t) (iblk1 V c 4 t) (iblk1 V c 5 t))) (hyy.symm.trans hy)).trans ?_
  refine (canon_at _ _ _ _ _).trans ?_
  unfold at_ gArr
  rw [gains1, shifts1]
  simp only [rows1 V c t ht]
end

end Cert.GmI

end
-- ==== Proof.GmEnd.lean ====
/- The chunk MLP's result: the samples' normalised columns of both layers are the reference's. -/
module

public import proofs.«01_k».proof.Proof.GmArr
public import proofs.«01_k».proof.Proof.Gen.GmRefIdeal.Read
public import Idealize.ShloMosaic.Lib.StableHlo.Run

@[expose] public section

set_option maxRecDepth 16384

noncomputable section

namespace Cert.GmI

open Idealize.ShloMosaic Idealize.ShloMosaic.TcCoe Idealize.ShloMosaic.Tactic
open Idealize.SL.Sem

/-- A sample's normalised entry of a layer, from the layer's projected array, gains and shifts. -/
def cell (l : Fin 2) (z : Vec Ideal ⟨2, ![9216, 5120]⟩ .f32) (g b : Vec Ideal ⟨3, ![2, 8, 128]⟩ .f32) (s : Fin 128) (t h : Fin 8) (e : Fin 128) : EReal :=
  lnorm (fun k => gel (z (ix2 ⟨8192 + (s.val * 8 + t.val), by omega⟩ ⟨4096 + (h.val * 128 + k.val), by omega⟩))) e (g (ix3 l h e)) (b (ix3 l h e))

section
open Cert.GmRefIdeal Cert.GmRefIdeal.Gen Cert.GmRefIdeal.Read

theorem cut0 (z : Vec Ideal S9216x5120 .f32) (s : Fin 128) (t h : Fin 8) (k : Fin 128) :
    val_main_v1 (F := Ideal) z (ix4 s t h k) = z (ix2 ⟨8192 + (s.val * 8 + t.val), by omega⟩ ⟨4096 + (h.val * 128 + k.val), by omega⟩) := by
  rw [val_main_v1_apply, val_main_v0_apply]
  refine congrArg z (funext fun q => ?_)
  fin_cases q
  · refine Fin.ext ?_
    show 8192 + (((s.val * 8 + t.val) * 8 + h.val) * 128 + k.val) / 1024 = 8192 + (s.val * 8 + t.val)
    omega
  · refine Fin.ext ?_
    show 4096 + (((s.val * 8 + t.val) * 8 + h.val) * 128 + k.val) % 1024 = 4096 + (h.val * 128 + k.val)
    omega
theorem act0 (z : Vec Ideal S9216x5120 .f32) (i : S128x8x8x128.Idx) : val_main_v14 (F := Ideal) z i = gel (val_main_v1 (F := Ideal) z i) := by
  have e : val_main_v3 (F := Ideal) z i = val_main_v1 (F := Ideal) z i * (val_main_v1 (F := Ideal) z i * val_main_v1 (F := Ideal) z i) := mul_comm _ _
  rw [val_main_v14_apply, val_main_v13_apply, val_main_v11_apply, val_main_v9_apply, val_main_v8_apply, val_main_v6_apply, val_main_v5_apply, e]
  rfl
theorem mean0 (z : Vec Ideal S9216x5120 .f32) (s : Fin 128) (t h : Fin 8) (i : S128x8x8x1.Idx) (h0 : (i 0).val = s.val) (h1 : (i 1).val = t.val) (h2 : (i 2).val = h.val) :
    val_main_v22 (F := Ideal) z i = mean (fun k => gel (val_main_v1 (F := Ideal) z (ix4 s t h k))) := by
  rw [val_main_v22_apply, val_main_v20_apply, val_main_v19_apply, val_main_v21_apply]
  unfold mean
  refine congrArg₂ Ideal.div ?_ rfl
  refine Eq.trans (congrArg (· + _) Ideal.ofBits_zero_f32) ((zero_add _).trans (Finset.sum_congr rfl fun k _ => ?_))
  rw [act0]
  refine congrArg gel (congrArg (val_main_v1 (F := Ideal) z) (funext fun q => ?_))
  fin_cases q
  · exact Fin.ext h0
  · exact Fin.ext h1
  · exact Fin.ext h2
  · rfl
theorem var0 (z : Vec Ideal S9216x5120 .f32) (s : Fin 128) (t h : Fin 8) (i : S128x8x8x1.Idx) (h0 : (i 0).val = s.val) (h1 : (i 1).val = t.val) (h2 : (i 2).val = h.val) :
    val_main_v31 (F := Ideal) z i = mean (fun k => (gel (val_main_v1 (F := Ideal) z (ix4 s t h k)) - mean (fun k => gel (val_main_v1 (F := Ideal) z (ix4 s t h k)))) * (gel (val_main_v1 (F := Ideal) z (ix4 s t h k)) - mean (fun k => gel (val_main_v1 (F := Ideal) z (ix4 s t h k))))) := by
  rw [val_main_v31_apply, val_main_v29_apply, val_main_v28_apply, val_main_v30_apply]
  conv_rhs => unfold mean
  refine congrArg₂ Ideal.div ?_ rfl
  refine Eq.trans (congrArg (· + _) Ideal.ofBits_zero_f32) ((zero_add _).trans (Finset.sum_congr rfl fun k _ => ?_))
  have ei : idx_main_v28 (idx_main_v29 i) k = (ix4 s t h k : S128x8x8x128.Idx) := by
    funext q
    fin_cases q
    · exact Fin.ext h0
    · exact Fin.ext h1
    · exact Fin.ext h2
    · rfl
  rw [ei, val_main_v27_apply, val_main_v24_apply, val_main_v26_apply, val_main_v23_apply, val_main_v25_apply, act0, mean0 z s t h (idx_main_v23 (ix4 s t h k)) rfl rfl rfl]
  rfl
theorem gain0 (g : Vec Ideal S2x8x128 .f32) (s : Fin 128) (t h : Fin 8) (e : Fin 128) : val_main_v40 (F := Ideal) g (ix4 s t h e) = g (ix3 0 h e) := by
  rw [val_main_v40_apply, val_main_v39_apply, val_main_v16_apply, val_main_v15_apply]
  refine congrArg g (funext fun q => ?_)
  fin_cases q
  · rfl
  · refine Fin.ext ?_
    show (h.val * 128 + e.val) / 128 % 8 = h.val
    omega
  · refine Fin.ext ?_
    show (h.val * 128 + e.val) % 128 = e.val
    omega
theorem shift0 (b : Vec Ideal S2x8x128 .f32) (s : Fin 128) (t h : Fin 8) (e : Fin 128) : val_main_v43 (F := Ideal) b (ix4 s t h e) = b (ix3 0 h e) := gain0 b s t h e
/-- The reference's entries of the layer. -/
theorem ref0 (z : Vec Ideal S9216x5120 .f32) (g b : Vec Ideal S2x8x128 .f32) (s : Fin 128) (t h : Fin 8) (e : Fin 128) :
    val_main_v44 (F := Ideal) z g b (ix4 s t h e) = cell 0 z g b s t h e := by
  rw [val_main_v44_apply, val_main_v41_apply, val_main_v38_apply, gain0, shift0, val_main_v33_apply, val_main_v37_apply, val_main_v36_apply, val_main_v35_apply, val_main_v32_apply, act0, mean0 z s t h (idx_main_v32 (ix4 s t h e)) rfl rfl rfl, var0 z s t h (idx_main_v37 (ix4 s t h e)) rfl rfl rfl]
  simp only [cut0]
  rfl

theorem gain1 (g : Vec Ideal S2x8x128 .f32) (s : Fin 128) (t h : Fin 8) (e : Fin 128) : val_main_v85 (F := Ideal) g (ix4 s t h e) = g (ix3 1 h e) := by
  rw [val_main_v85_apply, val_main_v84_apply, val_main_v61_apply, val_main_v60_apply]
  refine congrArg g (funext fun q => ?_)
  fin_cases q
  · rfl
  · refine Fin.ext ?_
    show (h.val * 128 + e.val) / 128 % 8 = h.val
    omega
  · refine Fin.ext ?_
    show (h.val * 128 + e.val) % 128 = e.val
    omega
theorem shift1 (b : Vec Ideal S2x8x128 .f32) (s : Fin 128) (t h : Fin 8) (e : Fin 128) : val_main_v88 (F := Ideal) b (ix4 s t h e) = b (ix3 1 h e) := gain1 b s t h e
/-- The reference's entries of the second layer. -/
theorem ref1 (z : Vec Ideal S9216x5120 .f32) (g b : Vec Ideal S2x8x128 .f32) (s : Fin 128) (t h : Fin 8) (e : Fin 128) :
    val_main_v89 (F := Ideal) z g b (ix4 s t h e) = cell 1 z g b s t h e := by
  have hr := ref0 z (fun i => g (ix3 1 (i 1) (i 2))) (fun i => b (ix3 1 (i 1) (i 2))) s t h e
  rw [val_main_v44_apply, val_main_v41_apply, gain0, shift0] at hr
  rw [val_main_v89_apply, val_main_v86_apply, gain1, shift1]
  exact hr

end

open Cert.GmIdeal Cert.GmIdeal.Gen

/-- The samples' part of a launch's second array. -/
def cut (y : Vec Ideal S9216x1024 .f32) : Vec Ideal S128x8x8x128 .f32 :=
  shapeCast S128x8x8x128 (extractStridedSlice S1024x1024 ![8192, 0] y slices_S9216x1024_S1024x1024_8192_0) shapeCasts_S1024x1024_S128x8x8x128
theorem cut_at (y : Vec Ideal S9216x1024 .f32) (s : Fin 128) (t h : Fin 8) (e : Fin 128) :
    cut y (ix4 s t h e) = y (ix2 ⟨8192 + (s.val * 8 + t.val), by omega⟩ ⟨h.val * 128 + e.val, by omega⟩) := by
  unfold cut
  refine (shapeCast_apply _ shapeCasts_S1024x1024_S128x8x8x128 _ (ix2 ⟨s.val * 8 + t.val, by omega⟩ ⟨h.val * 128 + e.val, by omega⟩ : S1024x1024.Idx) ?_).trans ?_
  · rewrite [Shape.rowMajor_val_two, Shape.rowMajor_val_four]
    show (s.val * 8 + t.val) * 1024 + (h.val * 128 + e.val) = ((s.val * 8 + t.val) * 8 + h.val) * 128 + e.val
    omega
  · exact extractStridedSlice_apply ![8192, 0] y slices_S9216x1024_S1024x1024_8192_0 (ix2 ⟨s.val * 8 + t.val, by omega⟩ ⟨h.val * 128 + e.val, by omega⟩ : S1024x1024.Idx) (ix2 ⟨8192 + (s.val * 8 + t.val), by omega⟩ ⟨h.val * 128 + e.val, by omega⟩ : S9216x1024.Idx) (fun a => by
      fin_cases a
      · rfl
      · exact (Nat.zero_add _).symm)

/-- The gains and shifts as the launches take them, one row a layer. -/
def flat (g : Vec Ideal S2x8x128 .f32) : Vec Ideal S2x1x1024 .f32 := shapeCast S2x1x1024 g shapeCasts_S2x8x128_S2x1x1024
theorem flat_at (g : Vec Ideal S2x8x128 .f32) (l : Fin 2) (h : Fin 8) (e : Fin 128) (q : Fin 1024) (hq : q.val = h.val * 128 + e.val) : flat g (ix3 l 0 q) = g (ix3 l h e) := by
  unfold flat
  refine shapeCast_apply _ shapeCasts_S2x8x128_S2x1x1024 _ (ix3 l h e : S2x8x128.Idx) ?_
  rewrite [Shape.rowMajor_val_three, Shape.rowMajor_val_three]
  show (l.val * 8 + h.val) * 128 + e.val = (l.val * 1 + 0) * 1024 + q.val
  omega

/-- The samples' part of a layer's normalised array, entry by entry. -/
theorem gArr_at (l : Fin 2) (z : Vec Ideal S9216x5120 .f32) (g b : Vec Ideal S2x8x128 .f32) (s : Fin 128) (t h : Fin 8) (e : Fin 128) :
    cut (fun i : S9216x1024.Idx => gArr l z (flat g) (flat b) (i 0) (i 1)) (ix4 s t h e) = cell l z g b s t h e := by
  rw [cut_at]
  show gArr l z (flat g) (flat b) ⟨8192 + (s.val * 8 + t.val), by omega⟩ ⟨h.val * 128 + e.val, by omega⟩ = _
  unfold gArr cell
  have ee : (⟨(h.val * 128 + e.val) % 128, by omega⟩ : Fin 128) = e := Fin.ext (by show (h.val * 128 + e.val) % 128 = e.val; omega)
  have ek : ∀ k : Fin 128, (⟨4096 + ((h.val * 128 + e.val) / 128 * 128 + k.val), by omega⟩ : Fin 5120) = ⟨4096 + (h.val * 128 + k.val), by omega⟩ := fun k => Fin.ext (by show 4096 + ((h.val * 128 + e.val) / 128 * 128 + k.val) = 4096 + (h.val * 128 + k.val); omega)
  rw [flat_at g l h e _ rfl, flat_at b l h e _ rfl]
  refine congrArg₂ (fun f e' => lnorm f e' (g (ix3 l h e)) (b (ix3 l h e))) (funext fun k => congrArg (fun c => gel (z (ix2 _ c))) (ek k)) ee

theorem idx4 (i : S128x8x8x128.Idx) : i = ix4 (i 0) (i 1) (i 2) (i 3) := by
  funext q
  fin_cases q <;> rfl

variable (m : (ℓ : Loc nD τ sig) → Buf (Elt Ideal) ℓ) (ρ : Dev nD → PrngReg) (c : Dev nD)

theorem ng1 : W1 m ρ c (Proc.devRef .tc main_v0) = flat (m ((c : Thread nD τ).loc main_arg4)) := by
  unfold W1 hostOps0; after_results; try rfl
theorem nb1 : W1 m ρ c (Proc.devRef .tc main_v1) = flat (m ((c : Thread nD τ).loc main_arg5)) := by
  unfold W1 hostOps0; after_results; try rfl
theorem ng3 : W3 m ρ c (Proc.devRef .tc main_v0) = flat (m ((c : Thread nD τ).loc main_arg4)) :=
  (W3_of m ρ c main_v0 (by decide +kernel)).trans ((W2_of m ρ c main_v0 (by decide +kernel)).trans (ng1 m ρ c))
theorem nb3 : W3 m ρ c (Proc.devRef .tc main_v1) = flat (m ((c : Thread nD τ).loc main_arg5)) :=
  (W3_of m ρ c main_v1 (by decide +kernel)).trans ((W2_of m ρ c main_v1 (by decide +kernel)).trans (nb1 m ρ c))

/-- What the first launch leaves in its second array. -/
theorem g0 : W2 m ρ c (Proc.devRef .tc main_v26_1) = fun i : S9216x1024.Idx => gArr 0 (m ((c : Thread nD τ).loc main_arg0)) (flat (m ((c : Thread nD τ).loc main_arg4))) (flat (m ((c : Thread nD τ).loc main_arg5))) (i 0) (i 1) := by
  refine (W2_arr m ρ c 7).trans ((arr0 (V1 m ρ) c).trans ?_)
  have e0 : V1 m ρ c main_arg0 = m ((c : Thread nD τ).loc main_arg0) := W1_args m ρ c main_arg0 (by decide)
  have e1 : V1 m ρ c main_v0 = _ := ng1 m ρ c
  have e2 : V1 m ρ c main_v1 = _ := nb1 m ρ c
  rw [e0, e1, e2]
/-- What the second launch leaves in its second array. -/
theorem g1 : W4 m ρ c (Proc.devRef .tc main_v53_1) = fun i : S9216x1024.Idx => gArr 1 (m ((c : Thread nD τ).loc main_arg1)) (flat (m ((c : Thread nD τ).loc main_arg4))) (flat (m ((c : Thread nD τ).loc main_arg5))) (i 0) (i 1) := by
  refine (W4_arr m ρ c 7).trans ((arr1 (V3 m ρ) c).trans ?_)
  have e0 : V3 m ρ c main_arg1 = m ((c : Thread nD τ).loc main_arg1) := W3_args m ρ c main_arg1 (by decide)
  have e1 : V3 m ρ c main_v0 = _ := ng3 m ρ c
  have e2 : V3 m ρ c main_v1 = _ := nb3 m ρ c
  rw [e0, e1, e2]

theorem first : W4 m ρ c (Proc.devRef .tc main_v28) = cut (W2 m ρ c (Proc.devRef .tc main_v26_1)) := by
  refine (W4_of m ρ c main_v28 (by decide +kernel)).trans ?_
  unfold W3 hostOps1; after_results; try rfl

theorem eq0 : cut (W2 m ρ c (Proc.devRef .tc main_v26_1)) = Cert.GmRefIdeal.Read.val_main_v44 (F := Ideal) (m ((c : Thread nD τ).loc main_arg0)) (m ((c : Thread nD τ).loc main_arg4)) (m ((c : Thread nD τ).loc main_arg5)) := by
  funext i
  rw [g0, idx4 i]
  exact (gArr_at _ _ _ _ _ _ _ _).trans (ref0 _ _ _ _ _ _ _).symm
theorem eq1 : cut (W4 m ρ c (Proc.devRef .tc main_v53_1)) = Cert.GmRefIdeal.Read.val_main_v89 (F := Ideal) (m ((c : Thread nD τ).loc main_arg1)) (m ((c : Thread nD τ).loc main_arg4)) (m ((c : Thread nD τ).loc main_arg5)) := by
  funext i
  rw [g1, idx4 i]
  exact (gArr_at _ _ _ _ _ _ _ _).trans (ref1 _ _ _ _ _ _ _).symm

/-- The run's result is the reference's. -/
theorem gm_end : W5 m ρ c (Proc.devRef .tc main_v58) = Cert.GmRefIdeal.Read.val_main_v92 (F := Ideal) (m ((c : Thread nD τ).loc main_arg0)) (m ((c : Thread nD τ).loc main_arg1)) (m ((c : Thread nD τ).loc main_arg4)) (m ((c : Thread nD τ).loc main_arg5)) := by
  have h : W5 m ρ c (Proc.devRef .tc main_v58) = concatenate S2x128x8x8x128 0 [⟨S1x128x8x8x128, broadcastInDim S1x128x8x8x128 ![1, 2, 3, 4] bcast_S128x8x8x128_S1x128x8x8x128_1_2_3_4 (W4 m ρ c (Proc.devRef .tc main_v28))⟩, ⟨S1x128x8x8x128, broadcastInDim S1x128x8x8x128 ![1, 2, 3, 4] bcast_S128x8x8x128_S1x128x8x8x128_1_2_3_4 (cut (W4 m ρ c (Proc.devRef .tc main_v53_1)))⟩] concatenates_S1x128x8x8x128_S1x128x8x8x128_S2x128x8x8x128_d0 := by
    unfold W5 hostOps2; after_results; try rfl
  rw [h, first, eq0, eq1]
  rfl

end Cert.GmI

end
-- ==== Proof.lean ====
/- The certificate of the expert feed-forward call, the sample-attention call and the two projection calls: for each its frame as compiled, the
   frame of the idealized program, the frame of the reference, the constant that the idealization names, and the equation
   of the two results. -/
module

public import proofs.«01_k».proof.Defs
public import proofs.«01_k».proof.Proof.Gen.AttnS
public import proofs.«01_k».proof.Proof.Gen.AttnS.Skeleton
public import proofs.«01_k».proof.Proof.Gen.AttnS.Launch
public import proofs.«01_k».proof.Proof.Gen.AttnS.Points
public import proofs.«01_k».proof.Proof.FrameB
public import proofs.«01_k».proof.Proof.Gen.AttnSIdeal
public import proofs.«01_k».proof.Proof.Gen.AttnSIdeal.Skeleton
public import proofs.«01_k».proof.Proof.Gen.AttnSIdeal.Launch
public import proofs.«01_k».proof.Proof.Gen.AttnSIdeal.Points
public import proofs.«01_k».proof.Proof.FrameI
public import proofs.«01_k».proof.Proof.Gen.AttnRefIdeal
public import proofs.«01_k».proof.Proof.Gen.Pre_pages_exist
public import proofs.«01_k».proof.Proof.Gen.Pre_attn_finite
public import proofs.«01_k».proof.Proof.Gen.AttnRefIdeal.Run
public import proofs.«01_k».proof.Proof.Gen.AttnRefIdeal.Read
public import proofs.«01_k».proof.Proof.OkB
public import proofs.«01_k».proof.Proof.EqI
public import proofs.«01_k».proof.Proof.Gen.Ffn
public import proofs.«01_k».proof.Proof.Gen.Ffn.Skeleton
public import proofs.«01_k».proof.Proof.Gen.Ffn.Launch
public import proofs.«01_k».proof.Proof.FfnFrameB
public import proofs.«01_k».proof.Proof.FfnOkB
public import proofs.«01_k».proof.Proof.Gen.FfnIdeal
public import proofs.«01_k».proof.Proof.Gen.FfnIdeal.Skeleton
public import proofs.«01_k».proof.Proof.Gen.FfnIdeal.Launch
public import proofs.«01_k».proof.Proof.FfnFrameI
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Pre_tiles_exist
public import proofs.«01_k».proof.Proof.FfnArrI
public import proofs.«01_k».proof.Proof.FfnRefA
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixRefIdeal
public import proofs.«01_k».proof.Proof.Gen.MixRefIdeal.Run
public import proofs.«01_k».proof.Proof.Gen.MixRefIdeal.Read
public import proofs.«01_k».proof.Proof.Gen.Gm
public import proofs.«01_k».proof.Proof.Gen.Gm.Skeleton
public import proofs.«01_k».proof.Proof.Gen.Gm.Launch
public import proofs.«01_k».proof.Proof.Gen.Gm.Points
public import proofs.«01_k».proof.Proof.Gen.Gm.Frame
public import proofs.«01_k».proof.Proof.Gen.GmIdeal
public import proofs.«01_k».proof.Proof.Gen.GmIdeal.Skeleton
public import proofs.«01_k».proof.Proof.Gen.GmIdeal.Launch
public import proofs.«01_k».proof.Proof.Gen.GmIdeal.Points
public import proofs.«01_k».proof.Proof.Gen.GmIdeal.Frame
public import proofs.«01_k».proof.Proof.Gen.GmRefIdeal
public import proofs.«01_k».proof.Proof.Gen.GmRefIdeal.Run
public import proofs.«01_k».proof.Proof.Gen.GmRefIdeal.Read
public import proofs.«01_k».proof.Proof.ProjEnd
public import proofs.«01_k».proof.Proof.MixArr
public import proofs.«01_k».proof.Proof.GmEnd
public import Idealize.ShloMosaic.Adequacy
public import Idealize.ShloMosaic.Init

@[expose] public section

noncomputable section

namespace Cert.Proof

open Idealize.ShloMosaic Idealize.SL.Sem Idealize.ShloMosaic.StableHlo

/-- The reference runs and leaves its arguments and every counter as they were. -/
theorem ref_frame : Cert.quiescent_AttnRefIdeal (hAttnRefIdeal := Cert.AttnRefIdeal.Gen.facts) := fun m g _ =>
  (θ_run Cert.AttnRefIdeal.defs _ _).mono (fun r h => ⟨fun c => (h c).2, sem_eq_zero_of_no_sems (by decide) r.2⟩) (Cert.AttnRefIdeal.Value.run (F := Ideal) m g)

/-- The kernel's output array is the reference's result. -/
theorem value : Cert.algebraic_AttnSIdeal_AttnRefIdeal_pre_attn_finite (hAttnSIdeal := Cert.AttnSIdeal.Gen.facts) (hAttnRefIdeal := Cert.AttnRefIdeal.Gen.facts) (hPre_attn_finite := Cert.Pre_attn_finite.Gen.facts) := by
  intro m g m' g' hp hagree
  have hO := Cert.AttnI.ok_of_finite m hp
  choose d R using fun c => Cert.AttnI.exists_data m hp c
  choose lam hlam using fun c => Cert.AttnI.exists_lam m hp c
  refine ⟨fun c => Cert.AttnI.outArr m c (d c) (lam c), ?_, ?_⟩
  · exact (θ_run Cert.AttnSIdeal.defs _ _).mono (fun r h c => ⟨((h.1 c).1 7).trans (Cert.AttnI.arr_out hO (R c) (lam c) fun t => (Cert.AttnI.lam_blk m c hO t).trans (hlam c)), h.2 c⟩)
      (θ_run_and (Cert.AttnSIdeal.Gen.run_main m g hO) (Cert.AttnSIdeal.Gen.unchanged m g hO))
  · refine (θ_run Cert.AttnRefIdeal.defs _ _).mono (fun r h c => ⟨(h c).1.trans ?_, (h c).2⟩) (Cert.AttnRefIdeal.Value.run (F := Ideal) m' g')
    refine (Cert.AttnRefIdeal.Read.val_main_v141_eq (launchContents m' c)).trans ?_
    simp only [launchContents_devRef]
    obtain ⟨e0, e1, e2, e3, e4, e5, e6, e7, e8⟩ := hagree c
    rw [← Cert.AttnI.ref_eq m c (d c) (R c) (lam c) (hlam c), ← e0, ← e1, ← e2, ← e3, ← e4, ← e5, ← e6, ← e7, ← e8]

/-- The feed-forward's reference runs and leaves its arguments and every counter as they were. -/
theorem ffn_ref_frame : Cert.quiescent_FfnRefIdeal (hFfnRefIdeal := Cert.FfnRefIdeal.Gen.facts) := fun m g _ =>
  (θ_run Cert.FfnRefIdeal.defs _ _).mono (fun r h => ⟨fun c => (h c).2, sem_eq_zero_of_no_sems (by decide) r.2⟩) (Cert.FfnRefIdeal.Value.run (F := Ideal) m g)

/-- The feed-forward's output array is its reference's result. -/
theorem ffn_value : Cert.algebraic_FfnIdeal_FfnRefIdeal (hFfnIdeal := Cert.FfnIdeal.Gen.facts) (hFfnRefIdeal := Cert.FfnRefIdeal.Gen.facts) (hPre_tiles_exist := Cert.Pre_tiles_exist.Gen.facts) := by
  intro m g m' g' hp hagree
  have hO := Cert.FfnI.ok_of_tiles m hp
  have he := Cert.FfnI.expert_lt m hp
  have hx := Cert.FfnI.tile_lt m hp
  refine ⟨fun c => Cert.FfnS.outArr (Cert.FfnI.dat m c), ?_, ?_⟩
  · exact (θ_run Cert.FfnIdeal.defs _ _).mono (fun r h c => ⟨((h.1 c).1 4).trans (Cert.FfnI.arr_out hO (he c) (hx c)), h.2 c⟩)
      (θ_run_and (Cert.FfnIdeal.Gen.run_main m g hO) (Cert.FfnIdeal.Gen.unchanged m g hO))
  · refine (θ_run Cert.FfnRefIdeal.defs _ _).mono (fun r h c => ⟨(h c).1.trans ?_, (h c).2⟩) (Cert.FfnRefIdeal.Value.run (F := Ideal) m' g')
    refine (Cert.FfnRefIdeal.Read.val_main_v42_eq m' c).trans ?_
    obtain ⟨e0, e1, e2, e3, e4, e5, e6⟩ := hagree c
    rw [e0, e1, e2, e3, e4, e5, e6]
    exact Cert.FfnR.ref_eq _ _ _ _ _ _ _ (he c) (hx c)

/-- The projection's reference runs and leaves its arguments and every counter as they were. -/
theorem proj_ref_frame : Cert.quiescent_ProjRefIdeal (hProjRefIdeal := Cert.ProjRefIdeal.Gen.facts) := fun m g _ =>
  (θ_run Cert.ProjRefIdeal.defs _ _).mono (fun r h => ⟨fun c => (h c).2.2.2.2, sem_eq_zero_of_no_sems (by decide) r.2⟩) (Cert.ProjRefIdeal.Value.run (F := Ideal) m g)

/-- The keys and values that the projection leaves are its reference's. -/
theorem proj_value : Cert.algebraic_ProjIdeal_ProjRefIdeal (hProjIdeal := Cert.ProjIdeal.Gen.facts) (hProjRefIdeal := Cert.ProjRefIdeal.Gen.facts) := by
  intro m g m' g' _ hagree
  refine ⟨fun c => Cert.ProjIdeal.Gen.W4 m g c (Proc.devRef .tc Cert.ProjIdeal.main_v20), fun c => Cert.ProjIdeal.Gen.W4 m g c (Proc.devRef .tc Cert.ProjIdeal.main_v23), fun c => Cert.ProjIdeal.Gen.W4 m g c (Proc.devRef .tc Cert.ProjIdeal.main_v26), fun c => Cert.ProjIdeal.Gen.W4 m g c (Proc.devRef .tc Cert.ProjIdeal.main_v29), ?_, ?_⟩
  · exact (θ_run Cert.ProjIdeal.defs _ _).mono (fun r h c => ⟨h.1 c _ (Cert.ProjIdeal.Gen.mem_uc Cert.ProjIdeal.main_v20 (by decide)), h.1 c _ (Cert.ProjIdeal.Gen.mem_uc Cert.ProjIdeal.main_v23 (by decide)), h.1 c _ (Cert.ProjIdeal.Gen.mem_uc Cert.ProjIdeal.main_v26 (by decide)), h.1 c _ (Cert.ProjIdeal.Gen.mem_uc Cert.ProjIdeal.main_v29 (by decide)), h.2 c⟩)
      (θ_run_and (Cert.ProjI.run_end m g) (Cert.ProjIdeal.Gen.unchanged m g))
  · refine (θ_run Cert.ProjRefIdeal.defs _ _).mono (fun r h c => ⟨(h c).1.trans ?_, (h c).2.1.trans ?_, (h c).2.2.1.trans ?_, (h c).2.2.2.1.trans ?_, (h c).2.2.2.2⟩) (Cert.ProjRefIdeal.Value.run (F := Ideal) m' g')
    · exact (Cert.ProjRefIdeal.Read.val_main_v26_eq _ _ _).trans ((congr (congr (congrArg (Cert.ProjRefIdeal.Read.val_main_v26 (F := Ideal)) (hagree c).1) (hagree c).2.1) (hagree c).2.2).trans (Cert.ProjI.kp_end m g c).symm)
    · exact (Cert.ProjRefIdeal.Read.val_main_v29_eq _ _ _).trans ((congr (congr (congrArg (Cert.ProjRefIdeal.Read.val_main_v29 (F := Ideal)) (hagree c).1) (hagree c).2.1) (hagree c).2.2).trans (Cert.ProjI.vp_end m g c).symm)
    · exact (Cert.ProjRefIdeal.Read.val_main_v32_eq _ _ _).trans ((congr (congr (congrArg (Cert.ProjRefIdeal.Read.val_main_v32 (F := Ideal)) (hagree c).1) (hagree c).2.1) (hagree c).2.2).trans (Cert.ProjI.ks_end m g c).symm)
    · exact (Cert.ProjRefIdeal.Read.val_main_v35_eq _ _ _).trans ((congr (congr (congrArg (Cert.ProjRefIdeal.Read.val_main_v35 (F := Ideal)) (hagree c).1) (hagree c).2.1) (hagree c).2.2).trans (Cert.ProjI.vs_end m g c).symm)

/-- The output projection's reference runs and leaves its arguments and every counter as they were. -/
theorem mix_ref_frame : Cert.quiescent_MixRefIdeal (hMixRefIdeal := Cert.MixRefIdeal.Gen.facts) := fun m g _ =>
  (θ_run Cert.MixRefIdeal.defs _ _).mono (fun r h => ⟨fun c => (h c).2, sem_eq_zero_of_no_sems (by decide) r.2⟩) (Cert.MixRefIdeal.Value.run (F := Ideal) m g)

/-- The output projection's array is its reference's result. -/
theorem mix_value : Cert.algebraic_MixIdeal_MixRefIdeal (hMixIdeal := Cert.MixIdeal.Gen.facts) (hMixRefIdeal := Cert.MixRefIdeal.Gen.facts) := by
  intro m g m' g' _ hagree
  refine ⟨fun c => Cert.MixRefIdeal.Read.val_main_v3 (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)), ?_, ?_⟩
  · exact (θ_run Cert.MixIdeal.defs _ _).mono (fun r h c => ⟨((h.1 c).1 4).trans (Cert.MixI.arr m c), h.2 c⟩)
      (θ_run_and (Cert.MixIdeal.Gen.run_main m g) (Cert.MixIdeal.Gen.unchanged m g))
  · exact (θ_run Cert.MixRefIdeal.defs _ _).mono (fun r h c => ⟨(h c).1.trans ((Cert.MixRefIdeal.Read.val_main_v3_eq _ _ _).trans (congr (congr (congrArg (Cert.MixRefIdeal.Read.val_main_v3 (F := Ideal)) (hagree c).1) (hagree c).2.1) (hagree c).2.2)), (h c).2⟩) (Cert.MixRefIdeal.Value.run (F := Ideal) m' g')

/-- The chunk MLP's reference runs and leaves its arguments and every counter as they were. -/
theorem gm_ref_frame : Cert.quiescent_GmRefIdeal (hGmRefIdeal := Cert.GmRefIdeal.Gen.facts) := fun m g _ =>
  (θ_run Cert.GmRefIdeal.defs _ _).mono (fun r h => ⟨fun c => (h c).2, sem_eq_zero_of_no_sems (by decide) r.2⟩) (Cert.GmRefIdeal.Value.run (F := Ideal) m g)

/-- The samples' normalised columns that the chunk MLP leaves are its reference's. -/
theorem gm_value : Cert.algebraic_GmIdeal_GmRefIdeal (hGmIdeal := Cert.GmIdeal.Gen.facts) (hGmRefIdeal := Cert.GmRefIdeal.Gen.facts) := by
  intro m g m' g' _ hagree
  refine ⟨fun c => Cert.GmIdeal.Gen.W5 m g c (Proc.devRef .tc Cert.GmIdeal.main_v58), ?_, ?_⟩
  · exact (θ_run Cert.GmIdeal.defs _ _).mono (fun r h c => ⟨h.1 c _ (Cert.GmIdeal.Gen.mem_uc Cert.GmIdeal.main_v58 (by decide)), h.2 c⟩)
      (θ_run_and (Cert.GmI.run_end m g) (Cert.GmIdeal.Gen.unchanged m g))
  · refine (θ_run Cert.GmRefIdeal.defs _ _).mono (fun r h c => ⟨(h c).1.trans ?_, (h c).2⟩) (Cert.GmRefIdeal.Value.run (F := Ideal) m' g')
    exact (Cert.GmRefIdeal.Read.val_main_v92_eq _ _).trans ((congr (congr (congr (congrArg (Cert.GmRefIdeal.Read.val_main_v92 (F := Ideal)) (hagree c).1) (hagree c).2.1) (hagree c).2.2.2.2.1) (hagree c).2.2.2.2.2).trans (Cert.GmI.gm_end m g c).symm)

theorem claim : Cert.Claim := ⟨Cert.AttnS.Gen.facts, Cert.AttnSIdeal.Gen.facts, Cert.AttnRefIdeal.Gen.facts, Cert.Ffn.Gen.facts, Cert.FfnIdeal.Gen.facts, Cert.FfnRefIdeal.Gen.facts, Cert.Proj.Gen.facts, Cert.ProjIdeal.Gen.facts, Cert.ProjRefIdeal.Gen.facts, Cert.Mix.Gen.facts, Cert.MixIdeal.Gen.facts, Cert.MixRefIdeal.Gen.facts, Cert.Gm.Gen.facts, Cert.GmIdeal.Gen.facts, Cert.GmRefIdeal.Gen.facts, Cert.Pre_pages_exist.Gen.facts, Cert.Pre_attn_finite.Gen.facts, Cert.Pre_tiles_exist.Gen.facts,
  fun m g h => Cert.AttnS.Gen.frame m g (Cert.AttnB.ok_of_pages m h),
  fun m g h => Cert.AttnSIdeal.Gen.frame m g (Cert.AttnI.ok_of_pages m h),
  fun m g h => Cert.AttnSIdeal.Gen.frame m g (Cert.AttnI.ok_of_finite m h),
  ref_frame,
  fun m g _ => ref_frame m g trivial,
  fun m g h => Cert.Ffn.Gen.frame m g (Cert.FfnB.ok_of_tiles m h),
  fun m g h => Cert.FfnIdeal.Gen.frame m g (Cert.FfnI.ok_of_tiles m h),
  ffn_ref_frame,
  fun m g _ => ffn_ref_frame m g trivial,
  fun m g _ => Cert.Proj.Gen.frame m g,
  fun m g _ => Cert.ProjIdeal.Gen.frame m g,
  proj_ref_frame,
  fun m g _ => Cert.Mix.Gen.frame m g,
  fun m g _ => Cert.MixIdeal.Gen.frame m g,
  mix_ref_frame,
  fun m g _ => Cert.Gm.Gen.frame m g,
  fun m g _ => Cert.GmIdeal.Gen.frame m g,
  gm_ref_frame,
  IdealRules.named_const.statement Cert.AttnSIdeal.κ "mask" .f32 0xF149F2CA#32 ⊥ rfl,
  value,
  trivial,
  ffn_value,
  trivial,
  proj_value,
  trivial,
  mix_value,
  trivial,
  gm_value⟩

end Cert.Proof

end
